-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  True

def algebraic_KernelIdeal_ReferenceIdeal_on_held [hKernelIdeal : Cert.KernelIdeal.Facts] [hReferenceIdeal : Cert.ReferenceIdeal.Facts] [hOn_held : Cert.On_held.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v35_0)) (v1 : (c : Dev Cert.KernelIdeal.nD) → Buf (Elt Ideal) ((c.tc : Thread Cert.KernelIdeal.nD Cert.KernelIdeal.τ).loc Cert.KernelIdeal.main_v38)) (v2 : (c : Dev Cert.KernelIdeal.nD) → Buf (Elt Ideal) ((c.tc : Thread Cert.KernelIdeal.nD Cert.KernelIdeal.τ).loc Cert.KernelIdeal.main_v39)) (v3 : (c : Dev Cert.KernelIdeal.nD) → Buf (Elt Ideal) ((c.tc : Thread Cert.KernelIdeal.nD Cert.KernelIdeal.τ).loc Cert.KernelIdeal.main_v40)) (v4 : (c : Dev Cert.KernelIdeal.nD) → Buf (Elt Ideal) ((c.tc : Thread Cert.KernelIdeal.nD Cert.KernelIdeal.τ).loc Cert.KernelIdeal.main_v41)) (v5 : (c : Dev Cert.KernelIdeal.nD) → Buf (Elt Ideal) ((c.tc : Thread Cert.KernelIdeal.nD Cert.KernelIdeal.τ).loc Cert.KernelIdeal.main_v35_2)) (v6 : (c : Dev Cert.KernelIdeal.nD) → Buf (Elt Ideal) ((c.tc : Thread Cert.KernelIdeal.nD Cert.KernelIdeal.τ).loc Cert.KernelIdeal.main_v42)) (v7 : (c : Dev Cert.KernelIdeal.nD) → Buf (Elt Ideal) ((c.tc : Thread Cert.KernelIdeal.nD Cert.KernelIdeal.τ).loc Cert.KernelIdeal.main_v43)) (v8 : (c : Dev Cert.KernelIdeal.nD) → Buf (Elt Ideal) ((c.tc : Thread Cert.KernelIdeal.nD Cert.KernelIdeal.τ).loc Cert.KernelIdeal.main_v44)) (v9 : (c : Dev Cert.KernelIdeal.nD) → Buf (Elt Ideal) ((c.tc : Thread Cert.KernelIdeal.nD Cert.KernelIdeal.τ).loc Cert.KernelIdeal.main_v45)) (v10 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 256]⟩ : Shape).Idx, (Cert.On_held.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).1 i = 1#1 → r.2.mem ((c.tc : Thread Cert.KernelIdeal.nD Cert.KernelIdeal.τ).loc Cert.KernelIdeal.main_v35_0) i = v0 c i)
          ∧ (∀ i : (⟨2, ![4096, 1]⟩ : Shape).Idx, (Cert.On_held.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.1 i = 1#1 → r.2.mem ((c.tc : Thread Cert.KernelIdeal.nD Cert.KernelIdeal.τ).loc Cert.KernelIdeal.main_v38) i = v1 c i)
          ∧ (∀ i : (⟨2, ![4096, 1]⟩ : Shape).Idx, (Cert.On_held.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.1 i = 1#1 → r.2.mem ((c.tc : Thread Cert.KernelIdeal.nD Cert.KernelIdeal.τ).loc Cert.KernelIdeal.main_v39) i = v2 c i)
          ∧ (∀ i : (⟨2, ![4096, 1]⟩ : Shape).Idx, (Cert.On_held.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.1 i = 1#1 → r.2.mem ((c.tc : Thread Cert.KernelIdeal.nD Cert.KernelIdeal.τ).loc Cert.KernelIdeal.main_v40) i = v3 c i)
          ∧ (∀ i : (⟨2, ![4096, 1]⟩ : Shape).Idx, (Cert.On_held.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.1 i = 1#1 → r.2.mem ((c.tc : Thread Cert.KernelIdeal.nD Cert.KernelIdeal.τ).loc Cert.KernelIdeal.main_v41) i = v4 c i)
          ∧ (∀ i : (⟨3, ![4096, 32, 256]⟩ : Shape).Idx, (Cert.On_held.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.1 i = 1#1 → r.2.mem ((c.tc : Thread Cert.KernelIdeal.nD Cert.KernelIdeal.τ).loc Cert.KernelIdeal.main_v35_2) i = v5 c i)
          ∧ (∀ i : (⟨3, ![4096, 32, 1]⟩ : Shape).Idx, (Cert.On_held.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.1 i = 1#1 → r.2.mem ((c.tc : Thread Cert.KernelIdeal.nD Cert.KernelIdeal.τ).loc Cert.KernelIdeal.main_v42) i = v6 c i)
          ∧ (∀ i : (⟨3, ![4096, 32, 1]⟩ : Shape).Idx, (Cert.On_held.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.1 i = 1#1 → r.2.mem ((c.tc : Thread Cert.KernelIdeal.nD Cert.KernelIdeal.τ).loc Cert.KernelIdeal.main_v43) i = v7 c i)
          ∧ (∀ i : (⟨3, ![4096, 32, 1]⟩ : Shape).Idx, (Cert.On_held.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.1 i = 1#1 → r.2.mem ((c.tc : Thread Cert.KernelIdeal.nD Cert.KernelIdeal.τ).loc Cert.KernelIdeal.main_v44) i = v8 c i)
          ∧ (∀ i : (⟨3, ![4096, 32, 1]⟩ : Shape).Idx, (Cert.On_held.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.1 i = 1#1 → r.2.mem ((c.tc : Thread Cert.KernelIdeal.nD Cert.KernelIdeal.τ).loc Cert.KernelIdeal.main_v45) i = v9 c i)
          ∧ (∀ i : (⟨3, ![4096, 32, 6]⟩ : Shape).Idx, (Cert.On_held.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.2 i = 1#1 → r.2.mem ((c.tc : Thread Cert.KernelIdeal.nD Cert.KernelIdeal.τ).loc Cert.KernelIdeal.main_v37) i = v10 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![4096, 256]⟩ : Shape).Idx, (Cert.On_held.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).1 i = 1#1 → r.2.mem ((c.tc : Thread Cert.ReferenceIdeal.nD Cert.ReferenceIdeal.τ).loc Cert.ReferenceIdeal.main_v21) i = v0 c i)
          ∧ (∀ i : (⟨2, ![4096, 1]⟩ : Shape).Idx, (Cert.On_held.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.1 i = 1#1 → r.2.mem ((c.tc : Thread Cert.ReferenceIdeal.nD Cert.ReferenceIdeal.τ).loc Cert.ReferenceIdeal.main_v57) i = v1 c i)
          ∧ (∀ i : (⟨2, ![4096, 1]⟩ : Shape).Idx, (Cert.On_held.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.1 i = 1#1 → r.2.mem ((c.tc : Thread Cert.ReferenceIdeal.nD Cert.ReferenceIdeal.τ).loc Cert.ReferenceIdeal.main_v84) i = v2 c i)
          ∧ (∀ i : (⟨2, ![4096, 1]⟩ : Shape).Idx, (Cert.On_held.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.1 i = 1#1 → r.2.mem ((c.tc : Thread Cert.ReferenceIdeal.nD Cert.ReferenceIdeal.τ).loc Cert.ReferenceIdeal.main_v94) i = v3 c i)
          ∧ (∀ i : (⟨2, ![4096, 1]⟩ : Shape).Idx, (Cert.On_held.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.1 i = 1#1 → r.2.mem ((c.tc : Thread Cert.ReferenceIdeal.nD Cert.ReferenceIdeal.τ).loc Cert.ReferenceIdeal.main_v104) i = v4 c i)
          ∧ (∀ i : (⟨3, ![4096, 32, 256]⟩ : Shape).Idx, (Cert.On_held.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.1 i = 1#1 → r.2.mem ((c.tc : Thread Cert.ReferenceIdeal.nD Cert.ReferenceIdeal.τ).loc Cert.ReferenceIdeal.main_v138) i = v5 c i)
          ∧ (∀ i : (⟨3, ![4096, 32, 1]⟩ : Shape).Idx, (Cert.On_held.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.1 i = 1#1 → r.2.mem ((c.tc : Thread Cert.ReferenceIdeal.nD Cert.ReferenceIdeal.τ).loc Cert.ReferenceIdeal.main_v145) i = v6 c i)
          ∧ (∀ i : (⟨3, ![4096, 32, 1]⟩ : Shape).Idx, (Cert.On_held.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.1 i = 1#1 → r.2.mem ((c.tc : Thread Cert.ReferenceIdeal.nD Cert.ReferenceIdeal.τ).loc Cert.ReferenceIdeal.main_v149) i = v7 c i)
          ∧ (∀ i : (⟨3, ![4096, 32, 1]⟩ : Shape).Idx, (Cert.On_held.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.1 i = 1#1 → r.2.mem ((c.tc : Thread Cert.ReferenceIdeal.nD Cert.ReferenceIdeal.τ).loc Cert.ReferenceIdeal.main_v154) i = v8 c i)
          ∧ (∀ i : (⟨3, ![4096, 32, 1]⟩ : Shape).Idx, (Cert.On_held.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.1 i = 1#1 → r.2.mem ((c.tc : Thread Cert.ReferenceIdeal.nD Cert.ReferenceIdeal.τ).loc Cert.ReferenceIdeal.main_v157) i = v9 c i)
          ∧ (∀ i : (⟨3, ![4096, 32, 6]⟩ : Shape).Idx, (Cert.On_held.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.2 i = 1#1 → r.2.mem ((c.tc : Thread Cert.ReferenceIdeal.nD Cert.ReferenceIdeal.τ).loc Cert.ReferenceIdeal.main_v161) i = v10 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hOn_held : Cert.On_held.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_held (hKernelIdeal := hKernelIdeal) (hReferenceIdeal := hReferenceIdeal) (hOn_held := hOn_held)
-- ==== On_held.lean ====
abbrev S4096x256 : Shape := ⟨2, ![4096, 256]⟩
abbrev S4096x768 : Shape := ⟨2, ![4096, 768]⟩
abbrev S4096x32x256 : Shape := ⟨3, ![4096, 32, 256]⟩
abbrev S4096x32x1 : Shape := ⟨3, ![4096, 32, 1]⟩
abbrev S4096x32x6 : Shape := ⟨3, ![4096, 32, 6]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S1286x384 : Shape := ⟨2, ![1286, 384]⟩
abbrev S384 : Shape := ⟨1, ![384]⟩
abbrev S384x1 : Shape := ⟨2, ![384, 1]⟩
abbrev S1 : Shape := ⟨1, ![1]⟩
abbrev S_ : Shape := ⟨0, ![]⟩
abbrev S4096x1 : Shape := ⟨2, ![4096, 1]⟩

class Facts : Prop where
  bcast_S_S4096x1 : S_.BroadcastsInDim S4096x1 (![] : Fin 0 → Fin S4096x1.rank)
  bcast_S_S4096x32x1 : S_.BroadcastsInDim S4096x32x1 (![] : Fin 0 → Fin S4096x32x1.rank)
  bcast_S_S4096x256 : S_.BroadcastsInDim S4096x256 (![] : Fin 0 → Fin S4096x256.rank)
  bcast_S_S4096x32x256 : S_.BroadcastsInDim S4096x32x256 (![] : Fin 0 → Fin S4096x32x256.rank)
  bcast_S_S4096x32x6 : S_.BroadcastsInDim S4096x32x6 (![] : Fin 0 → Fin S4096x32x6.rank)

variable [Facts]

def fn {F : FTy → Type} [FloatOps F] (main_arg0 : FVec F S4096x256 .f32) (main_arg1 : FVec F S4096x768 .f32) (main_arg2 : FVec F S4096x32x256 .f32) (main_arg3 : FVec F S4096x32x1 .f32) (main_arg4 : FVec F S4096x32x1 .f32) (main_arg5 : FVec F S4096x32x1 .f32) (main_arg6 : FVec F S4096x32x1 .f32) (main_arg7 : FVec F S4096x32x6 .f32) (main_arg8 : FVec F S1024x512 .f32) (main_arg9 : FVec F S512 .f32) (main_arg10 : FVec F S512x256 .f32) (main_arg11 : FVec F S256 .f32) (main_arg12 : FVec F S1286x384 .f32) (main_arg13 : FVec F S384 .f32) (main_arg14 : FVec F S384x1 .f32) (main_arg15 : FVec F S1 .f32) (main_arg16 : FVec F S1286x384 .f32) (main_arg17 : FVec F S384 .f32) (main_arg18 : FVec F S384x1 .f32) (main_arg19 : FVec F S1 .f32) : IVec S4096x256 1 × IVec S4096x1 1 × IVec S4096x1 1 × IVec S4096x1 1 × IVec S4096x1 1 × IVec S4096x32x256 1 × IVec S4096x32x1 1 × IVec S4096x32x1 1 × IVec S4096x32x1 1 × IVec S4096x32x1 1 × IVec S4096x32x6 1 :=
  let main_c : IVec S_ 1 := constantI S_ 1 1#1
  let main_v0 : IVec S4096x1 1 := broadcastInDim S4096x1 ![] bcast_S_S4096x1 main_c
  let main_c_0 : IVec S_ 1 := constantI S_ 1 1#1
  let main_v1 : IVec S4096x32x1 1 := broadcastInDim S4096x32x1 ![] bcast_S_S4096x32x1 main_c_0
  let main_c_1 : IVec S_ 1 := constantI S_ 1 1#1
  let main_v2 : IVec S4096x256 1 := broadcastInDim S4096x256 ![] bcast_S_S4096x256 main_c_1
  let main_v3 : FVec F S4096x32x256 .f32 := Host.absf main_arg2
  let main_cst : FVec F S_ .f32 := constant S_ .f32 0x7F800000#32
  let main_v4 : FVec F S4096x32x256 .f32 := broadcastInDim S4096x32x256 ![] bcast_S_S4096x32x256 main_cst
  let main_v5 : IVec S4096x32x256 1 := cmpf .olt main_v3 main_v4
  let main_c_2 : IVec S_ 1 := constantI S_ 1 1#1
  let main_v6 : IVec S4096x32x6 1 := broadcastInDim S4096x32x6 ![] bcast_S_S4096x32x6 main_c_2
  (main_v2, main_v0, main_v0, main_v0, main_v0, main_v5, main_v1, main_v1, main_v1, main_v1, main_v6)
-- ==== Kernel.lean ====
abbrev S4096x256 : Shape := ⟨2, ![4096, 256]⟩
abbrev S4096x768 : Shape := ⟨2, ![4096, 768]⟩
abbrev S4096x32x256 : Shape := ⟨3, ![4096, 32, 256]⟩
abbrev S4096x32x1 : Shape := ⟨3, ![4096, 32, 1]⟩
abbrev S4096x32x6 : Shape := ⟨3, ![4096, 32, 6]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S1286x384 : Shape := ⟨2, ![1286, 384]⟩
abbrev S384 : Shape := ⟨1, ![384]⟩
abbrev S384x1 : Shape := ⟨2, ![384, 1]⟩
abbrev S1 : Shape := ⟨1, ![1]⟩
abbrev S4096x32 : Shape := ⟨2, ![4096, 32]⟩
abbrev S_ : Shape := ⟨0, ![]⟩
abbrev S2x384 : Shape := ⟨2, ![2, 384]⟩
abbrev S6x384 : Shape := ⟨2, ![6, 384]⟩
abbrev S8x384 : Shape := ⟨2, ![8, 384]⟩
abbrev S1x512 : Shape := ⟨2, ![1, 512]⟩
abbrev S1x256 : Shape := ⟨2, ![1, 256]⟩
abbrev S1x384 : Shape := ⟨2, ![1, 384]⟩
abbrev S1x1 : Shape := ⟨2, ![1, 1]⟩
abbrev S4096x4 : Shape := ⟨2, ![4096, 4]⟩
abbrev S4096x192 : Shape := ⟨2, ![4096, 192]⟩
abbrev S256x512 : Shape := ⟨2, ![256, 512]⟩
abbrev S256x384 : Shape := ⟨2, ![256, 384]⟩
abbrev S128x256 : Shape := ⟨2, ![128, 256]⟩
abbrev S128x4 : Shape := ⟨2, ![128, 4]⟩
abbrev S128x32 : Shape := ⟨2, ![128, 32]⟩
abbrev S128x192 : Shape := ⟨2, ![128, 192]⟩
abbrev S2x128x32x256 : Shape := ⟨4, ![2, 128, 32, 256]⟩
abbrev S2 : Shape := ⟨1, ![2]⟩
abbrev S1x128x32x256 : Shape := ⟨4, ![1, 128, 32, 256]⟩
abbrev S128x32x256 : Shape := ⟨3, ![128, 32, 256]⟩
abbrev S128x768 : Shape := ⟨2, ![128, 768]⟩
abbrev S128x512 : Shape := ⟨2, ![128, 512]⟩
abbrev S128 : Shape := ⟨1, ![128]⟩
abbrev S128x1 : Shape := ⟨2, ![128, 1]⟩
abbrev S128x2 : Shape := ⟨2, ![128, 2]⟩
abbrev S128x8 : Shape := ⟨2, ![128, 8]⟩
abbrev S128x384 : Shape := ⟨2, ![128, 384]⟩
abbrev S128x32x1 : Shape := ⟨3, ![128, 32, 1]⟩
abbrev S128x1x1 : Shape := ⟨3, ![128, 1, 1]⟩
abbrev S128x1x256 : Shape := ⟨3, ![128, 1, 256]⟩
abbrev S4096x6x32 : Shape := ⟨3, ![4096, 6, 32]⟩
abbrev S4096x1 : Shape := ⟨2, ![4096, 1]⟩

abbrev nBuf : Space → Nat
  | .hbm => 74
  | .vmem => 53
  | .smem => 0
  | _ => 0

abbrev bufTy : (tb : Table) → Fin (tcTables nBuf tb) → BufTy
  | .hbm, ⟨0, _⟩ => ⟨S4096x256, .f32⟩
  | .hbm, ⟨1, _⟩ => ⟨S4096x768, .f32⟩
  | .hbm, ⟨2, _⟩ => ⟨S4096x32x256, .f32⟩
  | .hbm, ⟨3, _⟩ => ⟨S4096x32x1, .f32⟩
  | .hbm, ⟨4, _⟩ => ⟨S4096x32x1, .f32⟩
  | .hbm, ⟨5, _⟩ => ⟨S4096x32x1, .f32⟩
  | .hbm, ⟨6, _⟩ => ⟨S4096x32x1, .f32⟩
  | .hbm, ⟨7, _⟩ => ⟨S4096x32x6, .f32⟩
  | .hbm, ⟨8, _⟩ => ⟨S1024x512, .f32⟩
  | .hbm, ⟨9, _⟩ => ⟨S512, .f32⟩
  | .hbm, ⟨10, _⟩ => ⟨S512x256, .f32⟩
  | .hbm, ⟨11, _⟩ => ⟨S256, .f32⟩
  | .hbm, ⟨12, _⟩ => ⟨S1286x384, .f32⟩
  | .hbm, ⟨13, _⟩ => ⟨S384, .f32⟩
  | .hbm, ⟨14, _⟩ => ⟨S384x1, .f32⟩
  | .hbm, ⟨15, _⟩ => ⟨S1, .f32⟩
  | .hbm, ⟨16, _⟩ => ⟨S1286x384, .f32⟩
  | .hbm, ⟨17, _⟩ => ⟨S384, .f32⟩
  | .hbm, ⟨18, _⟩ => ⟨S384x1, .f32⟩
  | .hbm, ⟨19, _⟩ => ⟨S1, .f32⟩
  | .hbm, ⟨20, _⟩ => ⟨S4096x32, .f32⟩
  | .hbm, ⟨21, _⟩ => ⟨S4096x32, .f32⟩
  | .hbm, ⟨22, _⟩ => ⟨S4096x32, .f32⟩
  | .hbm, ⟨23, _⟩ => ⟨S4096x32, .f32⟩
  | .hbm, ⟨24, _⟩ => ⟨S4096x32x1, .f32⟩
  | .hbm, ⟨25, _⟩ => ⟨S4096x32, .f32⟩
  | .hbm, ⟨26, _⟩ => ⟨S4096x32x1, .f32⟩
  | .hbm, ⟨27, _⟩ => ⟨S4096x32, .f32⟩
  | .hbm, ⟨28, _⟩ => ⟨S4096x32x1, .f32⟩
  | .hbm, ⟨29, _⟩ => ⟨S4096x32, .f32⟩
  | .hbm, ⟨30, _⟩ => ⟨S4096x32x1, .f32⟩
  | .hbm, ⟨31, _⟩ => ⟨S4096x32, .f32⟩
  | .hbm, ⟨32, _⟩ => ⟨S4096x32x1, .f32⟩
  | .hbm, ⟨33, _⟩ => ⟨S4096x32, .f32⟩
  | .hbm, ⟨34, _⟩ => ⟨S4096x32x1, .f32⟩
  | .hbm, ⟨35, _⟩ => ⟨S4096x32, .f32⟩
  | .hbm, ⟨36, _⟩ => ⟨S_, .f32⟩
  | .hbm, ⟨37, _⟩ => ⟨S2x384, .f32⟩
  | .hbm, ⟨38, _⟩ => ⟨S6x384, .f32⟩
  | .hbm, ⟨39, _⟩ => ⟨S8x384, .f32⟩
  | .hbm, ⟨40, _⟩ => ⟨S8x384, .bf16⟩
  | .hbm, ⟨41, _⟩ => ⟨S6x384, .f32⟩
  | .hbm, ⟨42, _⟩ => ⟨S8x384, .f32⟩
  | .hbm, ⟨43, _⟩ => ⟨S8x384, .bf16⟩
  | .hbm, ⟨44, _⟩ => ⟨S1024x512, .bf16⟩
  | .hbm, ⟨45, _⟩ => ⟨S512x256, .bf16⟩
  | .hbm, ⟨46, _⟩ => ⟨S1286x384, .bf16⟩
  | .hbm, ⟨47, _⟩ => ⟨S1286x384, .bf16⟩
  | .hbm, ⟨48, _⟩ => ⟨S1x512, .f32⟩
  | .hbm, ⟨49, _⟩ => ⟨S1x256, .f32⟩
  | .hbm, ⟨50, _⟩ => ⟨S1x384, .f32⟩
  | .hbm, ⟨51, _⟩ => ⟨S1x384, .f32⟩
  | .hbm, ⟨52, _⟩ => ⟨S1x1, .f32⟩
  | .hbm, ⟨53, _⟩ => ⟨S1x384, .f32⟩
  | .hbm, ⟨54, _⟩ => ⟨S1x384, .f32⟩
  | .hbm, ⟨55, _⟩ => ⟨S1x1, .f32⟩
  | .hbm, ⟨56, _⟩ => ⟨S4096x256, .f32⟩
  | .hbm, ⟨57, _⟩ => ⟨S4096x4, .f32⟩
  | .hbm, ⟨58, _⟩ => ⟨S4096x32x256, .f32⟩
  | .hbm, ⟨59, _⟩ => ⟨S4096x32, .f32⟩
  | .hbm, ⟨60, _⟩ => ⟨S4096x32, .f32⟩
  | .hbm, ⟨61, _⟩ => ⟨S4096x32, .f32⟩
  | .hbm, ⟨62, _⟩ => ⟨S4096x32, .f32⟩
  | .hbm, ⟨63, _⟩ => ⟨S4096x192, .f32⟩
  | .hbm, ⟨64, _⟩ => ⟨S4096x6x32, .f32⟩
  | .hbm, ⟨65, _⟩ => ⟨S4096x32x6, .f32⟩
  | .hbm, ⟨66, _⟩ => ⟨S4096x1, .f32⟩
  | .hbm, ⟨67, _⟩ => ⟨S4096x1, .f32⟩
  | .hbm, ⟨68, _⟩ => ⟨S4096x1, .f32⟩
  | .hbm, ⟨69, _⟩ => ⟨S4096x1, .f32⟩
  | .hbm, ⟨70, _⟩ => ⟨S4096x32x1, .f32⟩
  | .hbm, ⟨71, _⟩ => ⟨S4096x32x1, .f32⟩
  | .hbm, ⟨72, _⟩ => ⟨S4096x32x1, .f32⟩
  | .hbm, ⟨73, _⟩ => ⟨S4096x32x1, .f32⟩
  | .local _ .vmem, ⟨0, _⟩ => ⟨S4096x256, .f32⟩
  | .local _ .vmem, ⟨1, _⟩ => ⟨S4096x768, .f32⟩
  | .local _ .vmem, ⟨2, _⟩ => ⟨S4096x32, .f32⟩
  | .local _ .vmem, ⟨3, _⟩ => ⟨S4096x32, .f32⟩
  | .local _ .vmem, ⟨4, _⟩ => ⟨S4096x32, .f32⟩
  | .local _ .vmem, ⟨5, _⟩ => ⟨S4096x32, .f32⟩
  | .local _ .vmem, ⟨6, _⟩ => ⟨S4096x32, .f32⟩
  | .local _ .vmem, ⟨7, _⟩ => ⟨S4096x32, .f32⟩
  | .local _ .vmem, ⟨8, _⟩ => ⟨S4096x32, .f32⟩
  | .local _ .vmem, ⟨9, _⟩ => ⟨S4096x32, .f32⟩
  | .local _ .vmem, ⟨10, _⟩ => ⟨S4096x32, .f32⟩
  | .local _ .vmem, ⟨11, _⟩ => ⟨S4096x32, .f32⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S1x512, .f32⟩
  | .local _ .vmem, ⟨17, _⟩ => ⟨S512x256, .bf16⟩
  | .local _ .vmem, ⟨18, _⟩ => ⟨S1x256, .f32⟩
  | .local _ .vmem, ⟨19, _⟩ => ⟨S256x384, .bf16⟩
  | .local _ .vmem, ⟨20, _⟩ => ⟨S256x384, .bf16⟩
  | .local _ .vmem, ⟨21, _⟩ => ⟨S256x384, .bf16⟩
  | .local _ .vmem, ⟨22, _⟩ => ⟨S256x384, .bf16⟩
  | .local _ .vmem, ⟨23, _⟩ => ⟨S256x384, .bf16⟩
  | .local _ .vmem, ⟨24, _⟩ => ⟨S8x384, .bf16⟩
  | .local _ .vmem, ⟨25, _⟩ => ⟨S1x384, .f32⟩
  | .local _ .vmem, ⟨26, _⟩ => ⟨S1x384, .f32⟩
  | .local _ .vmem, ⟨27, _⟩ => ⟨S1x1, .f32⟩
  | .local _ .vmem, ⟨28, _⟩ => ⟨S256x384, .bf16⟩
  | .local _ .vmem, ⟨29, _⟩ => ⟨S256x384, .bf16⟩
  | .local _ .vmem, ⟨30, _⟩ => ⟨S256x384, .bf16⟩
  | .local _ .vmem, ⟨31, _⟩ => ⟨S256x384, .bf16⟩
  | .local _ .vmem, ⟨32, _⟩ => ⟨S256x384, .bf16⟩
  | .local _ .vmem, ⟨33, _⟩ => ⟨S8x384, .bf16⟩
  | .local _ .vmem, ⟨34, _⟩ => ⟨S1x384, .f32⟩
  | .local _ .vmem, ⟨35, _⟩ => ⟨S1x384, .f32⟩
  | .local _ .vmem, ⟨36, _⟩ => ⟨S1x1, .f32⟩
  | .local _ .vmem, ⟨37, _⟩ => ⟨S128x256, .f32⟩
  | .local _ .vmem, ⟨38, _⟩ => ⟨S128x256, .f32⟩
  | .local _ .vmem, ⟨39, _⟩ => ⟨S128x4, .f32⟩
  | .local _ .vmem, ⟨40, _⟩ => ⟨S128x4, .f32⟩
  | .local _ .vmem, ⟨41, _⟩ => ⟨S128x32, .f32⟩
  | .local _ .vmem, ⟨42, _⟩ => ⟨S128x32, .f32⟩
  | .local _ .vmem, ⟨43, _⟩ => ⟨S128x32, .f32⟩
  | .local _ .vmem, ⟨44, _⟩ => ⟨S128x32, .f32⟩
  | .local _ .vmem, ⟨45, _⟩ => ⟨S128x32, .f32⟩
  | .local _ .vmem, ⟨46, _⟩ => ⟨S128x32, .f32⟩
  | .local _ .vmem, ⟨47, _⟩ => ⟨S128x32, .f32⟩
  | .local _ .vmem, ⟨48, _⟩ => ⟨S128x32, .f32⟩
  | .local _ .vmem, ⟨49, _⟩ => ⟨S128x192, .f32⟩
  | .local _ .vmem, ⟨50, _⟩ => ⟨S128x192, .f32⟩
  | .local _ .vmem, ⟨51, _⟩ => ⟨S2x128x32x256, .f32⟩
  | .local _ .vmem, ⟨52, _⟩ => ⟨S2x128x32x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35_0 : Ref sig .tc := ⟨.hbm, 56, rfl⟩
abbrev main_v35_1 : Ref sig .tc := ⟨.hbm, 57, rfl⟩
abbrev main_v35_2 : Ref sig .tc := ⟨.hbm, 58, rfl⟩
abbrev main_v35_3 : Ref sig .tc := ⟨.hbm, 59, rfl⟩
abbrev main_v35_4 : Ref sig .tc := ⟨.hbm, 60, rfl⟩
abbrev main_v35_5 : Ref sig .tc := ⟨.hbm, 61, rfl⟩
abbrev main_v35_6 : Ref sig .tc := ⟨.hbm, 62, rfl⟩
abbrev main_v35_7 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg37_1 : Ref sig .tc := ⟨.vmem, 38, rfl⟩
abbrev cc0_stg38_0 : Ref sig .tc := ⟨.vmem, 39, rfl⟩
abbrev cc0_stg38_1 : Ref sig .tc := ⟨.vmem, 40, rfl⟩
abbrev cc0_stg39_0 : Ref sig .tc := ⟨.vmem, 41, rfl⟩
abbrev cc0_stg39_1 : Ref sig .tc := ⟨.vmem, 42, rfl⟩
abbrev cc0_stg40_0 : Ref sig .tc := ⟨.vmem, 43, rfl⟩
abbrev cc0_stg40_1 : Ref sig .tc := ⟨.vmem, 44, rfl⟩
abbrev cc0_stg41_0 : Ref sig .tc := ⟨.vmem, 45, rfl⟩
abbrev cc0_stg41_1 : Ref sig .tc := ⟨.vmem, 46, rfl⟩
abbrev cc0_stg42_0 : Ref sig .tc := ⟨.vmem, 47, rfl⟩
abbrev cc0_stg42_1 : Ref sig .tc := ⟨.vmem, 48, rfl⟩
abbrev cc0_stg43_0 : Ref sig .tc := ⟨.vmem, 49, rfl⟩
abbrev cc0_stg43_1 : Ref sig .tc := ⟨.vmem, 50, rfl⟩
abbrev cc0_scratch0 : Ref sig .tc := ⟨.vmem, 51, rfl⟩
abbrev cc0_scratch1 : Ref sig .tc := ⟨.vmem, 52, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem37_1 : DmaSem sig := 38
abbrev cc0_sem38_0 : DmaSem sig := 39
abbrev cc0_sem38_1 : DmaSem sig := 40
abbrev cc0_sem39_0 : DmaSem sig := 41
abbrev cc0_sem39_1 : DmaSem sig := 42
abbrev cc0_sem40_0 : DmaSem sig := 43
abbrev cc0_sem40_1 : DmaSem sig := 44
abbrev cc0_sem41_0 : DmaSem sig := 45
abbrev cc0_sem41_1 : DmaSem sig := 46
abbrev cc0_sem42_0 : DmaSem sig := 47
abbrev cc0_sem42_1 : DmaSem sig := 48
abbrev cc0_sem43_0 : DmaSem sig := 49
abbrev cc0_sem43_1 : DmaSem sig := 50

abbrev nD : Nat := 1
abbrev τ : Topo := Topo.v7x

variable {F : FTy → Type} [FloatOps F]

abbrev grid0 : Pipeline.Grid := ⟨1, ![32], ![false]⟩

def k0_off1 (i : grid0.Coords) : Fin 2 → Nat :=
  let arg0 : BitVec 32 := BitVec.ofNat 32 (i 0).val
  let c128_i32 : BitVec 32 := 128#32
  let v3 : BitVec 32 := Scalar.muli arg0 c128_i32
  let v4 : Index := Scalar.indexCast v3
  let c0 : Index := 0#32
  ![v4.toNat, 0]
def k0_off2 (i : grid0.Coords) : Fin 2 → Nat :=
  let arg0 : BitVec 32 := BitVec.ofNat 32 (i 0).val
  let c128_i32 : BitVec 32 := 128#32
  let v3 : BitVec 32 := Scalar.muli arg0 c128_i32
  let v6 : Index := Scalar.indexCast v3
  let c0_1 : Index := 0#32
  ![v6.toNat, 0]
def k0_off3 (i : grid0.Coords) : Fin 2 → Nat :=
  let arg0 : BitVec 32 := BitVec.ofNat 32 (i 0).val
  let c128_i32 : BitVec 32 := 128#32
  let v3 : BitVec 32 := Scalar.muli arg0 c128_i32
  let v54 : Index := Scalar.indexCast v3
  let c0_24 : Index := 0#32
  ![v54.toNat, 0]
def k0_cond2 (i : grid0.Coords) : BitVec 1 :=
  let arg0 : BitVec 32 := BitVec.ofNat 32 (i 0).val
  let c2_i32 : BitVec 32 := 2#32
  let v289 : BitVec 32 := Scalar.remsi arg0 c2_i32
  let c0_i32_133 : BitVec 32 := 0#32
  let v290 : BitVec 1 := Scalar.cmpi .eq v289 c0_i32_133
  let v291 : BitVec 32 := Scalar.extui v290
  let c0_i32_134 : BitVec 32 := 0#32
  let v292 : BitVec 1 := Scalar.cmpi .ne v291 c0_i32_134
  v292

def k0_off4 (i : grid0.Coords) : Fin 3 → Nat :=
  let arg0 : BitVec 32 := BitVec.ofNat 32 (i 0).val
  let c128_i32_158 : BitVec 32 := 128#32
  let v342 : BitVec 32 := Scalar.muli arg0 c128_i32_158
  let c0_i32_164 : BitVec 32 := 0#32
  let c0_i32_165 : BitVec 32 := 0#32
  ![v342.toNat, 0, 0]
def k0_cond3 (i : grid0.Coords) : BitVec 1 :=
  let arg0 : BitVec 32 := BitVec.ofNat 32 (i 0).val
  let c2_i32 : BitVec 32 := 2#32
  let v289 : BitVec 32 := Scalar.remsi arg0 c2_i32
  let c1_i32 : BitVec 32 := 1#32
  let v293 : BitVec 1 := Scalar.cmpi .eq v289 c1_i32
  let v294 : BitVec 32 := Scalar.extui v293
  let c0_i32_135 : BitVec 32 := 0#32
  let v295 : BitVec 1 := Scalar.cmpi .ne v294 c0_i32_135
  v295

def k0_off5 (i : grid0.Coords) : Fin 3 → Nat :=
  let arg0 : BitVec 32 := BitVec.ofNat 32 (i 0).val
  let c128_i32_158 : BitVec 32 := 128#32
  let v342 : BitVec 32 := Scalar.muli arg0 c128_i32_158
  let c0_i32_164 : BitVec 32 := 0#32
  let c0_i32_165 : BitVec 32 := 0#32
  ![v342.toNat, 0, 0]
def k0_cond4 (i : grid0.Coords) : BitVec 1 :=
  let arg0 : BitVec 32 := BitVec.ofNat 32 (i 0).val
  let c2_i32_136 : BitVec 32 := 2#32
  let v296 : BitVec 32 := Scalar.remsi arg0 c2_i32_136
  let c0_i32_137 : BitVec 32 := 0#32
  let v297 : BitVec 1 := Scalar.cmpi .eq v296 c0_i32_137
  let c2_i32_138 : BitVec 32 := 2#32
  let v298 : BitVec 1 := Scalar.cmpi .sge arg0 c2_i32_138
  let v299 : BitVec 1 := Scalar.andi v297 v298
  let v300 : BitVec 32 := Scalar.extui v299
  let c0_i32_139 : BitVec 32 := 0#32
  let v301 : BitVec 1 := Scalar.cmpi .ne v300 c0_i32_139
  v301

def k0_off6 (i : grid0.Coords) : Fin 3 → Nat :=
  let arg0 : BitVec 32 := BitVec.ofNat 32 (i 0).val
  let c2_i32_158 : BitVec 32 := 2#32
  let v342 : BitVec 32 := Scalar.subi arg0 c2_i32_158
  let c128_i32_159 : BitVec 32 := 128#32
  let v343 : BitVec 32 := Scalar.muli v342 c128_i32_159
  let c0_i32_162 : BitVec 32 := 0#32
  let c0_i32_163 : BitVec 32 := 0#32
  ![v343.toNat, 0, 0]
def k0_cond5 (i : grid0.Coords) : BitVec 1 :=
  let arg0 : BitVec 32 := BitVec.ofNat 32 (i 0).val
  let c2_i32_136 : BitVec 32 := 2#32
  let v296 : BitVec 32 := Scalar.remsi arg0 c2_i32_136
  let c1_i32_140 : BitVec 32 := 1#32
  let v302 : BitVec 1 := Scalar.cmpi .eq v296 c1_i32_140
  let c2_i32_141 : BitVec 32 := 2#32
  let v303 : BitVec 1 := Scalar.cmpi .sge arg0 c2_i32_141
  let v304 : BitVec 1 := Scalar.andi v302 v303
  let v305 : BitVec 32 := Scalar.extui v304
  let c0_i32_142 : BitVec 32 := 0#32
  let v306 : BitVec 1 := Scalar.cmpi .ne v305 c0_i32_142
  v306

def k0_off7 (i : grid0.Coords) : Fin 3 → Nat :=
  let arg0 : BitVec 32 := BitVec.ofNat 32 (i 0).val
  let c2_i32_158 : BitVec 32 := 2#32
  let v342 : BitVec 32 := Scalar.subi arg0 c2_i32_158
  let c128_i32_159 : BitVec 32 := 128#32
  let v343 : BitVec 32 := Scalar.muli v342 c128_i32_159
  let c0_i32_162 : BitVec 32 := 0#32
  let c0_i32_163 : BitVec 32 := 0#32
  ![v343.toNat, 0, 0]
def k0_off8 (i : grid0.Coords) : Fin 4 → Nat :=
  let arg0 : BitVec 32 := BitVec.ofNat 32 (i 0).val
  let c2_i32 : BitVec 32 := 2#32
  let v289 : BitVec 32 := Scalar.remsi arg0 c2_i32
  let v307 : Index := Scalar.indexCast v289
  let c0_143 : Index := 0#32
  let c0_144 : Index := 0#32
  let c0_145 : Index := 0#32
  ![v307.toNat, 0, 0, 0]
def k0_cond6 (i : grid0.Coords) : BitVec 1 :=
  let arg0 : BitVec 32 := BitVec.ofNat 32 (i 0).val
  let c2_i32_136 : BitVec 32 := 2#32
  let v296 : BitVec 32 := Scalar.remsi arg0 c2_i32_136
  let c0_i32_150 : BitVec 32 := 0#32
  let v329 : BitVec 1 := Scalar.cmpi .eq v296 c0_i32_150
  let v330 : BitVec 32 := Scalar.extui v329
  let c0_i32_151 : BitVec 32 := 0#32
  let v331 : BitVec 1 := Scalar.cmpi .ne v330 c0_i32_151
  v331

def k0_off9 (i : grid0.Coords) : Fin 3 → Nat :=
  let arg0 : BitVec 32 := BitVec.ofNat 32 (i 0).val
  let c128_i32_158 : BitVec 32 := 128#32
  let v342 : BitVec 32 := Scalar.muli arg0 c128_i32_158
  let c0_i32_161 : BitVec 32 := 0#32
  let c0_i32_162 : BitVec 32 := 0#32
  ![v342.toNat, 0, 0]
def k0_cond7 (i : grid0.Coords) : BitVec 1 :=
  let arg0 : BitVec 32 := BitVec.ofNat 32 (i 0).val
  let c2_i32_136 : BitVec 32 := 2#32
  let v296 : BitVec 32 := Scalar.remsi arg0 c2_i32_136
  let c1_i32_152 : BitVec 32 := 1#32
  let v332 : BitVec 1 := Scalar.cmpi .eq v296 c1_i32_152
  let v333 : BitVec 32 := Scalar.extui v332
  let c0_i32_153 : BitVec 32 := 0#32
  let v334 : BitVec 1 := Scalar.cmpi .ne v333 c0_i32_153
  v334

def k0_off10 (i : grid0.Coords) : Fin 3 → Nat :=
  let arg0 : BitVec 32 := BitVec.ofNat 32 (i 0).val
  let c128_i32_158 : BitVec 32 := 128#32
  let v342 : BitVec 32 := Scalar.muli arg0 c128_i32_158
  let c0_i32_161 : BitVec 32 := 0#32
  let c0_i32_162 : BitVec 32 := 0#32
  ![v342.toNat, 0, 0]
def k0_cond8 (i : grid0.Coords) : BitVec 1 :=
  let arg0 : BitVec 32 := BitVec.ofNat 32 (i 0).val
  let c2_i32_154 : BitVec 32 := 2#32
  let v335 : BitVec 32 := Scalar.addi arg0 c2_i32_154
  let c32_i32_155 : BitVec 32 := 32#32
  let v336 : BitVec 1 := Scalar.cmpi .slt v335 c32_i32_155
  let v337 : BitVec 32 := Scalar.extui v336
  let c0_i32_156 : BitVec 32 := 0#32
  let v338 : BitVec 1 := Scalar.cmpi .ne v337 c0_i32_156
  v338

def k0_cond9 (i : grid0.Coords) : BitVec 1 :=
  let arg0 : BitVec 32 := BitVec.ofNat 32 (i 0).val
  let c2_i32 : BitVec 32 := 2#32
  let v289 : BitVec 32 := Scalar.remsi arg0 c2_i32
  let c0_i32_158 : BitVec 32 := 0#32
  let v342 : BitVec 1 := Scalar.cmpi .eq v289 c0_i32_158
  let v343 : BitVec 32 := Scalar.extui v342
  let c0_i32_159 : BitVec 32 := 0#32
  let v344 : BitVec 1 := Scalar.cmpi .ne v343 c0_i32_159
  v344

def k0_off11 (i : grid0.Coords) : Fin 3 → Nat :=
  let arg0 : BitVec 32 := BitVec.ofNat 32 (i 0).val
  let c2_i32_162 : BitVec 32 := 2#32
  let v348 : BitVec 32 := Scalar.addi arg0 c2_i32_162
  let c128_i32_163 : BitVec 32 := 128#32
  let v349 : BitVec 32 := Scalar.muli v348 c128_i32_163
  let c0_i32_169 : BitVec 32 := 0#32
  let c0_i32_170 : BitVec 32 := 0#32
  ![v349.toNat, 0, 0]
def k0_cond10 (i : grid0.Coords) : BitVec 1 :=
  let arg0 : BitVec 32 := BitVec.ofNat 32 (i 0).val
  let c2_i32 : BitVec 32 := 2#32
  let v289 : BitVec 32 := Scalar.remsi arg0 c2_i32
  let c1_i32_160 : BitVec 32 := 1#32
  let v345 : BitVec 1 := Scalar.cmpi .eq v289 c1_i32_160
  let v346 : BitVec 32 := Scalar.extui v345
  let c0_i32_161 : BitVec 32 := 0#32
  let v347 : BitVec 1 := Scalar.cmpi .ne v346 c0_i32_161
  v347

def k0_off12 (i : grid0.Coords) : Fin 3 → Nat :=
  let arg0 : BitVec 32 := BitVec.ofNat 32 (i 0).val
  let c2_i32_162 : BitVec 32 := 2#32
  let v348 : BitVec 32 := Scalar.addi arg0 c2_i32_162
  let c128_i32_163 : BitVec 32 := 128#32
  let v349 : BitVec 32 := Scalar.muli v348 c128_i32_163
  let c0_i32_169 : BitVec 32 := 0#32
  let c0_i32_170 : BitVec 32 := 0#32
  ![v349.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_15 (i : grid0.Coords) : Fin 2 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat]

def cc0_transform_16 (i : grid0.Coords) : Fin 2 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_22 (i : grid0.Coords) : Fin 2 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat]

def cc0_transform_23 (i : grid0.Coords) : Fin 2 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat]

def cc0_transform_24 (i : grid0.Coords) : Fin 2 → Nat :=
  let arg0 : BitVec 32 := BitVec.ofNat 32 (i 0).val
  let c4_i32 : BitVec 32 := 4#32
  let c0_i32 : BitVec 32 := 0#32
  let c0_i32_0 : BitVec 32 := 0#32
  ![c4_i32.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_31 (i : grid0.Coords) : Fin 2 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat]

def cc0_transform_32 (i : grid0.Coords) : Fin 2 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat]

def cc0_transform_33 (i : grid0.Coords) : Fin 2 → Nat :=
  let arg0 : BitVec 32 := BitVec.ofNat 32 (i 0).val
  let c4_i32 : BitVec 32 := 4#32
  let c0_i32 : BitVec 32 := 0#32
  let c0_i32_0 : BitVec 32 := 0#32
  ![c4_i32.toNat, c0_i32.toNat]

def cc0_transform_34 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_35 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_36 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_37 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_38 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_39 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_41 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_42 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_43 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_44 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_45 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4096x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4096x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4096x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512x256 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S256x384 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S256x384 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S256x384 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S256x384 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S256x384 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S8x384 .bf16 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x384 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x384 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x1 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S256x384 .bf16 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S256x384 .bf16 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S256x384 .bf16 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]

abbrev stage0_31 : Fin 1 → Memref sig .tc .vmem S256x384 .bf16 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false]

abbrev stage0_32 : Fin 1 → Memref sig .tc .vmem S256x384 .bf16 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![false]

abbrev stage0_33 : Fin 1 → Memref sig .tc .vmem S8x384 .bf16 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![false]

abbrev stage0_34 : Fin 1 → Memref sig .tc .vmem S1x384 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))
abbrev reads0_34 : Fin grid0.rank → Bool := ![false]

abbrev stage0_35 : Fin 1 → Memref sig .tc .vmem S1x384 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))
abbrev reads0_35 : Fin grid0.rank → Bool := ![false]

abbrev stage0_36 : Fin 1 → Memref sig .tc .vmem S1x1 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))
abbrev reads0_36 : Fin grid0.rank → Bool := ![false]

abbrev stage0_37 : Fin 2 → Memref sig .tc .vmem S128x256 .f32 := fun | 0 => Memref.whole cc0_stg37_0 | 1 => Memref.whole cc0_stg37_1 | ⟨_ + 2, h⟩ => absurd h (Nat.not_lt.2 (Nat.le_add_left _ _))
abbrev sem0_37 : Fin 2 → DmaSem sig := fun | 0 => cc0_sem37_0 | 1 => cc0_sem37_1 | ⟨_ + 2, h⟩ => absurd h (Nat.not_lt.2 (Nat.le_add_left _ _))
abbrev reads0_37 : Fin grid0.rank → Bool := ![true]

abbrev stage0_38 : Fin 2 → Memref sig .tc .vmem S128x4 .f32 := fun | 0 => Memref.whole cc0_stg38_0 | 1 => Memref.whole cc0_stg38_1 | ⟨_ + 2, h⟩ => absurd h (Nat.not_lt.2 (Nat.le_add_left _ _))
abbrev sem0_38 : Fin 2 → DmaSem sig := fun | 0 => cc0_sem38_0 | 1 => cc0_sem38_1 | ⟨_ + 2, h⟩ => absurd h (Nat.not_lt.2 (Nat.le_add_left _ _))
abbrev reads0_38 : Fin grid0.rank → Bool := ![true]

abbrev stage0_39 : Fin 2 → Memref sig .tc .vmem S128x32 .f32 := fun | 0 => Memref.whole cc0_stg39_0 | 1 => Memref.whole cc0_stg39_1 | ⟨_ + 2, h⟩ => absurd h (Nat.not_lt.2 (Nat.le_add_left _ _))
abbrev sem0_39 : Fin 2 → DmaSem sig := fun | 0 => cc0_sem39_0 | 1 => cc0_sem39_1 | ⟨_ + 2, h⟩ => absurd h (Nat.not_lt.2 (Nat.le_add_left _ _))
abbrev reads0_39 : Fin grid0.rank → Bool := ![true]

abbrev stage0_40 : Fin 2 → Memref sig .tc .vmem S128x32 .f32 := fun | 0 => Memref.whole cc0_stg40_0 | 1 => Memref.whole cc0_stg40_1 | ⟨_ + 2, h⟩ => absurd h (Nat.not_lt.2 (Nat.le_add_left _ _))
abbrev sem0_40 : Fin 2 → DmaSem sig := fun | 0 => cc0_sem40_0 | 1 => cc0_sem40_1 | ⟨_ + 2, h⟩ => absurd h (Nat.not_lt.2 (Nat.le_add_left _ _))
abbrev reads0_40 : Fin grid0.rank → Bool := ![true]

abbrev stage0_41 : Fin 2 → Memref sig .tc .vmem S128x32 .f32 := fun | 0 => Memref.whole cc0_stg41_0 | 1 => Memref.whole cc0_stg41_1 | ⟨_ + 2, h⟩ => absurd h (Nat.not_lt.2 (Nat.le_add_left _ _))
abbrev sem0_41 : Fin 2 → DmaSem sig := fun | 0 => cc0_sem41_0 | 1 => cc0_sem41_1 | ⟨_ + 2, h⟩ => absurd h (Nat.not_lt.2 (Nat.le_add_left _ _))
abbrev reads0_41 : Fin grid0.rank → Bool := ![true]

abbrev stage0_42 : Fin 2 → Memref sig .tc .vmem S128x32 .f32 := fun | 0 => Memref.whole cc0_stg42_0 | 1 => Memref.whole cc0_stg42_1 | ⟨_ + 2, h⟩ => absurd h (Nat.not_lt.2 (Nat.le_add_left _ _))
abbrev sem0_42 : Fin 2 → DmaSem sig := fun | 0 => cc0_sem42_0 | 1 => cc0_sem42_1 | ⟨_ + 2, h⟩ => absurd h (Nat.not_lt.2 (Nat.le_add_left _ _))
abbrev reads0_42 : Fin grid0.rank → Bool := ![true]

abbrev stage0_43 : Fin 2 → Memref sig .tc .vmem S128x192 .f32 := fun | 0 => Memref.whole cc0_stg43_0 | 1 => Memref.whole cc0_stg43_1 | ⟨_ + 2, h⟩ => absurd h (Nat.not_lt.2 (Nat.le_add_left _ _))
abbrev sem0_43 : Fin 2 → DmaSem sig := fun | 0 => cc0_sem43_0 | 1 => cc0_sem43_1 | ⟨_ + 2, h⟩ => absurd h (Nat.not_lt.2 (Nat.le_add_left _ _))
abbrev reads0_43 : Fin grid0.rank → Bool := ![true]
-- ==== ReferenceIdeal.lean ====
abbrev S4096x256 : Shape := ⟨2, ![4096, 256]⟩
abbrev S4096x768 : Shape := ⟨2, ![4096, 768]⟩
abbrev S4096x32x256 : Shape := ⟨3, ![4096, 32, 256]⟩
abbrev S4096x32x1 : Shape := ⟨3, ![4096, 32, 1]⟩
abbrev S4096x32x6 : Shape := ⟨3, ![4096, 32, 6]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S1286x384 : Shape := ⟨2, ![1286, 384]⟩
abbrev S384 : Shape := ⟨1, ![384]⟩
abbrev S384x1 : Shape := ⟨2, ![384, 1]⟩
abbrev S1 : Shape := ⟨1, ![1]⟩
abbrev S4096x1024 : Shape := ⟨2, ![4096, 1024]⟩
abbrev S4096x512 : Shape := ⟨2, ![4096, 512]⟩
abbrev S1x512 : Shape := ⟨2, ![1, 512]⟩
abbrev S_ : Shape := ⟨0, ![]⟩
abbrev S1x256 : Shape := ⟨2, ![1, 256]⟩
abbrev S4096x1 : Shape := ⟨2, ![4096, 1]⟩
abbrev S4096x6 : Shape := ⟨2, ![4096, 6]⟩
abbrev S4096x1286 : Shape := ⟨2, ![4096, 1286]⟩
abbrev S4096x384 : Shape := ⟨2, ![4096, 384]⟩
abbrev S1x384 : Shape := ⟨2, ![1, 384]⟩
abbrev S1x1 : Shape := ⟨2, ![1, 1]⟩
abbrev S4096x32 : Shape := ⟨2, ![4096, 32]⟩
abbrev S4096 : Shape := ⟨1, ![4096]⟩
abbrev S1x32 : Shape := ⟨2, ![1, 32]⟩
abbrev S4096x1x1 : Shape := ⟨3, ![4096, 1, 1]⟩
abbrev S4096x1x256 : Shape := ⟨3, ![4096, 1, 256]⟩
abbrev S4096x32x2 : Shape := ⟨3, ![4096, 32, 2]⟩

abbrev nBuf : Space → Nat
  | .hbm => 241
  | .vmem => 0
  | .smem => 0
  | _ => 0

abbrev hbmTy0_0 (i : Nat) : BufTy := match i % 128 with
  | 0 => ⟨S4096x256, .f32⟩
  | 1 => ⟨S4096x768, .f32⟩
  | 2 => ⟨S4096x32x256, .f32⟩
  | 3 => ⟨S4096x32x1, .f32⟩
  | 4 => ⟨S4096x32x1, .f32⟩
  | 5 => ⟨S4096x32x1, .f32⟩
  | 6 => ⟨S4096x32x1, .f32⟩
  | 7 => ⟨S4096x32x6, .f32⟩
  | 8 => ⟨S1024x512, .f32⟩
  | 9 => ⟨S512, .f32⟩
  | 10 => ⟨S512x256, .f32⟩
  | 11 => ⟨S256, .f32⟩
  | 12 => ⟨S1286x384, .f32⟩
  | 13 => ⟨S384, .f32⟩
  | 14 => ⟨S384x1, .f32⟩
  | 15 => ⟨S1, .f32⟩
  | 16 => ⟨S1286x384, .f32⟩
  | 17 => ⟨S384, .f32⟩
  | 18 => ⟨S384x1, .f32⟩
  | 19 => ⟨S1, .f32⟩
  | 20 => ⟨S4096x1024, .f32⟩
  | 21 => ⟨S4096x512, .f32⟩
  | 22 => ⟨S1x512, .f32⟩
  | 23 => ⟨S4096x512, .f32⟩
  | 24 => ⟨S4096x512, .f32⟩
  | 25 => ⟨S4096x512, .f32⟩
  | 26 => ⟨S4096x512, .f32⟩
  | 27 => ⟨S_, .f32⟩
  | 28 => ⟨S4096x512, .f32⟩
  | 29 => ⟨S4096x512, .f32⟩
  | 30 => ⟨S4096x512, .f32⟩
  | 31 => ⟨S_, .f32⟩
  | 32 => ⟨S4096x512, .f32⟩
  | 33 => ⟨S4096x512, .f32⟩
  | 34 => ⟨S4096x512, .f32⟩
  | 35 => ⟨S_, .f32⟩
  | 36 => ⟨S4096x512, .f32⟩
  | 37 => ⟨S4096x512, .f32⟩
  | 38 => ⟨S_, .f32⟩
  | 39 => ⟨S4096x512, .f32⟩
  | 40 => ⟨S4096x512, .f32⟩
  | 41 => ⟨S4096x512, .f32⟩
  | 42 => ⟨S4096x256, .f32⟩
  | 43 => ⟨S1x256, .f32⟩
  | 44 => ⟨S4096x256, .f32⟩
  | 45 => ⟨S4096x256, .f32⟩
  | 46 => ⟨S4096x32x1, .f32⟩
  | 47 => ⟨S_, .f32⟩
  | 48 => ⟨S4096x1, .f32⟩
  | 49 => ⟨S_, .f32⟩
  | 50 => ⟨S_, .f32⟩
  | 51 => ⟨S4096x1, .f32⟩
  | 52 => ⟨S4096x1, .f32⟩
  | 53 => ⟨S4096x32x6, .f32⟩
  | 54 => ⟨S4096x32x6, .f32⟩
  | 55 => ⟨S_, .f32⟩
  | 56 => ⟨S4096x6, .f32⟩
  | 57 => ⟨S4096x6, .f32⟩
  | 58 => ⟨S4096x6, .f32⟩
  | 59 => ⟨S4096x1286, .f32⟩
  | 60 => ⟨S4096x384, .f32⟩
  | 61 => ⟨S1x384, .f32⟩
  | 62 => ⟨S4096x384, .f32⟩
  | 63 => ⟨S4096x384, .f32⟩
  | 64 => ⟨S4096x384, .f32⟩
  | 65 => ⟨S4096x384, .f32⟩
  | 66 => ⟨S_, .f32⟩
  | 67 => ⟨S4096x384, .f32⟩
  | 68 => ⟨S4096x384, .f32⟩
  | 69 => ⟨S4096x384, .f32⟩
  | 70 => ⟨S_, .f32⟩
  | 71 => ⟨S4096x384, .f32⟩
  | 72 => ⟨S4096x384, .f32⟩
  | 73 => ⟨S4096x384, .f32⟩
  | 74 => ⟨S_, .f32⟩
  | 75 => ⟨S4096x384, .f32⟩
  | 76 => ⟨S4096x384, .f32⟩
  | 77 => ⟨S_, .f32⟩
  | 78 => ⟨S4096x384, .f32⟩
  | 79 => ⟨S4096x384, .f32⟩
  | 80 => ⟨S4096x384, .f32⟩
  | 81 => ⟨S4096x1, .f32⟩
  | 82 => ⟨S1x1, .f32⟩
  | 83 => ⟨S4096x1, .f32⟩
  | 84 => ⟨S4096x1, .f32⟩
  | 85 => ⟨S4096x1, .f32⟩
  | 86 => ⟨S4096x1, .f32⟩
  | 87 => ⟨S_, .f32⟩
  | 88 => ⟨S4096x1, .f32⟩
  | 89 => ⟨S4096x1, .f32⟩
  | 90 => ⟨S_, .f32⟩
  | 91 => ⟨S4096x1, .f32⟩
  | 92 => ⟨S4096x1, .f32⟩
  | 93 => ⟨S4096x384, .f32⟩
  | 94 => ⟨S1x384, .f32⟩
  | 95 => ⟨S4096x384, .f32⟩
  | 96 => ⟨S4096x384, .f32⟩
  | 97 => ⟨S4096x384, .f32⟩
  | 98 => ⟨S4096x384, .f32⟩
  | 99 => ⟨S_, .f32⟩
  | 100 => ⟨S4096x384, .f32⟩
  | 101 => ⟨S4096x384, .f32⟩
  | 102 => ⟨S4096x384, .f32⟩
  | 103 => ⟨S_, .f32⟩
  | 104 => ⟨S4096x384, .f32⟩
  | 105 => ⟨S4096x384, .f32⟩
  | 106 => ⟨S4096x384, .f32⟩
  | 107 => ⟨S_, .f32⟩
  | 108 => ⟨S4096x384, .f32⟩
  | 109 => ⟨S4096x384, .f32⟩
  | 110 => ⟨S_, .f32⟩
  | 111 => ⟨S4096x384, .f32⟩
  | 112 => ⟨S4096x384, .f32⟩
  | 113 => ⟨S4096x384, .f32⟩
  | 114 => ⟨S4096x1, .f32⟩
  | 115 => ⟨S1x1, .f32⟩
  | 116 => ⟨S4096x1, .f32⟩
  | 117 => ⟨S4096x1, .f32⟩
  | 118 => ⟨S4096x1, .f32⟩
  | 119 => ⟨S4096x1, .f32⟩
  | 120 => ⟨S_, .f32⟩
  | 121 => ⟨S4096x1, .f32⟩
  | 122 => ⟨S4096x1, .f32⟩
  | 123 => ⟨S_, .f32⟩
  | 124 => ⟨S4096x1, .f32⟩
  | 125 => ⟨S4096x1, .f32⟩
  | 126 => ⟨S_, .f32⟩
  | 127 => ⟨S4096x1, .f32⟩
  | _ => ⟨S4096x256, .f32⟩

abbrev hbmTy0_1 (i : Nat) : BufTy := match i % 128 with
  | 0 => ⟨S4096x1, .f32⟩
  | 1 => ⟨S_, .f32⟩
  | 2 => ⟨S4096x1, .f32⟩
  | 3 => ⟨S4096x1, .f32⟩
  | 4 => ⟨S4096x1, .f32⟩
  | 5 => ⟨S4096x1, .f32⟩
  | 6 => ⟨S_, .f32⟩
  | 7 => ⟨S4096x1, .f32⟩
  | 8 => ⟨S4096x1, .f32⟩
  | 9 => ⟨S_, .f32⟩
  | 10 => ⟨S4096x1, .f32⟩
  | 11 => ⟨S4096x1, .f32⟩
  | 12 => ⟨S_, .f32⟩
  | 13 => ⟨S4096x1, .f32⟩
  | 14 => ⟨S4096x1, .f32⟩
  | 15 => ⟨S_, .f32⟩
  | 16 => ⟨S4096x1, .f32⟩
  | 17 => ⟨S4096x1, .f32⟩
  | 18 => ⟨S4096x1, .f32⟩
  | 19 => ⟨S4096x1, .f32⟩
  | 20 => ⟨S_, .f32⟩
  | 21 => ⟨S4096x1, .f32⟩
  | 22 => ⟨S4096x1, .f32⟩
  | 23 => ⟨S_, .f32⟩
  | 24 => ⟨S4096x1, .f32⟩
  | 25 => ⟨S4096x1, .f32⟩
  | 26 => ⟨S4096x32, .f32⟩
  | 27 => ⟨S_, .f32⟩
  | 28 => ⟨S4096x32, .f32⟩
  | 29 => ⟨S4096x32, .i1⟩
  | 30 => ⟨S4096x32, .f32⟩
  | 31 => ⟨S_, .f32⟩
  | 32 => ⟨S4096, .f32⟩
  | 33 => ⟨S4096x1, .f32⟩
  | 34 => ⟨S_, .f32⟩
  | 35 => ⟨S4096x1, .f32⟩
  | 36 => ⟨S4096x1, .i1⟩
  | 37 => ⟨S4096x32, .i32⟩
  | 38 => ⟨S_, .f32⟩
  | 39 => ⟨S_, .i32⟩
  | 40 => ⟨S4096, .f32⟩
  | 41 => ⟨S4096, .i32⟩
  | 42 => ⟨S4096x1, .i32⟩
  | 43 => ⟨S4096x32x1, .f32⟩
  | 44 => ⟨S_, .f32⟩
  | 45 => ⟨S4096x32x1, .f32⟩
  | 46 => ⟨S4096x32x1, .f32⟩
  | 47 => ⟨S4096x32x1, .f32⟩
  | 48 => ⟨S4096x32, .f32⟩
  | 49 => ⟨S4096x32, .i32⟩
  | 50 => ⟨S_, .f32⟩
  | 51 => ⟨S_, .i32⟩
  | 52 => ⟨S4096, .f32⟩
  | 53 => ⟨S4096, .i32⟩
  | 54 => ⟨S4096x1, .i32⟩
  | 55 => ⟨S4096x1, .i32⟩
  | 56 => ⟨S4096, .i32⟩
  | 57 => ⟨S4096x1, .i32⟩
  | 58 => ⟨S1x32, .i32⟩
  | 59 => ⟨S4096x32, .i32⟩
  | 60 => ⟨S4096x32, .i32⟩
  | 61 => ⟨S4096x32, .i1⟩
  | 62 => ⟨S4096x32, .f32⟩
  | 63 => ⟨S4096x32x1, .f32⟩
  | 64 => ⟨S4096x1x1, .f32⟩
  | 65 => ⟨S4096x32x1, .f32⟩
  | 66 => ⟨S4096x32x1, .f32⟩
  | 67 => ⟨S_, .f32⟩
  | 68 => ⟨S4096x32x1, .f32⟩
  | 69 => ⟨S4096x32x1, .f32⟩
  | 70 => ⟨S_, .f32⟩
  | 71 => ⟨S_, .f32⟩
  | 72 => ⟨S4096x32x1, .f32⟩
  | 73 => ⟨S4096x32x1, .f32⟩
  | 74 => ⟨S4096x32x256, .f32⟩
  | 75 => ⟨S4096x32x256, .f32⟩
  | 76 => ⟨S4096x1x256, .f32⟩
  | 77 => ⟨S4096x32x256, .f32⟩
  | 78 => ⟨S4096x32x256, .f32⟩
  | 79 => ⟨S4096x32x256, .f32⟩
  | 80 => ⟨S4096x32x256, .f32⟩
  | 81 => ⟨S_, .f32⟩
  | 82 => ⟨S4096x32x1, .f32⟩
  | 83 => ⟨S4096x32x1, .f32⟩
  | 84 => ⟨S4096x32x1, .f32⟩
  | 85 => ⟨S4096x1x1, .f32⟩
  | 86 => ⟨S4096x32x1, .f32⟩
  | 87 => ⟨S4096x32x1, .f32⟩
  | 88 => ⟨S4096x32x1, .f32⟩
  | 89 => ⟨S_, .f32⟩
  | 90 => ⟨S4096x32x1, .f32⟩
  | 91 => ⟨S4096x32x1, .f32⟩
  | 92 => ⟨S4096x32x1, .f32⟩
  | 93 => ⟨S4096x32x1, .f32⟩
  | 94 => ⟨S4096x32x1, .f32⟩
  | 95 => ⟨S4096x1x1, .f32⟩
  | 96 => ⟨S4096x32x1, .f32⟩
  | 97 => ⟨S4096x32x1, .f32⟩
  | 98 => ⟨S4096x32x1, .f32⟩
  | 99 => ⟨S4096x32x1, .f32⟩
  | 100 => ⟨S4096x32x1, .f32⟩
  | 101 => ⟨S_, .f32⟩
  | 102 => ⟨S_, .f32⟩
  | 103 => ⟨S_, .f32⟩
  | 104 => ⟨S4096x32x1, .f32⟩
  | 105 => ⟨S4096x32x1, .f32⟩
  | 106 => ⟨S_, .f32⟩
  | 107 => ⟨S4096x32x1, .f32⟩
  | 108 => ⟨S4096x32x1, .f32⟩
  | 109 => ⟨S4096x32x6, .f32⟩
  | 110 => ⟨S4096x32x6, .f32⟩
  | 111 => ⟨S4096x32x2, .f32⟩
  | 112 => ⟨S4096x32x6, .f32⟩
  | _ => ⟨S4096x256, .f32⟩

abbrev hbmTy (i : Nat) : BufTy := match i / 128 with
  | 0 => hbmTy0_0 i
  | 1 => hbmTy0_1 i
  | _ => ⟨S4096x256, .f32⟩

abbrev bufTy : (tb : Table) → Fin (tcTables nBuf tb) → BufTy
  | .hbm, ⟨i, _⟩ => hbmTy i
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_0 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_1 : Ref sig .tc := ⟨.hbm, 35, rfl⟩
abbrev main_v13 : Ref sig .tc := ⟨.hbm, 36, rfl⟩
abbrev main_v14 : Ref sig .tc := ⟨.hbm, 37, rfl⟩
abbrev main_cst_2 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_3 : Ref sig .tc := ⟨.hbm, 47, rfl⟩
abbrev main_v23 : Ref sig .tc := ⟨.hbm, 48, rfl⟩
abbrev main_cst_4 : Ref sig .tc := ⟨.hbm, 49, rfl⟩
abbrev main_call0_v0 : Ref sig .tc := ⟨.hbm, 50, rfl⟩
abbrev main_call0_v1 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_cst_5 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_6 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_7 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_8 : Ref sig .tc := ⟨.hbm, 74, rfl⟩
abbrev main_v43 : Ref sig .tc := ⟨.hbm, 75, rfl⟩
abbrev main_v44 : Ref sig .tc := ⟨.hbm, 76, rfl⟩
abbrev main_cst_9 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_10 : Ref sig .tc := ⟨.hbm, 87, rfl⟩
abbrev main_v54 : Ref sig .tc := ⟨.hbm, 88, rfl⟩
abbrev main_v55 : Ref sig .tc := ⟨.hbm, 89, rfl⟩
abbrev main_cst_11 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_12 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_cst_13 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_cst_14 : Ref sig .tc := ⟨.hbm, 107, rfl⟩
abbrev main_v70 : Ref sig .tc := ⟨.hbm, 108, rfl⟩
abbrev main_v71 : Ref sig .tc := ⟨.hbm, 109, rfl⟩
abbrev main_cst_15 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_cst_16 : Ref sig .tc := ⟨.hbm, 120, rfl⟩
abbrev main_v81 : Ref sig .tc := ⟨.hbm, 121, rfl⟩
abbrev main_v82 : Ref sig .tc := ⟨.hbm, 122, rfl⟩
abbrev main_cst_17 : Ref sig .tc := ⟨.hbm, 123, rfl⟩
abbrev main_v83 : Ref sig .tc := ⟨.hbm, 124, rfl⟩
abbrev main_v84 : Ref sig .tc := ⟨.hbm, 125, rfl⟩
abbrev main_cst_18 : Ref sig .tc := ⟨.hbm, 126, rfl⟩
abbrev main_v85 : Ref sig .tc := ⟨.hbm, 127, rfl⟩
abbrev main_v86 : Ref sig .tc := ⟨.hbm, 128, rfl⟩
abbrev main_cst_19 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_cst_20 : Ref sig .tc := ⟨.hbm, 134, rfl⟩
abbrev main_v91 : Ref sig .tc := ⟨.hbm, 135, rfl⟩
abbrev main_v92 : Ref sig .tc := ⟨.hbm, 136, rfl⟩
abbrev main_cst_21 : Ref sig .tc := ⟨.hbm, 137, rfl⟩
abbrev main_v93 : Ref sig .tc := ⟨.hbm, 138, rfl⟩
abbrev main_v94 : Ref sig .tc := ⟨.hbm, 139, rfl⟩
abbrev main_cst_22 : Ref sig .tc := ⟨.hbm, 140, rfl⟩
abbrev main_v95 : Ref sig .tc := ⟨.hbm, 141, rfl⟩
abbrev main_v96 : Ref sig .tc := ⟨.hbm, 142, rfl⟩
abbrev main_cst_23 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_cst_24 : Ref sig .tc := ⟨.hbm, 148, rfl⟩
abbrev main_v101 : Ref sig .tc := ⟨.hbm, 149, rfl⟩
abbrev main_v102 : Ref sig .tc := ⟨.hbm, 150, rfl⟩
abbrev main_cst_25 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_cst_26 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_cst_27 : Ref sig .tc := ⟨.hbm, 159, rfl⟩
abbrev main_v109 : Ref sig .tc := ⟨.hbm, 160, rfl⟩
abbrev main_v110 : Ref sig .tc := ⟨.hbm, 161, rfl⟩
abbrev main_cst_28 : Ref sig .tc := ⟨.hbm, 162, rfl⟩
abbrev main_v111 : Ref sig .tc := ⟨.hbm, 163, rfl⟩
abbrev main_v112 : Ref sig .tc := ⟨.hbm, 164, rfl⟩
abbrev main_call1_v0 : Ref sig .tc := ⟨.hbm, 165, rfl⟩
abbrev main_call1_cst : Ref sig .tc := ⟨.hbm, 166, rfl⟩
abbrev main_call1_c : Ref sig .tc := ⟨.hbm, 167, rfl⟩
abbrev main_call1_v1_0 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_cst_29 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_call2_v0 : Ref sig .tc := ⟨.hbm, 177, rfl⟩
abbrev main_call2_cst : Ref sig .tc := ⟨.hbm, 178, rfl⟩
abbrev main_call2_c : Ref sig .tc := ⟨.hbm, 179, rfl⟩
abbrev main_call2_v1_0 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_call4_v0 : Ref sig .tc := ⟨.hbm, 185, rfl⟩
abbrev main_call4_v1 : Ref sig .tc := ⟨.hbm, 186, rfl⟩
abbrev main_call4_v2 : Ref sig .tc := ⟨.hbm, 187, rfl⟩
abbrev main_call4_v3 : Ref sig .tc := ⟨.hbm, 188, rfl⟩
abbrev main_call4_v4 : Ref sig .tc := ⟨.hbm, 189, rfl⟩
abbrev main_v124 : Ref sig .tc := ⟨.hbm, 190, rfl⟩
abbrev main_v125 : Ref sig .tc := ⟨.hbm, 191, rfl⟩
abbrev main_v126 : Ref sig .tc := ⟨.hbm, 192, rfl⟩
abbrev main_v127 : Ref sig .tc := ⟨.hbm, 193, rfl⟩
abbrev main_v128 : Ref sig .tc := ⟨.hbm, 194, rfl⟩
abbrev main_cst_30 : Ref sig .tc := ⟨.hbm, 195, rfl⟩
abbrev main_v129 : Ref sig .tc := ⟨.hbm, 196, rfl⟩
abbrev main_v130 : Ref sig .tc := ⟨.hbm, 197, rfl⟩
abbrev main_cst_31 : Ref sig .tc := ⟨.hbm, 198, rfl⟩
abbrev main_call5_v0 : Ref sig .tc := ⟨.hbm, 199, rfl⟩
abbrev main_call5_v1 : Ref sig .tc := ⟨.hbm, 200, rfl⟩
abbrev main_v131 : Ref sig .tc := ⟨.hbm, 201, rfl⟩
abbrev main_v132 : Ref sig .tc := ⟨.hbm, 202, rfl⟩
abbrev main_v133 : Ref sig .tc := ⟨.hbm, 203, rfl⟩
abbrev main_v134 : Ref sig .tc := ⟨.hbm, 204, rfl⟩
abbrev main_v135 : Ref sig .tc := ⟨.hbm, 205, rfl⟩
abbrev main_v136 : Ref sig .tc := ⟨.hbm, 206, rfl⟩
abbrev main_v137 : Ref sig .tc := ⟨.hbm, 207, rfl⟩
abbrev main_v138 : Ref sig .tc := ⟨.hbm, 208, rfl⟩
abbrev main_cst_32 : Ref sig .tc := ⟨.hbm, 209, rfl⟩
abbrev main_v139 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_cst_33 : Ref sig .tc := ⟨.hbm, 217, rfl⟩
abbrev main_v146 : Ref sig .tc := ⟨.hbm, 218, rfl⟩
abbrev main_v147 : Ref sig .tc := ⟨.hbm, 219, rfl⟩
abbrev main_v148 : Ref sig .tc := ⟨.hbm, 220, rfl⟩
abbrev main_v149 : Ref sig .tc := ⟨.hbm, 221, rfl⟩
abbrev main_v150 : Ref sig .tc := ⟨.hbm, 222, rfl⟩
abbrev main_v151 : Ref sig .tc := ⟨.hbm, 223, rfl⟩
abbrev main_v152 : Ref sig .tc := ⟨.hbm, 224, rfl⟩
abbrev main_v153 : Ref sig .tc := ⟨.hbm, 225, rfl⟩
abbrev main_v154 : Ref sig .tc := ⟨.hbm, 226, rfl⟩
abbrev main_v155 : Ref sig .tc := ⟨.hbm, 227, rfl⟩
abbrev main_v156 : Ref sig .tc := ⟨.hbm, 228, rfl⟩
abbrev main_cst_34 : Ref sig .tc := ⟨.hbm, 229, rfl⟩
abbrev main_cst_35 : Ref sig .tc := ⟨.hbm, 230, rfl⟩
abbrev main_call6_v0 : Ref sig .tc := ⟨.hbm, 231, rfl⟩
abbrev main_call6_v1 : Ref sig .tc := ⟨.hbm, 232, rfl⟩
abbrev main_call6_v2 : Ref sig .tc := ⟨.hbm, 233, rfl⟩
abbrev main_call6_v3 : Ref sig .tc := ⟨.hbm, 234, rfl⟩
abbrev main_call6_v4 : Ref sig .tc := ⟨.hbm, 235, rfl⟩
abbrev main_v157 : Ref sig .tc := ⟨.hbm, 236, rfl⟩
abbrev main_v158 : Ref sig .tc := ⟨.hbm, 237, rfl⟩
abbrev main_v159 : Ref sig .tc := ⟨.hbm, 238, rfl⟩
abbrev main_v160 : Ref sig .tc := ⟨.hbm, 239, rfl⟩
abbrev main_v161 : Ref sig .tc := ⟨.hbm, 240, rfl⟩

abbrev nD : Nat := 1
abbrev τ : Topo := Topo.v7x

variable {F : FTy → Type} [FloatOps F]
-- ==== Proof.InRing.lean ====
/-
  A ring of two slots that 32 blocks come in through, two blocks ahead: what is held before each point, opened at the
  first point, the second, a middle one and the last two.
-/
module

public import Idealize.ShloMosaic.Lib.Ring
public import Idealize.ShloMosaic.Lib.Ring.WriteBehind

@[expose] public section

noncomputable section

namespace Cert.Hand

open Idealize.ShloMosaic
open Idealize.SL Idealize.SL.RA Idealize.SL.BI
open scoped Idealize.SL.BI
open Idealize.SL.BI.BIBase Idealize.SL.BI.Laws Idealize.SL.ProofMode

variable {M : Type} [URA M] (home : Fin 32 → sProp M) (infl : Fin 2 → Fin 32 → sProp M) (free : Fin 2 → sProp M)

/-- Slot `(p + j) % 2` before point `p`: on its way in with block `p + j` while there is one, else free. -/
def inRole (p j : ℕ) : sProp M :=
  if p + j < 32 then infl (Ring.sl 2 (p + j)) (Ring.bk 32 (p + j)) else free (Ring.sl 2 (p + j))

/-- What is held before point `p`. -/
def inAt (p : ℕ) : sProp M :=
  if p = 0 then iprop(bigSep Finset.univ home ∗ free 0 ∗ free 1)
  else iprop(bigSep (Ring.homeSet 2 p) home ∗ inRole infl free p 0 ∗ inRole infl free p 1)

theorem sl_even {t : ℕ} (h : t % 2 = 0) : Ring.sl 2 t = 0 ∧ Ring.sl 2 (t + 1) = 1 ∧ Ring.sl 2 (t + 2) = 0 := by
  refine ⟨Fin.ext ?_, Fin.ext ?_, Fin.ext ?_⟩ <;> simp [Ring.sl, Fin.ofNat] <;> omega
theorem sl_odd {t : ℕ} (h : t % 2 = 1) : Ring.sl 2 t = 1 ∧ Ring.sl 2 (t + 1) = 0 ∧ Ring.sl 2 (t + 2) = 1 := by
  refine ⟨Fin.ext ?_, Fin.ext ?_, Fin.ext ?_⟩ <;> simp [Ring.sl, Fin.ofNat] <;> omega

/-- The blocks neither of the first three. -/
abbrev restZero : Finset (Fin 32) := (Ring.homeSet 2 0).erase (Ring.bk 32 2)

theorem univ_zero : (Finset.univ : Finset (Fin 32)) = insert 0 (insert 1 (insert (Ring.bk 32 2) restZero)) := by decide
theorem home_one : Ring.homeSet (NB := 32) 2 1 = insert 0 restZero := by decide

theorem inAt_zero : inAt home infl free 0
    = iprop((home 0 ∗ home 1 ∗ home (Ring.bk 32 2) ∗ bigSep restZero home) ∗ free 0 ∗ free 1) := by
  unfold inAt
  rw [if_pos rfl, univ_zero, Ring.bigSep_put (by decide), Ring.bigSep_put (by decide), Ring.bigSep_put (by decide)]

theorem inAt_one : inAt home infl free 1
    = iprop((home 0 ∗ bigSep restZero home) ∗ infl 1 1 ∗ infl 0 (Ring.bk 32 2)) := by
  unfold inAt
  rw [if_neg (by decide), home_one, Ring.bigSep_put (by decide)]
  rfl

theorem inAt_here (t : ℕ) (h1 : 1 ≤ t) (h : t + 2 < 32) : inAt home infl free t
    = iprop((home (Ring.bk 32 (t + 2)) ∗ bigSep ((Ring.homeSet 2 t).erase (Ring.bk 32 (t + 2))) home)
        ∗ infl (Ring.sl 2 t) (Ring.bk 32 t) ∗ infl (Ring.sl 2 (t + 1)) (Ring.bk 32 (t + 1))) := by
  unfold inAt inRole
  rw [if_neg (by omega), if_pos (by omega), if_pos (by omega)]
  conv_lhs => rw [Ring.homeSet_out 2 t h, Ring.bigSep_put (Ring.bkL_not_mem_erase 2 t)]
  rfl

theorem inAt_next (t : ℕ) (h : t + 2 < 32) : inAt home infl free (t + 1)
    = iprop((home (Ring.bk 32 t) ∗ bigSep ((Ring.homeSet 2 t).erase (Ring.bk 32 (t + 2))) home)
        ∗ infl (Ring.sl 2 (t + 1)) (Ring.bk 32 (t + 1)) ∗ infl (Ring.sl 2 t) (Ring.bk 32 (t + 2))) := by
  unfold inAt inRole
  rw [if_neg (by omega), if_pos (by omega), if_pos (by omega), Ring.homeSet_succ 2 t h,
    Ring.bigSep_put (Ring.bk_not_mem_erase 2 t (by omega) (by decide)), show Ring.sl 2 (t + 1 + 1) = Ring.sl 2 t from Ring.sl_add 2 t]

theorem inAt_penult : inAt home infl free 30
    = iprop(bigSep (Ring.homeSet 2 30) home ∗ infl 0 (Ring.bk 32 30) ∗ infl 1 (Ring.bk 32 31)) := by
  unfold inAt inRole
  rw [if_neg (by decide), if_pos (by decide), if_pos (by decide)]
  rfl

theorem inAt_last : inAt home infl free 31
    = iprop((home (Ring.bk 32 30) ∗ bigSep (Ring.homeSet 2 30) home) ∗ infl 1 (Ring.bk 32 31) ∗ free 0) := by
  unfold inAt inRole
  rw [if_neg (by decide), if_pos (by decide), if_neg (by decide), Ring.homeSet_succ_tail 2 30 (by decide) (by decide),
    Ring.bigSep_put (Ring.bk_not_mem_homeSet 2 30 (by decide) (by decide))]
  rfl

theorem inAt_last' : inAt home infl free 31
    = iprop(bigSep (Ring.homeSet 2 31) home ∗ infl 1 (Ring.bk 32 31) ∗ free 0) := by
  unfold inAt inRole
  rw [if_neg (by decide), if_pos (by decide), if_neg (by decide)]
  rfl

theorem inAt_end : inAt home infl free 32
    = iprop((home (Ring.bk 32 31) ∗ bigSep (Ring.homeSet 2 31) home) ∗ free 0 ∗ free 1) := by
  unfold inAt inRole
  rw [if_neg (by decide), if_neg (by decide), if_neg (by decide), Ring.homeSet_succ_tail 2 31 (by decide) (by decide),
    Ring.bigSep_put (Ring.bk_not_mem_homeSet 2 31 (by decide) (by decide))]
  rfl

theorem inAt_end' : inAt home infl free 32 = iprop(bigSep Finset.univ home ∗ free 0 ∗ free 1) := by
  unfold inAt inRole
  rw [if_neg (by decide), if_neg (by decide), if_neg (by decide), Ring.homeSet_last 2 32 le_rfl]
  rfl

end Cert.Hand
-- ==== Proof.Steps.lean ====
/-
  What a grid point consumes of the two rings and what it gives back, the rest of the rings carried along.
-/
module

public import proofs.«01_k».proof.Proof.InRing
public import Idealize.ShloMosaic.Lib.Ring.WriteBehind

@[expose] public section

namespace Cert.Hand

open Idealize.ShloMosaic Idealize.ShloMosaic.Tactic
open Idealize.SL Idealize.SL.RA Idealize.SL.BI
open scoped Idealize.SL.BI
open Idealize.SL.BI.BIBase Idealize.SL.BI.Laws Idealize.SL.ProofMode

variable {M : Type} [URA M] (home : Fin 32 → sProp M) (infl : Fin 2 → Fin 32 → sProp M) (free : Fin 2 → sProp M)
  (ahead behind : Fin 32 → sProp M) (out : Fin 2 → Fin 32 → sProp M) (idle : Fin 2 → sProp M)

/-- Both rings before point `p`. -/
def rings (p : ℕ) : sProp M := iprop(inAt home infl free p ∗ Ring.AtBΦ 2 idle out ahead behind p)

theorem rings_first {t : ℕ} (h : t = 0) : rings home infl free ahead behind out idle t
    ⊢ iprop((home 0 ∗ home 1 ∗ home (Ring.bk 32 (t + 2)) ∗ free 0 ∗ free 1 ∗ ahead (Ring.bk 32 t) ∗ idle 0)
        ∗ (bigSep restZero home ∗ bigSep (Ring.aheadSet (t + 1)) ahead ∗ idle 1)) := by
  unfold rings
  rw [Ring.AtBΦ_lt _ _ _ _ _ _ (by omega), Ring.AtB2_zero' _ _ _ _ _ _ h]
  subst h
  rw [inAt_zero, show Ring.sl 2 0 = 0 from rfl, show Ring.sl 2 (0 + 1) = 1 from rfl]
  iintro ⟨⟨⟨H0, H1, H2, HR⟩, HF0, HF1⟩, ⟨HA, HAR⟩, HI0, HI1⟩
  iframe H0 H1 H2 HR HF0 HF1 HA HAR HI0 HI1

theorem rings_first' {t : ℕ} (h : t = 0) :
    iprop((home 0 ∗ infl 0 (Ring.bk 32 (t + 2)) ∗ infl 1 1 ∗ out 0 (Ring.bk 32 t))
        ∗ (bigSep restZero home ∗ bigSep (Ring.aheadSet (t + 1)) ahead ∗ idle 1))
      ⊢ rings home infl free ahead behind out idle (t + 1) := by
  unfold rings
  rw [Ring.AtBΦ_lt _ _ _ _ _ _ (by omega), Ring.AtB22_next_zero' _ _ _ _ _ h]
  subst h
  rw [inAt_one, show Ring.sl 2 0 = 0 from rfl, show Ring.sl 2 (0 + 1) = 1 from rfl]
  iintro ⟨⟨H0, HI2, HI1, HO⟩, HR, HAR, HF⟩
  iframe H0 HI2 HI1 HO HR HAR HF

theorem rings_second {t : ℕ} (h : t = 1) : rings home infl free ahead behind out idle t
    ⊢ iprop((home (Ring.bk 32 (t + 2)) ∗ infl 1 (Ring.bk 32 t) ∗ ahead (Ring.bk 32 t) ∗ idle 1)
        ∗ (bigSep ((Ring.homeSet 2 t).erase (Ring.bk 32 (t + 2))) home ∗ infl 0 (Ring.bk 32 (t + 1)) ∗ bigSep (Ring.aheadSet (t + 1)) ahead ∗ out 0 (Ring.bk 32 (t - 1)))) := by
  unfold rings
  rw [Ring.AtBΦ_lt _ _ _ _ _ _ (by omega), Ring.AtB22_one' _ _ _ _ _ h (by decide), inAt_here _ _ _ _ (by omega) (by omega),
    (sl_odd (t := t) (by omega)).1, (sl_odd (t := t) (by omega)).2.1]
  iintro ⟨⟨⟨H2, HR⟩, HI1, HI0⟩, ⟨HA, HAR⟩, HF, HO⟩
  iframe H2 HR HI1 HI0 HA HAR HF HO

theorem rings_second' {t : ℕ} (h : t = 1) :
    iprop((home (Ring.bk 32 t) ∗ infl 1 (Ring.bk 32 (t + 2)) ∗ out 1 (Ring.bk 32 t))
        ∗ (bigSep ((Ring.homeSet 2 t).erase (Ring.bk 32 (t + 2))) home ∗ infl 0 (Ring.bk 32 (t + 1)) ∗ bigSep (Ring.aheadSet (t + 1)) ahead ∗ out 0 (Ring.bk 32 (t - 1))))
      ⊢ rings home infl free ahead behind out idle (t + 1) := by
  unfold rings
  rw [Ring.AtBΦ_lt _ _ _ _ _ _ (by omega), Ring.AtB22_next_one' _ _ _ _ _ h, inAt_next _ _ _ _ (by omega),
    (sl_odd (t := t) (by omega)).1, (sl_odd (t := t) (by omega)).2.1]
  iintro ⟨⟨H0, HI1, HO1⟩, HR, HI0, HAR, HO0⟩
  iframe H0 HI1 HO1 HR HI0 HAR HO0

theorem rings_mid {t : ℕ} {s s' : Fin 2} (hs : Ring.sl 2 t = s) (hs' : Ring.sl 2 (t + 1) = s') (h2 : 2 ≤ t) (h : t + 2 < 32) :
    rings home infl free ahead behind out idle t
    ⊢ iprop((home (Ring.bk 32 (t + 2)) ∗ infl s (Ring.bk 32 t) ∗ ahead (Ring.bk 32 t) ∗ out s (Ring.bk 32 (t - 2)))
        ∗ (bigSep ((Ring.homeSet 2 t).erase (Ring.bk 32 (t + 2))) home ∗ infl s' (Ring.bk 32 (t + 1)) ∗ bigSep (Ring.aheadSet (t + 1)) ahead
          ∗ bigSep (Ring.behindSet 2 t) behind ∗ out s' (Ring.bk 32 (t - 1)))) := by
  unfold rings
  rw [Ring.AtBΦ_lt _ _ _ _ _ _ (by omega), Ring.AtB22_here _ _ _ _ _ h2 (by omega), inAt_here _ _ _ _ (by omega) (by omega), hs, hs']
  iintro ⟨⟨⟨H2, HR⟩, HI1, HI0⟩, ⟨HA, HAR⟩, HB, HO, HO'⟩
  iframe H2 HR HI1 HI0 HA HAR HB HO HO'

theorem rings_mid' {t : ℕ} {s s' : Fin 2} (hs : Ring.sl 2 t = s) (hs' : Ring.sl 2 (t + 1) = s') (h2 : 2 ≤ t) (h : t + 2 < 32) :
    iprop((home (Ring.bk 32 t) ∗ infl s (Ring.bk 32 (t + 2)) ∗ behind (Ring.bk 32 (t - 2)) ∗ out s (Ring.bk 32 t))
        ∗ (bigSep ((Ring.homeSet 2 t).erase (Ring.bk 32 (t + 2))) home ∗ infl s' (Ring.bk 32 (t + 1)) ∗ bigSep (Ring.aheadSet (t + 1)) ahead
          ∗ bigSep (Ring.behindSet 2 t) behind ∗ out s' (Ring.bk 32 (t - 1))))
      ⊢ rings home infl free ahead behind out idle (t + 1) := by
  unfold rings
  rw [Ring.AtBΦ_lt _ _ _ _ _ _ (by omega), Ring.AtB22_next _ _ _ _ _ h2 (by omega), inAt_next _ _ _ _ (by omega), hs, hs']
  iintro ⟨⟨H0, HI1, HB2, HO1⟩, HR, HI0, HAR, HB, HO0⟩
  iframe H0 HI1 HB2 HO1 HR HI0 HAR HB HO0

theorem rings_penult {t : ℕ} (h : t = 30) : rings home infl free ahead behind out idle t
    ⊢ iprop((infl 0 (Ring.bk 32 t) ∗ ahead (Ring.bk 32 t) ∗ out 0 (Ring.bk 32 (t - 2)))
        ∗ (bigSep (Ring.homeSet 2 30) home ∗ infl 1 (Ring.bk 32 31) ∗ bigSep (Ring.aheadSet (t + 1)) ahead
          ∗ bigSep (Ring.behindSet 2 t) behind ∗ out 1 (Ring.bk 32 (t - 1)))) := by
  unfold rings
  rw [Ring.AtBΦ_lt _ _ _ _ _ _ (by omega), Ring.AtB22_here _ _ _ _ _ (by omega) (by omega),
    (sl_even (t := t) (by omega)).1, (sl_even (t := t) (by omega)).2.1]
  subst h
  rw [inAt_penult]
  iintro ⟨⟨HR, HI0, HI1⟩, ⟨HA, HAR⟩, HB, HO, HO'⟩
  iframe HR HI0 HI1 HA HAR HB HO HO'

theorem rings_penult' {t : ℕ} (h : t = 30) :
    iprop((home (Ring.bk 32 t) ∗ free 0 ∗ behind (Ring.bk 32 (t - 2)) ∗ out 0 (Ring.bk 32 t))
        ∗ (bigSep (Ring.homeSet 2 30) home ∗ infl 1 (Ring.bk 32 31) ∗ bigSep (Ring.aheadSet (t + 1)) ahead
          ∗ bigSep (Ring.behindSet 2 t) behind ∗ out 1 (Ring.bk 32 (t - 1))))
      ⊢ rings home infl free ahead behind out idle (t + 1) := by
  unfold rings
  rw [Ring.AtBΦ_lt _ _ _ _ _ _ (by omega), Ring.AtB22_next _ _ _ _ _ (by omega) (by omega),
    (sl_even (t := t) (by omega)).1, (sl_even (t := t) (by omega)).2.1]
  subst h
  rw [inAt_last]
  iintro ⟨⟨H0, HF, HB2, HO1⟩, HR, HI1, HAR, HB, HO0⟩
  iframe H0 HF HB2 HO1 HR HI1 HAR HB HO0

theorem rings_last {t : ℕ} (h : t = 31) : rings home infl free ahead behind out idle t
    ⊢ iprop((infl 1 (Ring.bk 32 t) ∗ ahead (Ring.bk 32 t) ∗ out 1 (Ring.bk 32 (t - 2)) ∗ out 0 (Ring.bk 32 (t - 1)))
        ∗ (bigSep (Ring.homeSet 2 31) home ∗ free 0 ∗ bigSep (Ring.behindSet 2 t) behind)) := by
  unfold rings
  rw [Ring.AtBΦ_lt _ _ _ _ _ _ (by omega), Ring.AtB22_here_last _ _ _ _ _ (by omega) (by omega),
    (sl_odd (t := t) (by omega)).1, (sl_odd (t := t) (by omega)).2.1]
  subst h
  rw [inAt_last']
  iintro ⟨⟨HR, HI1, HF0⟩, HA, HB, HO, HO'⟩
  iframe HR HI1 HF0 HA HB HO HO'

theorem rings_last' {t : ℕ} (h : t = 31) :
    iprop((home (Ring.bk 32 t) ∗ free 1 ∗ behind (Ring.bk 32 (t - 2)) ∗ behind (Ring.bk 32 (t - 1)) ∗ behind (Ring.bk 32 t) ∗ idle 0 ∗ idle 1)
        ∗ (bigSep (Ring.homeSet 2 31) home ∗ free 0 ∗ bigSep (Ring.behindSet 2 t) behind))
      ⊢ rings home infl free ahead behind out idle (t + 1) := by
  unfold rings
  rw [Ring.AtBΦ_end _ _ _ _ _ _ (by omega), Ring.AtB22_drained _ _ t (by omega) (by omega),
    (sl_odd (t := t) (by omega)).1, (sl_odd (t := t) (by omega)).2.1]
  subst h
  rw [inAt_end]
  iintro ⟨⟨H0, HF1, HB2, HB1, HB0, HI0, HI1⟩, HR, HF0, HB⟩
  iframe H0 HF1 HB2 HB1 HB0 HI0 HI1 HR HF0 HB

end Cert.Hand
-- ==== Proof.Kern.Runs.lean ====
/-
  The body at every grid point, case by case.
-/
module

public import proofs.«01_k».proof.Proof.Kern.RunFirst
public import proofs.«01_k».proof.Proof.Kern.RunSecond
public import proofs.«01_k».proof.Proof.Kern.RunEven
public import proofs.«01_k».proof.Proof.Kern.RunOdd
public import proofs.«01_k».proof.Proof.Kern.RunPenult
public import proofs.«01_k».proof.Proof.Kern.RunLast
-- ==== Proof.KernI.Names.lean ====
/-
  Names for what the kernel's own copies touch: block `b` of the values' array and of its result in HBM, slot `s`
  of the two VMEM buffers, slot `s`'s two cells; the printed offsets and conditions in closed form at a grid point;
  and the equations that bring the body's slices to those names.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Ring
public import Idealize.ShloMosaic.Lib.Ring.WriteBehind
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The values' array and the values' result, both left in HBM; the two VMEM ring buffers. -/
abbrev inM : Memref sig .tc .hbm S4096x32x256 .f32 := Memref.whole main_arg2
abbrev outM : Memref sig .tc .hbm S4096x32x256 .f32 := Memref.whole main_v35_2
abbrev ibM : Memref sig .tc .vmem S2x128x32x256 .f32 := Memref.whole cc0_scratch0
abbrev obM : Memref sig .tc .vmem S2x128x32x256 .f32 := Memref.whole cc0_scratch1

abbrev blkOff (b : Fin 32) : Fin 3 → Nat := ![128 * b.val, 0, 0]
theorem blkOff_inb (b : Fin 32) : ∀ a, blkOff b a + S128x32x256.size a ≤ S4096x32x256.size a := by
  have := b.isLt; intro a; fin_cases a
  · show 128 * b.val + 128 ≤ 4096; omega
  · show 0 + 32 ≤ 32; omega
  · show 0 + 256 ≤ 256; omega
abbrev slotOff (s : Fin 2) : Fin 4 → Nat := ![s.val, 0, 0, 0]
theorem slotOff_inb (s : Fin 2) : ∀ a, slotOff s a + S1x128x32x256.size a ≤ S2x128x32x256.size a := by
  have := s.isLt; intro a; fin_cases a
  · show s.val + 1 ≤ 2; omega
  · show 0 + 128 ≤ 128; omega
  · show 0 + 32 ≤ 32; omega
  · show 0 + 256 ≤ 256; omega
abbrev semOff (s : Fin 2) : Fin 1 → Nat := ![s.val]
theorem semOff_inb (s : Fin 2) : ∀ a, semOff s a + S1.size a ≤ S2.size a := by
  have := s.isLt; intro a; fin_cases a; show s.val + 1 ≤ 2; omega

/-- Block `b` (rows `128 b … 128 b + 127`) of the values' array, -/
def blkI (b : Fin 32) : Memref sig .tc .hbm S128x32x256 .f32 :=
  inM.slice (Rect.unit (s := S4096x32x256) (blkOff b) S128x32x256.size (blkOff_inb b)) (fun _ => rfl)
/-- and of the values' result. -/
def blkO (b : Fin 32) : Memref sig .tc .hbm S128x32x256 .f32 :=
  outM.slice (Rect.unit (s := S4096x32x256) (blkOff b) S128x32x256.size (blkOff_inb b)) (fun _ => rfl)
/-- Slot `s` of the buffer the values arrive in, -/
def slotI (s : Fin 2) : Memref sig .tc .vmem S128x32x256 .f32 :=
  (ibM.slice (Rect.unit (s := S2x128x32x256) (slotOff s) S1x128x32x256.size (slotOff_inb s)) (fun _ => rfl)).squeeze S128x32x256 squeezes_S1x128x32x256_S128x32x256
/-- and of the buffer they leave from. -/
def slotO (s : Fin 2) : Memref sig .tc .vmem S128x32x256 .f32 :=
  (obM.slice (Rect.unit (s := S2x128x32x256) (slotOff s) S1x128x32x256.size (slotOff_inb s)) (fun _ => rfl)).squeeze S128x32x256 squeezes_S1x128x32x256_S128x32x256
/-- Slot `s`'s cells. -/
def cellI (s : Fin 2) : DmaSems sig S_ := (cc0_scratch2.slice (Rect.unit (s := S2) (semOff s) S1.size (semOff_inb s))).squeeze S_ squeezes_S1_S_
def cellO (s : Fin 2) : DmaSems sig S_ := (cc0_scratch3.slice (Rect.unit (s := S2) (semOff s) S1.size (semOff_inb s))).squeeze S_ squeezes_S1_S_

instance (s : Fin 2) : ClosedOff (slotOff s) := ⟨slotOff s, rfl⟩
instance (b : Fin 32) : ClosedOff (blkOff b) := ⟨blkOff b, rfl⟩

/-! ## The printed offsets and conditions at a point -/

theorem off4_eq : ∀ t : Fin cfg0.N, k0_off4 (grid0.coords t) = blkOff (Ring.bk 32 t.val) := (by decide +kernel : ∀ t : Fin grid0.N, _)
theorem off5_eq : ∀ t : Fin cfg0.N, k0_off5 (grid0.coords t) = blkOff (Ring.bk 32 t.val) := (by decide +kernel : ∀ t : Fin grid0.N, _)
theorem off6_eq : ∀ t : Fin cfg0.N, 2 ≤ t.val → k0_off6 (grid0.coords t) = blkOff (Ring.bk 32 (t.val - 2)) := (by decide +kernel : ∀ t : Fin grid0.N, _)
theorem off7_eq : ∀ t : Fin cfg0.N, 2 ≤ t.val → k0_off7 (grid0.coords t) = blkOff (Ring.bk 32 (t.val - 2)) := (by decide +kernel : ∀ t : Fin grid0.N, _)
theorem off8_eq : ∀ t : Fin cfg0.N, k0_off8 (grid0.coords t) = slotOff (Ring.sl 2 t.val) := (by decide +kernel : ∀ t : Fin grid0.N, _)
theorem off9_eq : ∀ t : Fin cfg0.N, k0_off9 (grid0.coords t) = blkOff (Ring.bk 32 t.val) := (by decide +kernel : ∀ t : Fin grid0.N, _)
theorem off10_eq : ∀ t : Fin cfg0.N, k0_off10 (grid0.coords t) = blkOff (Ring.bk 32 t.val) := (by decide +kernel : ∀ t : Fin grid0.N, _)
theorem off11_eq : ∀ t : Fin cfg0.N, t.val + 2 < 32 → k0_off11 (grid0.coords t) = blkOff (Ring.bk 32 (t.val + 2)) := (by decide +kernel : ∀ t : Fin grid0.N, _)
theorem off12_eq : ∀ t : Fin cfg0.N, t.val + 2 < 32 → k0_off12 (grid0.coords t) = blkOff (Ring.bk 32 (t.val + 2)) := (by decide +kernel : ∀ t : Fin grid0.N, _)
theorem offRow1_eq : ∀ t : Fin cfg0.N, k0_off1 (grid0.coords t) = ![128 * t.val, 0] := (by decide +kernel : ∀ t : Fin grid0.N, _)
theorem offRow2_eq : ∀ t : Fin cfg0.N, k0_off2 (grid0.coords t) = ![128 * t.val, 0] := (by decide +kernel : ∀ t : Fin grid0.N, _)
theorem offRow3_eq : ∀ t : Fin cfg0.N, k0_off3 (grid0.coords t) = ![128 * t.val, 0] := (by decide +kernel : ∀ t : Fin grid0.N, _)

/-- Whether the point is the first, -/
abbrev condFirst (t : Fin cfg0.N) : Prop :=
  Scalar.cmpi .ne (Scalar.extui (Scalar.cmpi .eq (BitVec.ofNat 32 ((grid0.coords t) 0).val) 0#32)) 0#32 = 1#1
/-- whether it is the last, as the kernel computes them. -/
abbrev condLast (t : Fin cfg0.N) : Prop :=
  Scalar.cmpi .ne (Scalar.extui (Scalar.cmpi .eq (BitVec.ofNat 32 ((grid0.coords t) 0).val) 31#32)) 0#32 = 1#1
theorem condFirst_iff : ∀ t : Fin cfg0.N, condFirst t ↔ t.val = 0 := (by decide +kernel : ∀ t : Fin grid0.N, _)
theorem condLast_iff : ∀ t : Fin cfg0.N, condLast t ↔ t.val = 31 := (by decide +kernel : ∀ t : Fin grid0.N, _)
theorem cond2_iff : ∀ t : Fin cfg0.N, k0_cond2 (grid0.coords t) = 1#1 ↔ t.val % 2 = 0 := (by decide +kernel : ∀ t : Fin grid0.N, _)
theorem cond3_iff : ∀ t : Fin cfg0.N, k0_cond3 (grid0.coords t) = 1#1 ↔ t.val % 2 = 1 := (by decide +kernel : ∀ t : Fin grid0.N, _)
theorem cond4_iff : ∀ t : Fin cfg0.N, k0_cond4 (grid0.coords t) = 1#1 ↔ t.val % 2 = 0 ∧ 2 ≤ t.val := (by decide +kernel : ∀ t : Fin grid0.N, _)
theorem cond5_iff : ∀ t : Fin cfg0.N, k0_cond5 (grid0.coords t) = 1#1 ↔ t.val % 2 = 1 ∧ 2 ≤ t.val := (by decide +kernel : ∀ t : Fin grid0.N, _)
theorem cond6_iff : ∀ t : Fin cfg0.N, k0_cond6 (grid0.coords t) = 1#1 ↔ t.val % 2 = 0 := (by decide +kernel : ∀ t : Fin grid0.N, _)
theorem cond7_iff : ∀ t : Fin cfg0.N, k0_cond7 (grid0.coords t) = 1#1 ↔ t.val % 2 = 1 := (by decide +kernel : ∀ t : Fin grid0.N, _)
theorem cond8_iff : ∀ t : Fin cfg0.N, k0_cond8 (grid0.coords t) = 1#1 ↔ t.val + 2 < 32 := (by decide +kernel : ∀ t : Fin grid0.N, _)
theorem cond9_iff : ∀ t : Fin cfg0.N, k0_cond9 (grid0.coords t) = 1#1 ↔ t.val % 2 = 0 := (by decide +kernel : ∀ t : Fin grid0.N, _)
theorem cond10_iff : ∀ t : Fin cfg0.N, k0_cond10 (grid0.coords t) = 1#1 ↔ t.val % 2 = 1 := (by decide +kernel : ∀ t : Fin grid0.N, _)

theorem t_lt (t : Fin cfg0.N) : t.val < 32 := Nat.lt_of_lt_of_eq t.isLt N_0

/-! ## The slices under those names -/

theorem cellI_congr {off : Fin 1 → Nat} {s : Fin 2} (e : off = semOff s) (hh) :
    (cc0_scratch2.slice (Rect.unit (s := S2) off S1.size hh)).squeeze S_ squeezes_S1_S_ = cellI s :=
  congrArg (fun A : DmaSems sig S1 => A.squeeze S_ squeezes_S1_S_) (SemArray.slice_unit_congr _ e _ _)
theorem cellO_congr {off : Fin 1 → Nat} {s : Fin 2} (e : off = semOff s) (hh) :
    (cc0_scratch3.slice (Rect.unit (s := S2) off S1.size hh)).squeeze S_ squeezes_S1_S_ = cellO s :=
  congrArg (fun A : DmaSems sig S1 => A.squeeze S_ squeezes_S1_S_) (SemArray.slice_unit_congr _ e _ _)
theorem slotI_congr {off : Fin 4 → Nat} {s : Fin 2} (e : off = slotOff s) (hh hs) :
    (ibM.slice (Rect.unit (s := S2x128x32x256) off S1x128x32x256.size hh) hs).squeeze S128x32x256 squeezes_S1x128x32x256_S128x32x256 = slotI s :=
  congrArg (fun M : Memref sig .tc .vmem S1x128x32x256 .f32 => M.squeeze S128x32x256 squeezes_S1x128x32x256_S128x32x256) (Memref.slice_unit_congr _ e _ _ _ _)
theorem slotO_congr {off : Fin 4 → Nat} {s : Fin 2} (e : off = slotOff s) (hh hs) :
    (obM.slice (Rect.unit (s := S2x128x32x256) off S1x128x32x256.size hh) hs).squeeze S128x32x256 squeezes_S1x128x32x256_S128x32x256 = slotO s :=
  congrArg (fun M : Memref sig .tc .vmem S1x128x32x256 .f32 => M.squeeze S128x32x256 squeezes_S1x128x32x256_S128x32x256) (Memref.slice_unit_congr _ e _ _ _ _)
theorem blkI_congr {off : Fin 3 → Nat} {b : Fin 32} (e : off = blkOff b) (hh hs) :
    inM.slice (Rect.unit (s := S4096x32x256) off S128x32x256.size hh) hs = blkI b := Memref.slice_unit_congr _ e _ _ _ (fun _ => rfl)
theorem blkO_congr {off : Fin 3 → Nat} {b : Fin 32} (e : off = blkOff b) (hh hs) :
    outM.slice (Rect.unit (s := S4096x32x256) off S128x32x256.size hh) hs = blkO b := Memref.slice_unit_congr _ e _ _ _ (fun _ => rfl)

@[sl_canon] theorem cI0 (hh) : (cc0_scratch2.slice (Rect.unit (s := S2) ![0] S1.size hh)).squeeze S_ squeezes_S1_S_ = cellI 0 := cellI_congr (by decide) _
@[sl_canon] theorem cI1 (hh) : (cc0_scratch2.slice (Rect.unit (s := S2) ![1] S1.size hh)).squeeze S_ squeezes_S1_S_ = cellI 1 := cellI_congr (by decide) _
@[sl_canon] theorem cO0 (hh) : (cc0_scratch3.slice (Rect.unit (s := S2) ![0] S1.size hh)).squeeze S_ squeezes_S1_S_ = cellO 0 := cellO_congr (by decide) _
@[sl_canon] theorem cO1 (hh) : (cc0_scratch3.slice (Rect.unit (s := S2) ![1] S1.size hh)).squeeze S_ squeezes_S1_S_ = cellO 1 := cellO_congr (by decide) _
@[sl_canon] theorem sI0 (hh hs) : (ibM.slice (Rect.unit (s := S2x128x32x256) ![0, 0, 0, 0] S1x128x32x256.size hh) hs).squeeze S128x32x256 squeezes_S1x128x32x256_S128x32x256 = slotI 0 := slotI_congr (by decide) _ _
@[sl_canon] theorem sI1 (hh hs) : (ibM.slice (Rect.unit (s := S2x128x32x256) ![1, 0, 0, 0] S1x128x32x256.size hh) hs).squeeze S128x32x256 squeezes_S1x128x32x256_S128x32x256 = slotI 1 := slotI_congr (by decide) _ _
@[sl_canon] theorem sO0 (hh hs) : (obM.slice (Rect.unit (s := S2x128x32x256) ![0, 0, 0, 0] S1x128x32x256.size hh) hs).squeeze S128x32x256 squeezes_S1x128x32x256_S128x32x256 = slotO 0 := slotO_congr (by decide) _ _
@[sl_canon] theorem sO1 (hh hs) : (obM.slice (Rect.unit (s := S2x128x32x256) ![1, 0, 0, 0] S1x128x32x256.size hh) hs).squeeze S128x32x256 squeezes_S1x128x32x256_S128x32x256 = slotO 1 := slotO_congr (by decide) _ _
@[sl_canon] theorem bI0 (hh hs) : inM.slice (Rect.unit (s := S4096x32x256) ![0, 0, 0] S128x32x256.size hh) hs = blkI 0 := blkI_congr (by decide) _ _
@[sl_canon] theorem bI1 (hh hs) : inM.slice (Rect.unit (s := S4096x32x256) ![128, 0, 0] S128x32x256.size hh) hs = blkI 1 := blkI_congr (by decide) _ _
@[sl_canon] theorem bO30 (hh hs) : outM.slice (Rect.unit (s := S4096x32x256) ![3840, 0, 0] S128x32x256.size hh) hs = blkO 30 := blkO_congr (by decide) _ _
@[sl_canon] theorem bO31 (hh hs) : outM.slice (Rect.unit (s := S4096x32x256) ![3968, 0, 0] S128x32x256.size hh) hs = blkO 31 := blkO_congr (by decide) _ _
section
variable (t : Fin cfg0.N)
@[sl_canon] theorem bI4 (hh hs) : inM.slice (Rect.unit (s := S4096x32x256) (k0_off4 (grid0.coords t)) S128x32x256.size hh) hs = blkI (Ring.bk 32 t.val) := blkI_congr (off4_eq t) _ _
@[sl_canon] theorem bI5 (hh hs) : inM.slice (Rect.unit (s := S4096x32x256) (k0_off5 (grid0.coords t)) S128x32x256.size hh) hs = blkI (Ring.bk 32 t.val) := blkI_congr (off5_eq t) _ _
@[sl_canon] theorem bO6 (h : 2 ≤ t.val) (hh hs) : outM.slice (Rect.unit (s := S4096x32x256) (k0_off6 (grid0.coords t)) S128x32x256.size hh) hs = blkO (Ring.bk 32 (t.val - 2)) := blkO_congr (off6_eq t h) _ _
@[sl_canon] theorem bO7 (h : 2 ≤ t.val) (hh hs) : outM.slice (Rect.unit (s := S4096x32x256) (k0_off7 (grid0.coords t)) S128x32x256.size hh) hs = blkO (Ring.bk 32 (t.val - 2)) := blkO_congr (off7_eq t h) _ _
@[sl_canon] theorem bO9 (hh hs) : outM.slice (Rect.unit (s := S4096x32x256) (k0_off9 (grid0.coords t)) S128x32x256.size hh) hs = blkO (Ring.bk 32 t.val) := blkO_congr (off9_eq t) _ _
@[sl_canon] theorem bO10 (hh hs) : outM.slice (Rect.unit (s := S4096x32x256) (k0_off10 (grid0.coords t)) S128x32x256.size hh) hs = blkO (Ring.bk 32 t.val) := blkO_congr (off10_eq t) _ _
@[sl_canon] theorem bI11 (h : t.val + 2 < 32) (hh hs) : inM.slice (Rect.unit (s := S4096x32x256) (k0_off11 (grid0.coords t)) S128x32x256.size hh) hs = blkI (Ring.bk 32 (t.val + 2)) := blkI_congr (off11_eq t h) _ _
@[sl_canon] theorem bI12 (h : t.val + 2 < 32) (hh hs) : inM.slice (Rect.unit (s := S4096x32x256) (k0_off12 (grid0.coords t)) S128x32x256.size hh) hs = blkI (Ring.bk 32 (t.val + 2)) := blkI_congr (off12_eq t h) _ _
end

/-- The buffers' window at a point: by the point's parity. -/
instance (t : Fin cfg0.N) [h : Fact (t.val % 2 = 0)] : ClosedOff (k0_off8 (grid0.coords t)) :=
  ⟨slotOff 0, (off8_eq t).trans (congrArg slotOff (Fin.ext (by show t.val % 2 = 0; exact h.out)))⟩
instance (t : Fin cfg0.N) [h : Fact (t.val % 2 = 1)] : ClosedOff (k0_off8 (grid0.coords t)) :=
  ⟨slotOff 1, (off8_eq t).trans (congrArg slotOff (Fin.ext (by show t.val % 2 = 1; exact h.out)))⟩

end Cert.KernelIdeal.Hand
-- ==== Proof.KernI.Out.lean ====
/-
  What the kernel's body computes at a grid point, step by step: each named value of the body as a function of the
  blocks its inputs hold (`In`) and of the point.
-/
module

public import proofs.«01_k».proof.Proof.KernI.Names

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

/-- The contents of the body's input blocks, by operand number. -/
structure In (F : FTy → Type) where
  x1 : S4096x256.Idx → Elt F .f32
  x2 : S4096x768.Idx → Elt F .f32
  x4 : S4096x32.Idx → Elt F .f32
  x5 : S4096x32.Idx → Elt F .f32
  x6 : S4096x32.Idx → Elt F .f32
  x7 : S4096x32.Idx → Elt F .f32
  x8 : S4096x32.Idx → Elt F .f32
  x9 : S4096x32.Idx → Elt F .f32
  x10 : S4096x32.Idx → Elt F .f32
  x11 : S4096x32.Idx → Elt F .f32
  x12 : S4096x32.Idx → Elt F .f32
  x13 : S4096x32.Idx → Elt F .f32
  x14 : S256x512.Idx → Elt F .bf16
  x15 : S256x512.Idx → Elt F .bf16
  x16 : S256x512.Idx → Elt F .bf16
  x17 : S256x512.Idx → Elt F .bf16
  x18 : S1x512.Idx → Elt F .f32
  x19 : S512x256.Idx → Elt F .bf16
  x20 : S1x256.Idx → Elt F .f32
  x21 : S256x384.Idx → Elt F .bf16
  x22 : S256x384.Idx → Elt F .bf16
  x23 : S256x384.Idx → Elt F .bf16
  x24 : S256x384.Idx → Elt F .bf16
  x25 : S256x384.Idx → Elt F .bf16
  x26 : S8x384.Idx → Elt F .bf16
  x27 : S1x384.Idx → Elt F .f32
  x28 : S1x384.Idx → Elt F .f32
  x29 : S1x1.Idx → Elt F .f32
  x30 : S256x384.Idx → Elt F .bf16
  x31 : S256x384.Idx → Elt F .bf16
  x32 : S256x384.Idx → Elt F .bf16
  x33 : S256x384.Idx → Elt F .bf16
  x34 : S256x384.Idx → Elt F .bf16
  x35 : S8x384.Idx → Elt F .bf16
  x36 : S1x384.Idx → Elt F .f32
  x37 : S1x384.Idx → Elt F .f32
  x38 : S1x1.Idx → Elt F .f32

section Steps

def v5 (X : In F) (t : Fin cfg0.N) : Vec F S128x256 .f32 := View.ld X.x1 (Rect.unit (s := S4096x256) (k0_off1 (grid0.coords t)) S128x256.size (k0_off1_inb (grid0.coords t)))
def v8 (X : In F) (t : Fin cfg0.N) : FVec F S128x256 .bf16 := k0_pay2 (v5 X t)
def v7 (X : In F) (t : Fin cfg0.N) : Vec F S128x768 .f32 := View.ld X.x2 (Rect.unit (s := S4096x768) (k0_off2 (grid0.coords t)) S128x768.size (k0_off2_inb (grid0.coords t)))
def v10 (X : In F) (t : Fin cfg0.N) : FVec F S128x256 .bf16 := k0_pay4 (v7 X t)
def v11 (X : In F) (t : Fin cfg0.N) : FVec F S128x256 .bf16 := k0_pay5 (v7 X t)
def v12 (X : In F) (t : Fin cfg0.N) : FVec F S128x256 .bf16 := k0_pay6 (v7 X t)
def v13 (X : In F) (t : Fin cfg0.N) : Vec F S256x512 .bf16 := View.ld X.x14 (Rect.unit (s := S256x512) ![0, 0] S256x512.size inb_S256x512_S256x512_0_0)
def v16 (X : In F) (t : Fin cfg0.N) : Vec F S256x512 .bf16 := View.ld X.x15 (Rect.unit (s := S256x512) ![0, 0] S256x512.size inb_S256x512_S256x512_0_0)
def v20 (X : In F) (t : Fin cfg0.N) : Vec F S256x512 .bf16 := View.ld X.x16 (Rect.unit (s := S256x512) ![0, 0] S256x512.size inb_S256x512_S256x512_0_0)
def v24 (X : In F) (t : Fin cfg0.N) : Vec F S256x512 .bf16 := View.ld X.x17 (Rect.unit (s := S256x512) ![0, 0] S256x512.size inb_S256x512_S256x512_0_0)
def v28 (X : In F) (t : Fin cfg0.N) : Vec F S1x512 .f32 := View.ld X.x18 (Rect.unit (s := S1x512) ![0, 0] S1x512.size inb_S1x512_S1x512_0_0)
def v31 (X : In F) (t : Fin cfg0.N) : FVec F S128x512 .f32 := k0_pay7 (v5 X t) (v7 X t) (v13 X t) (v16 X t) (v20 X t) (v24 X t) (v28 X t)
def v36 (X : In F) (t : Fin cfg0.N) : FVec F S128x512 .f32 := k0_pay8 (v5 X t) (v7 X t) (v13 X t) (v16 X t) (v20 X t) (v24 X t) (v28 X t)
def v46 (X : In F) (t : Fin cfg0.N) : Vec F S512x256 .bf16 := View.ld X.x19 (Rect.unit (s := S512x256) ![0, 0] S512x256.size inb_S512x256_S512x256_0_0)
def v49 (X : In F) (t : Fin cfg0.N) : Vec F S1x256 .f32 := View.ld X.x20 (Rect.unit (s := S1x256) ![0, 0] S1x256.size inb_S1x256_S1x256_0_0)
def v52 (X : In F) (t : Fin cfg0.N) : FVec F S128x256 .f32 := k0_pay9 (v31 X t) (v36 X t) (Scalar.ofBits .f32 0x3F4C422A#32) (v46 X t) (v49 X t)
def v53 (X : In F) (t : Fin cfg0.N) : FVec F S128x256 .bf16 := k0_pay10 (v31 X t) (v36 X t) (Scalar.ofBits .f32 0x3F4C422A#32) (v46 X t) (v49 X t)
def v55 (X : In F) (t : Fin cfg0.N) : Vec F S128x32 .f32 := View.ld X.x4 (Rect.unit (s := S4096x32) (k0_off3 (grid0.coords t)) S128x32.size (k0_off3_inb (grid0.coords t)))
def v56 (X : In F) (t : Fin cfg0.N) : FVec F S128x32 .f32 := k0_pay11 (v55 X t)
def v58 (X : In F) (t : Fin cfg0.N) : Vec F S128x32 .f32 := View.ld X.x7 (Rect.unit (s := S4096x32) (k0_off3 (grid0.coords t)) S128x32.size (k0_off3_inb (grid0.coords t)))
def v59 (X : In F) (t : Fin cfg0.N) : FVec F S128x32 .f32 := k0_pay12 (v58 X t)
def v60 (X : In F) (t : Fin cfg0.N) : FVec F S128x32 .f32 := k0_pay13 (v55 X t) (v58 X t)
def v64 (X : In F) (t : Fin cfg0.N) : FVec F S128x1 .f32 := k0_pay14 (v55 X t) (v58 X t)
def v66 (X : In F) (t : Fin cfg0.N) : Vec F S128x32 .f32 := View.ld X.x12 (Rect.unit (s := S4096x32) (k0_off3 (grid0.coords t)) S128x32.size (k0_off3_inb (grid0.coords t)))
def v67 (X : In F) (t : Fin cfg0.N) : FVec F S128x32 .f32 := k0_pay15 (v66 X t)
def v69 (X : In F) (t : Fin cfg0.N) : Vec F S128x32 .f32 := View.ld X.x13 (Rect.unit (s := S4096x32) (k0_off3 (grid0.coords t)) S128x32.size (k0_off3_inb (grid0.coords t)))
def v70 (X : In F) (t : Fin cfg0.N) : FVec F S128x32 .f32 := k0_pay16 (v69 X t)
def v72 (X : In F) (t : Fin cfg0.N) : Vec F S128x32 .f32 := View.ld X.x8 (Rect.unit (s := S4096x32) (k0_off3 (grid0.coords t)) S128x32.size (k0_off3_inb (grid0.coords t)))
def v73 (X : In F) (t : Fin cfg0.N) : FVec F S128x32 .f32 := k0_pay17 (v72 X t)
def v75 (X : In F) (t : Fin cfg0.N) : Vec F S128x32 .f32 := View.ld X.x9 (Rect.unit (s := S4096x32) (k0_off3 (grid0.coords t)) S128x32.size (k0_off3_inb (grid0.coords t)))
def v76 (X : In F) (t : Fin cfg0.N) : FVec F S128x32 .f32 := k0_pay18 (v75 X t)
def v78 (X : In F) (t : Fin cfg0.N) : Vec F S128x32 .f32 := View.ld X.x10 (Rect.unit (s := S4096x32) (k0_off3 (grid0.coords t)) S128x32.size (k0_off3_inb (grid0.coords t)))
def v79 (X : In F) (t : Fin cfg0.N) : FVec F S128x32 .f32 := k0_pay19 (v78 X t)
def v81 (X : In F) (t : Fin cfg0.N) : Vec F S128x32 .f32 := View.ld X.x11 (Rect.unit (s := S4096x32) (k0_off3 (grid0.coords t)) S128x32.size (k0_off3_inb (grid0.coords t)))
def v105 (X : In F) (t : Fin cfg0.N) : FVec F S128x8 .bf16 := k0_pay20 (v60 X t) (v64 X t) (v67 X t) (v70 X t) (v73 X t) (v76 X t) (v79 X t) (v81 X t)
def v106 (X : In F) (t : Fin cfg0.N) : Vec F S256x384 .bf16 := View.ld X.x21 (Rect.unit (s := S256x384) ![0, 0] S256x384.size inb_S256x384_S256x384_0_0)
def v109 (X : In F) (t : Fin cfg0.N) : Vec F S256x384 .bf16 := View.ld X.x22 (Rect.unit (s := S256x384) ![0, 0] S256x384.size inb_S256x384_S256x384_0_0)
def v113 (X : In F) (t : Fin cfg0.N) : Vec F S256x384 .bf16 := View.ld X.x23 (Rect.unit (s := S256x384) ![0, 0] S256x384.size inb_S256x384_S256x384_0_0)
def v117 (X : In F) (t : Fin cfg0.N) : Vec F S256x384 .bf16 := View.ld X.x24 (Rect.unit (s := S256x384) ![0, 0] S256x384.size inb_S256x384_S256x384_0_0)
def v120 (X : In F) (t : Fin cfg0.N) : FVec F S128x384 .f32 := k0_pay21 (v8 X t) (v10 X t) (v11 X t) (v12 X t) (v106 X t) (v109 X t) (v113 X t) (v117 X t)
def v121 (X : In F) (t : Fin cfg0.N) : Vec F S256x384 .bf16 := View.ld X.x25 (Rect.unit (s := S256x384) ![0, 0] S256x384.size inb_S256x384_S256x384_0_0)
def v125 (X : In F) (t : Fin cfg0.N) : Vec F S8x384 .bf16 := View.ld X.x26 (Rect.unit (s := S8x384) ![0, 0] S8x384.size inb_S8x384_S8x384_0_0)
def v129 (X : In F) (t : Fin cfg0.N) : Vec F S1x384 .f32 := View.ld X.x27 (Rect.unit (s := S1x384) ![0, 0] S1x384.size inb_S1x384_S1x384_0_0)
def v146 (X : In F) (t : Fin cfg0.N) : Vec F S1x384 .f32 := View.ld X.x28 (Rect.unit (s := S1x384) ![0, 0] S1x384.size inb_S1x384_S1x384_0_0)
def v152 (X : In F) (t : Fin cfg0.N) : Vec F S1x1 .f32 := View.ld X.x29 (Rect.unit (s := S1x1) ![0, 0] S1x1.size inb_S1x1_S1x1_0_0)
def v156 (X : In F) (t : Fin cfg0.N) : FVec F S128x1 .f32 := k0_pay22 (v53 X t) (v105 X t) (v120 X t) (v121 X t) (v125 X t) (v129 X t) (v146 X t) (v152 X t)
def v157 (X : In F) (t : Fin cfg0.N) : Vec F S256x384 .bf16 := View.ld X.x30 (Rect.unit (s := S256x384) ![0, 0] S256x384.size inb_S256x384_S256x384_0_0)
def v159 (X : In F) (t : Fin cfg0.N) : FVec F S128x384 .f32 := k0_pay23 (v8 X t) (v157 X t)
def v160 (X : In F) (t : Fin cfg0.N) : Vec F S256x384 .bf16 := View.ld X.x31 (Rect.unit (s := S256x384) ![0, 0] S256x384.size inb_S256x384_S256x384_0_0)
def v164 (X : In F) (t : Fin cfg0.N) : Vec F S256x384 .bf16 := View.ld X.x32 (Rect.unit (s := S256x384) ![0, 0] S256x384.size inb_S256x384_S256x384_0_0)
def v168 (X : In F) (t : Fin cfg0.N) : Vec F S256x384 .bf16 := View.ld X.x33 (Rect.unit (s := S256x384) ![0, 0] S256x384.size inb_S256x384_S256x384_0_0)
def v172 (X : In F) (t : Fin cfg0.N) : Vec F S256x384 .bf16 := View.ld X.x34 (Rect.unit (s := S256x384) ![0, 0] S256x384.size inb_S256x384_S256x384_0_0)
def v176 (X : In F) (t : Fin cfg0.N) : Vec F S8x384 .bf16 := View.ld X.x35 (Rect.unit (s := S8x384) ![0, 0] S8x384.size inb_S8x384_S8x384_0_0)
def v180 (X : In F) (t : Fin cfg0.N) : Vec F S1x384 .f32 := View.ld X.x36 (Rect.unit (s := S1x384) ![0, 0] S1x384.size inb_S1x384_S1x384_0_0)
def v196 (X : In F) (t : Fin cfg0.N) : FVec F S128x384 .f32 := k0_pay24 (v10 X t) (v11 X t) (v12 X t) (v53 X t) (v105 X t) (v159 X t) (v160 X t) (v164 X t) (v168 X t) (v172 X t) (v176 X t) (v180 X t)
def v197 (X : In F) (t : Fin cfg0.N) : Vec F S1x384 .f32 := View.ld X.x37 (Rect.unit (s := S1x384) ![0, 0] S1x384.size inb_S1x384_S1x384_0_0)
def v203 (X : In F) (t : Fin cfg0.N) : Vec F S1x1 .f32 := View.ld X.x38 (Rect.unit (s := S1x1) ![0, 0] S1x1.size inb_S1x1_S1x1_0_0)
def v207 (X : In F) (t : Fin cfg0.N) : FVec F S128x1 .f32 := k0_pay25 (v196 X t) (v197 X t) (v203 X t)
def v212 (X : In F) (t : Fin cfg0.N) : FVec F S128x1 .f32 := k0_pay26 (v156 X t)
def v217 (X : In F) (t : Fin cfg0.N) : FVec F S128x1 .f32 := k0_pay27 (v196 X t) (v197 X t) (v203 X t)
def v219 (X : In F) (t : Fin cfg0.N) : Vec F S128x32 .f32 := View.ld X.x5 (Rect.unit (s := S4096x32) (k0_off3 (grid0.coords t)) S128x32.size (k0_off3_inb (grid0.coords t)))
def v220 (X : In F) (t : Fin cfg0.N) : FVec F S128x32 .f32 := k0_pay28 (v219 X t)
def v222 (X : In F) (t : Fin cfg0.N) : Vec F S128x32 .f32 := View.ld X.x6 (Rect.unit (s := S4096x32) (k0_off3 (grid0.coords t)) S128x32.size (k0_off3_inb (grid0.coords t)))
def v223 (X : In F) (t : Fin cfg0.N) : FVec F S128x32 .f32 := k0_pay29 (v222 X t)
def v231 (X : In F) (t : Fin cfg0.N) : IVec S128x1 1 := k0_pay31 (v59 X t)
def v232 (X : In F) (t : Fin cfg0.N) : IVec S128x32 32 := iota .tc S128x32 32 [1] iota_S128x32_d1_w32
def v236 (X : In F) (t : Fin cfg0.N) : IVec S128x1 32 := k0_pay32 (v59 X t)
def v240 (X : In F) (t : Fin cfg0.N) : FVec F S128x32 .f32 := k0_pay33 (v56 X t) (v219 X t) (v222 X t)
def v241 (X : In F) (t : Fin cfg0.N) : FVec F S128 .f32 := k0_pay34 (v56 X t) (v219 X t) (v222 X t)
def v249 (X : In F) (t : Fin cfg0.N) : IVec S128x1 32 := k0_pay35 (v231 X t) (v232 X t) (v236 X t) (v240 X t) (v241 X t)
def v257 (X : In F) (t : Fin cfg0.N) : FVec F S128x32 .f32 := k0_pay37 (v212 X t) (v231 X t) (v232 X t) (v236 X t) (v240 X t) (v241 X t)
def v263 (X : In F) (t : Fin cfg0.N) : FVec F S128x32 .f32 := k0_pay38 (v56 X t) (v212 X t) (v231 X t) (v232 X t) (v236 X t) (v240 X t) (v241 X t)
def v267 (X : In F) (t : Fin cfg0.N) : FVec F S128x32 .f32 := k0_pay39 (v212 X t) (v220 X t) (v231 X t) (v232 X t) (v236 X t) (v240 X t) (v241 X t)
def v271 (X : In F) (t : Fin cfg0.N) : FVec F S128x32 .f32 := k0_pay40 (v212 X t) (v217 X t) (v223 X t) (v231 X t) (v232 X t) (v236 X t) (v240 X t) (v241 X t)
def v277 (X : In F) (t : Fin cfg0.N) : FVec F S128x32 .f32 := k0_pay41 (v59 X t) (v212 X t) (v231 X t) (v232 X t) (v236 X t) (v240 X t) (v241 X t)
def v313 (X : In F) (t : Fin cfg0.N) : IVec S128x32x1 1 := k0_pay45 (v249 X t)

/-- The five-by-thirty-two summary, packed, -/
def outMd (X : In F) (t : Fin cfg0.N) : FVec F S128x192 .f32 := k0_pay42 (v67 X t) (v70 X t) (v257 X t) (v263 X t) (v267 X t) (v271 X t) (v277 X t)
/-- the four packed numbers of a row, -/
def outPr (X : In F) (t : Fin cfg0.N) : FVec F S128x4 .f32 := k0_pay43 (v156 X t) (v207 X t) (v212 X t) (v217 X t)
/-- and the rewritten values, from the block `B` of values the row starts from. -/
def outVals (X : In F) (t : Fin cfg0.N) (B : Vec F S1x128x32x256 .f32) : FVec F S1x128x32x256 .f32 := k0_pay1 (v52 X t) (v212 X t) (k0_pay44 B) (v313 X t)
end Steps

end Cert.KernelIdeal.Hand
-- ==== Proof.KernI.Ring.lean ====
/-
  The kernel's own copies: what is held of the values' array, of its result, of the two VMEM buffers and of the four
  cells before each grid point.
-/
module

public import proofs.«01_k».proof.Proof.KernI.Out

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

section Pieces
variable (c : Dev nD)

abbrev BufI : Type := Buf (Elt F) (inM.view.loc (c : Thread nD τ))
abbrev BufO : Type := Buf (Elt F) (outM.view.loc (c : Thread nD τ))

variable (XA : Buf (Elt F) (inM.view.loc (c : Thread nD τ))) (XO : Buf (Elt F) (outM.view.loc (c : Thread nD τ)))
  (Y : Fin 32 → S128x32x256.Idx → Elt F .f32)

abbrev cIP (s : Fin 2) : sProp 𝕄 := semVal ((c : Thread nD τ), SemLoc.dma (cellI s).sem) 0
abbrev cOP (s : Fin 2) : sProp 𝕄 := semVal ((c : Thread nD τ), SemLoc.dma (cellO s).sem) 0
abbrev sIP (s : Fin 2) (f : Buf (Elt F) ((slotI s).view.loc (c : Thread nD τ))) : sProp 𝕄 :=
  (slotI s).view.loc (c : Thread nD τ) ↦[(slotI s).view.set]{fullShare} f
abbrev sOP (s : Fin 2) (f : Buf (Elt F) ((slotO s).view.loc (c : Thread nD τ))) : sProp 𝕄 :=
  (slotO s).view.loc (c : Thread nD τ) ↦[(slotO s).view.set]{fullShare} f
/-- Block `b` of the values' array at its contents, -/
abbrev homeP (b : Fin 32) : sProp 𝕄 := (blkI b).view.loc (c : Thread nD τ) ↦[(blkI b).view.set]{fullShare} XA
/-- block `b` of the result as it was on entry, -/
abbrev aheadP (b : Fin 32) : sProp 𝕄 := (blkO b).view.loc (c : Thread nD τ) ↦[(blkO b).view.set]{fullShare} XO
/-- and once `y` has been copied there. -/
abbrev doneP (b : Fin 32) (y : S128x32x256.Idx → Elt F .f32) : sProp 𝕄 :=
  (blkO b).view.loc (c : Thread nD τ) ↦[(blkO b).view.set]{fullShare} (blkO b).view.writes (Elt F) XO [⟨Rect.whole S128x32x256, y⟩]

/-- Block `b`'s values as the copy carries them. -/
abbrev valsAt (b : Fin 32) : S128x32x256.Idx → Elt F .f32 := ReadAs.same.apply ((blkI b).view.read (Elt F) XA)
abbrev landed (s : Fin 2) (b : Fin 32) (f : Buf (Elt F) ((slotI s).view.loc (c : Thread nD τ))) : Buf (Elt F) ((slotI s).view.loc (c : Thread nD τ)) :=
  (slotI s).view.writes (Elt F) f [⟨Rect.whole S128x32x256, valsAt c XA b⟩]
abbrev NN : ℕ := 131072
/-- Slot `s` on its way in with block `b`, -/
abbrev flyI (s : Fin 2) (b : Fin 32) (f : Buf (Elt F) ((slotI s).view.loc (c : Thread nD τ))) : sProp 𝕄 :=
  Transfers.Flight countersEmb (c : Thread nD τ) (SemLoc.dma (cellI s).sem) () NN iprop(sIP c s (landed c XA s b f) ∗ homeP c XA b)
/-- and on its way out to block `b`. -/
abbrev flyO (s : Fin 2) (b : Fin 32) (g : Buf (Elt F) ((slotO s).view.loc (c : Thread nD τ))) : sProp 𝕄 :=
  Transfers.Flight countersEmb (c : Thread nD τ) (SemLoc.dma (cellO s).sem) () NN
    iprop(doneP c XO b (ReadAs.same.apply ((slotO s).view.read (Elt F) g)) ∗ sOP c s g)

abbrev inflI (s : Fin 2) (b : Fin 32) : sProp 𝕄 := iprop(∃ f, flyI c XA s b f)
abbrev freeI (s : Fin 2) : sProp 𝕄 := iprop((∃ f, sIP c s f) ∗ cIP c s)
abbrev inflO (s : Fin 2) (b : Fin 32) : sProp 𝕄 :=
  iprop(∃ g, ⌜ReadAs.same.apply ((slotO s).view.read (Elt F) g) = Y b⌝ ∗ flyO c XO s b g)
abbrev freeO (s : Fin 2) : sProp 𝕄 := iprop((∃ f, sOP c s f) ∗ cOP c s)

end Pieces

end Cert.KernelIdeal.Hand
-- ==== Proof.KernI.Slot.lean ====
/-
  A slot of a VMEM buffer read through the whole buffer, and a store into the whole buffer read through its slot.
-/
module

public import proofs.«01_k».proof.Proof.KernI.Ring
public import Idealize.ShloMosaic.Lib.Pipeline.Value
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

theorem castUp : S128x32x256.ShapeCasts S1x128x32x256 := by decide
theorem castDown : S1x128x32x256.ShapeCasts S128x32x256 := by decide

/-- A block with a leading unit axis, and back. -/
abbrev up (y : S128x32x256.Idx → Elt F .f32) : S1x128x32x256.Idx → Elt F .f32 := shapeCast S1x128x32x256 y castUp
abbrev down (y : S1x128x32x256.Idx → Elt F .f32) : S128x32x256.Idx → Elt F .f32 := shapeCast S128x32x256 y castDown

/-- The values written back for a block that came in as `y`. -/
def outY (X : In F) (t : Fin cfg0.N) (y : S128x32x256.Idx → Elt F .f32) : S128x32x256.Idx → Elt F .f32 :=
  down (outVals X t (up y))

theorem readAt_slotI {off : Fin 4 → Nat} {s : Fin 2} (e : off = slotOff s) (hh)
    (f : (slotI s).view.ty.Contents (Elt F)) (y : S128x32x256.Idx → Elt F .f32) :
    View.readAt (Elt F) ibM.view (Rect.unit (s := S2x128x32x256) off S1x128x32x256.size hh).toLoadRect
      ((slotI s).view.writes (Elt F) f [⟨Rect.whole S128x32x256, y⟩]) = up y := by
  subst e
  have h : down (View.readAt (Elt F) ibM.view (Rect.unit (s := S2x128x32x256) (slotOff s) S1x128x32x256.size hh).toLoadRect
      ((slotI s).view.writes (Elt F) f [⟨Rect.whole S128x32x256, y⟩]))
      = (slotI s).view.read (Elt F) ((slotI s).view.writes (Elt F) f [⟨Rect.whole S128x32x256, y⟩]) :=
    (Memref.read_squeeze_slice ibM _ (fun _ => rfl) squeezes_S1x128x32x256_S128x32x256 castDown _).symm
  have h2 : (slotI s).view.read (Elt F) ((slotI s).view.writes (Elt F) f [⟨Rect.whole S128x32x256, y⟩]) = y := by
    funext x
    exact View.read_writes_cons_hit_of_coords _ f (Rect.whole S128x32x256) y [] x x (fun a => by simp [Rect.whole])
  have h3 := congrArg (fun z => up z) (h.trans h2)
  exact (shapeCast_shapeCast _ castDown castUp).symm.trans h3

theorem read_slotO {off : Fin 4 → Nat} {s : Fin 2} (e : off = slotOff s) (hh)
    (g : obM.view.ty.Contents (Elt F)) (w : S1x128x32x256.Idx → Elt F .f32) :
    (slotO s).view.read (Elt F) ((obM.view.slice (Rect.unit (s := S2x128x32x256) off S1x128x32x256.size hh)).write (Elt F) g w Finset.univ) = down w := by
  subst e
  refine (Memref.read_squeeze_slice obM _ (fun _ => rfl) squeezes_S1x128x32x256_S128x32x256 castDown _).trans ?_
  refine congrArg (fun z => down z) ?_
  exact (View.readAt_rect _ _).trans (View.read_write_univ _ _)

end Cert.KernelIdeal.Hand
-- ==== Proof.KernI.Body.lean ====
/-
  What one grid point of the body is given and leaves, window by window.
-/
module

public import proofs.«01_k».proof.Proof.KernI.Slot

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

section Body
/-- The body as the pipeline calls it, over any staging buffers. -/
abbrev body (t : Fin cfg0.N) (arg1 : Memref sig .tc .vmem S4096x256 .f32) (harg1 : arg1.IsWhole) (arg2 : Memref sig .tc .vmem S4096x768 .f32) (harg2 : arg2.IsWhole) (arg4 : Memref sig .tc .vmem S4096x32 .f32) (harg4 : arg4.IsWhole) (arg5 : Memref sig .tc .vmem S4096x32 .f32) (harg5 : arg5.IsWhole) (arg6 : Memref sig .tc .vmem S4096x32 .f32) (harg6 : arg6.IsWhole) (arg7 : Memref sig .tc .vmem S4096x32 .f32) (harg7 : arg7.IsWhole) (arg8 : Memref sig .tc .vmem S4096x32 .f32) (harg8 : arg8.IsWhole) (arg9 : Memref sig .tc .vmem S4096x32 .f32) (harg9 : arg9.IsWhole) (arg10 : Memref sig .tc .vmem S4096x32 .f32) (harg10 : arg10.IsWhole) (arg11 : Memref sig .tc .vmem S4096x32 .f32) (harg11 : arg11.IsWhole) (arg12 : Memref sig .tc .vmem S4096x32 .f32) (harg12 : arg12.IsWhole) (arg13 : Memref sig .tc .vmem S4096x32 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x512 .bf16) (harg16 : arg16.IsWhole) (arg17 : Memref sig .tc .vmem S256x512 .bf16) (harg17 : arg17.IsWhole) (arg18 : Memref sig .tc .vmem S1x512 .f32) (harg18 : arg18.IsWhole) (arg19 : Memref sig .tc .vmem S512x256 .bf16) (harg19 : arg19.IsWhole) (arg20 : Memref sig .tc .vmem S1x256 .f32) (harg20 : arg20.IsWhole) (arg21 : Memref sig .tc .vmem S256x384 .bf16) (harg21 : arg21.IsWhole) (arg22 : Memref sig .tc .vmem S256x384 .bf16) (harg22 : arg22.IsWhole) (arg23 : Memref sig .tc .vmem S256x384 .bf16) (harg23 : arg23.IsWhole) (arg24 : Memref sig .tc .vmem S256x384 .bf16) (harg24 : arg24.IsWhole) (arg25 : Memref sig .tc .vmem S256x384 .bf16) (harg25 : arg25.IsWhole) (arg26 : Memref sig .tc .vmem S8x384 .bf16) (harg26 : arg26.IsWhole) (arg27 : Memref sig .tc .vmem S1x384 .f32) (harg27 : arg27.IsWhole) (arg28 : Memref sig .tc .vmem S1x384 .f32) (harg28 : arg28.IsWhole) (arg29 : Memref sig .tc .vmem S1x1 .f32) (harg29 : arg29.IsWhole) (arg30 : Memref sig .tc .vmem S256x384 .bf16) (harg30 : arg30.IsWhole) (arg31 : Memref sig .tc .vmem S256x384 .bf16) (harg31 : arg31.IsWhole) (arg32 : Memref sig .tc .vmem S256x384 .bf16) (harg32 : arg32.IsWhole) (arg33 : Memref sig .tc .vmem S256x384 .bf16) (harg33 : arg33.IsWhole) (arg34 : Memref sig .tc .vmem S256x384 .bf16) (harg34 : arg34.IsWhole) (arg35 : Memref sig .tc .vmem S8x384 .bf16) (harg35 : arg35.IsWhole) (arg36 : Memref sig .tc .vmem S1x384 .f32) (harg36 : arg36.IsWhole) (arg37 : Memref sig .tc .vmem S1x384 .f32) (harg37 : arg37.IsWhole) (arg38 : Memref sig .tc .vmem S1x1 .f32) (harg38 : arg38.IsWhole) (arg39 : Memref sig .tc .vmem S128x256 .f32) (harg39 : arg39.IsWhole) (arg40 : Memref sig .tc .vmem S128x4 .f32) (harg40 : arg40.IsWhole) (arg42 : Memref sig .tc .vmem S128x32 .f32) (harg42 : arg42.IsWhole) (arg43 : Memref sig .tc .vmem S128x32 .f32) (harg43 : arg43.IsWhole) (arg44 : Memref sig .tc .vmem S128x32 .f32) (harg44 : arg44.IsWhole) (arg45 : Memref sig .tc .vmem S128x32 .f32) (harg45 : arg45.IsWhole) (arg46 : Memref sig .tc .vmem S128x192 .f32) (harg46 : arg46.IsWhole) : Prog (TpuEff nD τ sig (Elt F) Λ₀ .tc) PUnit :=
  cc0__fused (F := F) (grid0.coords t) arg1 harg1 arg2 harg2 inM (Memref.isWhole_whole _) arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 outM (Memref.isWhole_whole _) arg42 harg42 arg43 harg43 arg44 harg44 arg45 harg45 arg46 harg46 ibM (Memref.isWhole_whole _) obM (Memref.isWhole_whole _) cc0_scratch2 cc0_scratch3

/-- The input blocks, holding `X`; -/
abbrev ownsIn (c : Dev nD) (X : In F) (arg1 : Memref sig .tc .vmem S4096x256 .f32) (arg2 : Memref sig .tc .vmem S4096x768 .f32) (arg4 : Memref sig .tc .vmem S4096x32 .f32) (arg5 : Memref sig .tc .vmem S4096x32 .f32) (arg6 : Memref sig .tc .vmem S4096x32 .f32) (arg7 : Memref sig .tc .vmem S4096x32 .f32) (arg8 : Memref sig .tc .vmem S4096x32 .f32) (arg9 : Memref sig .tc .vmem S4096x32 .f32) (arg10 : Memref sig .tc .vmem S4096x32 .f32) (arg11 : Memref sig .tc .vmem S4096x32 .f32) (arg12 : Memref sig .tc .vmem S4096x32 .f32) (arg13 : Memref sig .tc .vmem S4096x32 .f32) (arg14 : Memref sig .tc .vmem S256x512 .bf16) (arg15 : Memref sig .tc .vmem S256x512 .bf16) (arg16 : Memref sig .tc .vmem S256x512 .bf16) (arg17 : Memref sig .tc .vmem S256x512 .bf16) (arg18 : Memref sig .tc .vmem S1x512 .f32) (arg19 : Memref sig .tc .vmem S512x256 .bf16) (arg20 : Memref sig .tc .vmem S1x256 .f32) (arg21 : Memref sig .tc .vmem S256x384 .bf16) (arg22 : Memref sig .tc .vmem S256x384 .bf16) (arg23 : Memref sig .tc .vmem S256x384 .bf16) (arg24 : Memref sig .tc .vmem S256x384 .bf16) (arg25 : Memref sig .tc .vmem S256x384 .bf16) (arg26 : Memref sig .tc .vmem S8x384 .bf16) (arg27 : Memref sig .tc .vmem S1x384 .f32) (arg28 : Memref sig .tc .vmem S1x384 .f32) (arg29 : Memref sig .tc .vmem S1x1 .f32) (arg30 : Memref sig .tc .vmem S256x384 .bf16) (arg31 : Memref sig .tc .vmem S256x384 .bf16) (arg32 : Memref sig .tc .vmem S256x384 .bf16) (arg33 : Memref sig .tc .vmem S256x384 .bf16) (arg34 : Memref sig .tc .vmem S256x384 .bf16) (arg35 : Memref sig .tc .vmem S8x384 .bf16) (arg36 : Memref sig .tc .vmem S1x384 .f32) (arg37 : Memref sig .tc .vmem S1x384 .f32) (arg38 : Memref sig .tc .vmem S1x1 .f32) : sProp 𝕄 :=
  iprop(owns (c : Thread nD τ) arg1 fullShare X.x1 ∗ owns (c : Thread nD τ) arg2 fullShare X.x2 ∗ owns (c : Thread nD τ) arg4 fullShare X.x4 ∗ owns (c : Thread nD τ) arg5 fullShare X.x5 ∗ owns (c : Thread nD τ) arg6 fullShare X.x6 ∗ owns (c : Thread nD τ) arg7 fullShare X.x7 ∗ owns (c : Thread nD τ) arg8 fullShare X.x8 ∗ owns (c : Thread nD τ) arg9 fullShare X.x9 ∗ owns (c : Thread nD τ) arg10 fullShare X.x10 ∗ owns (c : Thread nD τ) arg11 fullShare X.x11 ∗ owns (c : Thread nD τ) arg12 fullShare X.x12 ∗ owns (c : Thread nD τ) arg13 fullShare X.x13 ∗ owns (c : Thread nD τ) arg14 fullShare X.x14 ∗ owns (c : Thread nD τ) arg15 fullShare X.x15 ∗ owns (c : Thread nD τ) arg16 fullShare X.x16 ∗ owns (c : Thread nD τ) arg17 fullShare X.x17 ∗ owns (c : Thread nD τ) arg18 fullShare X.x18 ∗ owns (c : Thread nD τ) arg19 fullShare X.x19 ∗ owns (c : Thread nD τ) arg20 fullShare X.x20 ∗ owns (c : Thread nD τ) arg21 fullShare X.x21 ∗ owns (c : Thread nD τ) arg22 fullShare X.x22 ∗ owns (c : Thread nD τ) arg23 fullShare X.x23 ∗ owns (c : Thread nD τ) arg24 fullShare X.x24 ∗ owns (c : Thread nD τ) arg25 fullShare X.x25 ∗ owns (c : Thread nD τ) arg26 fullShare X.x26 ∗ owns (c : Thread nD τ) arg27 fullShare X.x27 ∗ owns (c : Thread nD τ) arg28 fullShare X.x28 ∗ owns (c : Thread nD τ) arg29 fullShare X.x29 ∗ owns (c : Thread nD τ) arg30 fullShare X.x30 ∗ owns (c : Thread nD τ) arg31 fullShare X.x31 ∗ owns (c : Thread nD τ) arg32 fullShare X.x32 ∗ owns (c : Thread nD τ) arg33 fullShare X.x33 ∗ owns (c : Thread nD τ) arg34 fullShare X.x34 ∗ owns (c : Thread nD τ) arg35 fullShare X.x35 ∗ owns (c : Thread nD τ) arg36 fullShare X.x36 ∗ owns (c : Thread nD τ) arg37 fullShare X.x37 ∗ owns (c : Thread nD τ) arg38 fullShare X.x38)
/-- the output blocks, holding anything; -/
abbrev ownsAny (c : Dev nD) (arg39 : Memref sig .tc .vmem S128x256 .f32) (arg40 : Memref sig .tc .vmem S128x4 .f32) (arg42 : Memref sig .tc .vmem S128x32 .f32) (arg43 : Memref sig .tc .vmem S128x32 .f32) (arg44 : Memref sig .tc .vmem S128x32 .f32) (arg45 : Memref sig .tc .vmem S128x32 .f32) (arg46 : Memref sig .tc .vmem S128x192 .f32) : sProp 𝕄 :=
  iprop((∃ z, owns (c : Thread nD τ) arg39 fullShare z) ∗ (∃ z, owns (c : Thread nD τ) arg40 fullShare z) ∗ (∃ z, owns (c : Thread nD τ) arg42 fullShare z) ∗ (∃ z, owns (c : Thread nD τ) arg43 fullShare z) ∗ (∃ z, owns (c : Thread nD τ) arg44 fullShare z) ∗ (∃ z, owns (c : Thread nD τ) arg45 fullShare z) ∗ (∃ z, owns (c : Thread nD τ) arg46 fullShare z))
/-- and holding what the point computes. -/
abbrev ownsOut (c : Dev nD) (X : In F) (t : Fin cfg0.N) (arg39 : Memref sig .tc .vmem S128x256 .f32) (arg40 : Memref sig .tc .vmem S128x4 .f32) (arg42 : Memref sig .tc .vmem S128x32 .f32) (arg43 : Memref sig .tc .vmem S128x32 .f32) (arg44 : Memref sig .tc .vmem S128x32 .f32) (arg45 : Memref sig .tc .vmem S128x32 .f32) (arg46 : Memref sig .tc .vmem S128x192 .f32) : sProp 𝕄 :=
  iprop(owns (c : Thread nD τ) arg39 fullShare (v52 X t) ∗ owns (c : Thread nD τ) arg40 fullShare (outPr X t) ∗ owns (c : Thread nD τ) arg42 fullShare (v263 X t) ∗ owns (c : Thread nD τ) arg43 fullShare (v267 X t) ∗ owns (c : Thread nD τ) arg44 fullShare (v271 X t) ∗ owns (c : Thread nD τ) arg45 fullShare (v277 X t) ∗ owns (c : Thread nD τ) arg46 fullShare (outMd X t))
end Body

section Close
variable (c : Dev nD) (XA : Buf (Elt F) (inM.view.loc (c : Thread nD τ))) (XO : Buf (Elt F) (outM.view.loc (c : Thread nD τ)))
  (Y : Fin 32 → S128x32x256.Idx → Elt F .f32)

/-- A block stored whole holds what was stored. -/
theorem owns_store {s : Shape} {e : EltTy} (m : Memref sig .tc .vmem s e) (f) {off : Fin s.rank → Nat} (ho : off = fun _ => 0) (inb)
    (w : s.Idx → Elt F e) :
    (m.view.loc (c : Thread nD τ) ↦[m.view.set]{fullShare} m.view.writes (Elt F) f [⟨Rect.unit off s.size inb, w⟩] : sProp 𝕄)
      ⊢ iprop(∃ g, ⌜m.view.read (Elt F) g = w⌝ ∗ (m.view.loc (c : Thread nD τ) ↦[m.view.set]{fullShare} g)) := by
  subst ho
  iintro H
  iexists _
  isplitl []
  rotate_left
  · iexact H
  ipureintro
  exact View.read_writes_full _ _ _ _ _

theorem owns_store2 {n₁ n₂ : ℕ} {e : EltTy} (m : Memref sig .tc .vmem ⟨2, ![n₁, n₂]⟩ e) (f) (inb) (w : Shape.Idx ⟨2, ![n₁, n₂]⟩ → Elt F e) :
    (m.view.loc (c : Thread nD τ) ↦[m.view.set]{fullShare} m.view.writes (Elt F) f [⟨Rect.unit ![0, 0] (Shape.size ⟨2, ![n₁, n₂]⟩) inb, w⟩] : sProp 𝕄)
      ⊢ iprop(∃ g, ⌜m.view.read (Elt F) g = w⌝ ∗ (m.view.loc (c : Thread nD τ) ↦[m.view.set]{fullShare} g)) :=
  owns_store c m f (funext fun a => by fin_cases a <;> rfl) inb w

/-- A flight into a slot, whatever the slot held; -/
theorem inflI_close (s : Fin 2) (b : Fin 32) (f : Buf (Elt F) ((slotI s).view.loc (c : Thread nD τ))) (L) :
    Transfers.Flight countersEmb (c : Thread nD τ) (SemLoc.dma (cellI s).sem) () NN
      iprop(sIP c s ((slotI s).view.writes (Elt F) f (⟨Rect.whole S128x32x256, valsAt c XA b⟩ :: L)) ∗ homeP c XA b)
      ⊢ inflI c XA s b := by
  iintro H
  iexists (slotI s).view.writes (Elt F) f L
  iexact H

/-- a flight out of a slot into which `w` has just been stored. -/
theorem inflO_close {off : Fin 4 → Nat} (s : Fin 2) (b : Fin 32) (e : off = slotOff s) (hh) (g : obM.view.ty.Contents (Elt F))
    (w : S1x128x32x256.Idx → Elt F .f32) (hw : down w = Y b) :
    flyO c XO s b ((obM.view.slice (Rect.unit (s := S2x128x32x256) off S1x128x32x256.size hh)).write (Elt F) g w Finset.univ)
      ⊢ inflO c XO Y s b := by
  iintro H
  iexists (obM.view.slice (Rect.unit (s := S2x128x32x256) off S1x128x32x256.size hh)).write (Elt F) g w Finset.univ
  isplitr
  · ipureintro
    exact (read_slotO e hh g w).trans hw
  · iexact H

/-- a block of the result that has received it. -/
theorem doneO_close {off : Fin 4 → Nat} (s : Fin 2) (b : Fin 32) (e : off = slotOff s) (hh) (g : obM.view.ty.Contents (Elt F))
    (w : S1x128x32x256.Idx → Elt F .f32) (hw : down w = Y b) :
    doneP c XO b (ReadAs.same.apply ((slotO s).view.read (Elt F) ((obM.view.slice (Rect.unit (s := S2x128x32x256) off S1x128x32x256.size hh)).write (Elt F) g w Finset.univ)))
      ⊢ doneP c XO b (Y b) := by
  have h : ReadAs.same.apply ((slotO s).view.read (Elt F) ((obM.view.slice (Rect.unit (s := S2x128x32x256) off S1x128x32x256.size hh)).write (Elt F) g w Finset.univ)) = Y b :=
    (read_slotO e hh g w).trans hw
  rw [h]

theorem off8_slot {t : Fin cfg0.N} {s : Fin 2} (h : t.val % 2 = s.val) : k0_off8 (grid0.coords t) = slotOff s := by
  rw [off8_eq]
  exact congrArg slotOff (Fin.ext h)

/-- What is stored at a point, from a slot that has just received a block. -/
theorem stored_eq (X : In F) {t : Fin cfg0.N} {s : Fin 2} (h : t.val % 2 = s.val) (f) (y : S128x32x256.Idx → Elt F .f32)
    {Z : S128x32x256.Idx → Elt F .f32} (hY : Z = outY X t y) :
    down (outVals X t (View.readAt (Elt F) ibM.view (Rect.unit (s := S2x128x32x256) (k0_off8 (grid0.coords t)) S1x128x32x256.size (k0_off8_inb (grid0.coords t))).toLoadRect
      ((slotI s).view.writes (Elt F) f [⟨Rect.whole S128x32x256, y⟩]))) = Z :=
  (congrArg (fun B => down (outVals X t B)) (readAt_slotI (off8_slot h) _ f y)).trans hY.symm
end Close

end Cert.KernelIdeal.Hand
-- ==== Proof.KernI.Data.lean ====
/-
  The proof data of the pipeline: what every window holds after each point, and what is held between points.
-/
module

public import proofs.«01_k».proof.Proof.KernI.Body
public import proofs.«01_k».proof.Proof.Steps

@[expose] public section

set_option maxRecDepth 16384

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The grid's point `b`. -/
abbrev pt (b : Fin 32) : Fin cfg0.N := ⟨b.val, b.isLt.trans_eq N_0.symm⟩

/-- What the body reads at a point. -/
def Xat (c : Dev nD) (t : Fin cfg0.N) : In F where
  x1 := iblk m c 0 t
  x2 := iblk m c 1 t
  x4 := iblk m c 2 t
  x5 := iblk m c 3 t
  x6 := iblk m c 4 t
  x7 := iblk m c 5 t
  x8 := iblk m c 6 t
  x9 := iblk m c 7 t
  x10 := iblk m c 8 t
  x11 := iblk m c 9 t
  x12 := iblk m c 10 t
  x13 := iblk m c 11 t
  x14 := iblk m c 12 t
  x15 := iblk m c 13 t
  x16 := iblk m c 14 t
  x17 := iblk m c 15 t
  x18 := iblk m c 16 t
  x19 := iblk m c 17 t
  x20 := iblk m c 18 t
  x21 := X0_19 m c t
  x22 := X0_20 m c t
  x23 := X0_21 m c t
  x24 := X0_22 m c t
  x25 := X0_23 m c t
  x26 := iblk m c 24 t
  x27 := iblk m c 25 t
  x28 := iblk m c 26 t
  x29 := iblk m c 27 t
  x30 := X0_28 m c t
  x31 := X0_29 m c t
  x32 := X0_30 m c t
  x33 := X0_31 m c t
  x34 := X0_32 m c t
  x35 := iblk m c 33 t
  x36 := iblk m c 34 t
  x37 := iblk m c 35 t
  x38 := iblk m c 36 t

/-- The values' array, and its result before the kernel. -/
abbrev XAof (c : Dev nD) : Buf (Elt F) (inM.view.loc (c : Thread nD τ)) := V m c main_arg2
abbrev XOof (c : Dev nD) : Buf (Elt F) (outM.view.loc (c : Thread nD τ)) := V m c main_v35_2
/-- Block `b` of the values' result. -/
def Yof (c : Dev nD) (b : Fin 32) : S128x32x256.Idx → Elt F .f32 := outY (Xat m c (pt b)) (pt b) (valsAt c (XAof m c) b)

/-- What is held before point `p`. -/
def PhiAt (c : Dev nD) (p : ℕ) : sProp 𝕄 :=
  rings (homeP c (XAof m c)) (inflI c (XAof m c)) (freeI c) (aheadP c (XOof m c)) (fun b => doneP c (XOof m c) b (Yof m c b))
    (inflO c (XOof m c) (Yof m c)) (freeO c) p

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => X0_19 m c t
    | ⟨20, _⟩ => X0_20 m c t
    | ⟨21, _⟩ => X0_21 m c t
    | ⟨22, _⟩ => X0_22 m c t
    | ⟨23, _⟩ => X0_23 m c t
    | ⟨24, _⟩ => iblk m c 24 t
    | ⟨25, _⟩ => iblk m c 25 t
    | ⟨26, _⟩ => iblk m c 26 t
    | ⟨27, _⟩ => iblk m c 27 t
    | ⟨28, _⟩ => X0_28 m c t
    | ⟨29, _⟩ => X0_29 m c t
    | ⟨30, _⟩ => X0_30 m c t
    | ⟨31, _⟩ => X0_31 m c t
    | ⟨32, _⟩ => X0_32 m c t
    | ⟨33, _⟩ => iblk m c 33 t
    | ⟨34, _⟩ => iblk m c 34 t
    | ⟨35, _⟩ => iblk m c 35 t
    | ⟨36, _⟩ => iblk m c 36 t
    | ⟨37, _⟩ => v52 (Xat m c t) t
    | ⟨38, _⟩ => outPr (Xat m c t) t
    | ⟨39, _⟩ => v263 (Xat m c t) t
    | ⟨40, _⟩ => v267 (Xat m c t) t
    | ⟨41, _⟩ => v271 (Xat m c t) t
    | ⟨42, _⟩ => v277 (Xat m c t) t
    | ⟨43, _⟩ => outMd (Xat m c t) t
    | ⟨n + 44, h⟩ => (Nat.not_lt.mpr (Nat.le_add_left 44 n) h).elim
  Φ p := PhiAt m c p.val
  q w := Pipeline.shareOf spec0 w
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = X0_19 m c t := by dsimp only [dats]
theorem after0_20 (c : Dev nD) (t : Fin cfg0.N) : (dats m 0 c).after 20 t = X0_20 m c t := by dsimp only [dats]
theorem after0_21 (c : Dev nD) (t : Fin cfg0.N) : (dats m 0 c).after 21 t = X0_21 m c t := by dsimp only [dats]
theorem after0_22 (c : Dev nD) (t : Fin cfg0.N) : (dats m 0 c).after 22 t = X0_22 m c t := by dsimp only [dats]
theorem after0_23 (c : Dev nD) (t : Fin cfg0.N) : (dats m 0 c).after 23 t = X0_23 m c t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = X0_28 m c t := by dsimp only [dats]
theorem after0_29 (c : Dev nD) (t : Fin cfg0.N) : (dats m 0 c).after 29 t = X0_29 m c t := by dsimp only [dats]
theorem after0_30 (c : Dev nD) (t : Fin cfg0.N) : (dats m 0 c).after 30 t = X0_30 m c t := by dsimp only [dats]
theorem after0_31 (c : Dev nD) (t : Fin cfg0.N) : (dats m 0 c).after 31 t = X0_31 m c t := by dsimp only [dats]
theorem after0_32 (c : Dev nD) (t : Fin cfg0.N) : (dats m 0 c).after 32 t = X0_32 m c t := by dsimp only [dats]
theorem after0_33 (c : Dev nD) (t : Fin cfg0.N) : (dats m 0 c).after 33 t = iblk m c 33 t := by dsimp only [dats]
theorem after0_34 (c : Dev nD) (t : Fin cfg0.N) : (dats m 0 c).after 34 t = iblk m c 34 t := by dsimp only [dats]
theorem after0_35 (c : Dev nD) (t : Fin cfg0.N) : (dats m 0 c).after 35 t = iblk m c 35 t := by dsimp only [dats]
theorem after0_36 (c : Dev nD) (t : Fin cfg0.N) : (dats m 0 c).after 36 t = iblk m c 36 t := by dsimp only [dats]
theorem after0_37 (c : Dev nD) (t : Fin cfg0.N) : (dats m 0 c).after 37 t = v52 (Xat m c t) t := by dsimp only [dats]
theorem after0_38 (c : Dev nD) (t : Fin cfg0.N) : (dats m 0 c).after 38 t = outPr (Xat m c t) t := by dsimp only [dats]
theorem after0_39 (c : Dev nD) (t : Fin cfg0.N) : (dats m 0 c).after 39 t = v263 (Xat m c t) t := by dsimp only [dats]
theorem after0_40 (c : Dev nD) (t : Fin cfg0.N) : (dats m 0 c).after 40 t = v267 (Xat m c t) t := by dsimp only [dats]
theorem after0_41 (c : Dev nD) (t : Fin cfg0.N) : (dats m 0 c).after 41 t = v271 (Xat m c t) t := by dsimp only [dats]
theorem after0_42 (c : Dev nD) (t : Fin cfg0.N) : (dats m 0 c).after 42 t = v277 (Xat m c t) t := by dsimp only [dats]
theorem after0_43 (c : Dev nD) (t : Fin cfg0.N) : (dats m 0 c).after 43 t = outMd (Xat m c t) t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl) (fun t => by rw [after0_9]; unfold Dat.blockOf iblk; rw [A_eq]; try rfl) t d).trans
    (by unfold Dat.fetched Dat.blockOf iblk; rw [A_eq]; try rfl)
theorem before0_10 (c : Dev nD) (t : Fin cfg0.N) (d) : (dats m 0 c).before 10 t d = iblk m c 10 t :=
  ((dats m 0 c).before_in_eq_fetched 10 rfl (fun _ => rfl) (fun _ _ _ => rfl) (fun t => by rw [after0_10]; unfold Dat.blockOf iblk; rw [A_eq]; try rfl) t d).trans
    (by unfold Dat.fetched Dat.blockOf iblk; rw [A_eq]; try rfl)
theorem before0_11 (c : Dev nD) (t : Fin cfg0.N) (d) : (dats m 0 c).before 11 t d = iblk m c 11 t :=
  ((dats m 0 c).before_in_eq_fetched 11 rfl (fun _ => rfl) (fun _ _ _ => rfl) (fun t => by rw [after0_11]; unfold Dat.blockOf iblk; rw [A_eq]; try rfl) t d).trans
    (by unfold Dat.fetched Dat.blockOf iblk; rw [A_eq]; try rfl)
theorem before0_12 (c : Dev nD) (t : Fin cfg0.N) (d) : (dats m 0 c).before 12 t d = iblk m c 12 t :=
  ((dats m 0 c).before_in_eq_fetched 12 rfl (fun _ => rfl) (fun _ _ _ => rfl) (fun t => by rw [after0_12]; unfold Dat.blockOf iblk; rw [A_eq]; try rfl) t d).trans
    (by unfold Dat.fetched Dat.blockOf iblk; rw [A_eq]; try rfl)
theorem before0_13 (c : Dev nD) (t : Fin cfg0.N) (d) : (dats m 0 c).before 13 t d = iblk m c 13 t :=
  ((dats m 0 c).before_in_eq_fetched 13 rfl (fun _ => rfl) (fun _ _ _ => rfl) (fun t => by rw [after0_13]; unfold Dat.blockOf iblk; rw [A_eq]; try rfl) t d).trans
    (by unfold Dat.fetched Dat.blockOf iblk; rw [A_eq]; try rfl)
theorem before0_14 (c : Dev nD) (t : Fin cfg0.N) (d) : (dats m 0 c).before 14 t d = iblk m c 14 t :=
  ((dats m 0 c).before_in_eq_fetched 14 rfl (fun _ => rfl) (fun _ _ _ => rfl) (fun t => by rw [after0_14]; unfold Dat.blockOf iblk; rw [A_eq]; try rfl) t d).trans
    (by unfold Dat.fetched Dat.blockOf iblk; rw [A_eq]; try rfl)
theorem before0_15 (c : Dev nD) (t : Fin cfg0.N) (d) : (dats m 0 c).before 15 t d = iblk m c 15 t :=
  ((dats m 0 c).before_in_eq_fetched 15 rfl (fun _ => rfl) (fun _ _ _ => rfl) (fun t => by rw [after0_15]; unfold Dat.blockOf iblk; rw [A_eq]; try rfl) t d).trans
    (by unfold Dat.fetched Dat.blockOf iblk; rw [A_eq]; try rfl)
theorem before0_16 (c : Dev nD) (t : Fin cfg0.N) (d) : (dats m 0 c).before 16 t d = iblk m c 16 t :=
  ((dats m 0 c).before_in_eq_fetched 16 rfl (fun _ => rfl) (fun _ _ _ => rfl) (fun t => by rw [after0_16]; unfold Dat.blockOf iblk; rw [A_eq]; try rfl) t d).trans
    (by unfold Dat.fetched Dat.blockOf iblk; rw [A_eq]; try rfl)
theorem before0_17 (c : Dev nD) (t : Fin cfg0.N) (d) : (dats m 0 c).before 17 t d = iblk m c 17 t :=
  ((dats m 0 c).before_in_eq_fetched 17 rfl (fun _ => rfl) (fun _ _ _ => rfl) (fun t => by rw [after0_17]; unfold Dat.blockOf iblk; rw [A_eq]; try rfl) t d).trans
    (by unfold Dat.fetched Dat.blockOf iblk; rw [A_eq]; try rfl)
theorem before0_18 (c : Dev nD) (t : Fin cfg0.N) (d) : (dats m 0 c).before 18 t d = iblk m c 18 t :=
  ((dats m 0 c).before_in_eq_fetched 18 rfl (fun _ => rfl) (fun _ _ _ => rfl) (fun t => by rw [after0_18]; unfold Dat.blockOf iblk; rw [A_eq]; try rfl) t d).trans
    (by unfold Dat.fetched Dat.blockOf iblk; rw [A_eq]; try rfl)
theorem before0_19 (c : Dev nD) (t : Fin cfg0.N) (d) : (dats m 0 c).before 19 t d = X0_19 m c t :=
  ((dats m 0 c).before_in_eq_fetched 19 rfl (fun _ => rfl)
      (fun t t' h => funext fun a => congrArg (fun n => Pipeline.Clip.of n ((cfg0.win 19).size a) (S1286x384.size a)) (congrFun h a))
      (fun t => by rw [after0_19]; unfold X0_19; rw [Pipeline.Window.cut_fill]; unfold Dat.blockOf iblk; rw [A_eq]; try rfl) t d).trans
    (by unfold Dat.fetched X0_19; rw [fill0_19 t d dflt0_19]; unfold Dat.blockOf iblk; rw [A_eq]; try rfl)
theorem before0_20 (c : Dev nD) (t : Fin cfg0.N) (d) : (dats m 0 c).before 20 t d = X0_20 m c t :=
  ((dats m 0 c).before_in_eq_fetched 20 rfl (fun _ => rfl)
      (fun t t' h => funext fun a => congrArg (fun n => Pipeline.Clip.of n ((cfg0.win 20).size a) (S1286x384.size a)) (congrFun h a))
      (fun t => by rw [after0_20]; unfold X0_20; rw [Pipeline.Window.cut_fill]; unfold Dat.blockOf iblk; rw [A_eq]; try rfl) t d).trans
    (by unfold Dat.fetched X0_20; rw [fill0_20 t d dflt0_20]; unfold Dat.blockOf iblk; rw [A_eq]; try rfl)
theorem before0_21 (c : Dev nD) (t : Fin cfg0.N) (d) : (dats m 0 c).before 21 t d = X0_21 m c t :=
  ((dats m 0 c).before_in_eq_fetched 21 rfl (fun _ => rfl)
      (fun t t' h => funext fun a => congrArg (fun n => Pipeline.Clip.of n ((cfg0.win 21).size a) (S1286x384.size a)) (congrFun h a))
      (fun t => by rw [after0_21]; unfold X0_21; rw [Pipeline.Window.cut_fill]; unfold Dat.blockOf iblk; rw [A_eq]; try rfl) t d).trans
    (by unfold Dat.fetched X0_21; rw [fill0_21 t d dflt0_21]; unfold Dat.blockOf iblk; rw [A_eq]; try rfl)
theorem before0_22 (c : Dev nD) (t : Fin cfg0.N) (d) : (dats m 0 c).before 22 t d = X0_22 m c t :=
  ((dats m 0 c).before_in_eq_fetched 22 rfl (fun _ => rfl)
      (fun t t' h => funext fun a => congrArg (fun n => Pipeline.Clip.of n ((cfg0.win 22).size a) (S1286x384.size a)) (congrFun h a))
      (fun t => by rw [after0_22]; unfold X0_22; rw [Pipeline.Window.cut_fill]; unfold Dat.blockOf iblk; rw [A_eq]; try rfl) t d).trans
    (by unfold Dat.fetched X0_22; rw [fill0_22 t d dflt0_22]; unfold Dat.blockOf iblk; rw [A_eq]; try rfl)
theorem before0_23 (c : Dev nD) (t : Fin cfg0.N) (d) : (dats m 0 c).before 23 t d = X0_23 m c t :=
  ((dats m 0 c).before_in_eq_fetched 23 rfl (fun _ => rfl)
      (fun t t' h => funext fun a => congrArg (fun n => Pipeline.Clip.of n ((cfg0.win 23).size a) (S1286x384.size a)) (congrFun h a))
      (fun t => by rw [after0_23]; unfold X0_23; rw [Pipeline.Window.cut_fill]; unfold Dat.blockOf iblk; rw [A_eq]; try rfl) t d).trans
    (by unfold Dat.fetched X0_23; rw [fill0_23 t d dflt0_23]; unfold Dat.blockOf iblk; rw [A_eq]; try rfl)
theorem before0_24 (c : Dev nD) (t : Fin cfg0.N) (d) : (dats m 0 c).before 24 t d = iblk m c 24 t :=
  ((dats m 0 c).before_in_eq_fetched 24 rfl (fun _ => rfl) (fun _ _ _ => rfl) (fun t => by rw [after0_24]; unfold Dat.blockOf iblk; rw [A_eq]; try rfl) t d).trans
    (by unfold Dat.fetched Dat.blockOf iblk; rw [A_eq]; try rfl)
theorem before0_25 (c : Dev nD) (t : Fin cfg0.N) (d) : (dats m 0 c).before 25 t d = iblk m c 25 t :=
  ((dats m 0 c).before_in_eq_fetched 25 rfl (fun _ => rfl) (fun _ _ _ => rfl) (fun t => by rw [after0_25]; unfold Dat.blockOf iblk; rw [A_eq]; try rfl) t d).trans
    (by unfold Dat.fetched Dat.blockOf iblk; rw [A_eq]; try rfl)
theorem before0_26 (c : Dev nD) (t : Fin cfg0.N) (d) : (dats m 0 c).before 26 t d = iblk m c 26 t :=
  ((dats m 0 c).before_in_eq_fetched 26 rfl (fun _ => rfl) (fun _ _ _ => rfl) (fun t => by rw [after0_26]; unfold Dat.blockOf iblk; rw [A_eq]; try rfl) t d).trans
    (by unfold Dat.fetched Dat.blockOf iblk; rw [A_eq]; try rfl)
theorem before0_27 (c : Dev nD) (t : Fin cfg0.N) (d) : (dats m 0 c).before 27 t d = iblk m c 27 t :=
  ((dats m 0 c).before_in_eq_fetched 27 rfl (fun _ => rfl) (fun _ _ _ => rfl) (fun t => by rw [after0_27]; unfold Dat.blockOf iblk; rw [A_eq]; try rfl) t d).trans
    (by unfold Dat.fetched Dat.blockOf iblk; rw [A_eq]; try rfl)
theorem before0_28 (c : Dev nD) (t : Fin cfg0.N) (d) : (dats m 0 c).before 28 t d = X0_28 m c t :=
  ((dats m 0 c).before_in_eq_fetched 28 rfl (fun _ => rfl)
      (fun t t' h => funext fun a => congrArg (fun n => Pipeline.Clip.of n ((cfg0.win 28).size a) (S1286x384.size a)) (congrFun h a))
      (fun t => by rw [after0_28]; unfold X0_28; rw [Pipeline.Window.cut_fill]; unfold Dat.blockOf iblk; rw [A_eq]; try rfl) t d).trans
    (by unfold Dat.fetched X0_28; rw [fill0_28 t d dflt0_28]; unfold Dat.blockOf iblk; rw [A_eq]; try rfl)
theorem before0_29 (c : Dev nD) (t : Fin cfg0.N) (d) : (dats m 0 c).before 29 t d = X0_29 m c t :=
  ((dats m 0 c).before_in_eq_fetched 29 rfl (fun _ => rfl)
      (fun t t' h => funext fun a => congrArg (fun n => Pipeline.Clip.of n ((cfg0.win 29).size a) (S1286x384.size a)) (congrFun h a))
      (fun t => by rw [after0_29]; unfold X0_29; rw [Pipeline.Window.cut_fill]; unfold Dat.blockOf iblk; rw [A_eq]; try rfl) t d).trans
    (by unfold Dat.fetched X0_29; rw [fill0_29 t d dflt0_29]; unfold Dat.blockOf iblk; rw [A_eq]; try rfl)
theorem before0_30 (c : Dev nD) (t : Fin cfg0.N) (d) : (dats m 0 c).before 30 t d = X0_30 m c t :=
  ((dats m 0 c).before_in_eq_fetched 30 rfl (fun _ => rfl)
      (fun t t' h => funext fun a => congrArg (fun n => Pipeline.Clip.of n ((cfg0.win 30).size a) (S1286x384.size a)) (congrFun h a))
      (fun t => by rw [after0_30]; unfold X0_30; rw [Pipeline.Window.cut_fill]; unfold Dat.blockOf iblk; rw [A_eq]; try rfl) t d).trans
    (by unfold Dat.fetched X0_30; rw [fill0_30 t d dflt0_30]; unfold Dat.blockOf iblk; rw [A_eq]; try rfl)
theorem before0_31 (c : Dev nD) (t : Fin cfg0.N) (d) : (dats m 0 c).before 31 t d = X0_31 m c t :=
  ((dats m 0 c).before_in_eq_fetched 31 rfl (fun _ => rfl)
      (fun t t' h => funext fun a => congrArg (fun n => Pipeline.Clip.of n ((cfg0.win 31).size a) (S1286x384.size a)) (congrFun h a))
      (fun t => by rw [after0_31]; unfold X0_31; rw [Pipeline.Window.cut_fill]; unfold Dat.blockOf iblk; rw [A_eq]; try rfl) t d).trans
    (by unfold Dat.fetched X0_31; rw [fill0_31 t d dflt0_31]; unfold Dat.blockOf iblk; rw [A_eq]; try rfl)
theorem before0_32 (c : Dev nD) (t : Fin cfg0.N) (d) : (dats m 0 c).before 32 t d = X0_32 m c t :=
  ((dats m 0 c).before_in_eq_fetched 32 rfl (fun _ => rfl)
      (fun t t' h => funext fun a => congrArg (fun n => Pipeline.Clip.of n ((cfg0.win 32).size a) (S1286x384.size a)) (congrFun h a))
      (fun t => by rw [after0_32]; unfold X0_32; rw [Pipeline.Window.cut_fill]; unfold Dat.blockOf iblk; rw [A_eq]; try rfl) t d).trans
    (by unfold Dat.fetched X0_32; rw [fill0_32 t d dflt0_32]; unfold Dat.blockOf iblk; rw [A_eq]; try rfl)
theorem before0_33 (c : Dev nD) (t : Fin cfg0.N) (d) : (dats m 0 c).before 33 t d = iblk m c 33 t :=
  ((dats m 0 c).before_in_eq_fetched 33 rfl (fun _ => rfl) (fun _ _ _ => rfl) (fun t => by rw [after0_33]; unfold Dat.blockOf iblk; rw [A_eq]; try rfl) t d).trans
    (by unfold Dat.fetched Dat.blockOf iblk; rw [A_eq]; try rfl)
theorem before0_34 (c : Dev nD) (t : Fin cfg0.N) (d) : (dats m 0 c).before 34 t d = iblk m c 34 t :=
  ((dats m 0 c).before_in_eq_fetched 34 rfl (fun _ => rfl) (fun _ _ _ => rfl) (fun t => by rw [after0_34]; unfold Dat.blockOf iblk; rw [A_eq]; try rfl) t d).trans
    (by unfold Dat.fetched Dat.blockOf iblk; rw [A_eq]; try rfl)
theorem before0_35 (c : Dev nD) (t : Fin cfg0.N) (d) : (dats m 0 c).before 35 t d = iblk m c 35 t :=
  ((dats m 0 c).before_in_eq_fetched 35 rfl (fun _ => rfl) (fun _ _ _ => rfl) (fun t => by rw [after0_35]; unfold Dat.blockOf iblk; rw [A_eq]; try rfl) t d).trans
    (by unfold Dat.fetched Dat.blockOf iblk; rw [A_eq]; try rfl)
theorem before0_36 (c : Dev nD) (t : Fin cfg0.N) (d) : (dats m 0 c).before 36 t d = iblk m c 36 t :=
  ((dats m 0 c).before_in_eq_fetched 36 rfl (fun _ => rfl) (fun _ _ _ => rfl) (fun t => by rw [after0_36]; unfold Dat.blockOf iblk; rw [A_eq]; try rfl) t d).trans
    (by unfold Dat.fetched Dat.blockOf iblk; rw [A_eq]; try rfl)

end Cert.KernelIdeal.Hand
-- ==== Proof.KernI.RunFirst.lean ====
/-
  The body at a grid point: the first.
-/
module

public import proofs.«01_k».proof.Proof.KernI.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

section Body
variable (c : Dev nD) (XA : Buf (Elt F) (inM.view.loc (c : Thread nD τ))) (XO : Buf (Elt F) (outM.view.loc (c : Thread nD τ)))
  (Y : Fin 32 → S128x32x256.Idx → Elt F .f32) (X : In F) (t : Fin cfg0.N)
  (arg1 : Memref sig .tc .vmem S4096x256 .f32) (harg1 : arg1.IsWhole) (arg2 : Memref sig .tc .vmem S4096x768 .f32) (harg2 : arg2.IsWhole) (arg4 : Memref sig .tc .vmem S4096x32 .f32) (harg4 : arg4.IsWhole) (arg5 : Memref sig .tc .vmem S4096x32 .f32) (harg5 : arg5.IsWhole) (arg6 : Memref sig .tc .vmem S4096x32 .f32) (harg6 : arg6.IsWhole) (arg7 : Memref sig .tc .vmem S4096x32 .f32) (harg7 : arg7.IsWhole) (arg8 : Memref sig .tc .vmem S4096x32 .f32) (harg8 : arg8.IsWhole) (arg9 : Memref sig .tc .vmem S4096x32 .f32) (harg9 : arg9.IsWhole) (arg10 : Memref sig .tc .vmem S4096x32 .f32) (harg10 : arg10.IsWhole) (arg11 : Memref sig .tc .vmem S4096x32 .f32) (harg11 : arg11.IsWhole) (arg12 : Memref sig .tc .vmem S4096x32 .f32) (harg12 : arg12.IsWhole) (arg13 : Memref sig .tc .vmem S4096x32 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x512 .bf16) (harg16 : arg16.IsWhole) (arg17 : Memref sig .tc .vmem S256x512 .bf16) (harg17 : arg17.IsWhole) (arg18 : Memref sig .tc .vmem S1x512 .f32) (harg18 : arg18.IsWhole) (arg19 : Memref sig .tc .vmem S512x256 .bf16) (harg19 : arg19.IsWhole) (arg20 : Memref sig .tc .vmem S1x256 .f32) (harg20 : arg20.IsWhole) (arg21 : Memref sig .tc .vmem S256x384 .bf16) (harg21 : arg21.IsWhole) (arg22 : Memref sig .tc .vmem S256x384 .bf16) (harg22 : arg22.IsWhole) (arg23 : Memref sig .tc .vmem S256x384 .bf16) (harg23 : arg23.IsWhole) (arg24 : Memref sig .tc .vmem S256x384 .bf16) (harg24 : arg24.IsWhole) (arg25 : Memref sig .tc .vmem S256x384 .bf16) (harg25 : arg25.IsWhole) (arg26 : Memref sig .tc .vmem S8x384 .bf16) (harg26 : arg26.IsWhole) (arg27 : Memref sig .tc .vmem S1x384 .f32) (harg27 : arg27.IsWhole) (arg28 : Memref sig .tc .vmem S1x384 .f32) (harg28 : arg28.IsWhole) (arg29 : Memref sig .tc .vmem S1x1 .f32) (harg29 : arg29.IsWhole) (arg30 : Memref sig .tc .vmem S256x384 .bf16) (harg30 : arg30.IsWhole) (arg31 : Memref sig .tc .vmem S256x384 .bf16) (harg31 : arg31.IsWhole) (arg32 : Memref sig .tc .vmem S256x384 .bf16) (harg32 : arg32.IsWhole) (arg33 : Memref sig .tc .vmem S256x384 .bf16) (harg33 : arg33.IsWhole) (arg34 : Memref sig .tc .vmem S256x384 .bf16) (harg34 : arg34.IsWhole) (arg35 : Memref sig .tc .vmem S8x384 .bf16) (harg35 : arg35.IsWhole) (arg36 : Memref sig .tc .vmem S1x384 .f32) (harg36 : arg36.IsWhole) (arg37 : Memref sig .tc .vmem S1x384 .f32) (harg37 : arg37.IsWhole) (arg38 : Memref sig .tc .vmem S1x1 .f32) (harg38 : arg38.IsWhole) (arg39 : Memref sig .tc .vmem S128x256 .f32) (harg39 : arg39.IsWhole) (arg40 : Memref sig .tc .vmem S128x4 .f32) (harg40 : arg40.IsWhole) (arg42 : Memref sig .tc .vmem S128x32 .f32) (harg42 : arg42.IsWhole) (arg43 : Memref sig .tc .vmem S128x32 .f32) (harg43 : arg43.IsWhole) (arg44 : Memref sig .tc .vmem S128x32 .f32) (harg44 : arg44.IsWhole) (arg45 : Memref sig .tc .vmem S128x32 .f32) (harg45 : arg45.IsWhole) (arg46 : Memref sig .tc .vmem S128x192 .f32) (harg46 : arg46.IsWhole)

set_option maxHeartbeats 4000000 in
theorem runFirst (h : t.val = 0) (W : Waits sig Unit) (hY : Y (Ring.bk 32 t.val) = outY X t (valsAt c XA 0)) :
    iprop(ownsIn c X arg1 arg2 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 ∗ ownsAny c arg39 arg40 arg42 arg43 arg44 arg45 arg46
      ∗ homeP c XA 0 ∗ homeP c XA 1 ∗ homeP c XA (Ring.bk 32 (t.val + 2)) ∗ freeI c 0 ∗ freeI c 1 ∗ aheadP c XO (Ring.bk 32 t.val) ∗ freeO c 0 ∗ owes (c : Thread nD τ) 0 W)
      ⊢ wp frame (wpE (defs₀ (F := F)) Variants.none (c : Thread nD τ) none) Set.univ (body t arg1 harg1 arg2 harg2 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg42 harg42 arg43 harg43 arg44 harg44 arg45 harg45 arg46 harg46)
        (fun _ => iprop(ownsOut c X t arg39 arg40 arg42 arg43 arg44 arg45 arg46
          ∗ homeP c XA 0 ∗ inflI c XA 0 (Ring.bk 32 (t.val + 2)) ∗ inflI c XA 1 1 ∗ inflO c XO Y 0 (Ring.bk 32 t.val) ∗ (∃ W', owes (c : Thread nD τ) 0 W') ∗ ownsIn c X arg1 arg2 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38)) := by
  haveI : Fact (t.val % 2 = 0) := ⟨by omega⟩
  obtain ⟨x1, x2, x4, x5, x6, x7, x8, x9, x10, x11, x12, x13, x14, x15, x16, x17, x18, x19, x20, x21, x22, x23, x24, x25, x26, x27, x28, x29, x30, x31, x32, x33, x34, x35, x36, x37, x38⟩ := X
  have e1 : condFirst t := (condFirst_iff t).mpr (by omega)
  have e11 : ¬ condLast t := fun hc => by have := (condLast_iff t).mp hc; omega
  have e2 : k0_cond2 (grid0.coords t) = 1#1 := (cond2_iff t).mpr (by omega)
  have e3 : ¬ k0_cond3 (grid0.coords t) = 1#1 := fun hc => by have := (cond3_iff t).mp hc; omega
  have e4 : ¬ k0_cond4 (grid0.coords t) = 1#1 := fun hc => by have := (cond4_iff t).mp hc; omega
  have e5 : ¬ k0_cond5 (grid0.coords t) = 1#1 := fun hc => by have := (cond5_iff t).mp hc; omega
  have e6 : k0_cond6 (grid0.coords t) = 1#1 := (cond6_iff t).mpr (by omega)
  have e7 : ¬ k0_cond7 (grid0.coords t) = 1#1 := fun hc => by have := (cond7_iff t).mp hc; omega
  have e8 : k0_cond8 (grid0.coords t) = 1#1 := (cond8_iff t).mpr (by omega)
  have e9 : k0_cond9 (grid0.coords t) = 1#1 := (cond9_iff t).mpr (by omega)
  have e10 : ¬ k0_cond10 (grid0.coords t) = 1#1 := fun hc => by have := (cond10_iff t).mp hc; omega
  dsimp only [ownsIn, ownsAny, ownsOut]
  unfold owns
  iintro ⟨⟨⟨%f1, %h1, H1⟩, ⟨%f2, %h2, H2⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩, ⟨%f19, %h19, H19⟩, ⟨%f20, %h20, H20⟩, ⟨%f21, %h21, H21⟩, ⟨%f22, %h22, H22⟩, ⟨%f23, %h23, H23⟩, ⟨%f24, %h24, H24⟩, ⟨%f25, %h25, H25⟩, ⟨%f26, %h26, H26⟩, ⟨%f27, %h27, H27⟩, ⟨%f28, %h28, H28⟩, ⟨%f29, %h29, H29⟩, ⟨%f30, %h30, H30⟩, ⟨%f31, %h31, H31⟩, ⟨%f32, %h32, H32⟩, ⟨%f33, %h33, H33⟩, ⟨%f34, %h34, H34⟩, ⟨%f35, %h35, H35⟩, ⟨%f36, %h36, H36⟩, ⟨%f37, %h37, H37⟩, ⟨%f38, %h38, H38⟩⟩, ⟨⟨%z39, %f39, %h39, H39⟩, ⟨%z40, %f40, %h40, H40⟩, ⟨%z42, %f42, %h42, H42⟩, ⟨%z43, %f43, %h43, H43⟩, ⟨%z44, %f44, %h44, H44⟩, ⟨%z45, %f45, %h45, H45⟩, ⟨%z46, %f46, %h46, H46⟩⟩, Hh0, Hh1, Hh2, ⟨⟨%f, HI0⟩, HcI0⟩, ⟨⟨%fs1, HI1⟩, HcI1⟩, Hah, ⟨⟨%g, HO⟩, HcO⟩, HW⟩
  subst h1 h2 h4 h5 h6 h7 h8 h9 h10 h11 h12 h13 h14 h15 h16 h17 h18 h19 h20 h21 h22 h23 h24 h25 h26 h27 h28 h29 h30 h31 h32 h33 h34 h35 h36 h37 h38
  dsimp only [body]
  rw [cc0__fused_eq_skeleton]
  sl_unfold [cc0__fused_skel]
  sl_open_parts
  sl_exec
  sl_step
  have hpar : t.val % 2 = ((0 : Fin 2)).val := by show t.val % 2 = 0; omega
  isplitl [H39 H40 H42 H43 H44 H45 H46]
  · isplitl [H39]; · (iapply (owns_store2 c arg39 f39 _ (v52 (⟨arg1.view.read (Elt F) f1, arg2.view.read (Elt F) f2, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14, arg15.view.read (Elt F) f15, arg16.view.read (Elt F) f16, arg17.view.read (Elt F) f17, arg18.view.read (Elt F) f18, arg19.view.read (Elt F) f19, arg20.view.read (Elt F) f20, arg21.view.read (Elt F) f21, arg22.view.read (Elt F) f22, arg23.view.read (Elt F) f23, arg24.view.read (Elt F) f24, arg25.view.read (Elt F) f25, arg26.view.read (Elt F) f26, arg27.view.read (Elt F) f27, arg28.view.read (Elt F) f28, arg29.view.read (Elt F) f29, arg30.view.read (Elt F) f30, arg31.view.read (Elt F) f31, arg32.view.read (Elt F) f32, arg33.view.read (Elt F) f33, arg34.view.read (Elt F) f34, arg35.view.read (Elt F) f35, arg36.view.read (Elt F) f36, arg37.view.read (Elt F) f37, arg38.view.read (Elt F) f38⟩ : In F) t)); iexact H39)
    isplitl [H40]; · (iapply (owns_store2 c arg40 f40 _ (outPr (⟨arg1.view.read (Elt F) f1, arg2.view.read (Elt F) f2, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14, arg15.view.read (Elt F) f15, arg16.view.read (Elt F) f16, arg17.view.read (Elt F) f17, arg18.view.read (Elt F) f18, arg19.view.read (Elt F) f19, arg20.view.read (Elt F) f20, arg21.view.read (Elt F) f21, arg22.view.read (Elt F) f22, arg23.view.read (Elt F) f23, arg24.view.read (Elt F) f24, arg25.view.read (Elt F) f25, arg26.view.read (Elt F) f26, arg27.view.read (Elt F) f27, arg28.view.read (Elt F) f28, arg29.view.read (Elt F) f29, arg30.view.read (Elt F) f30, arg31.view.read (Elt F) f31, arg32.view.read (Elt F) f32, arg33.view.read (Elt F) f33, arg34.view.read (Elt F) f34, arg35.view.read (Elt F) f35, arg36.view.read (Elt F) f36, arg37.view.read (Elt F) f37, arg38.view.read (Elt F) f38⟩ : In F) t)); iexact H40)
    isplitl [H42]; · (iapply (owns_store2 c arg42 f42 _ (v263 (⟨arg1.view.read (Elt F) f1, arg2.view.read (Elt F) f2, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14, arg15.view.read (Elt F) f15, arg16.view.read (Elt F) f16, arg17.view.read (Elt F) f17, arg18.view.read (Elt F) f18, arg19.view.read (Elt F) f19, arg20.view.read (Elt F) f20, arg21.view.read (Elt F) f21, arg22.view.read (Elt F) f22, arg23.view.read (Elt F) f23, arg24.view.read (Elt F) f24, arg25.view.read (Elt F) f25, arg26.view.read (Elt F) f26, arg27.view.read (Elt F) f27, arg28.view.read (Elt F) f28, arg29.view.read (Elt F) f29, arg30.view.read (Elt F) f30, arg31.view.read (Elt F) f31, arg32.view.read (Elt F) f32, arg33.view.read (Elt F) f33, arg34.view.read (Elt F) f34, arg35.view.read (Elt F) f35, arg36.view.read (Elt F) f36, arg37.view.read (Elt F) f37, arg38.view.read (Elt F) f38⟩ : In F) t)); iexact H42)
    isplitl [H43]; · (iapply (owns_store2 c arg43 f43 _ (v267 (⟨arg1.view.read (Elt F) f1, arg2.view.read (Elt F) f2, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14, arg15.view.read (Elt F) f15, arg16.view.read (Elt F) f16, arg17.view.read (Elt F) f17, arg18.view.read (Elt F) f18, arg19.view.read (Elt F) f19, arg20.view.read (Elt F) f20, arg21.view.read (Elt F) f21, arg22.view.read (Elt F) f22, arg23.view.read (Elt F) f23, arg24.view.read (Elt F) f24, arg25.view.read (Elt F) f25, arg26.view.read (Elt F) f26, arg27.view.read (Elt F) f27, arg28.view.read (Elt F) f28, arg29.view.read (Elt F) f29, arg30.view.read (Elt F) f30, arg31.view.read (Elt F) f31, arg32.view.read (Elt F) f32, arg33.view.read (Elt F) f33, arg34.view.read (Elt F) f34, arg35.view.read (Elt F) f35, arg36.view.read (Elt F) f36, arg37.view.read (Elt F) f37, arg38.view.read (Elt F) f38⟩ : In F) t)); iexact H43)
    isplitl [H44]; · (iapply (owns_store2 c arg44 f44 _ (v271 (⟨arg1.view.read (Elt F) f1, arg2.view.read (Elt F) f2, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14, arg15.view.read (Elt F) f15, arg16.view.read (Elt F) f16, arg17.view.read (Elt F) f17, arg18.view.read (Elt F) f18, arg19.view.read (Elt F) f19, arg20.view.read (Elt F) f20, arg21.view.read (Elt F) f21, arg22.view.read (Elt F) f22, arg23.view.read (Elt F) f23, arg24.view.read (Elt F) f24, arg25.view.read (Elt F) f25, arg26.view.read (Elt F) f26, arg27.view.read (Elt F) f27, arg28.view.read (Elt F) f28, arg29.view.read (Elt F) f29, arg30.view.read (Elt F) f30, arg31.view.read (Elt F) f31, arg32.view.read (Elt F) f32, arg33.view.read (Elt F) f33, arg34.view.read (Elt F) f34, arg35.view.read (Elt F) f35, arg36.view.read (Elt F) f36, arg37.view.read (Elt F) f37, arg38.view.read (Elt F) f38⟩ : In F) t)); iexact H44)
    isplitl [H45]; · (iapply (owns_store2 c arg45 f45 _ (v277 (⟨arg1.view.read (Elt F) f1, arg2.view.read (Elt F) f2, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14, arg15.view.read (Elt F) f15, arg16.view.read (Elt F) f16, arg17.view.read (Elt F) f17, arg18.view.read (Elt F) f18, arg19.view.read (Elt F) f19, arg20.view.read (Elt F) f20, arg21.view.read (Elt F) f21, arg22.view.read (Elt F) f22, arg23.view.read (Elt F) f23, arg24.view.read (Elt F) f24, arg25.view.read (Elt F) f25, arg26.view.read (Elt F) f26, arg27.view.read (Elt F) f27, arg28.view.read (Elt F) f28, arg29.view.read (Elt F) f29, arg30.view.read (Elt F) f30, arg31.view.read (Elt F) f31, arg32.view.read (Elt F) f32, arg33.view.read (Elt F) f33, arg34.view.read (Elt F) f34, arg35.view.read (Elt F) f35, arg36.view.read (Elt F) f36, arg37.view.read (Elt F) f37, arg38.view.read (Elt F) f38⟩ : In F) t)); iexact H45)
    iapply (owns_store2 c arg46 f46 _ (outMd (⟨arg1.view.read (Elt F) f1, arg2.view.read (Elt F) f2, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14, arg15.view.read (Elt F) f15, arg16.view.read (Elt F) f16, arg17.view.read (Elt F) f17, arg18.view.read (Elt F) f18, arg19.view.read (Elt F) f19, arg20.view.read (Elt F) f20, arg21.view.read (Elt F) f21, arg22.view.read (Elt F) f22, arg23.view.read (Elt F) f23, arg24.view.read (Elt F) f24, arg25.view.read (Elt F) f25, arg26.view.read (Elt F) f26, arg27.view.read (Elt F) f27, arg28.view.read (Elt F) f28, arg29.view.read (Elt F) f29, arg30.view.read (Elt F) f30, arg31.view.read (Elt F) f31, arg32.view.read (Elt F) f32, arg33.view.read (Elt F) f33, arg34.view.read (Elt F) f34, arg35.view.read (Elt F) f35, arg36.view.read (Elt F) f36, arg37.view.read (Elt F) f37, arg38.view.read (Elt F) f38⟩ : In F) t)); iexact H46
  isplitl [Hh0]; · (iexact Hh0)
  isplitl [HcI0]; · (iapply (inflI_close c XA 0 (Ring.bk 32 (t.val + 2)) _ _); iexact HcI0)
  isplitl [HcI1]; · (iapply (inflI_close c XA 1 1 _ _); iexact HcI1)
  isplitl [HcO]; · (iapply (inflO_close c XO Y 0 (Ring.bk 32 t.val) (off8_slot (s := 0) hpar) _ g _ (stored_eq (⟨arg1.view.read (Elt F) f1, arg2.view.read (Elt F) f2, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14, arg15.view.read (Elt F) f15, arg16.view.read (Elt F) f16, arg17.view.read (Elt F) f17, arg18.view.read (Elt F) f18, arg19.view.read (Elt F) f19, arg20.view.read (Elt F) f20, arg21.view.read (Elt F) f21, arg22.view.read (Elt F) f22, arg23.view.read (Elt F) f23, arg24.view.read (Elt F) f24, arg25.view.read (Elt F) f25, arg26.view.read (Elt F) f26, arg27.view.read (Elt F) f27, arg28.view.read (Elt F) f28, arg29.view.read (Elt F) f29, arg30.view.read (Elt F) f30, arg31.view.read (Elt F) f31, arg32.view.read (Elt F) f32, arg33.view.read (Elt F) f33, arg34.view.read (Elt F) f34, arg35.view.read (Elt F) f35, arg36.view.read (Elt F) f36, arg37.view.read (Elt F) f37, arg38.view.read (Elt F) f38⟩ : In F) (s := 0) hpar _ (valsAt c XA 0) hY)); iexact HcO)
  isplitl [HW]; · (iexists _; iexact HW)
  isplitl [H1]; · (iexists f1; isplitr <;> [(ipureintro; rfl); iexact H1])
  isplitl [H2]; · (iexists f2; isplitr <;> [(ipureintro; rfl); iexact H2])
  isplitl [H4]; · (iexists f4; isplitr <;> [(ipureintro; rfl); iexact H4])
  isplitl [H5]; · (iexists f5; isplitr <;> [(ipureintro; rfl); iexact H5])
  isplitl [H6]; · (iexists f6; isplitr <;> [(ipureintro; rfl); iexact H6])
  isplitl [H7]; · (iexists f7; isplitr <;> [(ipureintro; rfl); iexact H7])
  isplitl [H8]; · (iexists f8; isplitr <;> [(ipureintro; rfl); iexact H8])
  isplitl [H9]; · (iexists f9; isplitr <;> [(ipureintro; rfl); iexact H9])
  isplitl [H10]; · (iexists f10; isplitr <;> [(ipureintro; rfl); iexact H10])
  isplitl [H11]; · (iexists f11; isplitr <;> [(ipureintro; rfl); iexact H11])
  isplitl [H12]; · (iexists f12; isplitr <;> [(ipureintro; rfl); iexact H12])
  isplitl [H13]; · (iexists f13; isplitr <;> [(ipureintro; rfl); iexact H13])
  isplitl [H14]; · (iexists f14; isplitr <;> [(ipureintro; rfl); iexact H14])
  isplitl [H15]; · (iexists f15; isplitr <;> [(ipureintro; rfl); iexact H15])
  isplitl [H16]; · (iexists f16; isplitr <;> [(ipureintro; rfl); iexact H16])
  isplitl [H17]; · (iexists f17; isplitr <;> [(ipureintro; rfl); iexact H17])
  isplitl [H18]; · (iexists f18; isplitr <;> [(ipureintro; rfl); iexact H18])
  isplitl [H19]; · (iexists f19; isplitr <;> [(ipureintro; rfl); iexact H19])
  isplitl [H20]; · (iexists f20; isplitr <;> [(ipureintro; rfl); iexact H20])
  isplitl [H21]; · (iexists f21; isplitr <;> [(ipureintro; rfl); iexact H21])
  isplitl [H22]; · (iexists f22; isplitr <;> [(ipureintro; rfl); iexact H22])
  isplitl [H23]; · (iexists f23; isplitr <;> [(ipureintro; rfl); iexact H23])
  isplitl [H24]; · (iexists f24; isplitr <;> [(ipureintro; rfl); iexact H24])
  isplitl [H25]; · (iexists f25; isplitr <;> [(ipureintro; rfl); iexact H25])
  isplitl [H26]; · (iexists f26; isplitr <;> [(ipureintro; rfl); iexact H26])
  isplitl [H27]; · (iexists f27; isplitr <;> [(ipureintro; rfl); iexact H27])
  isplitl [H28]; · (iexists f28; isplitr <;> [(ipureintro; rfl); iexact H28])
  isplitl [H29]; · (iexists f29; isplitr <;> [(ipureintro; rfl); iexact H29])
  isplitl [H30]; · (iexists f30; isplitr <;> [(ipureintro; rfl); iexact H30])
  isplitl [H31]; · (iexists f31; isplitr <;> [(ipureintro; rfl); iexact H31])
  isplitl [H32]; · (iexists f32; isplitr <;> [(ipureintro; rfl); iexact H32])
  isplitl [H33]; · (iexists f33; isplitr <;> [(ipureintro; rfl); iexact H33])
  isplitl [H34]; · (iexists f34; isplitr <;> [(ipureintro; rfl); iexact H34])
  isplitl [H35]; · (iexists f35; isplitr <;> [(ipureintro; rfl); iexact H35])
  isplitl [H36]; · (iexists f36; isplitr <;> [(ipureintro; rfl); iexact H36])
  isplitl [H37]; · (iexists f37; isplitr <;> [(ipureintro; rfl); iexact H37])
  iexists f38; isplitr <;> [(ipureintro; rfl); iexact H38]
end Body

end Cert.KernelIdeal.Hand
-- ==== Proof.KernI.RunSecond.lean ====
/-
  The body at a grid point: the second.
-/
module

public import proofs.«01_k».proof.Proof.KernI.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

section Body
variable (c : Dev nD) (XA : Buf (Elt F) (inM.view.loc (c : Thread nD τ))) (XO : Buf (Elt F) (outM.view.loc (c : Thread nD τ)))
  (Y : Fin 32 → S128x32x256.Idx → Elt F .f32) (X : In F) (t : Fin cfg0.N)
  (arg1 : Memref sig .tc .vmem S4096x256 .f32) (harg1 : arg1.IsWhole) (arg2 : Memref sig .tc .vmem S4096x768 .f32) (harg2 : arg2.IsWhole) (arg4 : Memref sig .tc .vmem S4096x32 .f32) (harg4 : arg4.IsWhole) (arg5 : Memref sig .tc .vmem S4096x32 .f32) (harg5 : arg5.IsWhole) (arg6 : Memref sig .tc .vmem S4096x32 .f32) (harg6 : arg6.IsWhole) (arg7 : Memref sig .tc .vmem S4096x32 .f32) (harg7 : arg7.IsWhole) (arg8 : Memref sig .tc .vmem S4096x32 .f32) (harg8 : arg8.IsWhole) (arg9 : Memref sig .tc .vmem S4096x32 .f32) (harg9 : arg9.IsWhole) (arg10 : Memref sig .tc .vmem S4096x32 .f32) (harg10 : arg10.IsWhole) (arg11 : Memref sig .tc .vmem S4096x32 .f32) (harg11 : arg11.IsWhole) (arg12 : Memref sig .tc .vmem S4096x32 .f32) (harg12 : arg12.IsWhole) (arg13 : Memref sig .tc .vmem S4096x32 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x512 .bf16) (harg16 : arg16.IsWhole) (arg17 : Memref sig .tc .vmem S256x512 .bf16) (harg17 : arg17.IsWhole) (arg18 : Memref sig .tc .vmem S1x512 .f32) (harg18 : arg18.IsWhole) (arg19 : Memref sig .tc .vmem S512x256 .bf16) (harg19 : arg19.IsWhole) (arg20 : Memref sig .tc .vmem S1x256 .f32) (harg20 : arg20.IsWhole) (arg21 : Memref sig .tc .vmem S256x384 .bf16) (harg21 : arg21.IsWhole) (arg22 : Memref sig .tc .vmem S256x384 .bf16) (harg22 : arg22.IsWhole) (arg23 : Memref sig .tc .vmem S256x384 .bf16) (harg23 : arg23.IsWhole) (arg24 : Memref sig .tc .vmem S256x384 .bf16) (harg24 : arg24.IsWhole) (arg25 : Memref sig .tc .vmem S256x384 .bf16) (harg25 : arg25.IsWhole) (arg26 : Memref sig .tc .vmem S8x384 .bf16) (harg26 : arg26.IsWhole) (arg27 : Memref sig .tc .vmem S1x384 .f32) (harg27 : arg27.IsWhole) (arg28 : Memref sig .tc .vmem S1x384 .f32) (harg28 : arg28.IsWhole) (arg29 : Memref sig .tc .vmem S1x1 .f32) (harg29 : arg29.IsWhole) (arg30 : Memref sig .tc .vmem S256x384 .bf16) (harg30 : arg30.IsWhole) (arg31 : Memref sig .tc .vmem S256x384 .bf16) (harg31 : arg31.IsWhole) (arg32 : Memref sig .tc .vmem S256x384 .bf16) (harg32 : arg32.IsWhole) (arg33 : Memref sig .tc .vmem S256x384 .bf16) (harg33 : arg33.IsWhole) (arg34 : Memref sig .tc .vmem S256x384 .bf16) (harg34 : arg34.IsWhole) (arg35 : Memref sig .tc .vmem S8x384 .bf16) (harg35 : arg35.IsWhole) (arg36 : Memref sig .tc .vmem S1x384 .f32) (harg36 : arg36.IsWhole) (arg37 : Memref sig .tc .vmem S1x384 .f32) (harg37 : arg37.IsWhole) (arg38 : Memref sig .tc .vmem S1x1 .f32) (harg38 : arg38.IsWhole) (arg39 : Memref sig .tc .vmem S128x256 .f32) (harg39 : arg39.IsWhole) (arg40 : Memref sig .tc .vmem S128x4 .f32) (harg40 : arg40.IsWhole) (arg42 : Memref sig .tc .vmem S128x32 .f32) (harg42 : arg42.IsWhole) (arg43 : Memref sig .tc .vmem S128x32 .f32) (harg43 : arg43.IsWhole) (arg44 : Memref sig .tc .vmem S128x32 .f32) (harg44 : arg44.IsWhole) (arg45 : Memref sig .tc .vmem S128x32 .f32) (harg45 : arg45.IsWhole) (arg46 : Memref sig .tc .vmem S128x192 .f32) (harg46 : arg46.IsWhole)

set_option maxHeartbeats 4000000 in
theorem runSecond (h : t.val = 1) (W : Waits sig Unit) (hY : Y (Ring.bk 32 t.val) = outY X t (valsAt c XA (Ring.bk 32 t.val))) :
    iprop(ownsIn c X arg1 arg2 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 ∗ ownsAny c arg39 arg40 arg42 arg43 arg44 arg45 arg46
      ∗ homeP c XA (Ring.bk 32 (t.val + 2)) ∗ inflI c XA 1 (Ring.bk 32 t.val) ∗ aheadP c XO (Ring.bk 32 t.val) ∗ freeO c 1 ∗ owes (c : Thread nD τ) 0 W)
      ⊢ wp frame (wpE (defs₀ (F := F)) Variants.none (c : Thread nD τ) none) Set.univ (body t arg1 harg1 arg2 harg2 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg42 harg42 arg43 harg43 arg44 harg44 arg45 harg45 arg46 harg46)
        (fun _ => iprop(ownsOut c X t arg39 arg40 arg42 arg43 arg44 arg45 arg46
          ∗ homeP c XA (Ring.bk 32 t.val) ∗ inflI c XA 1 (Ring.bk 32 (t.val + 2)) ∗ inflO c XO Y 1 (Ring.bk 32 t.val) ∗ (∃ W', owes (c : Thread nD τ) 0 W') ∗ ownsIn c X arg1 arg2 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38)) := by
  haveI : Fact (t.val % 2 = 1) := ⟨by omega⟩
  obtain ⟨x1, x2, x4, x5, x6, x7, x8, x9, x10, x11, x12, x13, x14, x15, x16, x17, x18, x19, x20, x21, x22, x23, x24, x25, x26, x27, x28, x29, x30, x31, x32, x33, x34, x35, x36, x37, x38⟩ := X
  have e1 : ¬ condFirst t := fun hc => by have := (condFirst_iff t).mp hc; omega
  have e11 : ¬ condLast t := fun hc => by have := (condLast_iff t).mp hc; omega
  have e2 : ¬ k0_cond2 (grid0.coords t) = 1#1 := fun hc => by have := (cond2_iff t).mp hc; omega
  have e3 : k0_cond3 (grid0.coords t) = 1#1 := (cond3_iff t).mpr (by omega)
  have e4 : ¬ k0_cond4 (grid0.coords t) = 1#1 := fun hc => by have := (cond4_iff t).mp hc; omega
  have e5 : ¬ k0_cond5 (grid0.coords t) = 1#1 := fun hc => by have := (cond5_iff t).mp hc; omega
  have e6 : ¬ k0_cond6 (grid0.coords t) = 1#1 := fun hc => by have := (cond6_iff t).mp hc; omega
  have e7 : k0_cond7 (grid0.coords t) = 1#1 := (cond7_iff t).mpr (by omega)
  have e8 : k0_cond8 (grid0.coords t) = 1#1 := (cond8_iff t).mpr (by omega)
  have e9 : ¬ k0_cond9 (grid0.coords t) = 1#1 := fun hc => by have := (cond9_iff t).mp hc; omega
  have e10 : k0_cond10 (grid0.coords t) = 1#1 := (cond10_iff t).mpr (by omega)
  dsimp only [ownsIn, ownsAny, ownsOut]
  unfold owns
  iintro ⟨⟨⟨%f1, %h1, H1⟩, ⟨%f2, %h2, H2⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩, ⟨%f19, %h19, H19⟩, ⟨%f20, %h20, H20⟩, ⟨%f21, %h21, H21⟩, ⟨%f22, %h22, H22⟩, ⟨%f23, %h23, H23⟩, ⟨%f24, %h24, H24⟩, ⟨%f25, %h25, H25⟩, ⟨%f26, %h26, H26⟩, ⟨%f27, %h27, H27⟩, ⟨%f28, %h28, H28⟩, ⟨%f29, %h29, H29⟩, ⟨%f30, %h30, H30⟩, ⟨%f31, %h31, H31⟩, ⟨%f32, %h32, H32⟩, ⟨%f33, %h33, H33⟩, ⟨%f34, %h34, H34⟩, ⟨%f35, %h35, H35⟩, ⟨%f36, %h36, H36⟩, ⟨%f37, %h37, H37⟩, ⟨%f38, %h38, H38⟩⟩, ⟨⟨%z39, %f39, %h39, H39⟩, ⟨%z40, %f40, %h40, H40⟩, ⟨%z42, %f42, %h42, H42⟩, ⟨%z43, %f43, %h43, H43⟩, ⟨%z44, %f44, %h44, H44⟩, ⟨%z45, %f45, %h45, H45⟩, ⟨%z46, %f46, %h46, H46⟩⟩, Hhome, ⟨%f, HFI⟩, Hah, ⟨⟨%g, HO⟩, HcO⟩, HW⟩
  subst h1 h2 h4 h5 h6 h7 h8 h9 h10 h11 h12 h13 h14 h15 h16 h17 h18 h19 h20 h21 h22 h23 h24 h25 h26 h27 h28 h29 h30 h31 h32 h33 h34 h35 h36 h37 h38
  dsimp only [body]
  rw [cc0__fused_eq_skeleton]
  sl_unfold [cc0__fused_skel]
  sl_open_parts
  sl_exec
  sl_step
  have hpar : t.val % 2 = ((1 : Fin 2)).val := by show t.val % 2 = 1; omega
  isplitl [H39 H40 H42 H43 H44 H45 H46]
  · isplitl [H39]; · (iapply (owns_store2 c arg39 f39 _ (v52 (⟨arg1.view.read (Elt F) f1, arg2.view.read (Elt F) f2, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14, arg15.view.read (Elt F) f15, arg16.view.read (Elt F) f16, arg17.view.read (Elt F) f17, arg18.view.read (Elt F) f18, arg19.view.read (Elt F) f19, arg20.view.read (Elt F) f20, arg21.view.read (Elt F) f21, arg22.view.read (Elt F) f22, arg23.view.read (Elt F) f23, arg24.view.read (Elt F) f24, arg25.view.read (Elt F) f25, arg26.view.read (Elt F) f26, arg27.view.read (Elt F) f27, arg28.view.read (Elt F) f28, arg29.view.read (Elt F) f29, arg30.view.read (Elt F) f30, arg31.view.read (Elt F) f31, arg32.view.read (Elt F) f32, arg33.view.read (Elt F) f33, arg34.view.read (Elt F) f34, arg35.view.read (Elt F) f35, arg36.view.read (Elt F) f36, arg37.view.read (Elt F) f37, arg38.view.read (Elt F) f38⟩ : In F) t)); iexact H39)
    isplitl [H40]; · (iapply (owns_store2 c arg40 f40 _ (outPr (⟨arg1.view.read (Elt F) f1, arg2.view.read (Elt F) f2, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14, arg15.view.read (Elt F) f15, arg16.view.read (Elt F) f16, arg17.view.read (Elt F) f17, arg18.view.read (Elt F) f18, arg19.view.read (Elt F) f19, arg20.view.read (Elt F) f20, arg21.view.read (Elt F) f21, arg22.view.read (Elt F) f22, arg23.view.read (Elt F) f23, arg24.view.read (Elt F) f24, arg25.view.read (Elt F) f25, arg26.view.read (Elt F) f26, arg27.view.read (Elt F) f27, arg28.view.read (Elt F) f28, arg29.view.read (Elt F) f29, arg30.view.read (Elt F) f30, arg31.view.read (Elt F) f31, arg32.view.read (Elt F) f32, arg33.view.read (Elt F) f33, arg34.view.read (Elt F) f34, arg35.view.read (Elt F) f35, arg36.view.read (Elt F) f36, arg37.view.read (Elt F) f37, arg38.view.read (Elt F) f38⟩ : In F) t)); iexact H40)
    isplitl [H42]; · (iapply (owns_store2 c arg42 f42 _ (v263 (⟨arg1.view.read (Elt F) f1, arg2.view.read (Elt F) f2, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14, arg15.view.read (Elt F) f15, arg16.view.read (Elt F) f16, arg17.view.read (Elt F) f17, arg18.view.read (Elt F) f18, arg19.view.read (Elt F) f19, arg20.view.read (Elt F) f20, arg21.view.read (Elt F) f21, arg22.view.read (Elt F) f22, arg23.view.read (Elt F) f23, arg24.view.read (Elt F) f24, arg25.view.read (Elt F) f25, arg26.view.read (Elt F) f26, arg27.view.read (Elt F) f27, arg28.view.read (Elt F) f28, arg29.view.read (Elt F) f29, arg30.view.read (Elt F) f30, arg31.view.read (Elt F) f31, arg32.view.read (Elt F) f32, arg33.view.read (Elt F) f33, arg34.view.read (Elt F) f34, arg35.view.read (Elt F) f35, arg36.view.read (Elt F) f36, arg37.view.read (Elt F) f37, arg38.view.read (Elt F) f38⟩ : In F) t)); iexact H42)
    isplitl [H43]; · (iapply (owns_store2 c arg43 f43 _ (v267 (⟨arg1.view.read (Elt F) f1, arg2.view.read (Elt F) f2, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14, arg15.view.read (Elt F) f15, arg16.view.read (Elt F) f16, arg17.view.read (Elt F) f17, arg18.view.read (Elt F) f18, arg19.view.read (Elt F) f19, arg20.view.read (Elt F) f20, arg21.view.read (Elt F) f21, arg22.view.read (Elt F) f22, arg23.view.read (Elt F) f23, arg24.view.read (Elt F) f24, arg25.view.read (Elt F) f25, arg26.view.read (Elt F) f26, arg27.view.read (Elt F) f27, arg28.view.read (Elt F) f28, arg29.view.read (Elt F) f29, arg30.view.read (Elt F) f30, arg31.view.read (Elt F) f31, arg32.view.read (Elt F) f32, arg33.view.read (Elt F) f33, arg34.view.read (Elt F) f34, arg35.view.read (Elt F) f35, arg36.view.read (Elt F) f36, arg37.view.read (Elt F) f37, arg38.view.read (Elt F) f38⟩ : In F) t)); iexact H43)
    isplitl [H44]; · (iapply (owns_store2 c arg44 f44 _ (v271 (⟨arg1.view.read (Elt F) f1, arg2.view.read (Elt F) f2, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14, arg15.view.read (Elt F) f15, arg16.view.read (Elt F) f16, arg17.view.read (Elt F) f17, arg18.view.read (Elt F) f18, arg19.view.read (Elt F) f19, arg20.view.read (Elt F) f20, arg21.view.read (Elt F) f21, arg22.view.read (Elt F) f22, arg23.view.read (Elt F) f23, arg24.view.read (Elt F) f24, arg25.view.read (Elt F) f25, arg26.view.read (Elt F) f26, arg27.view.read (Elt F) f27, arg28.view.read (Elt F) f28, arg29.view.read (Elt F) f29, arg30.view.read (Elt F) f30, arg31.view.read (Elt F) f31, arg32.view.read (Elt F) f32, arg33.view.read (Elt F) f33, arg34.view.read (Elt F) f34, arg35.view.read (Elt F) f35, arg36.view.read (Elt F) f36, arg37.view.read (Elt F) f37, arg38.view.read (Elt F) f38⟩ : In F) t)); iexact H44)
    isplitl [H45]; · (iapply (owns_store2 c arg45 f45 _ (v277 (⟨arg1.view.read (Elt F) f1, arg2.view.read (Elt F) f2, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14, arg15.view.read (Elt F) f15, arg16.view.read (Elt F) f16, arg17.view.read (Elt F) f17, arg18.view.read (Elt F) f18, arg19.view.read (Elt F) f19, arg20.view.read (Elt F) f20, arg21.view.read (Elt F) f21, arg22.view.read (Elt F) f22, arg23.view.read (Elt F) f23, arg24.view.read (Elt F) f24, arg25.view.read (Elt F) f25, arg26.view.read (Elt F) f26, arg27.view.read (Elt F) f27, arg28.view.read (Elt F) f28, arg29.view.read (Elt F) f29, arg30.view.read (Elt F) f30, arg31.view.read (Elt F) f31, arg32.view.read (Elt F) f32, arg33.view.read (Elt F) f33, arg34.view.read (Elt F) f34, arg35.view.read (Elt F) f35, arg36.view.read (Elt F) f36, arg37.view.read (Elt F) f37, arg38.view.read (Elt F) f38⟩ : In F) t)); iexact H45)
    iapply (owns_store2 c arg46 f46 _ (outMd (⟨arg1.view.read (Elt F) f1, arg2.view.read (Elt F) f2, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14, arg15.view.read (Elt F) f15, arg16.view.read (Elt F) f16, arg17.view.read (Elt F) f17, arg18.view.read (Elt F) f18, arg19.view.read (Elt F) f19, arg20.view.read (Elt F) f20, arg21.view.read (Elt F) f21, arg22.view.read (Elt F) f22, arg23.view.read (Elt F) f23, arg24.view.read (Elt F) f24, arg25.view.read (Elt F) f25, arg26.view.read (Elt F) f26, arg27.view.read (Elt F) f27, arg28.view.read (Elt F) f28, arg29.view.read (Elt F) f29, arg30.view.read (Elt F) f30, arg31.view.read (Elt F) f31, arg32.view.read (Elt F) f32, arg33.view.read (Elt F) f33, arg34.view.read (Elt F) f34, arg35.view.read (Elt F) f35, arg36.view.read (Elt F) f36, arg37.view.read (Elt F) f37, arg38.view.read (Elt F) f38⟩ : In F) t)); iexact H46
  isplitl [HFI_src]; · (iexact HFI_src)
  isplitl [HFI]; · (iapply (inflI_close c XA 1 (Ring.bk 32 (t.val + 2)) _ _); iexact HFI)
  isplitl [HcO]; · (iapply (inflO_close c XO Y 1 (Ring.bk 32 t.val) (off8_slot (s := 1) hpar) _ g _ (stored_eq (⟨arg1.view.read (Elt F) f1, arg2.view.read (Elt F) f2, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14, arg15.view.read (Elt F) f15, arg16.view.read (Elt F) f16, arg17.view.read (Elt F) f17, arg18.view.read (Elt F) f18, arg19.view.read (Elt F) f19, arg20.view.read (Elt F) f20, arg21.view.read (Elt F) f21, arg22.view.read (Elt F) f22, arg23.view.read (Elt F) f23, arg24.view.read (Elt F) f24, arg25.view.read (Elt F) f25, arg26.view.read (Elt F) f26, arg27.view.read (Elt F) f27, arg28.view.read (Elt F) f28, arg29.view.read (Elt F) f29, arg30.view.read (Elt F) f30, arg31.view.read (Elt F) f31, arg32.view.read (Elt F) f32, arg33.view.read (Elt F) f33, arg34.view.read (Elt F) f34, arg35.view.read (Elt F) f35, arg36.view.read (Elt F) f36, arg37.view.read (Elt F) f37, arg38.view.read (Elt F) f38⟩ : In F) (s := 1) hpar _ (valsAt c XA (Ring.bk 32 t.val)) hY)); iexact HcO)
  isplitl [HW]; · (iexists _; iexact HW)
  isplitl [H1]; · (iexists f1; isplitr <;> [(ipureintro; rfl); iexact H1])
  isplitl [H2]; · (iexists f2; isplitr <;> [(ipureintro; rfl); iexact H2])
  isplitl [H4]; · (iexists f4; isplitr <;> [(ipureintro; rfl); iexact H4])
  isplitl [H5]; · (iexists f5; isplitr <;> [(ipureintro; rfl); iexact H5])
  isplitl [H6]; · (iexists f6; isplitr <;> [(ipureintro; rfl); iexact H6])
  isplitl [H7]; · (iexists f7; isplitr <;> [(ipureintro; rfl); iexact H7])
  isplitl [H8]; · (iexists f8; isplitr <;> [(ipureintro; rfl); iexact H8])
  isplitl [H9]; · (iexists f9; isplitr <;> [(ipureintro; rfl); iexact H9])
  isplitl [H10]; · (iexists f10; isplitr <;> [(ipureintro; rfl); iexact H10])
  isplitl [H11]; · (iexists f11; isplitr <;> [(ipureintro; rfl); iexact H11])
  isplitl [H12]; · (iexists f12; isplitr <;> [(ipureintro; rfl); iexact H12])
  isplitl [H13]; · (iexists f13; isplitr <;> [(ipureintro; rfl); iexact H13])
  isplitl [H14]; · (iexists f14; isplitr <;> [(ipureintro; rfl); iexact H14])
  isplitl [H15]; · (iexists f15; isplitr <;> [(ipureintro; rfl); iexact H15])
  isplitl [H16]; · (iexists f16; isplitr <;> [(ipureintro; rfl); iexact H16])
  isplitl [H17]; · (iexists f17; isplitr <;> [(ipureintro; rfl); iexact H17])
  isplitl [H18]; · (iexists f18; isplitr <;> [(ipureintro; rfl); iexact H18])
  isplitl [H19]; · (iexists f19; isplitr <;> [(ipureintro; rfl); iexact H19])
  isplitl [H20]; · (iexists f20; isplitr <;> [(ipureintro; rfl); iexact H20])
  isplitl [H21]; · (iexists f21; isplitr <;> [(ipureintro; rfl); iexact H21])
  isplitl [H22]; · (iexists f22; isplitr <;> [(ipureintro; rfl); iexact H22])
  isplitl [H23]; · (iexists f23; isplitr <;> [(ipureintro; rfl); iexact H23])
  isplitl [H24]; · (iexists f24; isplitr <;> [(ipureintro; rfl); iexact H24])
  isplitl [H25]; · (iexists f25; isplitr <;> [(ipureintro; rfl); iexact H25])
  isplitl [H26]; · (iexists f26; isplitr <;> [(ipureintro; rfl); iexact H26])
  isplitl [H27]; · (iexists f27; isplitr <;> [(ipureintro; rfl); iexact H27])
  isplitl [H28]; · (iexists f28; isplitr <;> [(ipureintro; rfl); iexact H28])
  isplitl [H29]; · (iexists f29; isplitr <;> [(ipureintro; rfl); iexact H29])
  isplitl [H30]; · (iexists f30; isplitr <;> [(ipureintro; rfl); iexact H30])
  isplitl [H31]; · (iexists f31; isplitr <;> [(ipureintro; rfl); iexact H31])
  isplitl [H32]; · (iexists f32; isplitr <;> [(ipureintro; rfl); iexact H32])
  isplitl [H33]; · (iexists f33; isplitr <;> [(ipureintro; rfl); iexact H33])
  isplitl [H34]; · (iexists f34; isplitr <;> [(ipureintro; rfl); iexact H34])
  isplitl [H35]; · (iexists f35; isplitr <;> [(ipureintro; rfl); iexact H35])
  isplitl [H36]; · (iexists f36; isplitr <;> [(ipureintro; rfl); iexact H36])
  isplitl [H37]; · (iexists f37; isplitr <;> [(ipureintro; rfl); iexact H37])
  iexists f38; isplitr <;> [(ipureintro; rfl); iexact H38]
end Body

end Cert.KernelIdeal.Hand
-- ==== Proof.KernI.RunEven.lean ====
/-
  The body at a grid point: an even one in the middle.
-/
module

public import proofs.«01_k».proof.Proof.KernI.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

section Body
variable (c : Dev nD) (XA : Buf (Elt F) (inM.view.loc (c : Thread nD τ))) (XO : Buf (Elt F) (outM.view.loc (c : Thread nD τ)))
  (Y : Fin 32 → S128x32x256.Idx → Elt F .f32) (X : In F) (t : Fin cfg0.N)
  (arg1 : Memref sig .tc .vmem S4096x256 .f32) (harg1 : arg1.IsWhole) (arg2 : Memref sig .tc .vmem S4096x768 .f32) (harg2 : arg2.IsWhole) (arg4 : Memref sig .tc .vmem S4096x32 .f32) (harg4 : arg4.IsWhole) (arg5 : Memref sig .tc .vmem S4096x32 .f32) (harg5 : arg5.IsWhole) (arg6 : Memref sig .tc .vmem S4096x32 .f32) (harg6 : arg6.IsWhole) (arg7 : Memref sig .tc .vmem S4096x32 .f32) (harg7 : arg7.IsWhole) (arg8 : Memref sig .tc .vmem S4096x32 .f32) (harg8 : arg8.IsWhole) (arg9 : Memref sig .tc .vmem S4096x32 .f32) (harg9 : arg9.IsWhole) (arg10 : Memref sig .tc .vmem S4096x32 .f32) (harg10 : arg10.IsWhole) (arg11 : Memref sig .tc .vmem S4096x32 .f32) (harg11 : arg11.IsWhole) (arg12 : Memref sig .tc .vmem S4096x32 .f32) (harg12 : arg12.IsWhole) (arg13 : Memref sig .tc .vmem S4096x32 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x512 .bf16) (harg16 : arg16.IsWhole) (arg17 : Memref sig .tc .vmem S256x512 .bf16) (harg17 : arg17.IsWhole) (arg18 : Memref sig .tc .vmem S1x512 .f32) (harg18 : arg18.IsWhole) (arg19 : Memref sig .tc .vmem S512x256 .bf16) (harg19 : arg19.IsWhole) (arg20 : Memref sig .tc .vmem S1x256 .f32) (harg20 : arg20.IsWhole) (arg21 : Memref sig .tc .vmem S256x384 .bf16) (harg21 : arg21.IsWhole) (arg22 : Memref sig .tc .vmem S256x384 .bf16) (harg22 : arg22.IsWhole) (arg23 : Memref sig .tc .vmem S256x384 .bf16) (harg23 : arg23.IsWhole) (arg24 : Memref sig .tc .vmem S256x384 .bf16) (harg24 : arg24.IsWhole) (arg25 : Memref sig .tc .vmem S256x384 .bf16) (harg25 : arg25.IsWhole) (arg26 : Memref sig .tc .vmem S8x384 .bf16) (harg26 : arg26.IsWhole) (arg27 : Memref sig .tc .vmem S1x384 .f32) (harg27 : arg27.IsWhole) (arg28 : Memref sig .tc .vmem S1x384 .f32) (harg28 : arg28.IsWhole) (arg29 : Memref sig .tc .vmem S1x1 .f32) (harg29 : arg29.IsWhole) (arg30 : Memref sig .tc .vmem S256x384 .bf16) (harg30 : arg30.IsWhole) (arg31 : Memref sig .tc .vmem S256x384 .bf16) (harg31 : arg31.IsWhole) (arg32 : Memref sig .tc .vmem S256x384 .bf16) (harg32 : arg32.IsWhole) (arg33 : Memref sig .tc .vmem S256x384 .bf16) (harg33 : arg33.IsWhole) (arg34 : Memref sig .tc .vmem S256x384 .bf16) (harg34 : arg34.IsWhole) (arg35 : Memref sig .tc .vmem S8x384 .bf16) (harg35 : arg35.IsWhole) (arg36 : Memref sig .tc .vmem S1x384 .f32) (harg36 : arg36.IsWhole) (arg37 : Memref sig .tc .vmem S1x384 .f32) (harg37 : arg37.IsWhole) (arg38 : Memref sig .tc .vmem S1x1 .f32) (harg38 : arg38.IsWhole) (arg39 : Memref sig .tc .vmem S128x256 .f32) (harg39 : arg39.IsWhole) (arg40 : Memref sig .tc .vmem S128x4 .f32) (harg40 : arg40.IsWhole) (arg42 : Memref sig .tc .vmem S128x32 .f32) (harg42 : arg42.IsWhole) (arg43 : Memref sig .tc .vmem S128x32 .f32) (harg43 : arg43.IsWhole) (arg44 : Memref sig .tc .vmem S128x32 .f32) (harg44 : arg44.IsWhole) (arg45 : Memref sig .tc .vmem S128x32 .f32) (harg45 : arg45.IsWhole) (arg46 : Memref sig .tc .vmem S128x192 .f32) (harg46 : arg46.IsWhole)

set_option maxHeartbeats 4000000 in
theorem runEven (h0 : t.val % 2 = 0) (h2 : 2 ≤ t.val) (h30 : t.val + 2 < 32) (W : Waits sig Unit) (hY : Y (Ring.bk 32 t.val) = outY X t (valsAt c XA (Ring.bk 32 t.val))) :
    iprop(ownsIn c X arg1 arg2 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 ∗ ownsAny c arg39 arg40 arg42 arg43 arg44 arg45 arg46
      ∗ homeP c XA (Ring.bk 32 (t.val + 2)) ∗ inflI c XA 0 (Ring.bk 32 t.val) ∗ aheadP c XO (Ring.bk 32 t.val) ∗ inflO c XO Y 0 (Ring.bk 32 (t.val - 2)) ∗ owes (c : Thread nD τ) 0 W)
      ⊢ wp frame (wpE (defs₀ (F := F)) Variants.none (c : Thread nD τ) none) Set.univ (body t arg1 harg1 arg2 harg2 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg42 harg42 arg43 harg43 arg44 harg44 arg45 harg45 arg46 harg46)
        (fun _ => iprop(ownsOut c X t arg39 arg40 arg42 arg43 arg44 arg45 arg46
          ∗ homeP c XA (Ring.bk 32 t.val) ∗ inflI c XA 0 (Ring.bk 32 (t.val + 2)) ∗ doneP c XO (Ring.bk 32 (t.val - 2)) (Y (Ring.bk 32 (t.val - 2))) ∗ inflO c XO Y 0 (Ring.bk 32 t.val) ∗ (∃ W', owes (c : Thread nD τ) 0 W') ∗ ownsIn c X arg1 arg2 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38)) := by
  haveI : Fact (t.val % 2 = 0) := ⟨by omega⟩
  obtain ⟨x1, x2, x4, x5, x6, x7, x8, x9, x10, x11, x12, x13, x14, x15, x16, x17, x18, x19, x20, x21, x22, x23, x24, x25, x26, x27, x28, x29, x30, x31, x32, x33, x34, x35, x36, x37, x38⟩ := X
  have e1 : ¬ condFirst t := fun hc => by have := (condFirst_iff t).mp hc; omega
  have e11 : ¬ condLast t := fun hc => by have := (condLast_iff t).mp hc; omega
  have e2 : k0_cond2 (grid0.coords t) = 1#1 := (cond2_iff t).mpr (by omega)
  have e3 : ¬ k0_cond3 (grid0.coords t) = 1#1 := fun hc => by have := (cond3_iff t).mp hc; omega
  have e4 : k0_cond4 (grid0.coords t) = 1#1 := (cond4_iff t).mpr (by omega)
  have e5 : ¬ k0_cond5 (grid0.coords t) = 1#1 := fun hc => by have := (cond5_iff t).mp hc; omega
  have e6 : k0_cond6 (grid0.coords t) = 1#1 := (cond6_iff t).mpr (by omega)
  have e7 : ¬ k0_cond7 (grid0.coords t) = 1#1 := fun hc => by have := (cond7_iff t).mp hc; omega
  have e8 : k0_cond8 (grid0.coords t) = 1#1 := (cond8_iff t).mpr (by omega)
  have e9 : k0_cond9 (grid0.coords t) = 1#1 := (cond9_iff t).mpr (by omega)
  have e10 : ¬ k0_cond10 (grid0.coords t) = 1#1 := fun hc => by have := (cond10_iff t).mp hc; omega
  dsimp only [ownsIn, ownsAny, ownsOut]
  unfold owns
  iintro ⟨⟨⟨%f1, %h1, H1⟩, ⟨%f2, %h2, H2⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩, ⟨%f19, %h19, H19⟩, ⟨%f20, %h20, H20⟩, ⟨%f21, %h21, H21⟩, ⟨%f22, %h22, H22⟩, ⟨%f23, %h23, H23⟩, ⟨%f24, %h24, H24⟩, ⟨%f25, %h25, H25⟩, ⟨%f26, %h26, H26⟩, ⟨%f27, %h27, H27⟩, ⟨%f28, %h28, H28⟩, ⟨%f29, %h29, H29⟩, ⟨%f30, %h30, H30⟩, ⟨%f31, %h31, H31⟩, ⟨%f32, %h32, H32⟩, ⟨%f33, %h33, H33⟩, ⟨%f34, %h34, H34⟩, ⟨%f35, %h35, H35⟩, ⟨%f36, %h36, H36⟩, ⟨%f37, %h37, H37⟩, ⟨%f38, %h38, H38⟩⟩, ⟨⟨%z39, %f39, %h39, H39⟩, ⟨%z40, %f40, %h40, H40⟩, ⟨%z42, %f42, %h42, H42⟩, ⟨%z43, %f43, %h43, H43⟩, ⟨%z44, %f44, %h44, H44⟩, ⟨%z45, %f45, %h45, H45⟩, ⟨%z46, %f46, %h46, H46⟩⟩, Hhome, ⟨%f, HFI⟩, Hah, ⟨%g, %hg, HFO⟩, HW⟩
  subst h1 h2 h4 h5 h6 h7 h8 h9 h10 h11 h12 h13 h14 h15 h16 h17 h18 h19 h20 h21 h22 h23 h24 h25 h26 h27 h28 h29 h30 h31 h32 h33 h34 h35 h36 h37 h38
  dsimp only [body]
  rw [cc0__fused_eq_skeleton]
  sl_unfold [cc0__fused_skel]
  sl_open_parts
  sl_exec
  sl_step
  have hpar : t.val % 2 = ((0 : Fin 2)).val := by show t.val % 2 = 0; omega
  isplitl [H39 H40 H42 H43 H44 H45 H46]
  · isplitl [H39]; · (iapply (owns_store2 c arg39 f39 _ (v52 (⟨arg1.view.read (Elt F) f1, arg2.view.read (Elt F) f2, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14, arg15.view.read (Elt F) f15, arg16.view.read (Elt F) f16, arg17.view.read (Elt F) f17, arg18.view.read (Elt F) f18, arg19.view.read (Elt F) f19, arg20.view.read (Elt F) f20, arg21.view.read (Elt F) f21, arg22.view.read (Elt F) f22, arg23.view.read (Elt F) f23, arg24.view.read (Elt F) f24, arg25.view.read (Elt F) f25, arg26.view.read (Elt F) f26, arg27.view.read (Elt F) f27, arg28.view.read (Elt F) f28, arg29.view.read (Elt F) f29, arg30.view.read (Elt F) f30, arg31.view.read (Elt F) f31, arg32.view.read (Elt F) f32, arg33.view.read (Elt F) f33, arg34.view.read (Elt F) f34, arg35.view.read (Elt F) f35, arg36.view.read (Elt F) f36, arg37.view.read (Elt F) f37, arg38.view.read (Elt F) f38⟩ : In F) t)); iexact H39)
    isplitl [H40]; · (iapply (owns_store2 c arg40 f40 _ (outPr (⟨arg1.view.read (Elt F) f1, arg2.view.read (Elt F) f2, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14, arg15.view.read (Elt F) f15, arg16.view.read (Elt F) f16, arg17.view.read (Elt F) f17, arg18.view.read (Elt F) f18, arg19.view.read (Elt F) f19, arg20.view.read (Elt F) f20, arg21.view.read (Elt F) f21, arg22.view.read (Elt F) f22, arg23.view.read (Elt F) f23, arg24.view.read (Elt F) f24, arg25.view.read (Elt F) f25, arg26.view.read (Elt F) f26, arg27.view.read (Elt F) f27, arg28.view.read (Elt F) f28, arg29.view.read (Elt F) f29, arg30.view.read (Elt F) f30, arg31.view.read (Elt F) f31, arg32.view.read (Elt F) f32, arg33.view.read (Elt F) f33, arg34.view.read (Elt F) f34, arg35.view.read (Elt F) f35, arg36.view.read (Elt F) f36, arg37.view.read (Elt F) f37, arg38.view.read (Elt F) f38⟩ : In F) t)); iexact H40)
    isplitl [H42]; · (iapply (owns_store2 c arg42 f42 _ (v263 (⟨arg1.view.read (Elt F) f1, arg2.view.read (Elt F) f2, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14, arg15.view.read (Elt F) f15, arg16.view.read (Elt F) f16, arg17.view.read (Elt F) f17, arg18.view.read (Elt F) f18, arg19.view.read (Elt F) f19, arg20.view.read (Elt F) f20, arg21.view.read (Elt F) f21, arg22.view.read (Elt F) f22, arg23.view.read (Elt F) f23, arg24.view.read (Elt F) f24, arg25.view.read (Elt F) f25, arg26.view.read (Elt F) f26, arg27.view.read (Elt F) f27, arg28.view.read (Elt F) f28, arg29.view.read (Elt F) f29, arg30.view.read (Elt F) f30, arg31.view.read (Elt F) f31, arg32.view.read (Elt F) f32, arg33.view.read (Elt F) f33, arg34.view.read (Elt F) f34, arg35.view.read (Elt F) f35, arg36.view.read (Elt F) f36, arg37.view.read (Elt F) f37, arg38.view.read (Elt F) f38⟩ : In F) t)); iexact H42)
    isplitl [H43]; · (iapply (owns_store2 c arg43 f43 _ (v267 (⟨arg1.view.read (Elt F) f1, arg2.view.read (Elt F) f2, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14, arg15.view.read (Elt F) f15, arg16.view.read (Elt F) f16, arg17.view.read (Elt F) f17, arg18.view.read (Elt F) f18, arg19.view.read (Elt F) f19, arg20.view.read (Elt F) f20, arg21.view.read (Elt F) f21, arg22.view.read (Elt F) f22, arg23.view.read (Elt F) f23, arg24.view.read (Elt F) f24, arg25.view.read (Elt F) f25, arg26.view.read (Elt F) f26, arg27.view.read (Elt F) f27, arg28.view.read (Elt F) f28, arg29.view.read (Elt F) f29, arg30.view.read (Elt F) f30, arg31.view.read (Elt F) f31, arg32.view.read (Elt F) f32, arg33.view.read (Elt F) f33, arg34.view.read (Elt F) f34, arg35.view.read (Elt F) f35, arg36.view.read (Elt F) f36, arg37.view.read (Elt F) f37, arg38.view.read (Elt F) f38⟩ : In F) t)); iexact H43)
    isplitl [H44]; · (iapply (owns_store2 c arg44 f44 _ (v271 (⟨arg1.view.read (Elt F) f1, arg2.view.read (Elt F) f2, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14, arg15.view.read (Elt F) f15, arg16.view.read (Elt F) f16, arg17.view.read (Elt F) f17, arg18.view.read (Elt F) f18, arg19.view.read (Elt F) f19, arg20.view.read (Elt F) f20, arg21.view.read (Elt F) f21, arg22.view.read (Elt F) f22, arg23.view.read (Elt F) f23, arg24.view.read (Elt F) f24, arg25.view.read (Elt F) f25, arg26.view.read (Elt F) f26, arg27.view.read (Elt F) f27, arg28.view.read (Elt F) f28, arg29.view.read (Elt F) f29, arg30.view.read (Elt F) f30, arg31.view.read (Elt F) f31, arg32.view.read (Elt F) f32, arg33.view.read (Elt F) f33, arg34.view.read (Elt F) f34, arg35.view.read (Elt F) f35, arg36.view.read (Elt F) f36, arg37.view.read (Elt F) f37, arg38.view.read (Elt F) f38⟩ : In F) t)); iexact H44)
    isplitl [H45]; · (iapply (owns_store2 c arg45 f45 _ (v277 (⟨arg1.view.read (Elt F) f1, arg2.view.read (Elt F) f2, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14, arg15.view.read (Elt F) f15, arg16.view.read (Elt F) f16, arg17.view.read (Elt F) f17, arg18.view.read (Elt F) f18, arg19.view.read (Elt F) f19, arg20.view.read (Elt F) f20, arg21.view.read (Elt F) f21, arg22.view.read (Elt F) f22, arg23.view.read (Elt F) f23, arg24.view.read (Elt F) f24, arg25.view.read (Elt F) f25, arg26.view.read (Elt F) f26, arg27.view.read (Elt F) f27, arg28.view.read (Elt F) f28, arg29.view.read (Elt F) f29, arg30.view.read (Elt F) f30, arg31.view.read (Elt F) f31, arg32.view.read (Elt F) f32, arg33.view.read (Elt F) f33, arg34.view.read (Elt F) f34, arg35.view.read (Elt F) f35, arg36.view.read (Elt F) f36, arg37.view.read (Elt F) f37, arg38.view.read (Elt F) f38⟩ : In F) t)); iexact H45)
    iapply (owns_store2 c arg46 f46 _ (outMd (⟨arg1.view.read (Elt F) f1, arg2.view.read (Elt F) f2, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14, arg15.view.read (Elt F) f15, arg16.view.read (Elt F) f16, arg17.view.read (Elt F) f17, arg18.view.read (Elt F) f18, arg19.view.read (Elt F) f19, arg20.view.read (Elt F) f20, arg21.view.read (Elt F) f21, arg22.view.read (Elt F) f22, arg23.view.read (Elt F) f23, arg24.view.read (Elt F) f24, arg25.view.read (Elt F) f25, arg26.view.read (Elt F) f26, arg27.view.read (Elt F) f27, arg28.view.read (Elt F) f28, arg29.view.read (Elt F) f29, arg30.view.read (Elt F) f30, arg31.view.read (Elt F) f31, arg32.view.read (Elt F) f32, arg33.view.read (Elt F) f33, arg34.view.read (Elt F) f34, arg35.view.read (Elt F) f35, arg36.view.read (Elt F) f36, arg37.view.read (Elt F) f37, arg38.view.read (Elt F) f38⟩ : In F) t)); iexact H46
  isplitl [HFI_src]; · (iexact HFI_src)
  isplitl [HFI]; · (iapply (inflI_close c XA 0 (Ring.bk 32 (t.val + 2)) _ _); iexact HFI)
  isplitl [HFO_dst]; · (rw [← hg]; iexact HFO_dst)
  isplitl [HFO]; · (iapply (inflO_close c XO Y 0 (Ring.bk 32 t.val) (off8_slot (s := 0) hpar) _ g _ (stored_eq (⟨arg1.view.read (Elt F) f1, arg2.view.read (Elt F) f2, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14, arg15.view.read (Elt F) f15, arg16.view.read (Elt F) f16, arg17.view.read (Elt F) f17, arg18.view.read (Elt F) f18, arg19.view.read (Elt F) f19, arg20.view.read (Elt F) f20, arg21.view.read (Elt F) f21, arg22.view.read (Elt F) f22, arg23.view.read (Elt F) f23, arg24.view.read (Elt F) f24, arg25.view.read (Elt F) f25, arg26.view.read (Elt F) f26, arg27.view.read (Elt F) f27, arg28.view.read (Elt F) f28, arg29.view.read (Elt F) f29, arg30.view.read (Elt F) f30, arg31.view.read (Elt F) f31, arg32.view.read (Elt F) f32, arg33.view.read (Elt F) f33, arg34.view.read (Elt F) f34, arg35.view.read (Elt F) f35, arg36.view.read (Elt F) f36, arg37.view.read (Elt F) f37, arg38.view.read (Elt F) f38⟩ : In F) (s := 0) hpar _ (valsAt c XA (Ring.bk 32 t.val)) hY)); iexact HFO)
  isplitl [HW]; · (iexists _; iexact HW)
  isplitl [H1]; · (iexists f1; isplitr <;> [(ipureintro; rfl); iexact H1])
  isplitl [H2]; · (iexists f2; isplitr <;> [(ipureintro; rfl); iexact H2])
  isplitl [H4]; · (iexists f4; isplitr <;> [(ipureintro; rfl); iexact H4])
  isplitl [H5]; · (iexists f5; isplitr <;> [(ipureintro; rfl); iexact H5])
  isplitl [H6]; · (iexists f6; isplitr <;> [(ipureintro; rfl); iexact H6])
  isplitl [H7]; · (iexists f7; isplitr <;> [(ipureintro; rfl); iexact H7])
  isplitl [H8]; · (iexists f8; isplitr <;> [(ipureintro; rfl); iexact H8])
  isplitl [H9]; · (iexists f9; isplitr <;> [(ipureintro; rfl); iexact H9])
  isplitl [H10]; · (iexists f10; isplitr <;> [(ipureintro; rfl); iexact H10])
  isplitl [H11]; · (iexists f11; isplitr <;> [(ipureintro; rfl); iexact H11])
  isplitl [H12]; · (iexists f12; isplitr <;> [(ipureintro; rfl); iexact H12])
  isplitl [H13]; · (iexists f13; isplitr <;> [(ipureintro; rfl); iexact H13])
  isplitl [H14]; · (iexists f14; isplitr <;> [(ipureintro; rfl); iexact H14])
  isplitl [H15]; · (iexists f15; isplitr <;> [(ipureintro; rfl); iexact H15])
  isplitl [H16]; · (iexists f16; isplitr <;> [(ipureintro; rfl); iexact H16])
  isplitl [H17]; · (iexists f17; isplitr <;> [(ipureintro; rfl); iexact H17])
  isplitl [H18]; · (iexists f18; isplitr <;> [(ipureintro; rfl); iexact H18])
  isplitl [H19]; · (iexists f19; isplitr <;> [(ipureintro; rfl); iexact H19])
  isplitl [H20]; · (iexists f20; isplitr <;> [(ipureintro; rfl); iexact H20])
  isplitl [H21]; · (iexists f21; isplitr <;> [(ipureintro; rfl); iexact H21])
  isplitl [H22]; · (iexists f22; isplitr <;> [(ipureintro; rfl); iexact H22])
  isplitl [H23]; · (iexists f23; isplitr <;> [(ipureintro; rfl); iexact H23])
  isplitl [H24]; · (iexists f24; isplitr <;> [(ipureintro; rfl); iexact H24])
  isplitl [H25]; · (iexists f25; isplitr <;> [(ipureintro; rfl); iexact H25])
  isplitl [H26]; · (iexists f26; isplitr <;> [(ipureintro; rfl); iexact H26])
  isplitl [H27]; · (iexists f27; isplitr <;> [(ipureintro; rfl); iexact H27])
  isplitl [H28]; · (iexists f28; isplitr <;> [(ipureintro; rfl); iexact H28])
  isplitl [H29]; · (iexists f29; isplitr <;> [(ipureintro; rfl); iexact H29])
  isplitl [H30]; · (iexists f30; isplitr <;> [(ipureintro; rfl); iexact H30])
  isplitl [H31]; · (iexists f31; isplitr <;> [(ipureintro; rfl); iexact H31])
  isplitl [H32]; · (iexists f32; isplitr <;> [(ipureintro; rfl); iexact H32])
  isplitl [H33]; · (iexists f33; isplitr <;> [(ipureintro; rfl); iexact H33])
  isplitl [H34]; · (iexists f34; isplitr <;> [(ipureintro; rfl); iexact H34])
  isplitl [H35]; · (iexists f35; isplitr <;> [(ipureintro; rfl); iexact H35])
  isplitl [H36]; · (iexists f36; isplitr <;> [(ipureintro; rfl); iexact H36])
  isplitl [H37]; · (iexists f37; isplitr <;> [(ipureintro; rfl); iexact H37])
  iexists f38; isplitr <;> [(ipureintro; rfl); iexact H38]
end Body

end Cert.KernelIdeal.Hand
-- ==== Proof.KernI.RunOdd.lean ====
/-
  The body at a grid point: an odd one in the middle.
-/
module

public import proofs.«01_k».proof.Proof.KernI.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

section Body
variable (c : Dev nD) (XA : Buf (Elt F) (inM.view.loc (c : Thread nD τ))) (XO : Buf (Elt F) (outM.view.loc (c : Thread nD τ)))
  (Y : Fin 32 → S128x32x256.Idx → Elt F .f32) (X : In F) (t : Fin cfg0.N)
  (arg1 : Memref sig .tc .vmem S4096x256 .f32) (harg1 : arg1.IsWhole) (arg2 : Memref sig .tc .vmem S4096x768 .f32) (harg2 : arg2.IsWhole) (arg4 : Memref sig .tc .vmem S4096x32 .f32) (harg4 : arg4.IsWhole) (arg5 : Memref sig .tc .vmem S4096x32 .f32) (harg5 : arg5.IsWhole) (arg6 : Memref sig .tc .vmem S4096x32 .f32) (harg6 : arg6.IsWhole) (arg7 : Memref sig .tc .vmem S4096x32 .f32) (harg7 : arg7.IsWhole) (arg8 : Memref sig .tc .vmem S4096x32 .f32) (harg8 : arg8.IsWhole) (arg9 : Memref sig .tc .vmem S4096x32 .f32) (harg9 : arg9.IsWhole) (arg10 : Memref sig .tc .vmem S4096x32 .f32) (harg10 : arg10.IsWhole) (arg11 : Memref sig .tc .vmem S4096x32 .f32) (harg11 : arg11.IsWhole) (arg12 : Memref sig .tc .vmem S4096x32 .f32) (harg12 : arg12.IsWhole) (arg13 : Memref sig .tc .vmem S4096x32 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x512 .bf16) (harg16 : arg16.IsWhole) (arg17 : Memref sig .tc .vmem S256x512 .bf16) (harg17 : arg17.IsWhole) (arg18 : Memref sig .tc .vmem S1x512 .f32) (harg18 : arg18.IsWhole) (arg19 : Memref sig .tc .vmem S512x256 .bf16) (harg19 : arg19.IsWhole) (arg20 : Memref sig .tc .vmem S1x256 .f32) (harg20 : arg20.IsWhole) (arg21 : Memref sig .tc .vmem S256x384 .bf16) (harg21 : arg21.IsWhole) (arg22 : Memref sig .tc .vmem S256x384 .bf16) (harg22 : arg22.IsWhole) (arg23 : Memref sig .tc .vmem S256x384 .bf16) (harg23 : arg23.IsWhole) (arg24 : Memref sig .tc .vmem S256x384 .bf16) (harg24 : arg24.IsWhole) (arg25 : Memref sig .tc .vmem S256x384 .bf16) (harg25 : arg25.IsWhole) (arg26 : Memref sig .tc .vmem S8x384 .bf16) (harg26 : arg26.IsWhole) (arg27 : Memref sig .tc .vmem S1x384 .f32) (harg27 : arg27.IsWhole) (arg28 : Memref sig .tc .vmem S1x384 .f32) (harg28 : arg28.IsWhole) (arg29 : Memref sig .tc .vmem S1x1 .f32) (harg29 : arg29.IsWhole) (arg30 : Memref sig .tc .vmem S256x384 .bf16) (harg30 : arg30.IsWhole) (arg31 : Memref sig .tc .vmem S256x384 .bf16) (harg31 : arg31.IsWhole) (arg32 : Memref sig .tc .vmem S256x384 .bf16) (harg32 : arg32.IsWhole) (arg33 : Memref sig .tc .vmem S256x384 .bf16) (harg33 : arg33.IsWhole) (arg34 : Memref sig .tc .vmem S256x384 .bf16) (harg34 : arg34.IsWhole) (arg35 : Memref sig .tc .vmem S8x384 .bf16) (harg35 : arg35.IsWhole) (arg36 : Memref sig .tc .vmem S1x384 .f32) (harg36 : arg36.IsWhole) (arg37 : Memref sig .tc .vmem S1x384 .f32) (harg37 : arg37.IsWhole) (arg38 : Memref sig .tc .vmem S1x1 .f32) (harg38 : arg38.IsWhole) (arg39 : Memref sig .tc .vmem S128x256 .f32) (harg39 : arg39.IsWhole) (arg40 : Memref sig .tc .vmem S128x4 .f32) (harg40 : arg40.IsWhole) (arg42 : Memref sig .tc .vmem S128x32 .f32) (harg42 : arg42.IsWhole) (arg43 : Memref sig .tc .vmem S128x32 .f32) (harg43 : arg43.IsWhole) (arg44 : Memref sig .tc .vmem S128x32 .f32) (harg44 : arg44.IsWhole) (arg45 : Memref sig .tc .vmem S128x32 .f32) (harg45 : arg45.IsWhole) (arg46 : Memref sig .tc .vmem S128x192 .f32) (harg46 : arg46.IsWhole)

set_option maxHeartbeats 4000000 in
theorem runOdd (h0 : t.val % 2 = 1) (h2 : 2 ≤ t.val) (h30 : t.val + 2 < 32) (W : Waits sig Unit) (hY : Y (Ring.bk 32 t.val) = outY X t (valsAt c XA (Ring.bk 32 t.val))) :
    iprop(ownsIn c X arg1 arg2 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 ∗ ownsAny c arg39 arg40 arg42 arg43 arg44 arg45 arg46
      ∗ homeP c XA (Ring.bk 32 (t.val + 2)) ∗ inflI c XA 1 (Ring.bk 32 t.val) ∗ aheadP c XO (Ring.bk 32 t.val) ∗ inflO c XO Y 1 (Ring.bk 32 (t.val - 2)) ∗ owes (c : Thread nD τ) 0 W)
      ⊢ wp frame (wpE (defs₀ (F := F)) Variants.none (c : Thread nD τ) none) Set.univ (body t arg1 harg1 arg2 harg2 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg42 harg42 arg43 harg43 arg44 harg44 arg45 harg45 arg46 harg46)
        (fun _ => iprop(ownsOut c X t arg39 arg40 arg42 arg43 arg44 arg45 arg46
          ∗ homeP c XA (Ring.bk 32 t.val) ∗ inflI c XA 1 (Ring.bk 32 (t.val + 2)) ∗ doneP c XO (Ring.bk 32 (t.val - 2)) (Y (Ring.bk 32 (t.val - 2))) ∗ inflO c XO Y 1 (Ring.bk 32 t.val) ∗ (∃ W', owes (c : Thread nD τ) 0 W') ∗ ownsIn c X arg1 arg2 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38)) := by
  haveI : Fact (t.val % 2 = 1) := ⟨by omega⟩
  obtain ⟨x1, x2, x4, x5, x6, x7, x8, x9, x10, x11, x12, x13, x14, x15, x16, x17, x18, x19, x20, x21, x22, x23, x24, x25, x26, x27, x28, x29, x30, x31, x32, x33, x34, x35, x36, x37, x38⟩ := X
  have e1 : ¬ condFirst t := fun hc => by have := (condFirst_iff t).mp hc; omega
  have e11 : ¬ condLast t := fun hc => by have := (condLast_iff t).mp hc; omega
  have e2 : ¬ k0_cond2 (grid0.coords t) = 1#1 := fun hc => by have := (cond2_iff t).mp hc; omega
  have e3 : k0_cond3 (grid0.coords t) = 1#1 := (cond3_iff t).mpr (by omega)
  have e4 : ¬ k0_cond4 (grid0.coords t) = 1#1 := fun hc => by have := (cond4_iff t).mp hc; omega
  have e5 : k0_cond5 (grid0.coords t) = 1#1 := (cond5_iff t).mpr (by omega)
  have e6 : ¬ k0_cond6 (grid0.coords t) = 1#1 := fun hc => by have := (cond6_iff t).mp hc; omega
  have e7 : k0_cond7 (grid0.coords t) = 1#1 := (cond7_iff t).mpr (by omega)
  have e8 : k0_cond8 (grid0.coords t) = 1#1 := (cond8_iff t).mpr (by omega)
  have e9 : ¬ k0_cond9 (grid0.coords t) = 1#1 := fun hc => by have := (cond9_iff t).mp hc; omega
  have e10 : k0_cond10 (grid0.coords t) = 1#1 := (cond10_iff t).mpr (by omega)
  dsimp only [ownsIn, ownsAny, ownsOut]
  unfold owns
  iintro ⟨⟨⟨%f1, %h1, H1⟩, ⟨%f2, %h2, H2⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩, ⟨%f19, %h19, H19⟩, ⟨%f20, %h20, H20⟩, ⟨%f21, %h21, H21⟩, ⟨%f22, %h22, H22⟩, ⟨%f23, %h23, H23⟩, ⟨%f24, %h24, H24⟩, ⟨%f25, %h25, H25⟩, ⟨%f26, %h26, H26⟩, ⟨%f27, %h27, H27⟩, ⟨%f28, %h28, H28⟩, ⟨%f29, %h29, H29⟩, ⟨%f30, %h30, H30⟩, ⟨%f31, %h31, H31⟩, ⟨%f32, %h32, H32⟩, ⟨%f33, %h33, H33⟩, ⟨%f34, %h34, H34⟩, ⟨%f35, %h35, H35⟩, ⟨%f36, %h36, H36⟩, ⟨%f37, %h37, H37⟩, ⟨%f38, %h38, H38⟩⟩, ⟨⟨%z39, %f39, %h39, H39⟩, ⟨%z40, %f40, %h40, H40⟩, ⟨%z42, %f42, %h42, H42⟩, ⟨%z43, %f43, %h43, H43⟩, ⟨%z44, %f44, %h44, H44⟩, ⟨%z45, %f45, %h45, H45⟩, ⟨%z46, %f46, %h46, H46⟩⟩, Hhome, ⟨%f, HFI⟩, Hah, ⟨%g, %hg, HFO⟩, HW⟩
  subst h1 h2 h4 h5 h6 h7 h8 h9 h10 h11 h12 h13 h14 h15 h16 h17 h18 h19 h20 h21 h22 h23 h24 h25 h26 h27 h28 h29 h30 h31 h32 h33 h34 h35 h36 h37 h38
  dsimp only [body]
  rw [cc0__fused_eq_skeleton]
  sl_unfold [cc0__fused_skel]
  sl_open_parts
  sl_exec
  sl_step
  have hpar : t.val % 2 = ((1 : Fin 2)).val := by show t.val % 2 = 1; omega
  isplitl [H39 H40 H42 H43 H44 H45 H46]
  · isplitl [H39]; · (iapply (owns_store2 c arg39 f39 _ (v52 (⟨arg1.view.read (Elt F) f1, arg2.view.read (Elt F) f2, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14, arg15.view.read (Elt F) f15, arg16.view.read (Elt F) f16, arg17.view.read (Elt F) f17, arg18.view.read (Elt F) f18, arg19.view.read (Elt F) f19, arg20.view.read (Elt F) f20, arg21.view.read (Elt F) f21, arg22.view.read (Elt F) f22, arg23.view.read (Elt F) f23, arg24.view.read (Elt F) f24, arg25.view.read (Elt F) f25, arg26.view.read (Elt F) f26, arg27.view.read (Elt F) f27, arg28.view.read (Elt F) f28, arg29.view.read (Elt F) f29, arg30.view.read (Elt F) f30, arg31.view.read (Elt F) f31, arg32.view.read (Elt F) f32, arg33.view.read (Elt F) f33, arg34.view.read (Elt F) f34, arg35.view.read (Elt F) f35, arg36.view.read (Elt F) f36, arg37.view.read (Elt F) f37, arg38.view.read (Elt F) f38⟩ : In F) t)); iexact H39)
    isplitl [H40]; · (iapply (owns_store2 c arg40 f40 _ (outPr (⟨arg1.view.read (Elt F) f1, arg2.view.read (Elt F) f2, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14, arg15.view.read (Elt F) f15, arg16.view.read (Elt F) f16, arg17.view.read (Elt F) f17, arg18.view.read (Elt F) f18, arg19.view.read (Elt F) f19, arg20.view.read (Elt F) f20, arg21.view.read (Elt F) f21, arg22.view.read (Elt F) f22, arg23.view.read (Elt F) f23, arg24.view.read (Elt F) f24, arg25.view.read (Elt F) f25, arg26.view.read (Elt F) f26, arg27.view.read (Elt F) f27, arg28.view.read (Elt F) f28, arg29.view.read (Elt F) f29, arg30.view.read (Elt F) f30, arg31.view.read (Elt F) f31, arg32.view.read (Elt F) f32, arg33.view.read (Elt F) f33, arg34.view.read (Elt F) f34, arg35.view.read (Elt F) f35, arg36.view.read (Elt F) f36, arg37.view.read (Elt F) f37, arg38.view.read (Elt F) f38⟩ : In F) t)); iexact H40)
    isplitl [H42]; · (iapply (owns_store2 c arg42 f42 _ (v263 (⟨arg1.view.read (Elt F) f1, arg2.view.read (Elt F) f2, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14, arg15.view.read (Elt F) f15, arg16.view.read (Elt F) f16, arg17.view.read (Elt F) f17, arg18.view.read (Elt F) f18, arg19.view.read (Elt F) f19, arg20.view.read (Elt F) f20, arg21.view.read (Elt F) f21, arg22.view.read (Elt F) f22, arg23.view.read (Elt F) f23, arg24.view.read (Elt F) f24, arg25.view.read (Elt F) f25, arg26.view.read (Elt F) f26, arg27.view.read (Elt F) f27, arg28.view.read (Elt F) f28, arg29.view.read (Elt F) f29, arg30.view.read (Elt F) f30, arg31.view.read (Elt F) f31, arg32.view.read (Elt F) f32, arg33.view.read (Elt F) f33, arg34.view.read (Elt F) f34, arg35.view.read (Elt F) f35, arg36.view.read (Elt F) f36, arg37.view.read (Elt F) f37, arg38.view.read (Elt F) f38⟩ : In F) t)); iexact H42)
    isplitl [H43]; · (iapply (owns_store2 c arg43 f43 _ (v267 (⟨arg1.view.read (Elt F) f1, arg2.view.read (Elt F) f2, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14, arg15.view.read (Elt F) f15, arg16.view.read (Elt F) f16, arg17.view.read (Elt F) f17, arg18.view.read (Elt F) f18, arg19.view.read (Elt F) f19, arg20.view.read (Elt F) f20, arg21.view.read (Elt F) f21, arg22.view.read (Elt F) f22, arg23.view.read (Elt F) f23, arg24.view.read (Elt F) f24, arg25.view.read (Elt F) f25, arg26.view.read (Elt F) f26, arg27.view.read (Elt F) f27, arg28.view.read (Elt F) f28, arg29.view.read (Elt F) f29, arg30.view.read (Elt F) f30, arg31.view.read (Elt F) f31, arg32.view.read (Elt F) f32, arg33.view.read (Elt F) f33, arg34.view.read (Elt F) f34, arg35.view.read (Elt F) f35, arg36.view.read (Elt F) f36, arg37.view.read (Elt F) f37, arg38.view.read (Elt F) f38⟩ : In F) t)); iexact H43)
    isplitl [H44]; · (iapply (owns_store2 c arg44 f44 _ (v271 (⟨arg1.view.read (Elt F) f1, arg2.view.read (Elt F) f2, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14, arg15.view.read (Elt F) f15, arg16.view.read (Elt F) f16, arg17.view.read (Elt F) f17, arg18.view.read (Elt F) f18, arg19.view.read (Elt F) f19, arg20.view.read (Elt F) f20, arg21.view.read (Elt F) f21, arg22.view.read (Elt F) f22, arg23.view.read (Elt F) f23, arg24.view.read (Elt F) f24, arg25.view.read (Elt F) f25, arg26.view.read (Elt F) f26, arg27.view.read (Elt F) f27, arg28.view.read (Elt F) f28, arg29.view.read (Elt F) f29, arg30.view.read (Elt F) f30, arg31.view.read (Elt F) f31, arg32.view.read (Elt F) f32, arg33.view.read (Elt F) f33, arg34.view.read (Elt F) f34, arg35.view.read (Elt F) f35, arg36.view.read (Elt F) f36, arg37.view.read (Elt F) f37, arg38.view.read (Elt F) f38⟩ : In F) t)); iexact H44)
    isplitl [H45]; · (iapply (owns_store2 c arg45 f45 _ (v277 (⟨arg1.view.read (Elt F) f1, arg2.view.read (Elt F) f2, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14, arg15.view.read (Elt F) f15, arg16.view.read (Elt F) f16, arg17.view.read (Elt F) f17, arg18.view.read (Elt F) f18, arg19.view.read (Elt F) f19, arg20.view.read (Elt F) f20, arg21.view.read (Elt F) f21, arg22.view.read (Elt F) f22, arg23.view.read (Elt F) f23, arg24.view.read (Elt F) f24, arg25.view.read (Elt F) f25, arg26.view.read (Elt F) f26, arg27.view.read (Elt F) f27, arg28.view.read (Elt F) f28, arg29.view.read (Elt F) f29, arg30.view.read (Elt F) f30, arg31.view.read (Elt F) f31, arg32.view.read (Elt F) f32, arg33.view.read (Elt F) f33, arg34.view.read (Elt F) f34, arg35.view.read (Elt F) f35, arg36.view.read (Elt F) f36, arg37.view.read (Elt F) f37, arg38.view.read (Elt F) f38⟩ : In F) t)); iexact H45)
    iapply (owns_store2 c arg46 f46 _ (outMd (⟨arg1.view.read (Elt F) f1, arg2.view.read (Elt F) f2, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14, arg15.view.read (Elt F) f15, arg16.view.read (Elt F) f16, arg17.view.read (Elt F) f17, arg18.view.read (Elt F) f18, arg19.view.read (Elt F) f19, arg20.view.read (Elt F) f20, arg21.view.read (Elt F) f21, arg22.view.read (Elt F) f22, arg23.view.read (Elt F) f23, arg24.view.read (Elt F) f24, arg25.view.read (Elt F) f25, arg26.view.read (Elt F) f26, arg27.view.read (Elt F) f27, arg28.view.read (Elt F) f28, arg29.view.read (Elt F) f29, arg30.view.read (Elt F) f30, arg31.view.read (Elt F) f31, arg32.view.read (Elt F) f32, arg33.view.read (Elt F) f33, arg34.view.read (Elt F) f34, arg35.view.read (Elt F) f35, arg36.view.read (Elt F) f36, arg37.view.read (Elt F) f37, arg38.view.read (Elt F) f38⟩ : In F) t)); iexact H46
  isplitl [HFI_src]; · (iexact HFI_src)
  isplitl [HFI]; · (iapply (inflI_close c XA 1 (Ring.bk 32 (t.val + 2)) _ _); iexact HFI)
  isplitl [HFO_dst]; · (rw [← hg]; iexact HFO_dst)
  isplitl [HFO]; · (iapply (inflO_close c XO Y 1 (Ring.bk 32 t.val) (off8_slot (s := 1) hpar) _ g _ (stored_eq (⟨arg1.view.read (Elt F) f1, arg2.view.read (Elt F) f2, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14, arg15.view.read (Elt F) f15, arg16.view.read (Elt F) f16, arg17.view.read (Elt F) f17, arg18.view.read (Elt F) f18, arg19.view.read (Elt F) f19, arg20.view.read (Elt F) f20, arg21.view.read (Elt F) f21, arg22.view.read (Elt F) f22, arg23.view.read (Elt F) f23, arg24.view.read (Elt F) f24, arg25.view.read (Elt F) f25, arg26.view.read (Elt F) f26, arg27.view.read (Elt F) f27, arg28.view.read (Elt F) f28, arg29.view.read (Elt F) f29, arg30.view.read (Elt F) f30, arg31.view.read (Elt F) f31, arg32.view.read (Elt F) f32, arg33.view.read (Elt F) f33, arg34.view.read (Elt F) f34, arg35.view.read (Elt F) f35, arg36.view.read (Elt F) f36, arg37.view.read (Elt F) f37, arg38.view.read (Elt F) f38⟩ : In F) (s := 1) hpar _ (valsAt c XA (Ring.bk 32 t.val)) hY)); iexact HFO)
  isplitl [HW]; · (iexists _; iexact HW)
  isplitl [H1]; · (iexists f1; isplitr <;> [(ipureintro; rfl); iexact H1])
  isplitl [H2]; · (iexists f2; isplitr <;> [(ipureintro; rfl); iexact H2])
  isplitl [H4]; · (iexists f4; isplitr <;> [(ipureintro; rfl); iexact H4])
  isplitl [H5]; · (iexists f5; isplitr <;> [(ipureintro; rfl); iexact H5])
  isplitl [H6]; · (iexists f6; isplitr <;> [(ipureintro; rfl); iexact H6])
  isplitl [H7]; · (iexists f7; isplitr <;> [(ipureintro; rfl); iexact H7])
  isplitl [H8]; · (iexists f8; isplitr <;> [(ipureintro; rfl); iexact H8])
  isplitl [H9]; · (iexists f9; isplitr <;> [(ipureintro; rfl); iexact H9])
  isplitl [H10]; · (iexists f10; isplitr <;> [(ipureintro; rfl); iexact H10])
  isplitl [H11]; · (iexists f11; isplitr <;> [(ipureintro; rfl); iexact H11])
  isplitl [H12]; · (iexists f12; isplitr <;> [(ipureintro; rfl); iexact H12])
  isplitl [H13]; · (iexists f13; isplitr <;> [(ipureintro; rfl); iexact H13])
  isplitl [H14]; · (iexists f14; isplitr <;> [(ipureintro; rfl); iexact H14])
  isplitl [H15]; · (iexists f15; isplitr <;> [(ipureintro; rfl); iexact H15])
  isplitl [H16]; · (iexists f16; isplitr <;> [(ipureintro; rfl); iexact H16])
  isplitl [H17]; · (iexists f17; isplitr <;> [(ipureintro; rfl); iexact H17])
  isplitl [H18]; · (iexists f18; isplitr <;> [(ipureintro; rfl); iexact H18])
  isplitl [H19]; · (iexists f19; isplitr <;> [(ipureintro; rfl); iexact H19])
  isplitl [H20]; · (iexists f20; isplitr <;> [(ipureintro; rfl); iexact H20])
  isplitl [H21]; · (iexists f21; isplitr <;> [(ipureintro; rfl); iexact H21])
  isplitl [H22]; · (iexists f22; isplitr <;> [(ipureintro; rfl); iexact H22])
  isplitl [H23]; · (iexists f23; isplitr <;> [(ipureintro; rfl); iexact H23])
  isplitl [H24]; · (iexists f24; isplitr <;> [(ipureintro; rfl); iexact H24])
  isplitl [H25]; · (iexists f25; isplitr <;> [(ipureintro; rfl); iexact H25])
  isplitl [H26]; · (iexists f26; isplitr <;> [(ipureintro; rfl); iexact H26])
  isplitl [H27]; · (iexists f27; isplitr <;> [(ipureintro; rfl); iexact H27])
  isplitl [H28]; · (iexists f28; isplitr <;> [(ipureintro; rfl); iexact H28])
  isplitl [H29]; · (iexists f29; isplitr <;> [(ipureintro; rfl); iexact H29])
  isplitl [H30]; · (iexists f30; isplitr <;> [(ipureintro; rfl); iexact H30])
  isplitl [H31]; · (iexists f31; isplitr <;> [(ipureintro; rfl); iexact H31])
  isplitl [H32]; · (iexists f32; isplitr <;> [(ipureintro; rfl); iexact H32])
  isplitl [H33]; · (iexists f33; isplitr <;> [(ipureintro; rfl); iexact H33])
  isplitl [H34]; · (iexists f34; isplitr <;> [(ipureintro; rfl); iexact H34])
  isplitl [H35]; · (iexists f35; isplitr <;> [(ipureintro; rfl); iexact H35])
  isplitl [H36]; · (iexists f36; isplitr <;> [(ipureintro; rfl); iexact H36])
  isplitl [H37]; · (iexists f37; isplitr <;> [(ipureintro; rfl); iexact H37])
  iexists f38; isplitr <;> [(ipureintro; rfl); iexact H38]
end Body

end Cert.KernelIdeal.Hand
-- ==== Proof.KernI.RunPenult.lean ====
/-
  The body at a grid point: the last but one.
-/
module

public import proofs.«01_k».proof.Proof.KernI.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

section Body
variable (c : Dev nD) (XA : Buf (Elt F) (inM.view.loc (c : Thread nD τ))) (XO : Buf (Elt F) (outM.view.loc (c : Thread nD τ)))
  (Y : Fin 32 → S128x32x256.Idx → Elt F .f32) (X : In F) (t : Fin cfg0.N)
  (arg1 : Memref sig .tc .vmem S4096x256 .f32) (harg1 : arg1.IsWhole) (arg2 : Memref sig .tc .vmem S4096x768 .f32) (harg2 : arg2.IsWhole) (arg4 : Memref sig .tc .vmem S4096x32 .f32) (harg4 : arg4.IsWhole) (arg5 : Memref sig .tc .vmem S4096x32 .f32) (harg5 : arg5.IsWhole) (arg6 : Memref sig .tc .vmem S4096x32 .f32) (harg6 : arg6.IsWhole) (arg7 : Memref sig .tc .vmem S4096x32 .f32) (harg7 : arg7.IsWhole) (arg8 : Memref sig .tc .vmem S4096x32 .f32) (harg8 : arg8.IsWhole) (arg9 : Memref sig .tc .vmem S4096x32 .f32) (harg9 : arg9.IsWhole) (arg10 : Memref sig .tc .vmem S4096x32 .f32) (harg10 : arg10.IsWhole) (arg11 : Memref sig .tc .vmem S4096x32 .f32) (harg11 : arg11.IsWhole) (arg12 : Memref sig .tc .vmem S4096x32 .f32) (harg12 : arg12.IsWhole) (arg13 : Memref sig .tc .vmem S4096x32 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x512 .bf16) (harg16 : arg16.IsWhole) (arg17 : Memref sig .tc .vmem S256x512 .bf16) (harg17 : arg17.IsWhole) (arg18 : Memref sig .tc .vmem S1x512 .f32) (harg18 : arg18.IsWhole) (arg19 : Memref sig .tc .vmem S512x256 .bf16) (harg19 : arg19.IsWhole) (arg20 : Memref sig .tc .vmem S1x256 .f32) (harg20 : arg20.IsWhole) (arg21 : Memref sig .tc .vmem S256x384 .bf16) (harg21 : arg21.IsWhole) (arg22 : Memref sig .tc .vmem S256x384 .bf16) (harg22 : arg22.IsWhole) (arg23 : Memref sig .tc .vmem S256x384 .bf16) (harg23 : arg23.IsWhole) (arg24 : Memref sig .tc .vmem S256x384 .bf16) (harg24 : arg24.IsWhole) (arg25 : Memref sig .tc .vmem S256x384 .bf16) (harg25 : arg25.IsWhole) (arg26 : Memref sig .tc .vmem S8x384 .bf16) (harg26 : arg26.IsWhole) (arg27 : Memref sig .tc .vmem S1x384 .f32) (harg27 : arg27.IsWhole) (arg28 : Memref sig .tc .vmem S1x384 .f32) (harg28 : arg28.IsWhole) (arg29 : Memref sig .tc .vmem S1x1 .f32) (harg29 : arg29.IsWhole) (arg30 : Memref sig .tc .vmem S256x384 .bf16) (harg30 : arg30.IsWhole) (arg31 : Memref sig .tc .vmem S256x384 .bf16) (harg31 : arg31.IsWhole) (arg32 : Memref sig .tc .vmem S256x384 .bf16) (harg32 : arg32.IsWhole) (arg33 : Memref sig .tc .vmem S256x384 .bf16) (harg33 : arg33.IsWhole) (arg34 : Memref sig .tc .vmem S256x384 .bf16) (harg34 : arg34.IsWhole) (arg35 : Memref sig .tc .vmem S8x384 .bf16) (harg35 : arg35.IsWhole) (arg36 : Memref sig .tc .vmem S1x384 .f32) (harg36 : arg36.IsWhole) (arg37 : Memref sig .tc .vmem S1x384 .f32) (harg37 : arg37.IsWhole) (arg38 : Memref sig .tc .vmem S1x1 .f32) (harg38 : arg38.IsWhole) (arg39 : Memref sig .tc .vmem S128x256 .f32) (harg39 : arg39.IsWhole) (arg40 : Memref sig .tc .vmem S128x4 .f32) (harg40 : arg40.IsWhole) (arg42 : Memref sig .tc .vmem S128x32 .f32) (harg42 : arg42.IsWhole) (arg43 : Memref sig .tc .vmem S128x32 .f32) (harg43 : arg43.IsWhole) (arg44 : Memref sig .tc .vmem S128x32 .f32) (harg44 : arg44.IsWhole) (arg45 : Memref sig .tc .vmem S128x32 .f32) (harg45 : arg45.IsWhole) (arg46 : Memref sig .tc .vmem S128x192 .f32) (harg46 : arg46.IsWhole)

set_option maxHeartbeats 4000000 in
theorem runPenult (h : t.val = 30) (W : Waits sig Unit) (hY : Y (Ring.bk 32 t.val) = outY X t (valsAt c XA (Ring.bk 32 t.val))) :
    iprop(ownsIn c X arg1 arg2 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 ∗ ownsAny c arg39 arg40 arg42 arg43 arg44 arg45 arg46
      ∗ inflI c XA 0 (Ring.bk 32 t.val) ∗ aheadP c XO (Ring.bk 32 t.val) ∗ inflO c XO Y 0 (Ring.bk 32 (t.val - 2)) ∗ owes (c : Thread nD τ) 0 W)
      ⊢ wp frame (wpE (defs₀ (F := F)) Variants.none (c : Thread nD τ) none) Set.univ (body t arg1 harg1 arg2 harg2 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg42 harg42 arg43 harg43 arg44 harg44 arg45 harg45 arg46 harg46)
        (fun _ => iprop(ownsOut c X t arg39 arg40 arg42 arg43 arg44 arg45 arg46
          ∗ homeP c XA (Ring.bk 32 t.val) ∗ freeI c 0 ∗ doneP c XO (Ring.bk 32 (t.val - 2)) (Y (Ring.bk 32 (t.val - 2))) ∗ inflO c XO Y 0 (Ring.bk 32 t.val) ∗ (∃ W', owes (c : Thread nD τ) 0 W') ∗ ownsIn c X arg1 arg2 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38)) := by
  haveI : Fact (t.val % 2 = 0) := ⟨by omega⟩
  obtain ⟨x1, x2, x4, x5, x6, x7, x8, x9, x10, x11, x12, x13, x14, x15, x16, x17, x18, x19, x20, x21, x22, x23, x24, x25, x26, x27, x28, x29, x30, x31, x32, x33, x34, x35, x36, x37, x38⟩ := X
  have e1 : ¬ condFirst t := fun hc => by have := (condFirst_iff t).mp hc; omega
  have e11 : ¬ condLast t := fun hc => by have := (condLast_iff t).mp hc; omega
  have e2 : k0_cond2 (grid0.coords t) = 1#1 := (cond2_iff t).mpr (by omega)
  have e3 : ¬ k0_cond3 (grid0.coords t) = 1#1 := fun hc => by have := (cond3_iff t).mp hc; omega
  have e4 : k0_cond4 (grid0.coords t) = 1#1 := (cond4_iff t).mpr (by omega)
  have e5 : ¬ k0_cond5 (grid0.coords t) = 1#1 := fun hc => by have := (cond5_iff t).mp hc; omega
  have e6 : k0_cond6 (grid0.coords t) = 1#1 := (cond6_iff t).mpr (by omega)
  have e7 : ¬ k0_cond7 (grid0.coords t) = 1#1 := fun hc => by have := (cond7_iff t).mp hc; omega
  have e8 : ¬ k0_cond8 (grid0.coords t) = 1#1 := fun hc => by have := (cond8_iff t).mp hc; omega
  have e9 : k0_cond9 (grid0.coords t) = 1#1 := (cond9_iff t).mpr (by omega)
  have e10 : ¬ k0_cond10 (grid0.coords t) = 1#1 := fun hc => by have := (cond10_iff t).mp hc; omega
  dsimp only [ownsIn, ownsAny, ownsOut]
  unfold owns
  iintro ⟨⟨⟨%f1, %h1, H1⟩, ⟨%f2, %h2, H2⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩, ⟨%f19, %h19, H19⟩, ⟨%f20, %h20, H20⟩, ⟨%f21, %h21, H21⟩, ⟨%f22, %h22, H22⟩, ⟨%f23, %h23, H23⟩, ⟨%f24, %h24, H24⟩, ⟨%f25, %h25, H25⟩, ⟨%f26, %h26, H26⟩, ⟨%f27, %h27, H27⟩, ⟨%f28, %h28, H28⟩, ⟨%f29, %h29, H29⟩, ⟨%f30, %h30, H30⟩, ⟨%f31, %h31, H31⟩, ⟨%f32, %h32, H32⟩, ⟨%f33, %h33, H33⟩, ⟨%f34, %h34, H34⟩, ⟨%f35, %h35, H35⟩, ⟨%f36, %h36, H36⟩, ⟨%f37, %h37, H37⟩, ⟨%f38, %h38, H38⟩⟩, ⟨⟨%z39, %f39, %h39, H39⟩, ⟨%z40, %f40, %h40, H40⟩, ⟨%z42, %f42, %h42, H42⟩, ⟨%z43, %f43, %h43, H43⟩, ⟨%z44, %f44, %h44, H44⟩, ⟨%z45, %f45, %h45, H45⟩, ⟨%z46, %f46, %h46, H46⟩⟩, ⟨%f, HFI⟩, Hah, ⟨%g, %hg, HFO⟩, HW⟩
  subst h1 h2 h4 h5 h6 h7 h8 h9 h10 h11 h12 h13 h14 h15 h16 h17 h18 h19 h20 h21 h22 h23 h24 h25 h26 h27 h28 h29 h30 h31 h32 h33 h34 h35 h36 h37 h38
  dsimp only [body]
  rw [cc0__fused_eq_skeleton]
  sl_unfold [cc0__fused_skel]
  sl_open_parts
  sl_exec
  sl_step
  have hpar : t.val % 2 = ((0 : Fin 2)).val := by show t.val % 2 = 0; omega
  isplitl [H39 H40 H42 H43 H44 H45 H46]
  · isplitl [H39]; · (iapply (owns_store2 c arg39 f39 _ (v52 (⟨arg1.view.read (Elt F) f1, arg2.view.read (Elt F) f2, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14, arg15.view.read (Elt F) f15, arg16.view.read (Elt F) f16, arg17.view.read (Elt F) f17, arg18.view.read (Elt F) f18, arg19.view.read (Elt F) f19, arg20.view.read (Elt F) f20, arg21.view.read (Elt F) f21, arg22.view.read (Elt F) f22, arg23.view.read (Elt F) f23, arg24.view.read (Elt F) f24, arg25.view.read (Elt F) f25, arg26.view.read (Elt F) f26, arg27.view.read (Elt F) f27, arg28.view.read (Elt F) f28, arg29.view.read (Elt F) f29, arg30.view.read (Elt F) f30, arg31.view.read (Elt F) f31, arg32.view.read (Elt F) f32, arg33.view.read (Elt F) f33, arg34.view.read (Elt F) f34, arg35.view.read (Elt F) f35, arg36.view.read (Elt F) f36, arg37.view.read (Elt F) f37, arg38.view.read (Elt F) f38⟩ : In F) t)); iexact H39)
    isplitl [H40]; · (iapply (owns_store2 c arg40 f40 _ (outPr (⟨arg1.view.read (Elt F) f1, arg2.view.read (Elt F) f2, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14, arg15.view.read (Elt F) f15, arg16.view.read (Elt F) f16, arg17.view.read (Elt F) f17, arg18.view.read (Elt F) f18, arg19.view.read (Elt F) f19, arg20.view.read (Elt F) f20, arg21.view.read (Elt F) f21, arg22.view.read (Elt F) f22, arg23.view.read (Elt F) f23, arg24.view.read (Elt F) f24, arg25.view.read (Elt F) f25, arg26.view.read (Elt F) f26, arg27.view.read (Elt F) f27, arg28.view.read (Elt F) f28, arg29.view.read (Elt F) f29, arg30.view.read (Elt F) f30, arg31.view.read (Elt F) f31, arg32.view.read (Elt F) f32, arg33.view.read (Elt F) f33, arg34.view.read (Elt F) f34, arg35.view.read (Elt F) f35, arg36.view.read (Elt F) f36, arg37.view.read (Elt F) f37, arg38.view.read (Elt F) f38⟩ : In F) t)); iexact H40)
    isplitl [H42]; · (iapply (owns_store2 c arg42 f42 _ (v263 (⟨arg1.view.read (Elt F) f1, arg2.view.read (Elt F) f2, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14, arg15.view.read (Elt F) f15, arg16.view.read (Elt F) f16, arg17.view.read (Elt F) f17, arg18.view.read (Elt F) f18, arg19.view.read (Elt F) f19, arg20.view.read (Elt F) f20, arg21.view.read (Elt F) f21, arg22.view.read (Elt F) f22, arg23.view.read (Elt F) f23, arg24.view.read (Elt F) f24, arg25.view.read (Elt F) f25, arg26.view.read (Elt F) f26, arg27.view.read (Elt F) f27, arg28.view.read (Elt F) f28, arg29.view.read (Elt F) f29, arg30.view.read (Elt F) f30, arg31.view.read (Elt F) f31, arg32.view.read (Elt F) f32, arg33.view.read (Elt F) f33, arg34.view.read (Elt F) f34, arg35.view.read (Elt F) f35, arg36.view.read (Elt F) f36, arg37.view.read (Elt F) f37, arg38.view.read (Elt F) f38⟩ : In F) t)); iexact H42)
    isplitl [H43]; · (iapply (owns_store2 c arg43 f43 _ (v267 (⟨arg1.view.read (Elt F) f1, arg2.view.read (Elt F) f2, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14, arg15.view.read (Elt F) f15, arg16.view.read (Elt F) f16, arg17.view.read (Elt F) f17, arg18.view.read (Elt F) f18, arg19.view.read (Elt F) f19, arg20.view.read (Elt F) f20, arg21.view.read (Elt F) f21, arg22.view.read (Elt F) f22, arg23.view.read (Elt F) f23, arg24.view.read (Elt F) f24, arg25.view.read (Elt F) f25, arg26.view.read (Elt F) f26, arg27.view.read (Elt F) f27, arg28.view.read (Elt F) f28, arg29.view.read (Elt F) f29, arg30.view.read (Elt F) f30, arg31.view.read (Elt F) f31, arg32.view.read (Elt F) f32, arg33.view.read (Elt F) f33, arg34.view.read (Elt F) f34, arg35.view.read (Elt F) f35, arg36.view.read (Elt F) f36, arg37.view.read (Elt F) f37, arg38.view.read (Elt F) f38⟩ : In F) t)); iexact H43)
    isplitl [H44]; · (iapply (owns_store2 c arg44 f44 _ (v271 (⟨arg1.view.read (Elt F) f1, arg2.view.read (Elt F) f2, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14, arg15.view.read (Elt F) f15, arg16.view.read (Elt F) f16, arg17.view.read (Elt F) f17, arg18.view.read (Elt F) f18, arg19.view.read (Elt F) f19, arg20.view.read (Elt F) f20, arg21.view.read (Elt F) f21, arg22.view.read (Elt F) f22, arg23.view.read (Elt F) f23, arg24.view.read (Elt F) f24, arg25.view.read (Elt F) f25, arg26.view.read (Elt F) f26, arg27.view.read (Elt F) f27, arg28.view.read (Elt F) f28, arg29.view.read (Elt F) f29, arg30.view.read (Elt F) f30, arg31.view.read (Elt F) f31, arg32.view.read (Elt F) f32, arg33.view.read (Elt F) f33, arg34.view.read (Elt F) f34, arg35.view.read (Elt F) f35, arg36.view.read (Elt F) f36, arg37.view.read (Elt F) f37, arg38.view.read (Elt F) f38⟩ : In F) t)); iexact H44)
    isplitl [H45]; · (iapply (owns_store2 c arg45 f45 _ (v277 (⟨arg1.view.read (Elt F) f1, arg2.view.read (Elt F) f2, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14, arg15.view.read (Elt F) f15, arg16.view.read (Elt F) f16, arg17.view.read (Elt F) f17, arg18.view.read (Elt F) f18, arg19.view.read (Elt F) f19, arg20.view.read (Elt F) f20, arg21.view.read (Elt F) f21, arg22.view.read (Elt F) f22, arg23.view.read (Elt F) f23, arg24.view.read (Elt F) f24, arg25.view.read (Elt F) f25, arg26.view.read (Elt F) f26, arg27.view.read (Elt F) f27, arg28.view.read (Elt F) f28, arg29.view.read (Elt F) f29, arg30.view.read (Elt F) f30, arg31.view.read (Elt F) f31, arg32.view.read (Elt F) f32, arg33.view.read (Elt F) f33, arg34.view.read (Elt F) f34, arg35.view.read (Elt F) f35, arg36.view.read (Elt F) f36, arg37.view.read (Elt F) f37, arg38.view.read (Elt F) f38⟩ : In F) t)); iexact H45)
    iapply (owns_store2 c arg46 f46 _ (outMd (⟨arg1.view.read (Elt F) f1, arg2.view.read (Elt F) f2, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14, arg15.view.read (Elt F) f15, arg16.view.read (Elt F) f16, arg17.view.read (Elt F) f17, arg18.view.read (Elt F) f18, arg19.view.read (Elt F) f19, arg20.view.read (Elt F) f20, arg21.view.read (Elt F) f21, arg22.view.read (Elt F) f22, arg23.view.read (Elt F) f23, arg24.view.read (Elt F) f24, arg25.view.read (Elt F) f25, arg26.view.read (Elt F) f26, arg27.view.read (Elt F) f27, arg28.view.read (Elt F) f28, arg29.view.read (Elt F) f29, arg30.view.read (Elt F) f30, arg31.view.read (Elt F) f31, arg32.view.read (Elt F) f32, arg33.view.read (Elt F) f33, arg34.view.read (Elt F) f34, arg35.view.read (Elt F) f35, arg36.view.read (Elt F) f36, arg37.view.read (Elt F) f37, arg38.view.read (Elt F) f38⟩ : In F) t)); iexact H46
  isplitl [HFI_src]; · (iexact HFI_src)
  isplitl [HFI_dst HFI]; · (isplitl [HFI_dst] <;> [(iexists _; iexact HFI_dst); iexact HFI])
  isplitl [HFO_dst]; · (rw [← hg]; iexact HFO_dst)
  isplitl [HFO]; · (iapply (inflO_close c XO Y 0 (Ring.bk 32 t.val) (off8_slot (s := 0) hpar) _ g _ (stored_eq (⟨arg1.view.read (Elt F) f1, arg2.view.read (Elt F) f2, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14, arg15.view.read (Elt F) f15, arg16.view.read (Elt F) f16, arg17.view.read (Elt F) f17, arg18.view.read (Elt F) f18, arg19.view.read (Elt F) f19, arg20.view.read (Elt F) f20, arg21.view.read (Elt F) f21, arg22.view.read (Elt F) f22, arg23.view.read (Elt F) f23, arg24.view.read (Elt F) f24, arg25.view.read (Elt F) f25, arg26.view.read (Elt F) f26, arg27.view.read (Elt F) f27, arg28.view.read (Elt F) f28, arg29.view.read (Elt F) f29, arg30.view.read (Elt F) f30, arg31.view.read (Elt F) f31, arg32.view.read (Elt F) f32, arg33.view.read (Elt F) f33, arg34.view.read (Elt F) f34, arg35.view.read (Elt F) f35, arg36.view.read (Elt F) f36, arg37.view.read (Elt F) f37, arg38.view.read (Elt F) f38⟩ : In F) (s := 0) hpar _ (valsAt c XA (Ring.bk 32 t.val)) hY)); iexact HFO)
  isplitl [HW]; · (iexists _; iexact HW)
  isplitl [H1]; · (iexists f1; isplitr <;> [(ipureintro; rfl); iexact H1])
  isplitl [H2]; · (iexists f2; isplitr <;> [(ipureintro; rfl); iexact H2])
  isplitl [H4]; · (iexists f4; isplitr <;> [(ipureintro; rfl); iexact H4])
  isplitl [H5]; · (iexists f5; isplitr <;> [(ipureintro; rfl); iexact H5])
  isplitl [H6]; · (iexists f6; isplitr <;> [(ipureintro; rfl); iexact H6])
  isplitl [H7]; · (iexists f7; isplitr <;> [(ipureintro; rfl); iexact H7])
  isplitl [H8]; · (iexists f8; isplitr <;> [(ipureintro; rfl); iexact H8])
  isplitl [H9]; · (iexists f9; isplitr <;> [(ipureintro; rfl); iexact H9])
  isplitl [H10]; · (iexists f10; isplitr <;> [(ipureintro; rfl); iexact H10])
  isplitl [H11]; · (iexists f11; isplitr <;> [(ipureintro; rfl); iexact H11])
  isplitl [H12]; · (iexists f12; isplitr <;> [(ipureintro; rfl); iexact H12])
  isplitl [H13]; · (iexists f13; isplitr <;> [(ipureintro; rfl); iexact H13])
  isplitl [H14]; · (iexists f14; isplitr <;> [(ipureintro; rfl); iexact H14])
  isplitl [H15]; · (iexists f15; isplitr <;> [(ipureintro; rfl); iexact H15])
  isplitl [H16]; · (iexists f16; isplitr <;> [(ipureintro; rfl); iexact H16])
  isplitl [H17]; · (iexists f17; isplitr <;> [(ipureintro; rfl); iexact H17])
  isplitl [H18]; · (iexists f18; isplitr <;> [(ipureintro; rfl); iexact H18])
  isplitl [H19]; · (iexists f19; isplitr <;> [(ipureintro; rfl); iexact H19])
  isplitl [H20]; · (iexists f20; isplitr <;> [(ipureintro; rfl); iexact H20])
  isplitl [H21]; · (iexists f21; isplitr <;> [(ipureintro; rfl); iexact H21])
  isplitl [H22]; · (iexists f22; isplitr <;> [(ipureintro; rfl); iexact H22])
  isplitl [H23]; · (iexists f23; isplitr <;> [(ipureintro; rfl); iexact H23])
  isplitl [H24]; · (iexists f24; isplitr <;> [(ipureintro; rfl); iexact H24])
  isplitl [H25]; · (iexists f25; isplitr <;> [(ipureintro; rfl); iexact H25])
  isplitl [H26]; · (iexists f26; isplitr <;> [(ipureintro; rfl); iexact H26])
  isplitl [H27]; · (iexists f27; isplitr <;> [(ipureintro; rfl); iexact H27])
  isplitl [H28]; · (iexists f28; isplitr <;> [(ipureintro; rfl); iexact H28])
  isplitl [H29]; · (iexists f29; isplitr <;> [(ipureintro; rfl); iexact H29])
  isplitl [H30]; · (iexists f30; isplitr <;> [(ipureintro; rfl); iexact H30])
  isplitl [H31]; · (iexists f31; isplitr <;> [(ipureintro; rfl); iexact H31])
  isplitl [H32]; · (iexists f32; isplitr <;> [(ipureintro; rfl); iexact H32])
  isplitl [H33]; · (iexists f33; isplitr <;> [(ipureintro; rfl); iexact H33])
  isplitl [H34]; · (iexists f34; isplitr <;> [(ipureintro; rfl); iexact H34])
  isplitl [H35]; · (iexists f35; isplitr <;> [(ipureintro; rfl); iexact H35])
  isplitl [H36]; · (iexists f36; isplitr <;> [(ipureintro; rfl); iexact H36])
  isplitl [H37]; · (iexists f37; isplitr <;> [(ipureintro; rfl); iexact H37])
  iexists f38; isplitr <;> [(ipureintro; rfl); iexact H38]
end Body

end Cert.KernelIdeal.Hand
-- ==== Proof.KernI.RunLast.lean ====
/-
  The body at a grid point: the last.
-/
module

public import proofs.«01_k».proof.Proof.KernI.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

section Body
variable (c : Dev nD) (XA : Buf (Elt F) (inM.view.loc (c : Thread nD τ))) (XO : Buf (Elt F) (outM.view.loc (c : Thread nD τ)))
  (Y : Fin 32 → S128x32x256.Idx → Elt F .f32) (X : In F) (t : Fin cfg0.N)
  (arg1 : Memref sig .tc .vmem S4096x256 .f32) (harg1 : arg1.IsWhole) (arg2 : Memref sig .tc .vmem S4096x768 .f32) (harg2 : arg2.IsWhole) (arg4 : Memref sig .tc .vmem S4096x32 .f32) (harg4 : arg4.IsWhole) (arg5 : Memref sig .tc .vmem S4096x32 .f32) (harg5 : arg5.IsWhole) (arg6 : Memref sig .tc .vmem S4096x32 .f32) (harg6 : arg6.IsWhole) (arg7 : Memref sig .tc .vmem S4096x32 .f32) (harg7 : arg7.IsWhole) (arg8 : Memref sig .tc .vmem S4096x32 .f32) (harg8 : arg8.IsWhole) (arg9 : Memref sig .tc .vmem S4096x32 .f32) (harg9 : arg9.IsWhole) (arg10 : Memref sig .tc .vmem S4096x32 .f32) (harg10 : arg10.IsWhole) (arg11 : Memref sig .tc .vmem S4096x32 .f32) (harg11 : arg11.IsWhole) (arg12 : Memref sig .tc .vmem S4096x32 .f32) (harg12 : arg12.IsWhole) (arg13 : Memref sig .tc .vmem S4096x32 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S256x512 .bf16) (harg16 : arg16.IsWhole) (arg17 : Memref sig .tc .vmem S256x512 .bf16) (harg17 : arg17.IsWhole) (arg18 : Memref sig .tc .vmem S1x512 .f32) (harg18 : arg18.IsWhole) (arg19 : Memref sig .tc .vmem S512x256 .bf16) (harg19 : arg19.IsWhole) (arg20 : Memref sig .tc .vmem S1x256 .f32) (harg20 : arg20.IsWhole) (arg21 : Memref sig .tc .vmem S256x384 .bf16) (harg21 : arg21.IsWhole) (arg22 : Memref sig .tc .vmem S256x384 .bf16) (harg22 : arg22.IsWhole) (arg23 : Memref sig .tc .vmem S256x384 .bf16) (harg23 : arg23.IsWhole) (arg24 : Memref sig .tc .vmem S256x384 .bf16) (harg24 : arg24.IsWhole) (arg25 : Memref sig .tc .vmem S256x384 .bf16) (harg25 : arg25.IsWhole) (arg26 : Memref sig .tc .vmem S8x384 .bf16) (harg26 : arg26.IsWhole) (arg27 : Memref sig .tc .vmem S1x384 .f32) (harg27 : arg27.IsWhole) (arg28 : Memref sig .tc .vmem S1x384 .f32) (harg28 : arg28.IsWhole) (arg29 : Memref sig .tc .vmem S1x1 .f32) (harg29 : arg29.IsWhole) (arg30 : Memref sig .tc .vmem S256x384 .bf16) (harg30 : arg30.IsWhole) (arg31 : Memref sig .tc .vmem S256x384 .bf16) (harg31 : arg31.IsWhole) (arg32 : Memref sig .tc .vmem S256x384 .bf16) (harg32 : arg32.IsWhole) (arg33 : Memref sig .tc .vmem S256x384 .bf16) (harg33 : arg33.IsWhole) (arg34 : Memref sig .tc .vmem S256x384 .bf16) (harg34 : arg34.IsWhole) (arg35 : Memref sig .tc .vmem S8x384 .bf16) (harg35 : arg35.IsWhole) (arg36 : Memref sig .tc .vmem S1x384 .f32) (harg36 : arg36.IsWhole) (arg37 : Memref sig .tc .vmem S1x384 .f32) (harg37 : arg37.IsWhole) (arg38 : Memref sig .tc .vmem S1x1 .f32) (harg38 : arg38.IsWhole) (arg39 : Memref sig .tc .vmem S128x256 .f32) (harg39 : arg39.IsWhole) (arg40 : Memref sig .tc .vmem S128x4 .f32) (harg40 : arg40.IsWhole) (arg42 : Memref sig .tc .vmem S128x32 .f32) (harg42 : arg42.IsWhole) (arg43 : Memref sig .tc .vmem S128x32 .f32) (harg43 : arg43.IsWhole) (arg44 : Memref sig .tc .vmem S128x32 .f32) (harg44 : arg44.IsWhole) (arg45 : Memref sig .tc .vmem S128x32 .f32) (harg45 : arg45.IsWhole) (arg46 : Memref sig .tc .vmem S128x192 .f32) (harg46 : arg46.IsWhole)

set_option maxHeartbeats 4000000 in
theorem runLast (h : t.val = 31) (W : Waits sig Unit) (hY : Y (Ring.bk 32 t.val) = outY X t (valsAt c XA (Ring.bk 32 t.val))) :
    iprop(ownsIn c X arg1 arg2 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 ∗ ownsAny c arg39 arg40 arg42 arg43 arg44 arg45 arg46
      ∗ inflI c XA 1 (Ring.bk 32 t.val) ∗ aheadP c XO (Ring.bk 32 t.val) ∗ inflO c XO Y 1 (Ring.bk 32 (t.val - 2)) ∗ inflO c XO Y 0 (Ring.bk 32 (t.val - 1)) ∗ owes (c : Thread nD τ) 0 W)
      ⊢ wp frame (wpE (defs₀ (F := F)) Variants.none (c : Thread nD τ) none) Set.univ (body t arg1 harg1 arg2 harg2 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg42 harg42 arg43 harg43 arg44 harg44 arg45 harg45 arg46 harg46)
        (fun _ => iprop(ownsOut c X t arg39 arg40 arg42 arg43 arg44 arg45 arg46
          ∗ homeP c XA (Ring.bk 32 t.val) ∗ freeI c 1 ∗ doneP c XO (Ring.bk 32 (t.val - 2)) (Y (Ring.bk 32 (t.val - 2))) ∗ doneP c XO (Ring.bk 32 (t.val - 1)) (Y (Ring.bk 32 (t.val - 1))) ∗ doneP c XO (Ring.bk 32 t.val) (Y (Ring.bk 32 t.val)) ∗ freeO c 0 ∗ freeO c 1 ∗ (∃ W', owes (c : Thread nD τ) 0 W') ∗ ownsIn c X arg1 arg2 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38)) := by
  haveI : Fact (t.val % 2 = 1) := ⟨by omega⟩
  obtain ⟨x1, x2, x4, x5, x6, x7, x8, x9, x10, x11, x12, x13, x14, x15, x16, x17, x18, x19, x20, x21, x22, x23, x24, x25, x26, x27, x28, x29, x30, x31, x32, x33, x34, x35, x36, x37, x38⟩ := X
  have e1 : ¬ condFirst t := fun hc => by have := (condFirst_iff t).mp hc; omega
  have e11 : condLast t := (condLast_iff t).mpr (by omega)
  have e2 : ¬ k0_cond2 (grid0.coords t) = 1#1 := fun hc => by have := (cond2_iff t).mp hc; omega
  have e3 : k0_cond3 (grid0.coords t) = 1#1 := (cond3_iff t).mpr (by omega)
  have e4 : ¬ k0_cond4 (grid0.coords t) = 1#1 := fun hc => by have := (cond4_iff t).mp hc; omega
  have e5 : k0_cond5 (grid0.coords t) = 1#1 := (cond5_iff t).mpr (by omega)
  have e6 : ¬ k0_cond6 (grid0.coords t) = 1#1 := fun hc => by have := (cond6_iff t).mp hc; omega
  have e7 : k0_cond7 (grid0.coords t) = 1#1 := (cond7_iff t).mpr (by omega)
  have e8 : ¬ k0_cond8 (grid0.coords t) = 1#1 := fun hc => by have := (cond8_iff t).mp hc; omega
  have e9 : ¬ k0_cond9 (grid0.coords t) = 1#1 := fun hc => by have := (cond9_iff t).mp hc; omega
  have e10 : k0_cond10 (grid0.coords t) = 1#1 := (cond10_iff t).mpr (by omega)
  dsimp only [ownsIn, ownsAny, ownsOut]
  unfold owns
  iintro ⟨⟨⟨%f1, %h1, H1⟩, ⟨%f2, %h2, H2⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩, ⟨%f19, %h19, H19⟩, ⟨%f20, %h20, H20⟩, ⟨%f21, %h21, H21⟩, ⟨%f22, %h22, H22⟩, ⟨%f23, %h23, H23⟩, ⟨%f24, %h24, H24⟩, ⟨%f25, %h25, H25⟩, ⟨%f26, %h26, H26⟩, ⟨%f27, %h27, H27⟩, ⟨%f28, %h28, H28⟩, ⟨%f29, %h29, H29⟩, ⟨%f30, %h30, H30⟩, ⟨%f31, %h31, H31⟩, ⟨%f32, %h32, H32⟩, ⟨%f33, %h33, H33⟩, ⟨%f34, %h34, H34⟩, ⟨%f35, %h35, H35⟩, ⟨%f36, %h36, H36⟩, ⟨%f37, %h37, H37⟩, ⟨%f38, %h38, H38⟩⟩, ⟨⟨%z39, %f39, %h39, H39⟩, ⟨%z40, %f40, %h40, H40⟩, ⟨%z42, %f42, %h42, H42⟩, ⟨%z43, %f43, %h43, H43⟩, ⟨%z44, %f44, %h44, H44⟩, ⟨%z45, %f45, %h45, H45⟩, ⟨%z46, %f46, %h46, H46⟩⟩, ⟨%f, HFI⟩, Hah, ⟨%g, %hg, HFO⟩, ⟨%g0, %hg0, HFO0⟩, HW⟩
  subst h1 h2 h4 h5 h6 h7 h8 h9 h10 h11 h12 h13 h14 h15 h16 h17 h18 h19 h20 h21 h22 h23 h24 h25 h26 h27 h28 h29 h30 h31 h32 h33 h34 h35 h36 h37 h38
  dsimp only [body]
  rw [cc0__fused_eq_skeleton]
  sl_unfold [cc0__fused_skel]
  sl_open_parts
  sl_exec
  sl_step
  have hpar : t.val % 2 = ((1 : Fin 2)).val := by show t.val % 2 = 1; omega
  isplitl [H39 H40 H42 H43 H44 H45 H46]
  · isplitl [H39]; · (iapply (owns_store2 c arg39 f39 _ (v52 (⟨arg1.view.read (Elt F) f1, arg2.view.read (Elt F) f2, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14, arg15.view.read (Elt F) f15, arg16.view.read (Elt F) f16, arg17.view.read (Elt F) f17, arg18.view.read (Elt F) f18, arg19.view.read (Elt F) f19, arg20.view.read (Elt F) f20, arg21.view.read (Elt F) f21, arg22.view.read (Elt F) f22, arg23.view.read (Elt F) f23, arg24.view.read (Elt F) f24, arg25.view.read (Elt F) f25, arg26.view.read (Elt F) f26, arg27.view.read (Elt F) f27, arg28.view.read (Elt F) f28, arg29.view.read (Elt F) f29, arg30.view.read (Elt F) f30, arg31.view.read (Elt F) f31, arg32.view.read (Elt F) f32, arg33.view.read (Elt F) f33, arg34.view.read (Elt F) f34, arg35.view.read (Elt F) f35, arg36.view.read (Elt F) f36, arg37.view.read (Elt F) f37, arg38.view.read (Elt F) f38⟩ : In F) t)); iexact H39)
    isplitl [H40]; · (iapply (owns_store2 c arg40 f40 _ (outPr (⟨arg1.view.read (Elt F) f1, arg2.view.read (Elt F) f2, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14, arg15.view.read (Elt F) f15, arg16.view.read (Elt F) f16, arg17.view.read (Elt F) f17, arg18.view.read (Elt F) f18, arg19.view.read (Elt F) f19, arg20.view.read (Elt F) f20, arg21.view.read (Elt F) f21, arg22.view.read (Elt F) f22, arg23.view.read (Elt F) f23, arg24.view.read (Elt F) f24, arg25.view.read (Elt F) f25, arg26.view.read (Elt F) f26, arg27.view.read (Elt F) f27, arg28.view.read (Elt F) f28, arg29.view.read (Elt F) f29, arg30.view.read (Elt F) f30, arg31.view.read (Elt F) f31, arg32.view.read (Elt F) f32, arg33.view.read (Elt F) f33, arg34.view.read (Elt F) f34, arg35.view.read (Elt F) f35, arg36.view.read (Elt F) f36, arg37.view.read (Elt F) f37, arg38.view.read (Elt F) f38⟩ : In F) t)); iexact H40)
    isplitl [H42]; · (iapply (owns_store2 c arg42 f42 _ (v263 (⟨arg1.view.read (Elt F) f1, arg2.view.read (Elt F) f2, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14, arg15.view.read (Elt F) f15, arg16.view.read (Elt F) f16, arg17.view.read (Elt F) f17, arg18.view.read (Elt F) f18, arg19.view.read (Elt F) f19, arg20.view.read (Elt F) f20, arg21.view.read (Elt F) f21, arg22.view.read (Elt F) f22, arg23.view.read (Elt F) f23, arg24.view.read (Elt F) f24, arg25.view.read (Elt F) f25, arg26.view.read (Elt F) f26, arg27.view.read (Elt F) f27, arg28.view.read (Elt F) f28, arg29.view.read (Elt F) f29, arg30.view.read (Elt F) f30, arg31.view.read (Elt F) f31, arg32.view.read (Elt F) f32, arg33.view.read (Elt F) f33, arg34.view.read (Elt F) f34, arg35.view.read (Elt F) f35, arg36.view.read (Elt F) f36, arg37.view.read (Elt F) f37, arg38.view.read (Elt F) f38⟩ : In F) t)); iexact H42)
    isplitl [H43]; · (iapply (owns_store2 c arg43 f43 _ (v267 (⟨arg1.view.read (Elt F) f1, arg2.view.read (Elt F) f2, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14, arg15.view.read (Elt F) f15, arg16.view.read (Elt F) f16, arg17.view.read (Elt F) f17, arg18.view.read (Elt F) f18, arg19.view.read (Elt F) f19, arg20.view.read (Elt F) f20, arg21.view.read (Elt F) f21, arg22.view.read (Elt F) f22, arg23.view.read (Elt F) f23, arg24.view.read (Elt F) f24, arg25.view.read (Elt F) f25, arg26.view.read (Elt F) f26, arg27.view.read (Elt F) f27, arg28.view.read (Elt F) f28, arg29.view.read (Elt F) f29, arg30.view.read (Elt F) f30, arg31.view.read (Elt F) f31, arg32.view.read (Elt F) f32, arg33.view.read (Elt F) f33, arg34.view.read (Elt F) f34, arg35.view.read (Elt F) f35, arg36.view.read (Elt F) f36, arg37.view.read (Elt F) f37, arg38.view.read (Elt F) f38⟩ : In F) t)); iexact H43)
    isplitl [H44]; · (iapply (owns_store2 c arg44 f44 _ (v271 (⟨arg1.view.read (Elt F) f1, arg2.view.read (Elt F) f2, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14, arg15.view.read (Elt F) f15, arg16.view.read (Elt F) f16, arg17.view.read (Elt F) f17, arg18.view.read (Elt F) f18, arg19.view.read (Elt F) f19, arg20.view.read (Elt F) f20, arg21.view.read (Elt F) f21, arg22.view.read (Elt F) f22, arg23.view.read (Elt F) f23, arg24.view.read (Elt F) f24, arg25.view.read (Elt F) f25, arg26.view.read (Elt F) f26, arg27.view.read (Elt F) f27, arg28.view.read (Elt F) f28, arg29.view.read (Elt F) f29, arg30.view.read (Elt F) f30, arg31.view.read (Elt F) f31, arg32.view.read (Elt F) f32, arg33.view.read (Elt F) f33, arg34.view.read (Elt F) f34, arg35.view.read (Elt F) f35, arg36.view.read (Elt F) f36, arg37.view.read (Elt F) f37, arg38.view.read (Elt F) f38⟩ : In F) t)); iexact H44)
    isplitl [H45]; · (iapply (owns_store2 c arg45 f45 _ (v277 (⟨arg1.view.read (Elt F) f1, arg2.view.read (Elt F) f2, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14, arg15.view.read (Elt F) f15, arg16.view.read (Elt F) f16, arg17.view.read (Elt F) f17, arg18.view.read (Elt F) f18, arg19.view.read (Elt F) f19, arg20.view.read (Elt F) f20, arg21.view.read (Elt F) f21, arg22.view.read (Elt F) f22, arg23.view.read (Elt F) f23, arg24.view.read (Elt F) f24, arg25.view.read (Elt F) f25, arg26.view.read (Elt F) f26, arg27.view.read (Elt F) f27, arg28.view.read (Elt F) f28, arg29.view.read (Elt F) f29, arg30.view.read (Elt F) f30, arg31.view.read (Elt F) f31, arg32.view.read (Elt F) f32, arg33.view.read (Elt F) f33, arg34.view.read (Elt F) f34, arg35.view.read (Elt F) f35, arg36.view.read (Elt F) f36, arg37.view.read (Elt F) f37, arg38.view.read (Elt F) f38⟩ : In F) t)); iexact H45)
    iapply (owns_store2 c arg46 f46 _ (outMd (⟨arg1.view.read (Elt F) f1, arg2.view.read (Elt F) f2, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14, arg15.view.read (Elt F) f15, arg16.view.read (Elt F) f16, arg17.view.read (Elt F) f17, arg18.view.read (Elt F) f18, arg19.view.read (Elt F) f19, arg20.view.read (Elt F) f20, arg21.view.read (Elt F) f21, arg22.view.read (Elt F) f22, arg23.view.read (Elt F) f23, arg24.view.read (Elt F) f24, arg25.view.read (Elt F) f25, arg26.view.read (Elt F) f26, arg27.view.read (Elt F) f27, arg28.view.read (Elt F) f28, arg29.view.read (Elt F) f29, arg30.view.read (Elt F) f30, arg31.view.read (Elt F) f31, arg32.view.read (Elt F) f32, arg33.view.read (Elt F) f33, arg34.view.read (Elt F) f34, arg35.view.read (Elt F) f35, arg36.view.read (Elt F) f36, arg37.view.read (Elt F) f37, arg38.view.read (Elt F) f38⟩ : In F) t)); iexact H46
  isplitl [HFI_src]; · (iexact HFI_src)
  isplitl [HFI_dst HFI]; · (isplitl [HFI_dst] <;> [(iexists _; iexact HFI_dst); iexact HFI])
  isplitl [HFO_dst]; · (rw [← hg]; iexact HFO_dst)
  isplitl [HFO0_dst]; · (rw [← hg0]; iexact HFO0_dst)
  isplitl [Hah]; · (iapply (doneO_close c XO Y 1 (Ring.bk 32 t.val) (off8_slot (s := 1) hpar) _ g _ (stored_eq (⟨arg1.view.read (Elt F) f1, arg2.view.read (Elt F) f2, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14, arg15.view.read (Elt F) f15, arg16.view.read (Elt F) f16, arg17.view.read (Elt F) f17, arg18.view.read (Elt F) f18, arg19.view.read (Elt F) f19, arg20.view.read (Elt F) f20, arg21.view.read (Elt F) f21, arg22.view.read (Elt F) f22, arg23.view.read (Elt F) f23, arg24.view.read (Elt F) f24, arg25.view.read (Elt F) f25, arg26.view.read (Elt F) f26, arg27.view.read (Elt F) f27, arg28.view.read (Elt F) f28, arg29.view.read (Elt F) f29, arg30.view.read (Elt F) f30, arg31.view.read (Elt F) f31, arg32.view.read (Elt F) f32, arg33.view.read (Elt F) f33, arg34.view.read (Elt F) f34, arg35.view.read (Elt F) f35, arg36.view.read (Elt F) f36, arg37.view.read (Elt F) f37, arg38.view.read (Elt F) f38⟩ : In F) (s := 1) hpar _ (valsAt c XA (Ring.bk 32 t.val)) hY)); iexact Hah)
  isplitl [HFO0_src HFO0]; · (isplitl [HFO0_src] <;> [(iexists _; iexact HFO0_src); iexact HFO0])
  isplitl [HFO_src HFO]; · (isplitl [HFO_src] <;> [(iexists _; iexact HFO_src); iexact HFO])
  isplitl [HW]; · (iexists _; iexact HW)
  isplitl [H1]; · (iexists f1; isplitr <;> [(ipureintro; rfl); iexact H1])
  isplitl [H2]; · (iexists f2; isplitr <;> [(ipureintro; rfl); iexact H2])
  isplitl [H4]; · (iexists f4; isplitr <;> [(ipureintro; rfl); iexact H4])
  isplitl [H5]; · (iexists f5; isplitr <;> [(ipureintro; rfl); iexact H5])
  isplitl [H6]; · (iexists f6; isplitr <;> [(ipureintro; rfl); iexact H6])
  isplitl [H7]; · (iexists f7; isplitr <;> [(ipureintro; rfl); iexact H7])
  isplitl [H8]; · (iexists f8; isplitr <;> [(ipureintro; rfl); iexact H8])
  isplitl [H9]; · (iexists f9; isplitr <;> [(ipureintro; rfl); iexact H9])
  isplitl [H10]; · (iexists f10; isplitr <;> [(ipureintro; rfl); iexact H10])
  isplitl [H11]; · (iexists f11; isplitr <;> [(ipureintro; rfl); iexact H11])
  isplitl [H12]; · (iexists f12; isplitr <;> [(ipureintro; rfl); iexact H12])
  isplitl [H13]; · (iexists f13; isplitr <;> [(ipureintro; rfl); iexact H13])
  isplitl [H14]; · (iexists f14; isplitr <;> [(ipureintro; rfl); iexact H14])
  isplitl [H15]; · (iexists f15; isplitr <;> [(ipureintro; rfl); iexact H15])
  isplitl [H16]; · (iexists f16; isplitr <;> [(ipureintro; rfl); iexact H16])
  isplitl [H17]; · (iexists f17; isplitr <;> [(ipureintro; rfl); iexact H17])
  isplitl [H18]; · (iexists f18; isplitr <;> [(ipureintro; rfl); iexact H18])
  isplitl [H19]; · (iexists f19; isplitr <;> [(ipureintro; rfl); iexact H19])
  isplitl [H20]; · (iexists f20; isplitr <;> [(ipureintro; rfl); iexact H20])
  isplitl [H21]; · (iexists f21; isplitr <;> [(ipureintro; rfl); iexact H21])
  isplitl [H22]; · (iexists f22; isplitr <;> [(ipureintro; rfl); iexact H22])
  isplitl [H23]; · (iexists f23; isplitr <;> [(ipureintro; rfl); iexact H23])
  isplitl [H24]; · (iexists f24; isplitr <;> [(ipureintro; rfl); iexact H24])
  isplitl [H25]; · (iexists f25; isplitr <;> [(ipureintro; rfl); iexact H25])
  isplitl [H26]; · (iexists f26; isplitr <;> [(ipureintro; rfl); iexact H26])
  isplitl [H27]; · (iexists f27; isplitr <;> [(ipureintro; rfl); iexact H27])
  isplitl [H28]; · (iexists f28; isplitr <;> [(ipureintro; rfl); iexact H28])
  isplitl [H29]; · (iexists f29; isplitr <;> [(ipureintro; rfl); iexact H29])
  isplitl [H30]; · (iexists f30; isplitr <;> [(ipureintro; rfl); iexact H30])
  isplitl [H31]; · (iexists f31; isplitr <;> [(ipureintro; rfl); iexact H31])
  isplitl [H32]; · (iexists f32; isplitr <;> [(ipureintro; rfl); iexact H32])
  isplitl [H33]; · (iexists f33; isplitr <;> [(ipureintro; rfl); iexact H33])
  isplitl [H34]; · (iexists f34; isplitr <;> [(ipureintro; rfl); iexact H34])
  isplitl [H35]; · (iexists f35; isplitr <;> [(ipureintro; rfl); iexact H35])
  isplitl [H36]; · (iexists f36; isplitr <;> [(ipureintro; rfl); iexact H36])
  isplitl [H37]; · (iexists f37; isplitr <;> [(ipureintro; rfl); iexact H37])
  iexists f38; isplitr <;> [(ipureintro; rfl); iexact H38]
end Body

end Cert.KernelIdeal.Hand
-- ==== Proof.KernI.Runs.lean ====
/-
  The body at every grid point, case by case.
-/
module

public import proofs.«01_k».proof.Proof.KernI.RunFirst
public import proofs.«01_k».proof.Proof.KernI.RunSecond
public import proofs.«01_k».proof.Proof.KernI.RunEven
public import proofs.«01_k».proof.Proof.KernI.RunOdd
public import proofs.«01_k».proof.Proof.KernI.RunPenult
public import proofs.«01_k».proof.Proof.KernI.RunLast
-- ==== Proof.KernI.Sound.lean ====
/-
  The body at every grid point, from what is held before it to what is held after.
-/
module

public import proofs.«01_k».proof.Proof.KernI.Data
public import proofs.«01_k».proof.Proof.KernI.Runs

@[expose] public section

set_option maxRecDepth 16384

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

section Group
variable {M : Type} [URA M] {P P' R I O : sProp M}
/-- Another input put before the inputs and the results apart, -/
theorem cons_split (hp : P ⊢ P') (h : R ⊢ iprop(I ∗ O)) : iprop(P ∗ R) ⊢ iprop((P' ∗ I) ∗ O) := by
  iintro ⟨H, HR⟩
  ihave HP := hp $$ H
  ihave HR := h $$ HR
  icases HR with ⟨HI, HO⟩
  iframe HP HI HO
/-- and before them together. -/
theorem cons_join (hp : P' ⊢ P) (h : iprop(I ∗ O) ⊢ R) : iprop((P' ∗ I) ∗ O) ⊢ iprop(P ∗ R) := by
  iintro ⟨⟨H, HI⟩, HO⟩
  isplitl [H]
  · iapply hp; iexact H
  · iapply h; iframe HI HO
end Group

/-- The windows before the body, -/
abbrev winsPre (c : Dev nD) (t : Fin cfg0.N) : sProp 𝕄 :=
  iprop((∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)) ∗ (∃ d, owns (c : Thread nD τ) (st0_13 t) fullShare ((dats m 0 c).before 13 t d)) ∗ (∃ d, owns (c : Thread nD τ) (st0_14 t) fullShare ((dats m 0 c).before 14 t d)) ∗ (∃ d, owns (c : Thread nD τ) (st0_15 t) fullShare ((dats m 0 c).before 15 t d)) ∗ (∃ d, owns (c : Thread nD τ) (st0_16 t) fullShare ((dats m 0 c).before 16 t d)) ∗ (∃ d, owns (c : Thread nD τ) (st0_17 t) fullShare ((dats m 0 c).before 17 t d)) ∗ (∃ d, owns (c : Thread nD τ) (st0_18 t) fullShare ((dats m 0 c).before 18 t d)) ∗ (∃ d, owns (c : Thread nD τ) (st0_19 t) fullShare ((dats m 0 c).before 19 t d)) ∗ (∃ d, owns (c : Thread nD τ) (st0_20 t) fullShare ((dats m 0 c).before 20 t d)) ∗ (∃ d, owns (c : Thread nD τ) (st0_21 t) fullShare ((dats m 0 c).before 21 t d)) ∗ (∃ d, owns (c : Thread nD τ) (st0_22 t) fullShare ((dats m 0 c).before 22 t d)) ∗ (∃ d, owns (c : Thread nD τ) (st0_23 t) fullShare ((dats m 0 c).before 23 t d)) ∗ (∃ d, owns (c : Thread nD τ) (st0_24 t) fullShare ((dats m 0 c).before 24 t d)) ∗ (∃ d, owns (c : Thread nD τ) (st0_25 t) fullShare ((dats m 0 c).before 25 t d)) ∗ (∃ d, owns (c : Thread nD τ) (st0_26 t) fullShare ((dats m 0 c).before 26 t d)) ∗ (∃ d, owns (c : Thread nD τ) (st0_27 t) fullShare ((dats m 0 c).before 27 t d)) ∗ (∃ d, owns (c : Thread nD τ) (st0_28 t) fullShare ((dats m 0 c).before 28 t d)) ∗ (∃ d, owns (c : Thread nD τ) (st0_29 t) fullShare ((dats m 0 c).before 29 t d)) ∗ (∃ d, owns (c : Thread nD τ) (st0_30 t) fullShare ((dats m 0 c).before 30 t d)) ∗ (∃ d, owns (c : Thread nD τ) (st0_31 t) fullShare ((dats m 0 c).before 31 t d)) ∗ (∃ d, owns (c : Thread nD τ) (st0_32 t) fullShare ((dats m 0 c).before 32 t d)) ∗ (∃ d, owns (c : Thread nD τ) (st0_33 t) fullShare ((dats m 0 c).before 33 t d)) ∗ (∃ d, owns (c : Thread nD τ) (st0_34 t) fullShare ((dats m 0 c).before 34 t d)) ∗ (∃ d, owns (c : Thread nD τ) (st0_35 t) fullShare ((dats m 0 c).before 35 t d)) ∗ (∃ d, owns (c : Thread nD τ) (st0_36 t) fullShare ((dats m 0 c).before 36 t d)) ∗ (∃ d, owns (c : Thread nD τ) (st0_37 t) fullShare ((dats m 0 c).before 37 t d)) ∗ (∃ d, owns (c : Thread nD τ) (st0_38 t) fullShare ((dats m 0 c).before 38 t d)) ∗ (∃ d, owns (c : Thread nD τ) (st0_39 t) fullShare ((dats m 0 c).before 39 t d)) ∗ (∃ d, owns (c : Thread nD τ) (st0_40 t) fullShare ((dats m 0 c).before 40 t d)) ∗ (∃ d, owns (c : Thread nD τ) (st0_41 t) fullShare ((dats m 0 c).before 41 t d)) ∗ (∃ d, owns (c : Thread nD τ) (st0_42 t) fullShare ((dats m 0 c).before 42 t d)) ∗ (∃ d, owns (c : Thread nD τ) (st0_43 t) fullShare ((dats m 0 c).before 43 t d)))
/-- and after it. -/
abbrev winsPost (c : Dev nD) (t : Fin cfg0.N) : sProp 𝕄 :=
  iprop(owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ owns (c : Thread nD τ) (st0_12 t) fullShare ((dats m 0 c).after 12 t) ∗ owns (c : Thread nD τ) (st0_13 t) fullShare ((dats m 0 c).after 13 t) ∗ owns (c : Thread nD τ) (st0_14 t) fullShare ((dats m 0 c).after 14 t) ∗ owns (c : Thread nD τ) (st0_15 t) fullShare ((dats m 0 c).after 15 t) ∗ owns (c : Thread nD τ) (st0_16 t) fullShare ((dats m 0 c).after 16 t) ∗ owns (c : Thread nD τ) (st0_17 t) fullShare ((dats m 0 c).after 17 t) ∗ owns (c : Thread nD τ) (st0_18 t) fullShare ((dats m 0 c).after 18 t) ∗ owns (c : Thread nD τ) (st0_19 t) fullShare ((dats m 0 c).after 19 t) ∗ owns (c : Thread nD τ) (st0_20 t) fullShare ((dats m 0 c).after 20 t) ∗ owns (c : Thread nD τ) (st0_21 t) fullShare ((dats m 0 c).after 21 t) ∗ owns (c : Thread nD τ) (st0_22 t) fullShare ((dats m 0 c).after 22 t) ∗ owns (c : Thread nD τ) (st0_23 t) fullShare ((dats m 0 c).after 23 t) ∗ owns (c : Thread nD τ) (st0_24 t) fullShare ((dats m 0 c).after 24 t) ∗ owns (c : Thread nD τ) (st0_25 t) fullShare ((dats m 0 c).after 25 t) ∗ owns (c : Thread nD τ) (st0_26 t) fullShare ((dats m 0 c).after 26 t) ∗ owns (c : Thread nD τ) (st0_27 t) fullShare ((dats m 0 c).after 27 t) ∗ owns (c : Thread nD τ) (st0_28 t) fullShare ((dats m 0 c).after 28 t) ∗ owns (c : Thread nD τ) (st0_29 t) fullShare ((dats m 0 c).after 29 t) ∗ owns (c : Thread nD τ) (st0_30 t) fullShare ((dats m 0 c).after 30 t) ∗ owns (c : Thread nD τ) (st0_31 t) fullShare ((dats m 0 c).after 31 t) ∗ owns (c : Thread nD τ) (st0_32 t) fullShare ((dats m 0 c).after 32 t) ∗ owns (c : Thread nD τ) (st0_33 t) fullShare ((dats m 0 c).after 33 t) ∗ owns (c : Thread nD τ) (st0_34 t) fullShare ((dats m 0 c).after 34 t) ∗ owns (c : Thread nD τ) (st0_35 t) fullShare ((dats m 0 c).after 35 t) ∗ owns (c : Thread nD τ) (st0_36 t) fullShare ((dats m 0 c).after 36 t) ∗ owns (c : Thread nD τ) (st0_37 t) fullShare ((dats m 0 c).after 37 t) ∗ owns (c : Thread nD τ) (st0_38 t) fullShare ((dats m 0 c).after 38 t) ∗ owns (c : Thread nD τ) (st0_39 t) fullShare ((dats m 0 c).after 39 t) ∗ owns (c : Thread nD τ) (st0_40 t) fullShare ((dats m 0 c).after 40 t) ∗ owns (c : Thread nD τ) (st0_41 t) fullShare ((dats m 0 c).after 41 t) ∗ owns (c : Thread nD τ) (st0_42 t) fullShare ((dats m 0 c).after 42 t) ∗ owns (c : Thread nD τ) (st0_43 t) fullShare ((dats m 0 c).after 43 t))

theorem win_in (c : Dev nD) (t : Fin cfg0.N) (w : Fin cfg0.W) {e} (h : ∀ d, (dats m 0 c).before w t d = e) :
    (iprop(∃ d, owns (c : Thread nD τ) ((cfg0.win w).stage (cfg0.slots t w)) fullShare ((dats m 0 c).before w t d)) : sProp 𝕄)
      ⊢ owns (c : Thread nD τ) ((cfg0.win w).stage (cfg0.slots t w)) fullShare e := by
  iintro ⟨%d, H⟩
  rw [h d]
  iexact H
theorem win_out (c : Dev nD) (t : Fin cfg0.N) (w : Fin cfg0.W) :
    (iprop(∃ d, owns (c : Thread nD τ) ((cfg0.win w).stage (cfg0.slots t w)) fullShare ((dats m 0 c).before w t d)) : sProp 𝕄)
      ⊢ iprop(∃ z, owns (c : Thread nD τ) ((cfg0.win w).stage (cfg0.slots t w)) fullShare z) := by
  iintro ⟨%d, H⟩
  iexists _
  iexact H

theorem win_post (c : Dev nD) (t : Fin cfg0.N) (w : Fin cfg0.W) {e} (h : (dats m 0 c).after w t = e) :
    (owns (c : Thread nD τ) ((cfg0.win w).stage (cfg0.slots t w)) fullShare e : sProp 𝕄)
      ⊢ owns (c : Thread nD τ) ((cfg0.win w).stage (cfg0.slots t w)) fullShare ((dats m 0 c).after w t) := by
  rw [h]

theorem wi_0 (c : Dev nD) (t : Fin cfg0.N) :
    (iprop(∃ d, owns (c : Thread nD τ) (st0_0 t) fullShare ((dats m 0 c).before 0 t d)) : sProp 𝕄) ⊢ owns (c : Thread nD τ) (st0_0 t) fullShare (Xat m c t).x1 :=
  win_in m c t 0 (before0_0 m c t)
theorem wo_0 (c : Dev nD) (t : Fin cfg0.N) :
    (owns (c : Thread nD τ) (st0_0 t) fullShare (Xat m c t).x1 : sProp 𝕄) ⊢ owns (c : Thread nD τ) (st0_0 t) fullShare ((dats m 0 c).after 0 t) :=
  win_post m c t 0 (after0_0 m c t)
theorem wi_1 (c : Dev nD) (t : Fin cfg0.N) :
    (iprop(∃ d, owns (c : Thread nD τ) (st0_1 t) fullShare ((dats m 0 c).before 1 t d)) : sProp 𝕄) ⊢ owns (c : Thread nD τ) (st0_1 t) fullShare (Xat m c t).x2 :=
  win_in m c t 1 (before0_1 m c t)
theorem wo_1 (c : Dev nD) (t : Fin cfg0.N) :
    (owns (c : Thread nD τ) (st0_1 t) fullShare (Xat m c t).x2 : sProp 𝕄) ⊢ owns (c : Thread nD τ) (st0_1 t) fullShare ((dats m 0 c).after 1 t) :=
  win_post m c t 1 (after0_1 m c t)
theorem wi_2 (c : Dev nD) (t : Fin cfg0.N) :
    (iprop(∃ d, owns (c : Thread nD τ) (st0_2 t) fullShare ((dats m 0 c).before 2 t d)) : sProp 𝕄) ⊢ owns (c : Thread nD τ) (st0_2 t) fullShare (Xat m c t).x4 :=
  win_in m c t 2 (before0_2 m c t)
theorem wo_2 (c : Dev nD) (t : Fin cfg0.N) :
    (owns (c : Thread nD τ) (st0_2 t) fullShare (Xat m c t).x4 : sProp 𝕄) ⊢ owns (c : Thread nD τ) (st0_2 t) fullShare ((dats m 0 c).after 2 t) :=
  win_post m c t 2 (after0_2 m c t)
theorem wi_3 (c : Dev nD) (t : Fin cfg0.N) :
    (iprop(∃ d, owns (c : Thread nD τ) (st0_3 t) fullShare ((dats m 0 c).before 3 t d)) : sProp 𝕄) ⊢ owns (c : Thread nD τ) (st0_3 t) fullShare (Xat m c t).x5 :=
  win_in m c t 3 (before0_3 m c t)
theorem wo_3 (c : Dev nD) (t : Fin cfg0.N) :
    (owns (c : Thread nD τ) (st0_3 t) fullShare (Xat m c t).x5 : sProp 𝕄) ⊢ owns (c : Thread nD τ) (st0_3 t) fullShare ((dats m 0 c).after 3 t) :=
  win_post m c t 3 (after0_3 m c t)
theorem wi_4 (c : Dev nD) (t : Fin cfg0.N) :
    (iprop(∃ d, owns (c : Thread nD τ) (st0_4 t) fullShare ((dats m 0 c).before 4 t d)) : sProp 𝕄) ⊢ owns (c : Thread nD τ) (st0_4 t) fullShare (Xat m c t).x6 :=
  win_in m c t 4 (before0_4 m c t)
theorem wo_4 (c : Dev nD) (t : Fin cfg0.N) :
    (owns (c : Thread nD τ) (st0_4 t) fullShare (Xat m c t).x6 : sProp 𝕄) ⊢ owns (c : Thread nD τ) (st0_4 t) fullShare ((dats m 0 c).after 4 t) :=
  win_post m c t 4 (after0_4 m c t)
theorem wi_5 (c : Dev nD) (t : Fin cfg0.N) :
    (iprop(∃ d, owns (c : Thread nD τ) (st0_5 t) fullShare ((dats m 0 c).before 5 t d)) : sProp 𝕄) ⊢ owns (c : Thread nD τ) (st0_5 t) fullShare (Xat m c t).x7 :=
  win_in m c t 5 (before0_5 m c t)
theorem wo_5 (c : Dev nD) (t : Fin cfg0.N) :
    (owns (c : Thread nD τ) (st0_5 t) fullShare (Xat m c t).x7 : sProp 𝕄) ⊢ owns (c : Thread nD τ) (st0_5 t) fullShare ((dats m 0 c).after 5 t) :=
  win_post m c t 5 (after0_5 m c t)
theorem wi_6 (c : Dev nD) (t : Fin cfg0.N) :
    (iprop(∃ d, owns (c : Thread nD τ) (st0_6 t) fullShare ((dats m 0 c).before 6 t d)) : sProp 𝕄) ⊢ owns (c : Thread nD τ) (st0_6 t) fullShare (Xat m c t).x8 :=
  win_in m c t 6 (before0_6 m c t)
theorem wo_6 (c : Dev nD) (t : Fin cfg0.N) :
    (owns (c : Thread nD τ) (st0_6 t) fullShare (Xat m c t).x8 : sProp 𝕄) ⊢ owns (c : Thread nD τ) (st0_6 t) fullShare ((dats m 0 c).after 6 t) :=
  win_post m c t 6 (after0_6 m c t)
theorem wi_7 (c : Dev nD) (t : Fin cfg0.N) :
    (iprop(∃ d, owns (c : Thread nD τ) (st0_7 t) fullShare ((dats m 0 c).before 7 t d)) : sProp 𝕄) ⊢ owns (c : Thread nD τ) (st0_7 t) fullShare (Xat m c t).x9 :=
  win_in m c t 7 (before0_7 m c t)
theorem wo_7 (c : Dev nD) (t : Fin cfg0.N) :
    (owns (c : Thread nD τ) (st0_7 t) fullShare (Xat m c t).x9 : sProp 𝕄) ⊢ owns (c : Thread nD τ) (st0_7 t) fullShare ((dats m 0 c).after 7 t) :=
  win_post m c t 7 (after0_7 m c t)
theorem wi_8 (c : Dev nD) (t : Fin cfg0.N) :
    (iprop(∃ d, owns (c : Thread nD τ) (st0_8 t) fullShare ((dats m 0 c).before 8 t d)) : sProp 𝕄) ⊢ owns (c : Thread nD τ) (st0_8 t) fullShare (Xat m c t).x10 :=
  win_in m c t 8 (before0_8 m c t)
theorem wo_8 (c : Dev nD) (t : Fin cfg0.N) :
    (owns (c : Thread nD τ) (st0_8 t) fullShare (Xat m c t).x10 : sProp 𝕄) ⊢ owns (c : Thread nD τ) (st0_8 t) fullShare ((dats m 0 c).after 8 t) :=
  win_post m c t 8 (after0_8 m c t)
theorem wi_9 (c : Dev nD) (t : Fin cfg0.N) :
    (iprop(∃ d, owns (c : Thread nD τ) (st0_9 t) fullShare ((dats m 0 c).before 9 t d)) : sProp 𝕄) ⊢ owns (c : Thread nD τ) (st0_9 t) fullShare (Xat m c t).x11 :=
  win_in m c t 9 (before0_9 m c t)
theorem wo_9 (c : Dev nD) (t : Fin cfg0.N) :
    (owns (c : Thread nD τ) (st0_9 t) fullShare (Xat m c t).x11 : sProp 𝕄) ⊢ owns (c : Thread nD τ) (st0_9 t) fullShare ((dats m 0 c).after 9 t) :=
  win_post m c t 9 (after0_9 m c t)
theorem wi_10 (c : Dev nD) (t : Fin cfg0.N) :
    (iprop(∃ d, owns (c : Thread nD τ) (st0_10 t) fullShare ((dats m 0 c).before 10 t d)) : sProp 𝕄) ⊢ owns (c : Thread nD τ) (st0_10 t) fullShare (Xat m c t).x12 :=
  win_in m c t 10 (before0_10 m c t)
theorem wo_10 (c : Dev nD) (t : Fin cfg0.N) :
    (owns (c : Thread nD τ) (st0_10 t) fullShare (Xat m c t).x12 : sProp 𝕄) ⊢ owns (c : Thread nD τ) (st0_10 t) fullShare ((dats m 0 c).after 10 t) :=
  win_post m c t 10 (after0_10 m c t)
theorem wi_11 (c : Dev nD) (t : Fin cfg0.N) :
    (iprop(∃ d, owns (c : Thread nD τ) (st0_11 t) fullShare ((dats m 0 c).before 11 t d)) : sProp 𝕄) ⊢ owns (c : Thread nD τ) (st0_11 t) fullShare (Xat m c t).x13 :=
  win_in m c t 11 (before0_11 m c t)
theorem wo_11 (c : Dev nD) (t : Fin cfg0.N) :
    (owns (c : Thread nD τ) (st0_11 t) fullShare (Xat m c t).x13 : sProp 𝕄) ⊢ owns (c : Thread nD τ) (st0_11 t) fullShare ((dats m 0 c).after 11 t) :=
  win_post m c t 11 (after0_11 m c t)
theorem wi_12 (c : Dev nD) (t : Fin cfg0.N) :
    (iprop(∃ d, owns (c : Thread nD τ) (st0_12 t) fullShare ((dats m 0 c).before 12 t d)) : sProp 𝕄) ⊢ owns (c : Thread nD τ) (st0_12 t) fullShare (Xat m c t).x14 :=
  win_in m c t 12 (before0_12 m c t)
theorem wo_12 (c : Dev nD) (t : Fin cfg0.N) :
    (owns (c : Thread nD τ) (st0_12 t) fullShare (Xat m c t).x14 : sProp 𝕄) ⊢ owns (c : Thread nD τ) (st0_12 t) fullShare ((dats m 0 c).after 12 t) :=
  win_post m c t 12 (after0_12 m c t)
theorem wi_13 (c : Dev nD) (t : Fin cfg0.N) :
    (iprop(∃ d, owns (c : Thread nD τ) (st0_13 t) fullShare ((dats m 0 c).before 13 t d)) : sProp 𝕄) ⊢ owns (c : Thread nD τ) (st0_13 t) fullShare (Xat m c t).x15 :=
  win_in m c t 13 (before0_13 m c t)
theorem wo_13 (c : Dev nD) (t : Fin cfg0.N) :
    (owns (c : Thread nD τ) (st0_13 t) fullShare (Xat m c t).x15 : sProp 𝕄) ⊢ owns (c : Thread nD τ) (st0_13 t) fullShare ((dats m 0 c).after 13 t) :=
  win_post m c t 13 (after0_13 m c t)
theorem wi_14 (c : Dev nD) (t : Fin cfg0.N) :
    (iprop(∃ d, owns (c : Thread nD τ) (st0_14 t) fullShare ((dats m 0 c).before 14 t d)) : sProp 𝕄) ⊢ owns (c : Thread nD τ) (st0_14 t) fullShare (Xat m c t).x16 :=
  win_in m c t 14 (before0_14 m c t)
theorem wo_14 (c : Dev nD) (t : Fin cfg0.N) :
    (owns (c : Thread nD τ) (st0_14 t) fullShare (Xat m c t).x16 : sProp 𝕄) ⊢ owns (c : Thread nD τ) (st0_14 t) fullShare ((dats m 0 c).after 14 t) :=
  win_post m c t 14 (after0_14 m c t)
theorem wi_15 (c : Dev nD) (t : Fin cfg0.N) :
    (iprop(∃ d, owns (c : Thread nD τ) (st0_15 t) fullShare ((dats m 0 c).before 15 t d)) : sProp 𝕄) ⊢ owns (c : Thread nD τ) (st0_15 t) fullShare (Xat m c t).x17 :=
  win_in m c t 15 (before0_15 m c t)
theorem wo_15 (c : Dev nD) (t : Fin cfg0.N) :
    (owns (c : Thread nD τ) (st0_15 t) fullShare (Xat m c t).x17 : sProp 𝕄) ⊢ owns (c : Thread nD τ) (st0_15 t) fullShare ((dats m 0 c).after 15 t) :=
  win_post m c t 15 (after0_15 m c t)
theorem wi_16 (c : Dev nD) (t : Fin cfg0.N) :
    (iprop(∃ d, owns (c : Thread nD τ) (st0_16 t) fullShare ((dats m 0 c).before 16 t d)) : sProp 𝕄) ⊢ owns (c : Thread nD τ) (st0_16 t) fullShare (Xat m c t).x18 :=
  win_in m c t 16 (before0_16 m c t)
theorem wo_16 (c : Dev nD) (t : Fin cfg0.N) :
    (owns (c : Thread nD τ) (st0_16 t) fullShare (Xat m c t).x18 : sProp 𝕄) ⊢ owns (c : Thread nD τ) (st0_16 t) fullShare ((dats m 0 c).after 16 t) :=
  win_post m c t 16 (after0_16 m c t)
theorem wi_17 (c : Dev nD) (t : Fin cfg0.N) :
    (iprop(∃ d, owns (c : Thread nD τ) (st0_17 t) fullShare ((dats m 0 c).before 17 t d)) : sProp 𝕄) ⊢ owns (c : Thread nD τ) (st0_17 t) fullShare (Xat m c t).x19 :=
  win_in m c t 17 (before0_17 m c t)
theorem wo_17 (c : Dev nD) (t : Fin cfg0.N) :
    (owns (c : Thread nD τ) (st0_17 t) fullShare (Xat m c t).x19 : sProp 𝕄) ⊢ owns (c : Thread nD τ) (st0_17 t) fullShare ((dats m 0 c).after 17 t) :=
  win_post m c t 17 (after0_17 m c t)
theorem wi_18 (c : Dev nD) (t : Fin cfg0.N) :
    (iprop(∃ d, owns (c : Thread nD τ) (st0_18 t) fullShare ((dats m 0 c).before 18 t d)) : sProp 𝕄) ⊢ owns (c : Thread nD τ) (st0_18 t) fullShare (Xat m c t).x20 :=
  win_in m c t 18 (before0_18 m c t)
theorem wo_18 (c : Dev nD) (t : Fin cfg0.N) :
    (owns (c : Thread nD τ) (st0_18 t) fullShare (Xat m c t).x20 : sProp 𝕄) ⊢ owns (c : Thread nD τ) (st0_18 t) fullShare ((dats m 0 c).after 18 t) :=
  win_post m c t 18 (after0_18 m c t)
theorem wi_19 (c : Dev nD) (t : Fin cfg0.N) :
    (iprop(∃ d, owns (c : Thread nD τ) (st0_19 t) fullShare ((dats m 0 c).before 19 t d)) : sProp 𝕄) ⊢ owns (c : Thread nD τ) (st0_19 t) fullShare (Xat m c t).x21 :=
  win_in m c t 19 (before0_19 m c t)
theorem wo_19 (c : Dev nD) (t : Fin cfg0.N) :
    (owns (c : Thread nD τ) (st0_19 t) fullShare (Xat m c t).x21 : sProp 𝕄) ⊢ owns (c : Thread nD τ) (st0_19 t) fullShare ((dats m 0 c).after 19 t) :=
  win_post m c t 19 (after0_19 m c t)
theorem wi_20 (c : Dev nD) (t : Fin cfg0.N) :
    (iprop(∃ d, owns (c : Thread nD τ) (st0_20 t) fullShare ((dats m 0 c).before 20 t d)) : sProp 𝕄) ⊢ owns (c : Thread nD τ) (st0_20 t) fullShare (Xat m c t).x22 :=
  win_in m c t 20 (before0_20 m c t)
theorem wo_20 (c : Dev nD) (t : Fin cfg0.N) :
    (owns (c : Thread nD τ) (st0_20 t) fullShare (Xat m c t).x22 : sProp 𝕄) ⊢ owns (c : Thread nD τ) (st0_20 t) fullShare ((dats m 0 c).after 20 t) :=
  win_post m c t 20 (after0_20 m c t)
theorem wi_21 (c : Dev nD) (t : Fin cfg0.N) :
    (iprop(∃ d, owns (c : Thread nD τ) (st0_21 t) fullShare ((dats m 0 c).before 21 t d)) : sProp 𝕄) ⊢ owns (c : Thread nD τ) (st0_21 t) fullShare (Xat m c t).x23 :=
  win_in m c t 21 (before0_21 m c t)
theorem wo_21 (c : Dev nD) (t : Fin cfg0.N) :
    (owns (c : Thread nD τ) (st0_21 t) fullShare (Xat m c t).x23 : sProp 𝕄) ⊢ owns (c : Thread nD τ) (st0_21 t) fullShare ((dats m 0 c).after 21 t) :=
  win_post m c t 21 (after0_21 m c t)
theorem wi_22 (c : Dev nD) (t : Fin cfg0.N) :
    (iprop(∃ d, owns (c : Thread nD τ) (st0_22 t) fullShare ((dats m 0 c).before 22 t d)) : sProp 𝕄) ⊢ owns (c : Thread nD τ) (st0_22 t) fullShare (Xat m c t).x24 :=
  win_in m c t 22 (before0_22 m c t)
theorem wo_22 (c : Dev nD) (t : Fin cfg0.N) :
    (owns (c : Thread nD τ) (st0_22 t) fullShare (Xat m c t).x24 : sProp 𝕄) ⊢ owns (c : Thread nD τ) (st0_22 t) fullShare ((dats m 0 c).after 22 t) :=
  win_post m c t 22 (after0_22 m c t)
theorem wi_23 (c : Dev nD) (t : Fin cfg0.N) :
    (iprop(∃ d, owns (c : Thread nD τ) (st0_23 t) fullShare ((dats m 0 c).before 23 t d)) : sProp 𝕄) ⊢ owns (c : Thread nD τ) (st0_23 t) fullShare (Xat m c t).x25 :=
  win_in m c t 23 (before0_23 m c t)
theorem wo_23 (c : Dev nD) (t : Fin cfg0.N) :
    (owns (c : Thread nD τ) (st0_23 t) fullShare (Xat m c t).x25 : sProp 𝕄) ⊢ owns (c : Thread nD τ) (st0_23 t) fullShare ((dats m 0 c).after 23 t) :=
  win_post m c t 23 (after0_23 m c t)
theorem wi_24 (c : Dev nD) (t : Fin cfg0.N) :
    (iprop(∃ d, owns (c : Thread nD τ) (st0_24 t) fullShare ((dats m 0 c).before 24 t d)) : sProp 𝕄) ⊢ owns (c : Thread nD τ) (st0_24 t) fullShare (Xat m c t).x26 :=
  win_in m c t 24 (before0_24 m c t)
theorem wo_24 (c : Dev nD) (t : Fin cfg0.N) :
    (owns (c : Thread nD τ) (st0_24 t) fullShare (Xat m c t).x26 : sProp 𝕄) ⊢ owns (c : Thread nD τ) (st0_24 t) fullShare ((dats m 0 c).after 24 t) :=
  win_post m c t 24 (after0_24 m c t)
theorem wi_25 (c : Dev nD) (t : Fin cfg0.N) :
    (iprop(∃ d, owns (c : Thread nD τ) (st0_25 t) fullShare ((dats m 0 c).before 25 t d)) : sProp 𝕄) ⊢ owns (c : Thread nD τ) (st0_25 t) fullShare (Xat m c t).x27 :=
  win_in m c t 25 (before0_25 m c t)
theorem wo_25 (c : Dev nD) (t : Fin cfg0.N) :
    (owns (c : Thread nD τ) (st0_25 t) fullShare (Xat m c t).x27 : sProp 𝕄) ⊢ owns (c : Thread nD τ) (st0_25 t) fullShare ((dats m 0 c).after 25 t) :=
  win_post m c t 25 (after0_25 m c t)
theorem wi_26 (c : Dev nD) (t : Fin cfg0.N) :
    (iprop(∃ d, owns (c : Thread nD τ) (st0_26 t) fullShare ((dats m 0 c).before 26 t d)) : sProp 𝕄) ⊢ owns (c : Thread nD τ) (st0_26 t) fullShare (Xat m c t).x28 :=
  win_in m c t 26 (before0_26 m c t)
theorem wo_26 (c : Dev nD) (t : Fin cfg0.N) :
    (owns (c : Thread nD τ) (st0_26 t) fullShare (Xat m c t).x28 : sProp 𝕄) ⊢ owns (c : Thread nD τ) (st0_26 t) fullShare ((dats m 0 c).after 26 t) :=
  win_post m c t 26 (after0_26 m c t)
theorem wi_27 (c : Dev nD) (t : Fin cfg0.N) :
    (iprop(∃ d, owns (c : Thread nD τ) (st0_27 t) fullShare ((dats m 0 c).before 27 t d)) : sProp 𝕄) ⊢ owns (c : Thread nD τ) (st0_27 t) fullShare (Xat m c t).x29 :=
  win_in m c t 27 (before0_27 m c t)
theorem wo_27 (c : Dev nD) (t : Fin cfg0.N) :
    (owns (c : Thread nD τ) (st0_27 t) fullShare (Xat m c t).x29 : sProp 𝕄) ⊢ owns (c : Thread nD τ) (st0_27 t) fullShare ((dats m 0 c).after 27 t) :=
  win_post m c t 27 (after0_27 m c t)
theorem wi_28 (c : Dev nD) (t : Fin cfg0.N) :
    (iprop(∃ d, owns (c : Thread nD τ) (st0_28 t) fullShare ((dats m 0 c).before 28 t d)) : sProp 𝕄) ⊢ owns (c : Thread nD τ) (st0_28 t) fullShare (Xat m c t).x30 :=
  win_in m c t 28 (before0_28 m c t)
theorem wo_28 (c : Dev nD) (t : Fin cfg0.N) :
    (owns (c : Thread nD τ) (st0_28 t) fullShare (Xat m c t).x30 : sProp 𝕄) ⊢ owns (c : Thread nD τ) (st0_28 t) fullShare ((dats m 0 c).after 28 t) :=
  win_post m c t 28 (after0_28 m c t)
theorem wi_29 (c : Dev nD) (t : Fin cfg0.N) :
    (iprop(∃ d, owns (c : Thread nD τ) (st0_29 t) fullShare ((dats m 0 c).before 29 t d)) : sProp 𝕄) ⊢ owns (c : Thread nD τ) (st0_29 t) fullShare (Xat m c t).x31 :=
  win_in m c t 29 (before0_29 m c t)
theorem wo_29 (c : Dev nD) (t : Fin cfg0.N) :
    (owns (c : Thread nD τ) (st0_29 t) fullShare (Xat m c t).x31 : sProp 𝕄) ⊢ owns (c : Thread nD τ) (st0_29 t) fullShare ((dats m 0 c).after 29 t) :=
  win_post m c t 29 (after0_29 m c t)
theorem wi_30 (c : Dev nD) (t : Fin cfg0.N) :
    (iprop(∃ d, owns (c : Thread nD τ) (st0_30 t) fullShare ((dats m 0 c).before 30 t d)) : sProp 𝕄) ⊢ owns (c : Thread nD τ) (st0_30 t) fullShare (Xat m c t).x32 :=
  win_in m c t 30 (before0_30 m c t)
theorem wo_30 (c : Dev nD) (t : Fin cfg0.N) :
    (owns (c : Thread nD τ) (st0_30 t) fullShare (Xat m c t).x32 : sProp 𝕄) ⊢ owns (c : Thread nD τ) (st0_30 t) fullShare ((dats m 0 c).after 30 t) :=
  win_post m c t 30 (after0_30 m c t)
theorem wi_31 (c : Dev nD) (t : Fin cfg0.N) :
    (iprop(∃ d, owns (c : Thread nD τ) (st0_31 t) fullShare ((dats m 0 c).before 31 t d)) : sProp 𝕄) ⊢ owns (c : Thread nD τ) (st0_31 t) fullShare (Xat m c t).x33 :=
  win_in m c t 31 (before0_31 m c t)
theorem wo_31 (c : Dev nD) (t : Fin cfg0.N) :
    (owns (c : Thread nD τ) (st0_31 t) fullShare (Xat m c t).x33 : sProp 𝕄) ⊢ owns (c : Thread nD τ) (st0_31 t) fullShare ((dats m 0 c).after 31 t) :=
  win_post m c t 31 (after0_31 m c t)
theorem wi_32 (c : Dev nD) (t : Fin cfg0.N) :
    (iprop(∃ d, owns (c : Thread nD τ) (st0_32 t) fullShare ((dats m 0 c).before 32 t d)) : sProp 𝕄) ⊢ owns (c : Thread nD τ) (st0_32 t) fullShare (Xat m c t).x34 :=
  win_in m c t 32 (before0_32 m c t)
theorem wo_32 (c : Dev nD) (t : Fin cfg0.N) :
    (owns (c : Thread nD τ) (st0_32 t) fullShare (Xat m c t).x34 : sProp 𝕄) ⊢ owns (c : Thread nD τ) (st0_32 t) fullShare ((dats m 0 c).after 32 t) :=
  win_post m c t 32 (after0_32 m c t)
theorem wi_33 (c : Dev nD) (t : Fin cfg0.N) :
    (iprop(∃ d, owns (c : Thread nD τ) (st0_33 t) fullShare ((dats m 0 c).before 33 t d)) : sProp 𝕄) ⊢ owns (c : Thread nD τ) (st0_33 t) fullShare (Xat m c t).x35 :=
  win_in m c t 33 (before0_33 m c t)
theorem wo_33 (c : Dev nD) (t : Fin cfg0.N) :
    (owns (c : Thread nD τ) (st0_33 t) fullShare (Xat m c t).x35 : sProp 𝕄) ⊢ owns (c : Thread nD τ) (st0_33 t) fullShare ((dats m 0 c).after 33 t) :=
  win_post m c t 33 (after0_33 m c t)
theorem wi_34 (c : Dev nD) (t : Fin cfg0.N) :
    (iprop(∃ d, owns (c : Thread nD τ) (st0_34 t) fullShare ((dats m 0 c).before 34 t d)) : sProp 𝕄) ⊢ owns (c : Thread nD τ) (st0_34 t) fullShare (Xat m c t).x36 :=
  win_in m c t 34 (before0_34 m c t)
theorem wo_34 (c : Dev nD) (t : Fin cfg0.N) :
    (owns (c : Thread nD τ) (st0_34 t) fullShare (Xat m c t).x36 : sProp 𝕄) ⊢ owns (c : Thread nD τ) (st0_34 t) fullShare ((dats m 0 c).after 34 t) :=
  win_post m c t 34 (after0_34 m c t)
theorem wi_35 (c : Dev nD) (t : Fin cfg0.N) :
    (iprop(∃ d, owns (c : Thread nD τ) (st0_35 t) fullShare ((dats m 0 c).before 35 t d)) : sProp 𝕄) ⊢ owns (c : Thread nD τ) (st0_35 t) fullShare (Xat m c t).x37 :=
  win_in m c t 35 (before0_35 m c t)
theorem wo_35 (c : Dev nD) (t : Fin cfg0.N) :
    (owns (c : Thread nD τ) (st0_35 t) fullShare (Xat m c t).x37 : sProp 𝕄) ⊢ owns (c : Thread nD τ) (st0_35 t) fullShare ((dats m 0 c).after 35 t) :=
  win_post m c t 35 (after0_35 m c t)
theorem wi_36 (c : Dev nD) (t : Fin cfg0.N) :
    (iprop(∃ d, owns (c : Thread nD τ) (st0_36 t) fullShare ((dats m 0 c).before 36 t d)) : sProp 𝕄) ⊢ owns (c : Thread nD τ) (st0_36 t) fullShare (Xat m c t).x38 :=
  win_in m c t 36 (before0_36 m c t)
theorem wo_36 (c : Dev nD) (t : Fin cfg0.N) :
    (owns (c : Thread nD τ) (st0_36 t) fullShare (Xat m c t).x38 : sProp 𝕄) ⊢ owns (c : Thread nD τ) (st0_36 t) fullShare ((dats m 0 c).after 36 t) :=
  win_post m c t 36 (after0_36 m c t)
theorem outs_open (c : Dev nD) (t : Fin cfg0.N) :
    iprop((∃ d, owns (c : Thread nD τ) (st0_37 t) fullShare ((dats m 0 c).before 37 t d)) ∗ (∃ d, owns (c : Thread nD τ) (st0_38 t) fullShare ((dats m 0 c).before 38 t d)) ∗ (∃ d, owns (c : Thread nD τ) (st0_39 t) fullShare ((dats m 0 c).before 39 t d)) ∗ (∃ d, owns (c : Thread nD τ) (st0_40 t) fullShare ((dats m 0 c).before 40 t d)) ∗ (∃ d, owns (c : Thread nD τ) (st0_41 t) fullShare ((dats m 0 c).before 41 t d)) ∗ (∃ d, owns (c : Thread nD τ) (st0_42 t) fullShare ((dats m 0 c).before 42 t d)) ∗ (∃ d, owns (c : Thread nD τ) (st0_43 t) fullShare ((dats m 0 c).before 43 t d)))
      ⊢ ownsAny c (st0_37 t) (st0_38 t) (st0_39 t) (st0_40 t) (st0_41 t) (st0_42 t) (st0_43 t) :=
  BIClass.sep_mono (win_out m c t 37) (BIClass.sep_mono (win_out m c t 38) (BIClass.sep_mono (win_out m c t 39) (BIClass.sep_mono (win_out m c t 40) (BIClass.sep_mono (win_out m c t 41) (BIClass.sep_mono (win_out m c t 42) (win_out m c t 43))))))
theorem outs_close (c : Dev nD) (t : Fin cfg0.N) :
    ownsOut c (Xat m c t) t (st0_37 t) (st0_38 t) (st0_39 t) (st0_40 t) (st0_41 t) (st0_42 t) (st0_43 t) ⊢ iprop(owns (c : Thread nD τ) (st0_37 t) fullShare ((dats m 0 c).after 37 t) ∗ owns (c : Thread nD τ) (st0_38 t) fullShare ((dats m 0 c).after 38 t) ∗ owns (c : Thread nD τ) (st0_39 t) fullShare ((dats m 0 c).after 39 t) ∗ owns (c : Thread nD τ) (st0_40 t) fullShare ((dats m 0 c).after 40 t) ∗ owns (c : Thread nD τ) (st0_41 t) fullShare ((dats m 0 c).after 41 t) ∗ owns (c : Thread nD τ) (st0_42 t) fullShare ((dats m 0 c).after 42 t) ∗ owns (c : Thread nD τ) (st0_43 t) fullShare ((dats m 0 c).after 43 t)) :=
  BIClass.sep_mono (win_post m c t 37 (after0_37 m c t)) (BIClass.sep_mono (win_post m c t 38 (after0_38 m c t)) (BIClass.sep_mono (win_post m c t 39 (after0_39 m c t)) (BIClass.sep_mono (win_post m c t 40 (after0_40 m c t)) (BIClass.sep_mono (win_post m c t 41 (after0_41 m c t)) (BIClass.sep_mono (win_post m c t 42 (after0_42 m c t)) (win_post m c t 43 (after0_43 m c t)))))))

set_option maxHeartbeats 8000000 in
theorem pre_open (c : Dev nD) (t : Fin cfg0.N) : winsPre m c t ⊢ iprop(ownsIn c (Xat m c t) (st0_0 t) (st0_1 t) (st0_2 t) (st0_3 t) (st0_4 t) (st0_5 t) (st0_6 t) (st0_7 t) (st0_8 t) (st0_9 t) (st0_10 t) (st0_11 t) (st0_12 t) (st0_13 t) (st0_14 t) (st0_15 t) (st0_16 t) (st0_17 t) (st0_18 t) (st0_19 t) (st0_20 t) (st0_21 t) (st0_22 t) (st0_23 t) (st0_24 t) (st0_25 t) (st0_26 t) (st0_27 t) (st0_28 t) (st0_29 t) (st0_30 t) (st0_31 t) (st0_32 t) (st0_33 t) (st0_34 t) (st0_35 t) (st0_36 t) ∗ ownsAny c (st0_37 t) (st0_38 t) (st0_39 t) (st0_40 t) (st0_41 t) (st0_42 t) (st0_43 t)) := by
  unfold winsPre ownsIn
  refine cons_split (wi_0 m c t) ?_
  refine cons_split (wi_1 m c t) ?_
  refine cons_split (wi_2 m c t) ?_
  refine cons_split (wi_3 m c t) ?_
  refine cons_split (wi_4 m c t) ?_
  refine cons_split (wi_5 m c t) ?_
  refine cons_split (wi_6 m c t) ?_
  refine cons_split (wi_7 m c t) ?_
  refine cons_split (wi_8 m c t) ?_
  refine cons_split (wi_9 m c t) ?_
  refine cons_split (wi_10 m c t) ?_
  refine cons_split (wi_11 m c t) ?_
  refine cons_split (wi_12 m c t) ?_
  refine cons_split (wi_13 m c t) ?_
  refine cons_split (wi_14 m c t) ?_
  refine cons_split (wi_15 m c t) ?_
  refine cons_split (wi_16 m c t) ?_
  refine cons_split (wi_17 m c t) ?_
  refine cons_split (wi_18 m c t) ?_
  refine cons_split (wi_19 m c t) ?_
  refine cons_split (wi_20 m c t) ?_
  refine cons_split (wi_21 m c t) ?_
  refine cons_split (wi_22 m c t) ?_
  refine cons_split (wi_23 m c t) ?_
  refine cons_split (wi_24 m c t) ?_
  refine cons_split (wi_25 m c t) ?_
  refine cons_split (wi_26 m c t) ?_
  refine cons_split (wi_27 m c t) ?_
  refine cons_split (wi_28 m c t) ?_
  refine cons_split (wi_29 m c t) ?_
  refine cons_split (wi_30 m c t) ?_
  refine cons_split (wi_31 m c t) ?_
  refine cons_split (wi_32 m c t) ?_
  refine cons_split (wi_33 m c t) ?_
  refine cons_split (wi_34 m c t) ?_
  refine cons_split (wi_35 m c t) ?_
  exact BIClass.sep_mono (wi_36 m c t) (outs_open m c t)

set_option maxHeartbeats 8000000 in
theorem post_close (c : Dev nD) (t : Fin cfg0.N) : iprop(ownsIn c (Xat m c t) (st0_0 t) (st0_1 t) (st0_2 t) (st0_3 t) (st0_4 t) (st0_5 t) (st0_6 t) (st0_7 t) (st0_8 t) (st0_9 t) (st0_10 t) (st0_11 t) (st0_12 t) (st0_13 t) (st0_14 t) (st0_15 t) (st0_16 t) (st0_17 t) (st0_18 t) (st0_19 t) (st0_20 t) (st0_21 t) (st0_22 t) (st0_23 t) (st0_24 t) (st0_25 t) (st0_26 t) (st0_27 t) (st0_28 t) (st0_29 t) (st0_30 t) (st0_31 t) (st0_32 t) (st0_33 t) (st0_34 t) (st0_35 t) (st0_36 t) ∗ ownsOut c (Xat m c t) t (st0_37 t) (st0_38 t) (st0_39 t) (st0_40 t) (st0_41 t) (st0_42 t) (st0_43 t)) ⊢ winsPost m c t := by
  unfold winsPost ownsIn
  refine cons_join (wo_0 m c t) ?_
  refine cons_join (wo_1 m c t) ?_
  refine cons_join (wo_2 m c t) ?_
  refine cons_join (wo_3 m c t) ?_
  refine cons_join (wo_4 m c t) ?_
  refine cons_join (wo_5 m c t) ?_
  refine cons_join (wo_6 m c t) ?_
  refine cons_join (wo_7 m c t) ?_
  refine cons_join (wo_8 m c t) ?_
  refine cons_join (wo_9 m c t) ?_
  refine cons_join (wo_10 m c t) ?_
  refine cons_join (wo_11 m c t) ?_
  refine cons_join (wo_12 m c t) ?_
  refine cons_join (wo_13 m c t) ?_
  refine cons_join (wo_14 m c t) ?_
  refine cons_join (wo_15 m c t) ?_
  refine cons_join (wo_16 m c t) ?_
  refine cons_join (wo_17 m c t) ?_
  refine cons_join (wo_18 m c t) ?_
  refine cons_join (wo_19 m c t) ?_
  refine cons_join (wo_20 m c t) ?_
  refine cons_join (wo_21 m c t) ?_
  refine cons_join (wo_22 m c t) ?_
  refine cons_join (wo_23 m c t) ?_
  refine cons_join (wo_24 m c t) ?_
  refine cons_join (wo_25 m c t) ?_
  refine cons_join (wo_26 m c t) ?_
  refine cons_join (wo_27 m c t) ?_
  refine cons_join (wo_28 m c t) ?_
  refine cons_join (wo_29 m c t) ?_
  refine cons_join (wo_30 m c t) ?_
  refine cons_join (wo_31 m c t) ?_
  refine cons_join (wo_32 m c t) ?_
  refine cons_join (wo_33 m c t) ?_
  refine cons_join (wo_34 m c t) ?_
  refine cons_join (wo_35 m c t) ?_
  exact BIClass.sep_mono (wo_36 m c t) (outs_close m c t)

def bodyPre (c : Dev nD) (t : Fin cfg0.N) : sProp 𝕄 :=
  iprop((dats m 0 c).Φ t.castSucc ∗ (dats m 0 c).owesAt () t.castSucc ∗ winsPre m c t)
def bodyPost (c : Dev nD) (t : Fin cfg0.N) : sProp 𝕄 :=
  iprop((dats m 0 c).Φ t.succ ∗ (dats m 0 c).owesAt () t.succ ∗ winsPost m c t)

/-- The body's triple from one over what the case consumes and gives, the rest `Z` carried. -/
theorem sound_of (c : Dev nD) (t : Fin cfg0.N) (A B Z : sProp 𝕄)
    (hA : PhiAt m c t.val ⊢ iprop(A ∗ Z)) (hB : iprop(B ∗ Z) ⊢ PhiAt m c (t.val + 1))
    (hrun : ∀ W : Waits sig Unit, iprop(ownsIn c (Xat m c t) (st0_0 t) (st0_1 t) (st0_2 t) (st0_3 t) (st0_4 t) (st0_5 t) (st0_6 t) (st0_7 t) (st0_8 t) (st0_9 t) (st0_10 t) (st0_11 t) (st0_12 t) (st0_13 t) (st0_14 t) (st0_15 t) (st0_16 t) (st0_17 t) (st0_18 t) (st0_19 t) (st0_20 t) (st0_21 t) (st0_22 t) (st0_23 t) (st0_24 t) (st0_25 t) (st0_26 t) (st0_27 t) (st0_28 t) (st0_29 t) (st0_30 t) (st0_31 t) (st0_32 t) (st0_33 t) (st0_34 t) (st0_35 t) (st0_36 t) ∗ ownsAny c (st0_37 t) (st0_38 t) (st0_39 t) (st0_40 t) (st0_41 t) (st0_42 t) (st0_43 t) ∗ A ∗ owes (c : Thread nD τ) 0 W)
      ⊢ wp frame (wpE (defs₀ (F := F)) Variants.none (c : Thread nD τ) none) Set.univ (bodyAt0 t)
        (fun _ => iprop(ownsOut c (Xat m c t) t (st0_37 t) (st0_38 t) (st0_39 t) (st0_40 t) (st0_41 t) (st0_42 t) (st0_43 t) ∗ B ∗ (∃ W', owes (c : Thread nD τ) 0 W') ∗ ownsIn c (Xat m c t) (st0_0 t) (st0_1 t) (st0_2 t) (st0_3 t) (st0_4 t) (st0_5 t) (st0_6 t) (st0_7 t) (st0_8 t) (st0_9 t) (st0_10 t) (st0_11 t) (st0_12 t) (st0_13 t) (st0_14 t) (st0_15 t) (st0_16 t) (st0_17 t) (st0_18 t) (st0_19 t) (st0_20 t) (st0_21 t) (st0_22 t) (st0_23 t) (st0_24 t) (st0_25 t) (st0_26 t) (st0_27 t) (st0_28 t) (st0_29 t) (st0_30 t) (st0_31 t) (st0_32 t) (st0_33 t) (st0_34 t) (st0_35 t) (st0_36 t)))) :
    bodyPre m c t ⊢ wp frame (wpE (defs₀ (F := F)) Variants.none c none) Set.univ (bodyAt0 t) (fun _ => bodyPost m c t) := by
  have hpost : iprop((ownsOut c (Xat m c t) t (st0_37 t) (st0_38 t) (st0_39 t) (st0_40 t) (st0_41 t) (st0_42 t) (st0_43 t) ∗ B ∗ (∃ W', owes (c : Thread nD τ) 0 W') ∗ ownsIn c (Xat m c t) (st0_0 t) (st0_1 t) (st0_2 t) (st0_3 t) (st0_4 t) (st0_5 t) (st0_6 t) (st0_7 t) (st0_8 t) (st0_9 t) (st0_10 t) (st0_11 t) (st0_12 t) (st0_13 t) (st0_14 t) (st0_15 t) (st0_16 t) (st0_17 t) (st0_18 t) (st0_19 t) (st0_20 t) (st0_21 t) (st0_22 t) (st0_23 t) (st0_24 t) (st0_25 t) (st0_26 t) (st0_27 t) (st0_28 t) (st0_29 t) (st0_30 t) (st0_31 t) (st0_32 t) (st0_33 t) (st0_34 t) (st0_35 t) (st0_36 t)) ∗ Z) ⊢ bodyPost m c t := by
    unfold bodyPost
    rw [show (dats m 0 c).Φ t.succ = PhiAt m c (t.val + 1) from rfl]
    unfold Dat.owesAt Pipeline.owesWithin
    rw [show (dats m 0 c).owed t.succ = 0 from rfl]
    iintro ⟨⟨HO, HB, ⟨%W', HW'⟩, HI⟩, HZ⟩
    isplitl [HB HZ]
    · iapply hB
      isplitl [HB] <;> [iexact HB; iexact HZ]
    isplitl [HW']
    · iexists W'; isplitr; · ipureintro; exact fun _ _ => Or.inl trivial
      iexact HW'
    iapply (post_close m c t)
    isplitl [HI] <;> [iexact HI; iexact HO]
  have hw := fun W => (BIClass.sep_mono (hrun W) (BIBase.Entails.rfl (P := Z))).trans ((wp_frame_r _ _ _).trans (wp_mono _ _ _ fun _ => hpost))
  unfold bodyPre
  rw [show (dats m 0 c).Φ t.castSucc = PhiAt m c t.val from rfl]
  unfold Dat.owesAt Pipeline.owesWithin
  rw [show (dats m 0 c).owed t.castSucc = 0 from rfl]
  iintro ⟨HP, ⟨%W, -, HW⟩, Hw⟩
  ihave HP := hA $$ HP
  icases HP with ⟨HA, HZ⟩
  ihave Hw := (pre_open m c t) $$ Hw
  icases Hw with ⟨HI, HO⟩
  iapply (hw W)
  isplitr [HZ]
  · isplitl [HI]; · iexact HI
    isplitl [HO]; · iexact HO
    isplitl [HA] <;> [iexact HA; iexact HW]
  iexact HZ

theorem Yof_bk (c : Dev nD) (t : Fin cfg0.N) :
    Yof m c (Ring.bk 32 t.val) = outY (Xat m c t) t (valsAt c (XAof m c) (Ring.bk 32 t.val)) := by
  have h : pt (Ring.bk 32 t.val) = t := Fin.ext (Nat.mod_eq_of_lt (t_lt t))
  unfold Yof
  rw [h]
section Regroup
variable {M : Type} [URA M] (I O W a b d e f g h : sProp M)
theorem pre3 : iprop(I ∗ O ∗ (a ∗ b ∗ d) ∗ W) ⊢ iprop(I ∗ O ∗ a ∗ b ∗ d ∗ W) := by
  iintro ⟨HI, HO, ⟨Ha, Hb, Hd⟩, HW⟩
  iframe HI HO Ha Hb Hd HW
theorem post3 : iprop(O ∗ a ∗ b ∗ d ∗ W ∗ I) ⊢ iprop(O ∗ (a ∗ b ∗ d) ∗ W ∗ I) := by
  iintro ⟨HO, Ha, Hb, Hd, HW, HI⟩
  iframe HO Ha Hb Hd HW HI
theorem pre4 : iprop(I ∗ O ∗ (a ∗ b ∗ d ∗ e) ∗ W) ⊢ iprop(I ∗ O ∗ a ∗ b ∗ d ∗ e ∗ W) := by
  iintro ⟨HI, HO, ⟨Ha, Hb, Hd, He⟩, HW⟩
  iframe HI HO Ha Hb Hd He HW
theorem post4 : iprop(O ∗ a ∗ b ∗ d ∗ e ∗ W ∗ I) ⊢ iprop(O ∗ (a ∗ b ∗ d ∗ e) ∗ W ∗ I) := by
  iintro ⟨HO, Ha, Hb, Hd, He, HW, HI⟩
  iframe HO Ha Hb Hd He HW HI
theorem pre7 : iprop(I ∗ O ∗ (a ∗ b ∗ d ∗ e ∗ f ∗ g ∗ h) ∗ W) ⊢ iprop(I ∗ O ∗ a ∗ b ∗ d ∗ e ∗ f ∗ g ∗ h ∗ W) := by
  iintro ⟨HI, HO, ⟨Ha, Hb, Hd, He, Hf, Hg, Hh⟩, HW⟩
  iframe HI HO Ha Hb Hd He Hf Hg Hh HW
theorem post7 : iprop(O ∗ a ∗ b ∗ d ∗ e ∗ f ∗ g ∗ h ∗ W ∗ I) ⊢ iprop(O ∗ (a ∗ b ∗ d ∗ e ∗ f ∗ g ∗ h) ∗ W ∗ I) := by
  iintro ⟨HO, Ha, Hb, Hd, He, Hf, Hg, Hh, HW, HI⟩
  iframe HO Ha Hb Hd He Hf Hg Hh HW HI
end Regroup

set_option maxHeartbeats 2000000 in
theorem sound_first (c : Dev nD) (t : Fin cfg0.N) (h : t.val = 0) :
    bodyPre m c t ⊢ wp frame (wpE (defs₀ (F := F)) Variants.none c none) Set.univ (bodyAt0 t) (fun _ => bodyPost m c t) :=
  sound_of m c t _ _ _ (rings_first _ _ _ _ _ _ _ h) (rings_first' _ _ _ _ _ _ _ h)
    (fun W => triple_restated (runFirst c (XAof m c) (XOof m c) (Yof m c) (Xat m c t) t (st0_0 t) _ (st0_1 t) _ (st0_2 t) _ (st0_3 t) _ (st0_4 t) _ (st0_5 t) _ (st0_6 t) _ (st0_7 t) _ (st0_8 t) _ (st0_9 t) _ (st0_10 t) _ (st0_11 t) _ (st0_12 t) _ (st0_13 t) _ (st0_14 t) _ (st0_15 t) _ (st0_16 t) _ (st0_17 t) _ (st0_18 t) _ (st0_19 t) _ (st0_20 t) _ (st0_21 t) _ (st0_22 t) _ (st0_23 t) _ (st0_24 t) _ (st0_25 t) _ (st0_26 t) _ (st0_27 t) _ (st0_28 t) _ (st0_29 t) _ (st0_30 t) _ (st0_31 t) _ (st0_32 t) _ (st0_33 t) _ (st0_34 t) _ (st0_35 t) _ (st0_36 t) _ (st0_37 t) _ (st0_38 t) _ (st0_39 t) _ (st0_40 t) _ (st0_41 t) _ (st0_42 t) _ (st0_43 t) _ h W ((Yof_bk m c t).trans (by rw [h]; rfl))) rfl
      (pre7 _ _ _ _ _ _ _ _ _ _) (fun _ => post4 _ _ _ _ _ _ _))

set_option maxHeartbeats 2000000 in
theorem sound_second (c : Dev nD) (t : Fin cfg0.N) (h : t.val = 1) :
    bodyPre m c t ⊢ wp frame (wpE (defs₀ (F := F)) Variants.none c none) Set.univ (bodyAt0 t) (fun _ => bodyPost m c t) :=
  sound_of m c t _ _ _ (rings_second _ _ _ _ _ _ _ h) (rings_second' _ _ _ _ _ _ _ h)
    (fun W => triple_restated (runSecond c (XAof m c) (XOof m c) (Yof m c) (Xat m c t) t (st0_0 t) _ (st0_1 t) _ (st0_2 t) _ (st0_3 t) _ (st0_4 t) _ (st0_5 t) _ (st0_6 t) _ (st0_7 t) _ (st0_8 t) _ (st0_9 t) _ (st0_10 t) _ (st0_11 t) _ (st0_12 t) _ (st0_13 t) _ (st0_14 t) _ (st0_15 t) _ (st0_16 t) _ (st0_17 t) _ (st0_18 t) _ (st0_19 t) _ (st0_20 t) _ (st0_21 t) _ (st0_22 t) _ (st0_23 t) _ (st0_24 t) _ (st0_25 t) _ (st0_26 t) _ (st0_27 t) _ (st0_28 t) _ (st0_29 t) _ (st0_30 t) _ (st0_31 t) _ (st0_32 t) _ (st0_33 t) _ (st0_34 t) _ (st0_35 t) _ (st0_36 t) _ (st0_37 t) _ (st0_38 t) _ (st0_39 t) _ (st0_40 t) _ (st0_41 t) _ (st0_42 t) _ (st0_43 t) _ h W (Yof_bk m c t)) rfl
      (pre4 _ _ _ _ _ _ _) (fun _ => post3 _ _ _ _ _ _))

set_option maxHeartbeats 2000000 in
theorem sound_even (c : Dev nD) (t : Fin cfg0.N) (h0 : t.val % 2 = 0) (h2 : 2 ≤ t.val) (h : t.val + 2 < 32) :
    bodyPre m c t ⊢ wp frame (wpE (defs₀ (F := F)) Variants.none c none) Set.univ (bodyAt0 t) (fun _ => bodyPost m c t) :=
  sound_of m c t _ _ _ (rings_mid _ _ _ _ _ _ _ (sl_even h0).1 (sl_even h0).2.1 h2 h) (rings_mid' _ _ _ _ _ _ _ (sl_even h0).1 (sl_even h0).2.1 h2 h)
    (fun W => triple_restated (runEven c (XAof m c) (XOof m c) (Yof m c) (Xat m c t) t (st0_0 t) _ (st0_1 t) _ (st0_2 t) _ (st0_3 t) _ (st0_4 t) _ (st0_5 t) _ (st0_6 t) _ (st0_7 t) _ (st0_8 t) _ (st0_9 t) _ (st0_10 t) _ (st0_11 t) _ (st0_12 t) _ (st0_13 t) _ (st0_14 t) _ (st0_15 t) _ (st0_16 t) _ (st0_17 t) _ (st0_18 t) _ (st0_19 t) _ (st0_20 t) _ (st0_21 t) _ (st0_22 t) _ (st0_23 t) _ (st0_24 t) _ (st0_25 t) _ (st0_26 t) _ (st0_27 t) _ (st0_28 t) _ (st0_29 t) _ (st0_30 t) _ (st0_31 t) _ (st0_32 t) _ (st0_33 t) _ (st0_34 t) _ (st0_35 t) _ (st0_36 t) _ (st0_37 t) _ (st0_38 t) _ (st0_39 t) _ (st0_40 t) _ (st0_41 t) _ (st0_42 t) _ (st0_43 t) _ h0 h2 h W (Yof_bk m c t)) rfl
      (pre4 _ _ _ _ _ _ _) (fun _ => post4 _ _ _ _ _ _ _))

set_option maxHeartbeats 2000000 in
theorem sound_odd (c : Dev nD) (t : Fin cfg0.N) (h0 : t.val % 2 = 1) (h2 : 2 ≤ t.val) (h : t.val + 2 < 32) :
    bodyPre m c t ⊢ wp frame (wpE (defs₀ (F := F)) Variants.none c none) Set.univ (bodyAt0 t) (fun _ => bodyPost m c t) :=
  sound_of m c t _ _ _ (rings_mid _ _ _ _ _ _ _ (sl_odd h0).1 (sl_odd h0).2.1 h2 h) (rings_mid' _ _ _ _ _ _ _ (sl_odd h0).1 (sl_odd h0).2.1 h2 h)
    (fun W => triple_restated (runOdd c (XAof m c) (XOof m c) (Yof m c) (Xat m c t) t (st0_0 t) _ (st0_1 t) _ (st0_2 t) _ (st0_3 t) _ (st0_4 t) _ (st0_5 t) _ (st0_6 t) _ (st0_7 t) _ (st0_8 t) _ (st0_9 t) _ (st0_10 t) _ (st0_11 t) _ (st0_12 t) _ (st0_13 t) _ (st0_14 t) _ (st0_15 t) _ (st0_16 t) _ (st0_17 t) _ (st0_18 t) _ (st0_19 t) _ (st0_20 t) _ (st0_21 t) _ (st0_22 t) _ (st0_23 t) _ (st0_24 t) _ (st0_25 t) _ (st0_26 t) _ (st0_27 t) _ (st0_28 t) _ (st0_29 t) _ (st0_30 t) _ (st0_31 t) _ (st0_32 t) _ (st0_33 t) _ (st0_34 t) _ (st0_35 t) _ (st0_36 t) _ (st0_37 t) _ (st0_38 t) _ (st0_39 t) _ (st0_40 t) _ (st0_41 t) _ (st0_42 t) _ (st0_43 t) _ h0 h2 h W (Yof_bk m c t)) rfl
      (pre4 _ _ _ _ _ _ _) (fun _ => post4 _ _ _ _ _ _ _))

set_option maxHeartbeats 2000000 in
theorem sound_penult (c : Dev nD) (t : Fin cfg0.N) (h : t.val = 30) :
    bodyPre m c t ⊢ wp frame (wpE (defs₀ (F := F)) Variants.none c none) Set.univ (bodyAt0 t) (fun _ => bodyPost m c t) :=
  sound_of m c t _ _ _ (rings_penult _ _ _ _ _ _ _ h) (rings_penult' _ _ _ _ _ _ _ h)
    (fun W => triple_restated (runPenult c (XAof m c) (XOof m c) (Yof m c) (Xat m c t) t (st0_0 t) _ (st0_1 t) _ (st0_2 t) _ (st0_3 t) _ (st0_4 t) _ (st0_5 t) _ (st0_6 t) _ (st0_7 t) _ (st0_8 t) _ (st0_9 t) _ (st0_10 t) _ (st0_11 t) _ (st0_12 t) _ (st0_13 t) _ (st0_14 t) _ (st0_15 t) _ (st0_16 t) _ (st0_17 t) _ (st0_18 t) _ (st0_19 t) _ (st0_20 t) _ (st0_21 t) _ (st0_22 t) _ (st0_23 t) _ (st0_24 t) _ (st0_25 t) _ (st0_26 t) _ (st0_27 t) _ (st0_28 t) _ (st0_29 t) _ (st0_30 t) _ (st0_31 t) _ (st0_32 t) _ (st0_33 t) _ (st0_34 t) _ (st0_35 t) _ (st0_36 t) _ (st0_37 t) _ (st0_38 t) _ (st0_39 t) _ (st0_40 t) _ (st0_41 t) _ (st0_42 t) _ (st0_43 t) _ h W (Yof_bk m c t)) rfl
      (pre3 _ _ _ _ _ _) (fun _ => post4 _ _ _ _ _ _ _))

set_option maxHeartbeats 2000000 in
theorem sound_last (c : Dev nD) (t : Fin cfg0.N) (h : t.val = 31) :
    bodyPre m c t ⊢ wp frame (wpE (defs₀ (F := F)) Variants.none c none) Set.univ (bodyAt0 t) (fun _ => bodyPost m c t) :=
  sound_of m c t _ _ _ (rings_last _ _ _ _ _ _ _ h) (rings_last' _ _ _ _ _ _ _ h)
    (fun W => triple_restated (runLast c (XAof m c) (XOof m c) (Yof m c) (Xat m c t) t (st0_0 t) _ (st0_1 t) _ (st0_2 t) _ (st0_3 t) _ (st0_4 t) _ (st0_5 t) _ (st0_6 t) _ (st0_7 t) _ (st0_8 t) _ (st0_9 t) _ (st0_10 t) _ (st0_11 t) _ (st0_12 t) _ (st0_13 t) _ (st0_14 t) _ (st0_15 t) _ (st0_16 t) _ (st0_17 t) _ (st0_18 t) _ (st0_19 t) _ (st0_20 t) _ (st0_21 t) _ (st0_22 t) _ (st0_23 t) _ (st0_24 t) _ (st0_25 t) _ (st0_26 t) _ (st0_27 t) _ (st0_28 t) _ (st0_29 t) _ (st0_30 t) _ (st0_31 t) _ (st0_32 t) _ (st0_33 t) _ (st0_34 t) _ (st0_35 t) _ (st0_36 t) _ (st0_37 t) _ (st0_38 t) _ (st0_39 t) _ (st0_40 t) _ (st0_41 t) _ (st0_42 t) _ (st0_43 t) _ h W (Yof_bk m c t)) rfl
      (pre4 _ _ _ _ _ _ _) (fun _ => post7 _ _ _ _ _ _ _ _ _ _))

theorem sound_body (c : Dev nD) (t : Fin cfg0.N) :
    bodyPre m c t ⊢ wp frame (wpE (defs₀ (F := F)) Variants.none c none) Set.univ (bodyAt0 t) (fun _ => bodyPost m c t) := by
  have ht := t_lt t
  by_cases e0 : t.val = 0
  · exact sound_first m c t e0
  by_cases e1 : t.val = 1
  · exact sound_second m c t e1
  by_cases e30 : t.val = 30
  · exact sound_penult m c t e30
  by_cases e31 : t.val = 31
  · exact sound_last m c t e31
  rcases Nat.mod_two_eq_zero_or_one t.val with h0 | h0
  · exact sound_even m c t h0 (by omega) (by omega)
  · exact sound_odd m c t h0 (by omega) (by omega)

theorem defs₀_row (t : Fin cfg0.N) :
    defs₀ (F := F) .tc cfg0.body (cfg0.bodyArgs t (cfg0.slots t)) = bodyAt0 t := by
  unfold defs₀; rw [Defs.onTc_tc]

set_option maxHeartbeats 2000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

end Cert.KernelIdeal.Hand
-- ==== Proof.KernI.Whole.lean ====
/-
  The kernel launched: the values split into blocks and the ring buffers into slots, joined back at the end, and the frame.
-/
module

public import Idealize.ShloMosaic.Lib.Pipeline.FrameSuffixV
public import proofs.«01_k».proof.Proof.KernI.Sound

@[expose] public section

set_option maxRecDepth 16384

noncomputable section

namespace Cert.KernelIdeal.Hand

open Cert.KernelIdeal Cert.KernelIdeal.Gen Cert.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

section Blocks
abbrev rowsOf (b : Fin 32) : Finset S4096x32x256.Idx := (Rect.unit (s := S4096x32x256) (blkOff b) S128x32x256.size (blkOff_inb b)).set
abbrev slotOf (s : Fin 2) : Finset S2x128x32x256.Idx := (Rect.unit (s := S2x128x32x256) (slotOff s) S1x128x32x256.size (slotOff_inb s)).set

theorem rows_disjoint (b b' : Fin 32) (h : b ≠ b') : Disjoint (rowsOf b) (rowsOf b') :=
  Ring.lead_disjoint (s := S4096x32x256) 0 128 blkOff S128x32x256.size blkOff_inb (fun _ => rfl) rfl b b' h
theorem rows_cover : Finset.univ.biUnion rowsOf = Finset.univ :=
  Ring.lead_cover (s := S4096x32x256) 0 128 blkOff S128x32x256.size blkOff_inb (fun _ => rfl)
    (fun b a h => by fin_cases a <;> first | exact absurd rfl h | rfl) rfl
    (fun a h => by fin_cases a <;> first | exact absurd rfl h | rfl) rfl
theorem slots_disjoint (b b' : Fin 2) (h : b ≠ b') : Disjoint (slotOf b) (slotOf b') :=
  Ring.lead_disjoint (s := S2x128x32x256) 0 1 slotOff S1x128x32x256.size slotOff_inb (fun b => (Nat.one_mul b.val).symm) rfl b b' h
theorem slots_cover : Finset.univ.biUnion slotOf = Finset.univ :=
  Ring.lead_cover (s := S2x128x32x256) 0 1 slotOff S1x128x32x256.size slotOff_inb (fun b => (Nat.one_mul b.val).symm)
    (fun b a h => by fin_cases a <;> first | exact absurd rfl h | rfl) rfl
    (fun a h => by fin_cases a <;> first | exact absurd rfl h | rfl) rfl

theorem blkI_set (b : Fin 32) : (blkI b).view.set = rowsOf b := View.set_slice_whole _ _
theorem blkO_set (b : Fin 32) : (blkO b).view.set = rowsOf b := View.set_slice_whole _ _
theorem slotI_set (s : Fin 2) : (slotI s).view.set = slotOf s := (View.set_reshape _ _).trans (View.set_slice_whole _ _)
theorem slotO_set (s : Fin 2) : (slotO s).view.set = slotOf s := (View.set_reshape _ _).trans (View.set_slice_whole _ _)

/-- The row's block. -/
def blkOf (i : S4096x32x256.Idx) : Fin 32 := ⟨(i 0).val / 128, by have h : (i 0).val < 4096 := (i 0).isLt; omega⟩
theorem blkOf_eq {b : Fin 32} {i : S4096x32x256.Idx} (h : i ∈ rowsOf b) : blkOf i = b := by
  have h0 := Rect.mem_set_unit.mp h 0
  have h1 : 128 * b.val ≤ (i 0).val ∧ (i 0).val < 128 * b.val + 128 := h0
  exact Fin.ext (by show (i 0).val / 128 = b.val; omega)
end Blocks

/-- The values' result at the end: every row as its block's point stores it. -/
def GV (c : Dev nD) : Buf (Elt F) ((c : Thread nD τ).loc main_v35_2) :=
  fun i => (blkO (blkOf i)).view.writes (Elt F) (XOof m c) [⟨Rect.whole S128x32x256, Yof m c (blkOf i)⟩] i
/-- What the kernel leaves in a buffer outside the pipeline. -/
def GAt (c : Dev nD) (b : Ref sig .tc) : Buf (Elt F) ((c : Thread nD τ).loc b) :=
  if h : b = main_v35_2 then h ▸ GV m c else V m c b
theorem GAt_self (c : Dev nD) : GAt m c main_v35_2 = GV m c := dif_pos rfl

theorem home_eq (c : Dev nD) (XA : Buf (Elt F) ((c : Thread nD τ).loc main_arg2)) :
    (((c : Thread nD τ).loc main_arg2) ↦{fullShare} XA : sProp 𝕄) = bigSep Finset.univ (homeP c XA) := by
  rw [Ring.pointsTo_blocks (ℓ := (c : Thread nD τ).loc main_arg2) rowsOf rows_disjoint rows_cover]
  exact BI.bigSep_congr fun b _ => by rw [← blkI_set]; rfl
theorem ahead_eq (c : Dev nD) (XO : Buf (Elt F) ((c : Thread nD τ).loc main_v35_2)) :
    (((c : Thread nD τ).loc main_v35_2) ↦{fullShare} XO : sProp 𝕄) = bigSep Finset.univ (aheadP c XO) := by
  rw [Ring.pointsTo_blocks (ℓ := (c : Thread nD τ).loc main_v35_2) rowsOf rows_disjoint rows_cover]
  exact BI.bigSep_congr fun b _ => by rw [← blkO_set]; rfl
theorem done_eq (c : Dev nD) :
    (((c : Thread nD τ).loc main_v35_2) ↦{fullShare} GV m c : sProp 𝕄)
      = bigSep Finset.univ (fun b => doneP c (XOof m c) b (Yof m c b)) := by
  rw [Ring.pointsTo_blocks (ℓ := (c : Thread nD τ).loc main_v35_2) rowsOf rows_disjoint rows_cover]
  refine BI.bigSep_congr fun b _ => ?_
  rw [pointsTo_congr (g := (blkO b).view.writes (Elt F) (XOof m c) [⟨Rect.whole S128x32x256, Yof m c b⟩])
    (fun i hi => by unfold GV; rw [blkOf_eq hi]), ← blkO_set]
  rfl

theorem sIP_eq (c : Dev nD) (s : Fin 2) (f) : sIP c s f = (((c : Thread nD τ).loc cc0_scratch0) ↦[slotOf s]{fullShare} f : sProp 𝕄) :=
  congrArg (fun S => (_ ↦[S]{fullShare} f : sProp 𝕄)) (slotI_set s)
theorem sOP_eq (c : Dev nD) (s : Fin 2) (f) : sOP c s f = (((c : Thread nD τ).loc cc0_scratch1) ↦[slotOf s]{fullShare} f : sProp 𝕄) :=
  congrArg (fun S => (_ ↦[S]{fullShare} f : sProp 𝕄)) (slotO_set s)

theorem inBuf_split (c : Dev nD) : iprop(∃ f : Buf (Elt F) ((c : Thread nD τ).loc cc0_scratch0), ((c : Thread nD τ).loc cc0_scratch0) ↦{fullShare} f)
    ⊢ (iprop((∃ f, sIP c 0 f) ∗ ∃ f, sIP c 1 f) : sProp 𝕄) :=
  Ring.slots2_split (ℓ := (c : Thread nD τ).loc cc0_scratch0) slotOf slots_disjoint slots_cover _ _ (sIP_eq c 0) (sIP_eq c 1)
theorem inBuf_join (c : Dev nD) : (iprop((∃ f, sIP c 0 f) ∗ ∃ f, sIP c 1 f) : sProp 𝕄)
    ⊢ iprop(∃ f : Buf (Elt F) ((c : Thread nD τ).loc cc0_scratch0), ((c : Thread nD τ).loc cc0_scratch0) ↦{fullShare} f) :=
  Ring.slots2_join (ℓ := (c : Thread nD τ).loc cc0_scratch0) slotOf slots_disjoint slots_cover _ _ (sIP_eq c 0) (sIP_eq c 1)
theorem outBuf_split (c : Dev nD) : iprop(∃ f : Buf (Elt F) ((c : Thread nD τ).loc cc0_scratch1), ((c : Thread nD τ).loc cc0_scratch1) ↦{fullShare} f)
    ⊢ (iprop((∃ f, sOP c 0 f) ∗ ∃ f, sOP c 1 f) : sProp 𝕄) :=
  Ring.slots2_split (ℓ := (c : Thread nD τ).loc cc0_scratch1) slotOf slots_disjoint slots_cover _ _ (sOP_eq c 0) (sOP_eq c 1)
theorem outBuf_join (c : Dev nD) : (iprop((∃ f, sOP c 0 f) ∗ ∃ f, sOP c 1 f) : sProp 𝕄)
    ⊢ iprop(∃ f : Buf (Elt F) ((c : Thread nD τ).loc cc0_scratch1), ((c : Thread nD τ).loc cc0_scratch1) ↦{fullShare} f) :=
  Ring.slots2_join (ℓ := (c : Thread nD τ).loc cc0_scratch1) slotOf slots_disjoint slots_cover _ _ (sOP_eq c 0) (sOP_eq c 1)

/-- The kernel's own four cells. -/
abbrev osem : Fin 4 → SemLoc sig := ![SemLoc.dma 51, SemLoc.dma 52, SemLoc.dma 53, SemLoc.dma 54]
theorem ownSemFacts : Pipeline.OwnSemFacts spec0 osem := by decide
theorem ownSems_eq (c : Dev nD) : (Pipeline.ownSems0 (Ix := Unit) (Name := ℕ) (U := Pipeline.UD sig nD τ) (Lvl := ℕ) (Val := Elt F) (τ := τ) osem c : sProp 𝕄)
    = iprop(cIP c 0 ∗ cIP c 1 ∗ cOP c 0 ∗ cOP c 1) := by
  rw [Pipeline.ownSems0_eq_of_list c osem [0, 1, 2, 3] (by decide) (by decide)]
  rfl

abbrev HH : Finset (Ref sig .tc) := {main_arg2}
abbrev RR : Finset (Ref sig .tc) := {main_v35_2}
theorem HH_eq (Φ : Ref sig .tc → sProp 𝕄) : bigSep HH Φ = Φ main_arg2 := by
  rw [BI.bigSep_eq_bigSepL_of_eq [main_arg2] (by decide) (by decide)]
  rfl
theorem RR_eq (Φ : Ref sig .tc → sProp 𝕄) : bigSep RR Φ = Φ main_v35_2 := by
  rw [BI.bigSep_eq_bigSepL_of_eq [main_v35_2] (by decide) (by decide)]
  rfl

theorem enter (c : Dev nD) : Pipeline.ΦDRV osem spec0 HH RR (V m) (V m) c ⊢ PhiAt m c 0 := by
  unfold Pipeline.ΦDRV PhiAt rings inAt
  rw [scopedRest0_eq, ownSems_eq, HH_eq, RR_eq, if_pos rfl, Ring.AtBΦ_lt _ _ _ _ _ _ (by decide), Ring.AtB_zero, home_eq, ahead_eq]
  unfold Ring.AtB₀
  rw [Ring.bigSep_fin2 (Φ := freeO c)]
  iintro ⟨⟨HI, HO⟩, ⟨HcI0, HcI1, HcO0, HcO1⟩, HH, HR⟩
  ihave HI := (inBuf_split c) $$ HI
  icases HI with ⟨HI0, HI1⟩
  ihave HO := (outBuf_split c) $$ HO
  icases HO with ⟨HO0, HO1⟩
  iframe HI0 HI1 HO0 HO1 HcI0 HcI1 HcO0 HcO1 HH HR

theorem leave (c : Dev nD) : PhiAt m c 32 ⊢ Pipeline.ΦDRV osem spec0 HH RR (V m) (GAt m) c := by
  unfold Pipeline.ΦDRV PhiAt rings
  rw [scopedRest0_eq, ownSems_eq, HH_eq, RR_eq, inAt_end', Ring.AtBΦ_end _ _ _ _ _ _ rfl, GAt_self, home_eq, done_eq]
  unfold Ring.AtBEnd
  rw [Ring.bigSep_fin2 (Φ := freeO c)]
  iintro ⟨⟨HH, ⟨HI0, HcI0⟩, HI1, HcI1⟩, HR, ⟨HO0, HcO0⟩, HO1, HcO1⟩
  isplitl [HI0 HI1 HO0 HO1]
  · isplitl [HI0 HI1]
    · iapply (inBuf_join c); iframe HI0 HI1
    · iapply (outBuf_join c); iframe HO0 HO1
  iframe HcI0 HcI1 HcO0 HcO1 HH HR

theorem HH_sub : HH ⊆ Pipeline.restRefsP sig Pipeline.Prefetch.none spec0 := by decide
theorem RR_sub : RR ⊆ Pipeline.restRefsP sig Pipeline.Prefetch.none spec0 \ HH := by decide

set_option maxHeartbeats 800000 in
theorem hmainD : Pipeline.HMainK (Ix := Unit) (Name := ℕ) (U := Pipeline.UD sig nD τ) (Lvl := ℕ) cfgs 0 defs₀ Variants.none m (main (F := F)) (V m)
    (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- What the run leaves: every window's array as the points leave it, every other buffer as the host's lines after the kernel. -/
def Post (r : PUnit × MemSt nD τ sig (Elt F)) : Prop :=
  (∀ c : Dev nD, (∀ w, r.2.mem ((spec0 w).arr.view.loc (c.tc : Thread nD τ)) = (dats m 0 c).arrAt w cfg0.N)
    ∧ ∀ b ∈ Pipeline.restRefsP sig Pipeline.Prefetch.none spec0, r.2.mem ((c.tc : Thread nD τ).loc b)
      = StableHlo.after ([hostOps1] : List (List (HloOp τ sig (Elt F)))).flatten
          (Pipeline.withArrays spec0 c (Pipeline.withR (V0 m c) RR c (GAt m c)) fun w => (dats m 0 c).arrAt w cfg0.N) (Proc.devRef .tc b))
  ∧ r.2.sem = fun _ => 0

set_option maxHeartbeats 2000000 in
set_option backward.isDefEq.respectTransparency.types false in
theorem run_main : θ_run defs (onTc (τ := τ) (main (F := F))) ⟨m, fun _ => 0, ρ⟩ (Post m) :=
  Pipeline.θ_run_frameP_dmaR_aroundV_shared (Q' := _) (hQ' := fun _ h => h) (fun q => (cfgs q).toPCfg (Val := Elt F)) (fun q => (cfgs q).toPCfg_adm)
    (dats m) 0 (launch₀0).toP osem defs₀ Variants.none ownSemFacts HH RR HH_sub RR_sub m ρ main
    (fun c => (body_obligation m c).loose) (fun _ _ _ => rfl) (fun _ _ => rfl) (V0 m) [hostOps1] sfx_sub sfx_fresh sfx_keeps (GAt m)
    (hmainD m) (fun c w => A_eq m c w) (fun _ k => k.elim0)
    (fun c => (show _ ⊢ Pipeline.ΦDRV osem spec0 HH RR (V m) (V m) c from by iintro ⟨H, -⟩; iexact H).trans (enter m c))
    (fun c => leave m c)

theorem memRest {b : Ref sig .tc} (hb : b ∈ Pipeline.restRefs sig spec0) : b ∈ Pipeline.restRefsP sig Pipeline.Prefetch.none spec0 :=
  Finset.mem_sdiff.mpr ⟨hb, fun h => ((Finset.mem_image.mp h).elim fun k _ => k.elim0)⟩

theorem kept_0 {r : PUnit × MemSt nD τ sig (Elt F)} (h : Post m r) (c : Dev nD) :
    r.2.mem ((c.tc : Thread nD τ).loc main_arg0) = m ((c.tc : Thread nD τ).loc main_arg0) :=
  ((h.1 c).1 0).trans (((dats m 0 c).arrAt_in 0 rfl _).trans ((A_eq m c 0).trans (V_main_arg0 m c)))

theorem kept_1 {r : PUnit × MemSt nD τ sig (Elt F)} (h : Post m r) (c : Dev nD) :
    r.2.mem ((c.tc : Thread nD τ).loc main_arg1) = m ((c.tc : Thread nD τ).loc main_arg1) :=
  ((h.1 c).1 1).trans (((dats m 0 c).arrAt_in 1 rfl _).trans ((A_eq m c 1).trans (V_main_arg1 m c)))

set_option maxHeartbeats 800000 in
theorem kept_2 {r : PUnit × MemSt nD τ sig (Elt F)} (h : Post m r) (c : Dev nD) :
    r.2.mem ((c.tc : Thread nD τ).loc main_arg2) = m ((c.tc : Thread nD τ).loc main_arg2) :=
  ((h.1 c).2 main_arg2 (memRest (Pipeline.mem_restRefs_of main_arg2 (by decide) (by decide)))).trans
    ((StableHlo.after_of_forall_not_mem (b := Proc.devRef .tc main_arg2) _ _ (List.forall_iff_forall_mem.mp (by
        simp only [hostOps1, List.flatten_cons, List.flatten_nil, List.append_nil, List.cons_append, List.nil_append, List.Forall,
          StableHlo.nullary_writes, StableHlo.unary_writes, StableHlo.binary_writes, StableHlo.ternary_writes, StableHlo.quaternary_writes,
          StableHlo.reshape_writes, StableHlo.binaryIndexed_writes, Finset.mem_singleton]
        repeat' apply And.intro
        all_goals exact StableHlo.devRef_ne_of_ne (by decide)))).trans
      ((Pipeline.withArrays_of_ne _ c _ _ main_arg2 (by exact (by decide : ∀ w, Pipeline.arrRef spec0 w ≠ main_arg2))).trans
        ((Pipeline.withR_of_not_mem _ _ _ _ main_arg2 (by decide)).trans (V_main_arg2 m c))))

set_option maxHeartbeats 800000 in
theorem kept_3 {r : PUnit × MemSt nD τ sig (Elt F)} (h : Post m r) (c : Dev nD) :
    r.2.mem ((c.tc : Thread nD τ).loc main_arg3) = m ((c.tc : Thread nD τ).loc main_arg3) :=
  ((h.1 c).2 main_arg3 (memRest (Pipeline.mem_restRefs_of main_arg3 (by decide) (by decide)))).trans
    ((StableHlo.after_of_forall_not_mem (b := Proc.devRef .tc main_arg3) _ _ (List.forall_iff_forall_mem.mp (by
        simp only [hostOps1, List.flatten_cons, List.flatten_nil, List.append_nil, List.cons_append, List.nil_append, List.Forall,
          StableHlo.nullary_writes, StableHlo.unary_writes, StableHlo.binary_writes, StableHlo.ternary_writes, StableHlo.quaternary_writes,
          StableHlo.reshape_writes, StableHlo.binaryIndexed_writes, Finset.mem_singleton]
        repeat' apply And.intro
        all_goals exact StableHlo.devRef_ne_of_ne (by decide)))).trans
      ((Pipeline.withArrays_of_ne _ c _ _ main_arg3 (by exact (by decide : ∀ w, Pipeline.arrRef spec0 w ≠ main_arg3))).trans
        ((Pipeline.withR_of_not_mem _ _ _ _ main_arg3 (by decide)).trans (V_main_arg3 m c))))

set_option maxHeartbeats 800000 in
theorem kept_4 {r : PUnit × MemSt nD τ sig (Elt F)} (h : Post m r) (c : Dev nD) :
    r.2.mem ((c.tc : Thread nD τ).loc main_arg4) = m ((c.tc : Thread nD τ).loc main_arg4) :=
  ((h.1 c).2 main_arg4 (memRest (Pipeline.mem_restRefs_of main_arg4 (by decide) (by decide)))).trans
    ((StableHlo.after_of_forall_not_mem (b := Proc.devRef .tc main_arg4) _ _ (List.forall_iff_forall_mem.mp (by
        simp only [hostOps1, List.flatten_cons, List.flatten_nil, List.append_nil, List.cons_append, List.nil_append, List.Forall,
          StableHlo.nullary_writes, StableHlo.unary_writes, StableHlo.binary_writes, StableHlo.ternary_writes, StableHlo.quaternary_writes,
          StableHlo.reshape_writes, StableHlo.binaryIndexed_writes, Finset.mem_singleton]
        repeat' apply And.intro
        all_goals exact StableHlo.devRef_ne_of_ne (by decide)))).trans
      ((Pipeline.withArrays_of_ne _ c _ _ main_arg4 (by exact (by decide : ∀ w, Pipeline.arrRef spec0 w ≠ main_arg4))).trans
        ((Pipeline.withR_of_not_mem _ _ _ _ main_arg4 (by decide)).trans (V_main_arg4 m c))))

set_option maxHeartbeats 800000 in
theorem kept_5 {r : PUnit × MemSt nD τ sig (Elt F)} (h : Post m r) (c : Dev nD) :
    r.2.mem ((c.tc : Thread nD τ).loc main_arg5) = m ((c.tc : Thread nD τ).loc main_arg5) :=
  ((h.1 c).2 main_arg5 (memRest (Pipeline.mem_restRefs_of main_arg5 (by decide) (by decide)))).trans
    ((StableHlo.after_of_forall_not_mem (b := Proc.devRef .tc main_arg5) _ _ (List.forall_iff_forall_mem.mp (by
        simp only [hostOps1, List.flatten_cons, List.flatten_nil, List.append_nil, List.cons_append, List.nil_append, List.Forall,
          StableHlo.nullary_writes, StableHlo.unary_writes, StableHlo.binary_writes, StableHlo.ternary_writes, StableHlo.quaternary_writes,
          StableHlo.reshape_writes, StableHlo.binaryIndexed_writes, Finset.mem_singleton]
        repeat' apply And.intro
        all_goals exact StableHlo.devRef_ne_of_ne (by decide)))).trans
      ((Pipeline.withArrays_of_ne _ c _ _ main_arg5 (by exact (by decide : ∀ w, Pipeline.arrRef spec0 w ≠ main_arg5))).trans
        ((Pipeline.withR_of_not_mem _ _ _ _ main_arg5 (by decide)).trans (V_main_arg5 m c))))

set_option maxHeartbeats 800000 in
theorem kept_6 {r : PUnit × MemSt nD τ sig (Elt F)} (h : Post m r) (c : Dev nD) :
    r.2.mem ((c.tc : Thread nD τ).loc main_arg6) = m ((c.tc : Thread nD τ).loc main_arg6) :=
  ((h.1 c).2 main_arg6 (memRest (Pipeline.mem_restRefs_of main_arg6 (by decide) (by decide)))).trans
    ((StableHlo.after_of_forall_not_mem (b := Proc.devRef .tc main_arg6) _ _ (List.forall_iff_forall_mem.mp (by
        simp only [hostOps1, List.flatten_cons, List.flatten_nil, List.append_nil, List.cons_append, List.nil_append, List.Forall,
          StableHlo.nullary_writes, StableHlo.unary_writes, StableHlo.binary_writes, StableHlo.ternary_writes, StableHlo.quaternary_writes,
          StableHlo.reshape_writes, StableHlo.binaryIndexed_writes, Finset.mem_singleton]
        repeat' apply And.intro
        all_goals exact StableHlo.devRef_ne_of_ne (by decide)))).trans
      ((Pipeline.withArrays_of_ne _ c _ _ main_arg6 (by exact (by decide : ∀ w, Pipeline.arrRef spec0 w ≠ main_arg6))).trans
        ((Pipeline.withR_of_not_mem _ _ _ _ main_arg6 (by decide)).trans (V_main_arg6 m c))))

set_option maxHeartbeats 800000 in
theorem kept_7 {r : PUnit × MemSt nD τ sig (Elt F)} (h : Post m r) (c : Dev nD) :
    r.2.mem ((c.tc : Thread nD τ).loc main_arg7) = m ((c.tc : Thread nD τ).loc main_arg7) :=
  ((h.1 c).2 main_arg7 (memRest (Pipeline.mem_restRefs_of main_arg7 (by decide) (by decide)))).trans
    ((StableHlo.after_of_forall_not_mem (b := Proc.devRef .tc main_arg7) _ _ (List.forall_iff_forall_mem.mp (by
        simp only [hostOps1, List.flatten_cons, List.flatten_nil, List.append_nil, List.cons_append, List.nil_append, List.Forall,
          StableHlo.nullary_writes, StableHlo.unary_writes, StableHlo.binary_writes, StableHlo.ternary_writes, StableHlo.quaternary_writes,
          StableHlo.reshape_writes, StableHlo.binaryIndexed_writes, Finset.mem_singleton]
        repeat' apply And.intro
        all_goals exact StableHlo.devRef_ne_of_ne (by decide)))).trans
      ((Pipeline.withArrays_of_ne _ c _ _ main_arg7 (by exact (by decide : ∀ w, Pipeline.arrRef spec0 w ≠ main_arg7))).trans
        ((Pipeline.withR_of_not_mem _ _ _ _ main_arg7 (by decide)).trans (V_main_arg7 m c))))

set_option maxHeartbeats 800000 in
theorem kept_8 {r : PUnit × MemSt nD τ sig (Elt F)} (h : Post m r) (c : Dev nD) :
    r.2.mem ((c.tc : Thread nD τ).loc main_arg8) = m ((c.tc : Thread nD τ).loc main_arg8) :=
  ((h.1 c).2 main_arg8 (memRest (Pipeline.mem_restRefs_of main_arg8 (by decide) (by decide)))).trans
    ((StableHlo.after_of_forall_not_mem (b := Proc.devRef .tc main_arg8) _ _ (List.forall_iff_forall_mem.mp (by
        simp only [hostOps1, List.flatten_cons, List.flatten_nil, List.append_nil, List.cons_append, List.nil_append, List.Forall,
          StableHlo.nullary_writes, StableHlo.unary_writes, StableHlo.binary_writes, StableHlo.ternary_writes, StableHlo.quaternary_writes,
          StableHlo.reshape_writes, StableHlo.binaryIndexed_writes, Finset.mem_singleton]
        repeat' apply And.intro
        all_goals exact StableHlo.devRef_ne_of_ne (by decide)))).trans
      ((Pipeline.withArrays_of_ne _ c _ _ main_arg8 (by exact (by decide : ∀ w, Pipeline.arrRef spec0 w ≠ main_arg8))).trans
        ((Pipeline.withR_of_not_mem _ _ _ _ main_arg8 (by decide)).trans (V_main_arg8 m c))))

set_option maxHeartbeats 800000 in
theorem kept_9 {r : PUnit × MemSt nD τ sig (Elt F)} (h : Post m r) (c : Dev nD) :
    r.2.mem ((c.tc : Thread nD τ).loc main_arg9) = m ((c.tc : Thread nD τ).loc main_arg9) :=
  ((h.1 c).2 main_arg9 (memRest (Pipeline.mem_restRefs_of main_arg9 (by decide) (by decide)))).trans
    ((StableHlo.after_of_forall_not_mem (b := Proc.devRef .tc main_arg9) _ _ (List.forall_iff_forall_mem.mp (by
        simp only [hostOps1, List.flatten_cons, List.flatten_nil, List.append_nil, List.cons_append, List.nil_append, List.Forall,
          StableHlo.nullary_writes, StableHlo.unary_writes, StableHlo.binary_writes, StableHlo.ternary_writes, StableHlo.quaternary_writes,
          StableHlo.reshape_writes, StableHlo.binaryIndexed_writes, Finset.mem_singleton]
        repeat' apply And.intro
        all_goals exact StableHlo.devRef_ne_of_ne (by decide)))).trans
      ((Pipeline.withArrays_of_ne _ c _ _ main_arg9 (by exact (by decide : ∀ w, Pipeline.arrRef spec0 w ≠ main_arg9))).trans
        ((Pipeline.withR_of_not_mem _ _ _ _ main_arg9 (by decide)).trans (V_main_arg9 m c))))

set_option maxHeartbeats 800000 in
theorem kept_10 {r : PUnit × MemSt nD τ sig (Elt F)} (h : Post m r) (c : Dev nD) :
    r.2.mem ((c.tc : Thread nD τ).loc main_arg10) = m ((c.tc : Thread nD τ).loc main_arg10) :=
  ((h.1 c).2 main_arg10 (memRest (Pipeline.mem_restRefs_of main_arg10 (by decide) (by decide)))).trans
    ((StableHlo.after_of_forall_not_mem (b := Proc.devRef .tc main_arg10) _ _ (List.forall_iff_forall_mem.mp (by
        simp only [hostOps1, List.flatten_cons, List.flatten_nil, List.append_nil, List.cons_append, List.nil_append, List.Forall,
          StableHlo.nullary_writes, StableHlo.unary_writes, StableHlo.binary_writes, StableHlo.ternary_writes, StableHlo.quaternary_writes,
          StableHlo.reshape_writes, StableHlo.binaryIndexed_writes, Finset.mem_singleton]
        repeat' apply And.intro
        all_goals exact StableHlo.devRef_ne_of_ne (by decide)))).trans
      ((Pipeline.withArrays_of_ne _ c _ _ main_arg10 (by exact (by decide : ∀ w, Pipeline.arrRef spec0 w ≠ main_arg10))).trans
        ((Pipeline.withR_of_not_mem _ _ _ _ main_arg10 (by decide)).trans (V_main_arg10 m c))))

set_option maxHeartbeats 800000 in
theorem kept_11 {r : PUnit × MemSt nD τ sig (Elt F)} (h : Post m r) (c : Dev nD) :
    r.2.mem ((c.tc : Thread nD τ).loc main_arg11) = m ((c.tc : Thread nD τ).loc main_arg11) :=
  ((h.1 c).2 main_arg11 (memRest (Pipeline.mem_restRefs_of main_arg11 (by decide) (by decide)))).trans
    ((StableHlo.after_of_forall_not_mem (b := Proc.devRef .tc main_arg11) _ _ (List.forall_iff_forall_mem.mp (by
        simp only [hostOps1, List.flatten_cons, List.flatten_nil, List.append_nil, List.cons_append, List.nil_append, List.Forall,
          StableHlo.nullary_writes, StableHlo.unary_writes, StableHlo.binary_writes, StableHlo.ternary_writes, StableHlo.quaternary_writes,
          StableHlo.reshape_writes, StableHlo.binaryIndexed_writes, Finset.mem_singleton]
        repeat' apply And.intro
        all_goals exact StableHlo.devRef_ne_of_ne (by decide)))).trans
      ((Pipeline.withArrays_of_ne _ c _ _ main_arg11 (by exact (by decide : ∀ w, Pipeline.arrRef spec0 w ≠ main_arg11))).trans
        ((Pipeline.withR_of_not_mem _ _ _ _ main_arg11 (by decide)).trans (V_main_arg11 m c))))

set_option maxHeartbeats 800000 in
theorem kept_12 {r : PUnit × MemSt nD τ sig (Elt F)} (h : Post m r) (c : Dev nD) :
    r.2.mem ((c.tc : Thread nD τ).loc main_arg12) = m ((c.tc : Thread nD τ).loc main_arg12) :=
  ((h.1 c).2 main_arg12 (memRest (Pipeline.mem_restRefs_of main_arg12 (by decide) (by decide)))).trans
    ((StableHlo.after_of_forall_not_mem (b := Proc.devRef .tc main_arg12) _ _ (List.forall_iff_forall_mem.mp (by
        simp only [hostOps1, List.flatten_cons, List.flatten_nil, List.append_nil, List.cons_append, List.nil_append, List.Forall,
          StableHlo.nullary_writes, StableHlo.unary_writes, StableHlo.binary_writes, StableHlo.ternary_writes, StableHlo.quaternary_writes,
          StableHlo.reshape_writes, StableHlo.binaryIndexed_writes, Finset.mem_singleton]
        repeat' apply And.intro
        all_goals exact StableHlo.devRef_ne_of_ne (by decide)))).trans
      ((Pipeline.withArrays_of_ne _ c _ _ main_arg12 (by exact (by decide : ∀ w, Pipeline.arrRef spec0 w ≠ main_arg12))).trans
        ((Pipeline.withR_of_not_mem _ _ _ _ main_arg12 (by decide)).trans (V_main_arg12 m c))))

set_option maxHeartbeats 800000 in
theorem kept_13 {r : PUnit × MemSt nD τ sig (Elt F)} (h : Post m r) (c : Dev nD) :
    r.2.mem ((c.tc : Thread nD τ).loc main_arg13) = m ((c.tc : Thread nD τ).loc main_arg13) :=
  ((h.1 c).2 main_arg13 (memRest (Pipeline.mem_restRefs_of main_arg13 (by decide) (by decide)))).trans
    ((StableHlo.after_of_forall_not_mem (b := Proc.devRef .tc main_arg13) _ _ (List.forall_iff_forall_mem.mp (by
        simp only [hostOps1, List.flatten_cons, List.flatten_nil, List.append_nil, List.cons_append, List.nil_append, List.Forall,
          StableHlo.nullary_writes, StableHlo.unary_writes, StableHlo.binary_writes, StableHlo.ternary_writes, StableHlo.quaternary_writes,
          StableHlo.reshape_writes, StableHlo.binaryIndexed_writes, Finset.mem_singleton]
        repeat' apply And.intro
        all_goals exact StableHlo.devRef_ne_of_ne (by decide)))).trans
      ((Pipeline.withArrays_of_ne _ c _ _ main_arg13 (by exact (by decide : ∀ w, Pipeline.arrRef spec0 w ≠ main_arg13))).trans
        ((Pipeline.withR_of_not_mem _ _ _ _ main_arg13 (by decide)).trans (V_main_arg13 m c))))

set_option maxHeartbeats 800000 in
theorem kept_14 {r : PUnit × MemSt nD τ sig (Elt F)} (h : Post m r) (c : Dev nD) :
    r.2.mem ((c.tc : Thread nD τ).loc main_arg14) = m ((c.tc : Thread nD τ).loc main_arg14) :=
  ((h.1 c).2 main_arg14 (memRest (Pipeline.mem_restRefs_of main_arg14 (by decide) (by decide)))).trans
    ((StableHlo.after_of_forall_not_mem (b := Proc.devRef .tc main_arg14) _ _ (List.forall_iff_forall_mem.mp (by
        simp only [hostOps1, List.flatten_cons, List.flatten_nil, List.append_nil, List.cons_append, List.nil_append, List.Forall,
          StableHlo.nullary_writes, StableHlo.unary_writes, StableHlo.binary_writes, StableHlo.ternary_writes, StableHlo.quaternary_writes,
          StableHlo.reshape_writes, StableHlo.binaryIndexed_writes, Finset.mem_singleton]
        repeat' apply And.intro
        all_goals exact StableHlo.devRef_ne_of_ne (by decide)))).trans
      ((Pipeline.withArrays_of_ne _ c _ _ main_arg14 (by exact (by decide : ∀ w, Pipeline.arrRef spec0 w ≠ main_arg14))).trans
        ((Pipeline.withR_of_not_mem _ _ _ _ main_arg14 (by decide)).trans (V_main_arg14 m c))))

set_option maxHeartbeats 800000 in
theorem kept_15 {r : PUnit × MemSt nD τ sig (Elt F)} (h : Post m r) (c : Dev nD) :
    r.2.mem ((c.tc : Thread nD τ).loc main_arg15) = m ((c.tc : Thread nD τ).loc main_arg15) :=
  ((h.1 c).2 main_arg15 (memRest (Pipeline.mem_restRefs_of main_arg15 (by decide) (by decide)))).trans
    ((StableHlo.after_of_forall_not_mem (b := Proc.devRef .tc main_arg15) _ _ (List.forall_iff_forall_mem.mp (by
        simp only [hostOps1, List.flatten_cons, List.flatten_nil, List.append_nil, List.cons_append, List.nil_append, List.Forall,
          StableHlo.nullary_writes, StableHlo.unary_writes, StableHlo.binary_writes, StableHlo.ternary_writes, StableHlo.quaternary_writes,
          StableHlo.reshape_writes, StableHlo.binaryIndexed_writes, Finset.mem_singleton]
        repeat' apply And.intro
        all_goals exact StableHlo.devRef_ne_of_ne (by decide)))).trans
      ((Pipeline.withArrays_of_ne _ c _ _ main_arg15 (by exact (by decide : ∀ w, Pipeline.arrRef spec0 w ≠ main_arg15))).trans
        ((Pipeline.withR_of_not_mem _ _ _ _ main_arg15 (by decide)).trans (V_main_arg15 m c))))

set_option maxHeartbeats 800000 in
theorem kept_16 {r : PUnit × MemSt nD τ sig (Elt F)} (h : Post m r) (c : Dev nD) :
    r.2.mem ((c.tc : Thread nD τ).loc main_arg16) = m ((c.tc : Thread nD τ).loc main_arg16) :=
  ((h.1 c).2 main_arg16 (memRest (Pipeline.mem_restRefs_of main_arg16 (by decide) (by decide)))).trans
    ((StableHlo.after_of_forall_not_mem (b := Proc.devRef .tc main_arg16) _ _ (List.forall_iff_forall_mem.mp (by
        simp only [hostOps1, List.flatten_cons, List.flatten_nil, List.append_nil, List.cons_append, List.nil_append, List.Forall,
          StableHlo.nullary_writes, StableHlo.unary_writes, StableHlo.binary_writes, StableHlo.ternary_writes, StableHlo.quaternary_writes,
          StableHlo.reshape_writes, StableHlo.binaryIndexed_writes, Finset.mem_singleton]
        repeat' apply And.intro
        all_goals exact StableHlo.devRef_ne_of_ne (by decide)))).trans
      ((Pipeline.withArrays_of_ne _ c _ _ main_arg16 (by exact (by decide : ∀ w, Pipeline.arrRef spec0 w ≠ main_arg16))).trans
        ((Pipeline.withR_of_not_mem _ _ _ _ main_arg16 (by decide)).trans (V_main_arg16 m c))))

set_option maxHeartbeats 800000 in
theorem kept_17 {r : PUnit × MemSt nD τ sig (Elt F)} (h : Post m r) (c : Dev nD) :
    r.2.mem ((c.tc : Thread nD τ).loc main_arg17) = m ((c.tc : Thread nD τ).loc main_arg17) :=
  ((h.1 c).2 main_arg17 (memRest (Pipeline.mem_restRefs_of main_arg17 (by decide) (by decide)))).trans
    ((StableHlo.after_of_forall_not_mem (b := Proc.devRef .tc main_arg17) _ _ (List.forall_iff_forall_mem.mp (by
        simp only [hostOps1, List.flatten_cons, List.flatten_nil, List.append_nil, List.cons_append, List.nil_append, List.Forall,
          StableHlo.nullary_writes, StableHlo.unary_writes, StableHlo.binary_writes, StableHlo.ternary_writes, StableHlo.quaternary_writes,
          StableHlo.reshape_writes, StableHlo.binaryIndexed_writes, Finset.mem_singleton]
        repeat' apply And.intro
        all_goals exact StableHlo.devRef_ne_of_ne (by decide)))).trans
      ((Pipeline.withArrays_of_ne _ c _ _ main_arg17 (by exact (by decide : ∀ w, Pipeline.arrRef spec0 w ≠ main_arg17))).trans
        ((Pipeline.withR_of_not_mem _ _ _ _ main_arg17 (by decide)).trans (V_main_arg17 m c))))

set_option maxHeartbeats 800000 in
theorem kept_18 {r : PUnit × MemSt nD τ sig (Elt F)} (h : Post m r) (c : Dev nD) :
    r.2.mem ((c.tc : Thread nD τ).loc main_arg18) = m ((c.tc : Thread nD τ).loc main_arg18) :=
  ((h.1 c).2 main_arg18 (memRest (Pipeline.mem_restRefs_of main_arg18 (by decide) (by decide)))).trans
    ((StableHlo.after_of_forall_not_mem (b := Proc.devRef .tc main_arg18) _ _ (List.forall_iff_forall_mem.mp (by
        simp only [hostOps1, List.flatten_cons, List.flatten_nil, List.append_nil, List.cons_append, List.nil_append, List.Forall,
          StableHlo.nullary_writes, StableHlo.unary_writes, StableHlo.binary_writes, StableHlo.ternary_writes, StableHlo.quaternary_writes,
          StableHlo.reshape_writes, StableHlo.binaryIndexed_writes, Finset.mem_singleton]
        repeat' apply And.intro
        all_goals exact StableHlo.devRef_ne_of_ne (by decide)))).trans
      ((Pipeline.withArrays_of_ne _ c _ _ main_arg18 (by exact (by decide : ∀ w, Pipeline.arrRef spec0 w ≠ main_arg18))).trans
        ((Pipeline.withR_of_not_mem _ _ _ _ main_arg18 (by decide)).trans (V_main_arg18 m c))))

set_option maxHeartbeats 800000 in
theorem kept_19 {r : PUnit × MemSt nD τ sig (Elt F)} (h : Post m r) (c : Dev nD) :
    r.2.mem ((c.tc : Thread nD τ).loc main_arg19) = m ((c.tc : Thread nD τ).loc main_arg19) :=
  ((h.1 c).2 main_arg19 (memRest (Pipeline.mem_restRefs_of main_arg19 (by decide) (by decide)))).trans
    ((StableHlo.after_of_forall_not_mem (b := Proc.devRef .tc main_arg19) _ _ (List.forall_iff_forall_mem.mp (by
        simp only [hostOps1, List.flatten_cons, List.flatten_nil, List.append_nil, List.cons_append, List.nil_append, List.Forall,
          StableHlo.nullary_writes, StableHlo.unary_writes, StableHlo.binary_writes, StableHlo.ternary_writes, StableHlo.quaternary_writes,
          StableHlo.reshape_writes, StableHlo.binaryIndexed_writes, Finset.mem_singleton]
        repeat' apply And.intro
        all_goals exact StableHlo.devRef_ne_of_ne (by decide)))).trans
      ((Pipeline.withArrays_of_ne _ c _ _ main_arg19 (by exact (by decide : ∀ w, Pipeline.arrRef spec0 w ≠ main_arg19))).trans
        ((Pipeline.withR_of_not_mem _ _ _ _ main_arg19 (by decide)).trans (V_main_arg19 m c))))

/-- The run leaves every argument as it was, and every cell at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19))
      ∧ r.2.sem = fun _ => 0) :=
  (θ_run defs _ _).mono (fun r h => ⟨fun c => ⟨kept_0 m h c, kept_1 m h c, kept_2 m h c, kept_3 m h c, kept_4 m h c, kept_5 m h c, kept_6 m h c, kept_7 m h c, kept_8 m h c, kept_9 m h c, kept_10 m h c, kept_11 m h c, kept_12 m h c, kept_13 m h c, kept_14 m h c, kept_15 m h c, kept_16 m h c, kept_17 m h c, kept_18 m h c, kept_19 m h c⟩, h.2⟩) (run_main m ρ)

end Cert.KernelIdeal.Hand
-- ==== Proof.Ref.Ops.lean ====
/- The reference program as the list of its host operations. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v0`, its operands plain arguments. -/
def fn_main_v0 : (⟨S4096x256, .f32⟩ : BufTy).Contents (Elt F) → (⟨S4096x768, .f32⟩ : BufTy).Contents (Elt F) → (⟨S4096x1024, .f32⟩ : BufTy).Contents (Elt F) :=
  (fun a b => concatenate S4096x1024 1 [⟨S4096x256, a⟩, ⟨S4096x768, b⟩] concatenates_S4096x256_S4096x768_S4096x1024_d1)

/-- The function of the operation that writes `main_v30`, its operands plain arguments. -/
def fn_main_v30 : (main_v0 : Ref sig .tc).ty.Contents (Elt F) → (main_v21 : Ref sig .tc).ty.Contents (Elt F) → (main_v29 : Ref sig .tc).ty.Contents (Elt F) → (main_v30 : Ref sig .tc).ty.Contents (Elt F) :=
  (fun u0 u1 u2 => (concatenate S4096x1286 1 [⟨S4096x1024, (u0 : (⟨S4096x1024, .f32⟩ : BufTy).Contents (Elt F))⟩, ⟨S4096x256, (u1 : (⟨S4096x256, .f32⟩ : BufTy).Contents (Elt F))⟩, ⟨S4096x6, (u2 : (⟨S4096x6, .f32⟩ : BufTy).Contents (Elt F))⟩] concatenates_S4096x1024_S4096x256_S4096x6_S4096x1286_d1 : (⟨S4096x1286, .f32⟩ : BufTy).Contents (Elt F)))

/-- The function of the operation that writes `main_v161`, its operands plain arguments. -/
def fn_main_v161 : (main_v145 : Ref sig .tc).ty.Contents (Elt F) → (main_v149 : Ref sig .tc).ty.Contents (Elt F) → (main_v154 : Ref sig .tc).ty.Contents (Elt F) → (main_v157 : Ref sig .tc).ty.Contents (Elt F) → (main_v160 : Ref sig .tc).ty.Contents (Elt F) → (main_v161 : Ref sig .tc).ty.Contents (Elt F) :=
  (fun u0 u1 u2 u3 u4 => (concatenate S4096x32x6 2 [⟨S4096x32x1, (u0 : (⟨S4096x32x1, .f32⟩ : BufTy).Contents (Elt F))⟩, ⟨S4096x32x1, (u1 : (⟨S4096x32x1, .f32⟩ : BufTy).Contents (Elt F))⟩, ⟨S4096x32x1, (u2 : (⟨S4096x32x1, .f32⟩ : BufTy).Contents (Elt F))⟩, ⟨S4096x32x1, (u3 : (⟨S4096x32x1, .f32⟩ : BufTy).Contents (Elt F))⟩, ⟨S4096x32x2, (u4 : (⟨S4096x32x2, .f32⟩ : BufTy).Contents (Elt F))⟩] concatenates_S4096x32x1_S4096x32x1_S4096x32x1_S4096x32x1_S4096x32x2_S4096x32x6_d2 : (⟨S4096x32x6, .f32⟩ : BufTy).Contents (Elt F)))

/-- @main's operations 1 … 30 of 221 (window `main_part0`). -/
abbrev ops_part0_0 : List (HloOp τ sig (Elt F)) :=
  [ binary main_arg0 main_arg1 main_v0 (fn_main_v0 (F := F)),
    binary main_v0 main_arg8 main_v1 ((fun l r => Host.dotGeneral dot_S4096x1024_S1024x512_S4096x512_1_0_0_1_n_n none l r) : (⟨S4096x1024, .f32⟩ : BufTy).Contents (Elt F) → (⟨S1024x512, .f32⟩ : BufTy).Contents (Elt F) → (⟨S4096x512, .f32⟩ : BufTy).Contents (Elt F)),
    unary main_arg9 main_v2 (broadcastInDim S1x512 ![1] bcast_S512_S1x512_1 : (⟨S512, .f32⟩ : BufTy).Contents (Elt F) → (⟨S1x512, .f32⟩ : BufTy).Contents (Elt F)),
    unary main_v2 main_v3 (broadcastInDim S4096x512 ![0, 1] bcast_S1x512_S4096x512_0_1 : (⟨S1x512, .f32⟩ : BufTy).Contents (Elt F) → (⟨S4096x512, .f32⟩ : BufTy).Contents (Elt F)),
    binary main_v1 main_v3 main_v4 (addf : (⟨S4096x512, .f32⟩ : BufTy).Contents (Elt F) → (⟨S4096x512, .f32⟩ : BufTy).Contents (Elt F) → (⟨S4096x512, .f32⟩ : BufTy).Contents (Elt F)),
    binary main_v4 main_v4 main_v5 (mulf : (⟨S4096x512, .f32⟩ : BufTy).Contents (Elt F) → (⟨S4096x512, .f32⟩ : BufTy).Contents (Elt F) → (⟨S4096x512, .f32⟩ : BufTy).Contents (Elt F)),
    binary main_v5 main_v4 main_v6 (mulf : (⟨S4096x512, .f32⟩ : BufTy).Contents (Elt F) → (⟨S4096x512, .f32⟩ : BufTy).Contents (Elt F) → (⟨S4096x512, .f32⟩ : BufTy).Contents (Elt F)),
    nullary main_cst (constant S_ .f32 0x3D372713#32),
    unary main_cst main_v7 (broadcastInDim S4096x512 ![] bcast_S_S4096x512 : (⟨S_, .f32⟩ : BufTy).Contents (Elt F) → (⟨S4096x512, .f32⟩ : BufTy).Contents (Elt F)),
    binary main_v7 main_v6 main_v8 (mulf : (⟨S4096x512, .f32⟩ : BufTy).Contents (Elt F) → (⟨S4096x512, .f32⟩ : BufTy).Contents (Elt F) → (⟨S4096x512, .f32⟩ : BufTy).Contents (Elt F)),
    binary main_v4 main_v8 main_v9 (addf : (⟨S4096x512, .f32⟩ : BufTy).Contents (Elt F) → (⟨S4096x512, .f32⟩ : BufTy).Contents (Elt F) → (⟨S4096x512, .f32⟩ : BufTy).Contents (Elt F)),
    nullary main_cst_0 (constant S_ .f32 0x3F4C422A#32),
    unary main_cst_0 main_v10 (broadcastInDim S4096x512 ![] bcast_S_S4096x512 : (⟨S_, .f32⟩ : BufTy).Contents (Elt F) → (⟨S4096x512, .f32⟩ : BufTy).Contents (Elt F)),
    binary main_v10 main_v9 main_v11 (mulf : (⟨S4096x512, .f32⟩ : BufTy).Contents (Elt F) → (⟨S4096x512, .f32⟩ : BufTy).Contents (Elt F) → (⟨S4096x512, .f32⟩ : BufTy).Contents (Elt F)),
    unary main_v11 main_v12 (Host.tanh : (⟨S4096x512, .f32⟩ : BufTy).Contents (Elt F) → (⟨S4096x512, .f32⟩ : BufTy).Contents (Elt F)),
    nullary main_cst_1 (constant S_ .f32 0x3F800000#32),
    unary main_cst_1 main_v13 (broadcastInDim S4096x512 ![] bcast_S_S4096x512 : (⟨S_, .f32⟩ : BufTy).Contents (Elt F) → (⟨S4096x512, .f32⟩ : BufTy).Contents (Elt F)),
    binary main_v13 main_v12 main_v14 (addf : (⟨S4096x512, .f32⟩ : BufTy).Contents (Elt F) → (⟨S4096x512, .f32⟩ : BufTy).Contents (Elt F) → (⟨S4096x512, .f32⟩ : BufTy).Contents (Elt F)),
    nullary main_cst_2 (constant S_ .f32 0x3F000000#32),
    unary main_cst_2 main_v15 (broadcastInDim S4096x512 ![] bcast_S_S4096x512 : (⟨S_, .f32⟩ : BufTy).Contents (Elt F) → (⟨S4096x512, .f32⟩ : BufTy).Contents (Elt F)),
    binary main_v15 main_v14 main_v16 (mulf : (⟨S4096x512, .f32⟩ : BufTy).Contents (Elt F) → (⟨S4096x512, .f32⟩ : BufTy).Contents (Elt F) → (⟨S4096x512, .f32⟩ : BufTy).Contents (Elt F)),
    binary main_v4 main_v16 main_v17 (mulf : (⟨S4096x512, .f32⟩ : BufTy).Contents (Elt F) → (⟨S4096x512, .f32⟩ : BufTy).Contents (Elt F) → (⟨S4096x512, .f32⟩ : BufTy).Contents (Elt F)),
    binary main_v17 main_arg10 main_v18 ((fun l r => Host.dotGeneral dot_S4096x512_S512x256_S4096x256_1_0_0_1_n_n none l r) : (⟨S4096x512, .f32⟩ : BufTy).Contents (Elt F) → (⟨S512x256, .f32⟩ : BufTy).Contents (Elt F) → (⟨S4096x256, .f32⟩ : BufTy).Contents (Elt F)),
    unary main_arg11 main_v19 (broadcastInDim S1x256 ![1] bcast_S256_S1x256_1 : (⟨S256, .f32⟩ : BufTy).Contents (Elt F) → (⟨S1x256, .f32⟩ : BufTy).Contents (Elt F)),
    unary main_v19 main_v20 (broadcastInDim S4096x256 ![0, 1] bcast_S1x256_S4096x256_0_1 : (⟨S1x256, .f32⟩ : BufTy).Contents (Elt F) → (⟨S4096x256, .f32⟩ : BufTy).Contents (Elt F)),
    binary main_v18 main_v20 main_v21 (addf : (⟨S4096x256, .f32⟩ : BufTy).Contents (Elt F) → (⟨S4096x256, .f32⟩ : BufTy).Contents (Elt F) → (⟨S4096x256, .f32⟩ : BufTy).Contents (Elt F)),
    binary main_arg6 main_arg3 main_v22 (mulf : (⟨S4096x32x1, .f32⟩ : BufTy).Contents (Elt F) → (⟨S4096x32x1, .f32⟩ : BufTy).Contents (Elt F) → (⟨S4096x32x1, .f32⟩ : BufTy).Contents (Elt F)),
    nullary main_cst_3 (constant S_ .f32 0x00000000#32),
    binary main_v22 main_cst_3 main_v23 ((fun x v => Host.reduceAdd x v reducesTo_S4096x32x1_S4096x1_d1 h_S_) : (⟨S4096x32x1, .f32⟩ : BufTy).Contents (Elt F) → (⟨S_, .f32⟩ : BufTy).Contents (Elt F) → (⟨S4096x1, .f32⟩ : BufTy).Contents (Elt F)),
    nullary main_cst_4 (constant S_ .f32 0x3F800000#32) ]

/-- @main's operations 31 … 60 of 221 (window `main_part0`). -/
abbrev ops_part0_1 : List (HloOp τ sig (Elt F)) :=
  [ TRef.unary (TRef.of (T := ⟨S_, .f32⟩) main_cst_4) (TRef.of (T := ⟨S_, .f32⟩) main_call0_v0) id,
    TRef.unary (TRef.of (T := ⟨S_, .f32⟩) main_call0_v0) (TRef.of (T := ⟨S4096x1, .f32⟩) main_call0_v1) (broadcastInDim S4096x1 ![] bcast_S_S4096x1),
    TRef.binary (TRef.of (T := ⟨S4096x1, .f32⟩) main_call0_v1) (TRef.of (T := ⟨S4096x1, .f32⟩) main_v23) (TRef.of (T := ⟨S4096x1, .f32⟩) main_v24) maximumf,
    unary main_v22 main_v25 (broadcastInDim S4096x32x6 ![0, 1, 2] bcast_S4096x32x1_S4096x32x6_0_1_2 : (⟨S4096x32x1, .f32⟩ : BufTy).Contents (Elt F) → (⟨S4096x32x6, .f32⟩ : BufTy).Contents (Elt F)),
    binary main_arg7 main_v25 main_v26 (mulf : (⟨S4096x32x6, .f32⟩ : BufTy).Contents (Elt F) → (⟨S4096x32x6, .f32⟩ : BufTy).Contents (Elt F) → (⟨S4096x32x6, .f32⟩ : BufTy).Contents (Elt F)),
    nullary main_cst_5 (constant S_ .f32 0x00000000#32),
    binary main_v26 main_cst_5 main_v27 ((fun x v => Host.reduceAdd x v reducesTo_S4096x32x6_S4096x6_d1 h_S_) : (⟨S4096x32x6, .f32⟩ : BufTy).Contents (Elt F) → (⟨S_, .f32⟩ : BufTy).Contents (Elt F) → (⟨S4096x6, .f32⟩ : BufTy).Contents (Elt F)),
    unary main_v24 main_v28 (broadcastInDim S4096x6 ![0, 1] bcast_S4096x1_S4096x6_0_1 : (⟨S4096x1, .f32⟩ : BufTy).Contents (Elt F) → (⟨S4096x6, .f32⟩ : BufTy).Contents (Elt F)),
    binary main_v27 main_v28 main_v29 (Host.divf : (⟨S4096x6, .f32⟩ : BufTy).Contents (Elt F) → (⟨S4096x6, .f32⟩ : BufTy).Contents (Elt F) → (⟨S4096x6, .f32⟩ : BufTy).Contents (Elt F)),
    nary ![main_v0, main_v21, main_v29] main_v30 (fun u => fn_main_v30 (F := F) (u 0) (u 1) (u 2)),
    binary main_v30 main_arg12 main_v31 ((fun l r => Host.dotGeneral dot_S4096x1286_S1286x384_S4096x384_1_0_0_1_n_n none l r) : (⟨S4096x1286, .f32⟩ : BufTy).Contents (Elt F) → (⟨S1286x384, .f32⟩ : BufTy).Contents (Elt F) → (⟨S4096x384, .f32⟩ : BufTy).Contents (Elt F)),
    unary main_arg13 main_v32 (broadcastInDim S1x384 ![1] bcast_S384_S1x384_1 : (⟨S384, .f32⟩ : BufTy).Contents (Elt F) → (⟨S1x384, .f32⟩ : BufTy).Contents (Elt F)),
    unary main_v32 main_v33 (broadcastInDim S4096x384 ![0, 1] bcast_S1x384_S4096x384_0_1 : (⟨S1x384, .f32⟩ : BufTy).Contents (Elt F) → (⟨S4096x384, .f32⟩ : BufTy).Contents (Elt F)),
    binary main_v31 main_v33 main_v34 (addf : (⟨S4096x384, .f32⟩ : BufTy).Contents (Elt F) → (⟨S4096x384, .f32⟩ : BufTy).Contents (Elt F) → (⟨S4096x384, .f32⟩ : BufTy).Contents (Elt F)),
    binary main_v34 main_v34 main_v35 (mulf : (⟨S4096x384, .f32⟩ : BufTy).Contents (Elt F) → (⟨S4096x384, .f32⟩ : BufTy).Contents (Elt F) → (⟨S4096x384, .f32⟩ : BufTy).Contents (Elt F)),
    binary main_v35 main_v34 main_v36 (mulf : (⟨S4096x384, .f32⟩ : BufTy).Contents (Elt F) → (⟨S4096x384, .f32⟩ : BufTy).Contents (Elt F) → (⟨S4096x384, .f32⟩ : BufTy).Contents (Elt F)),
    nullary main_cst_6 (constant S_ .f32 0x3D372713#32),
    unary main_cst_6 main_v37 (broadcastInDim S4096x384 ![] bcast_S_S4096x384 : (⟨S_, .f32⟩ : BufTy).Contents (Elt F) → (⟨S4096x384, .f32⟩ : BufTy).Contents (Elt F)),
    binary main_v37 main_v36 main_v38 (mulf : (⟨S4096x384, .f32⟩ : BufTy).Contents (Elt F) → (⟨S4096x384, .f32⟩ : BufTy).Contents (Elt F) → (⟨S4096x384, .f32⟩ : BufTy).Contents (Elt F)),
    binary main_v34 main_v38 main_v39 (addf : (⟨S4096x384, .f32⟩ : BufTy).Contents (Elt F) → (⟨S4096x384, .f32⟩ : BufTy).Contents (Elt F) → (⟨S4096x384, .f32⟩ : BufTy).Contents (Elt F)),
    nullary main_cst_7 (constant S_ .f32 0x3F4C422A#32),
    unary main_cst_7 main_v40 (broadcastInDim S4096x384 ![] bcast_S_S4096x384 : (⟨S_, .f32⟩ : BufTy).Contents (Elt F) → (⟨S4096x384, .f32⟩ : BufTy).Contents (Elt F)),
    binary main_v40 main_v39 main_v41 (mulf : (⟨S4096x384, .f32⟩ : BufTy).Contents (Elt F) → (⟨S4096x384, .f32⟩ : BufTy).Contents (Elt F) → (⟨S4096x384, .f32⟩ : BufTy).Contents (Elt F)),
    unary main_v41 main_v42 (Host.tanh : (⟨S4096x384, .f32⟩ : BufTy).Contents (Elt F) → (⟨S4096x384, .f32⟩ : BufTy).Contents (Elt F)),
    nullary main_cst_8 (constant S_ .f32 0x3F800000#32),
    unary main_cst_8 main_v43 (broadcastInDim S4096x384 ![] bcast_S_S4096x384 : (⟨S_, .f32⟩ : BufTy).Contents (Elt F) → (⟨S4096x384, .f32⟩ : BufTy).Contents (Elt F)),
    binary main_v43 main_v42 main_v44 (addf : (⟨S4096x384, .f32⟩ : BufTy).Contents (Elt F) → (⟨S4096x384, .f32⟩ : BufTy).Contents (Elt F) → (⟨S4096x384, .f32⟩ : BufTy).Contents (Elt F)),
    nullary main_cst_9 (constant S_ .f32 0x3F000000#32),
    unary main_cst_9 main_v45 (broadcastInDim S4096x384 ![] bcast_S_S4096x384 : (⟨S_, .f32⟩ : BufTy).Contents (Elt F) → (⟨S4096x384, .f32⟩ : BufTy).Contents (Elt F)),
    binary main_v45 main_v44 main_v46 (mulf : (⟨S4096x384, .f32⟩ : BufTy).Contents (Elt F) → (⟨S4096x384, .f32⟩ : BufTy).Contents (Elt F) → (⟨S4096x384, .f32⟩ : BufTy).Contents (Elt F)) ]

/-- @main's operations 61 … 62 of 221 (window `main_part0`). -/
abbrev ops_part0_2 : List (HloOp τ sig (Elt F)) :=
  [ binary main_v34 main_v46 main_v47 (mulf : (⟨S4096x384, .f32⟩ : BufTy).Contents (Elt F) → (⟨S4096x384, .f32⟩ : BufTy).Contents (Elt F) → (⟨S4096x384, .f32⟩ : BufTy).Contents (Elt F)),
    binary main_v47 main_arg14 main_v48 ((fun l r => Host.dotGeneral dot_S4096x384_S384x1_S4096x1_1_0_0_1_n_n none l r) : (⟨S4096x384, .f32⟩ : BufTy).Contents (Elt F) → (⟨S384x1, .f32⟩ : BufTy).Contents (Elt F) → (⟨S4096x1, .f32⟩ : BufTy).Contents (Elt F)) ]

/-- Window `main_part0`'s operations. Not an abbreviation: `main_eq` below splits `ops` into the windows and no further. -/
def ops_part0 : List (HloOp τ sig (Elt F)) :=
  ops_part0_0 ++ (ops_part0_1 ++ (ops_part0_2))

/-- @main's operations 63 … 122 of 221 (window `main_part1`). -/
abbrev ops_part1 : List (HloOp τ sig (Elt F)) :=
  [ unary main_arg15 main_v49 (broadcastInDim S1x1 ![1] bcast_S1_S1x1_1 : (⟨S1, .f32⟩ : BufTy).Contents (Elt F) → (⟨S1x1, .f32⟩ : BufTy).Contents (Elt F)),
    unary main_v49 main_v50 (broadcastInDim S4096x1 ![0, 1] bcast_S1x1_S4096x1_0_1 : (⟨S1x1, .f32⟩ : BufTy).Contents (Elt F) → (⟨S4096x1, .f32⟩ : BufTy).Contents (Elt F)),
    binary main_v48 main_v50 main_v51 (addf : (⟨S4096x1, .f32⟩ : BufTy).Contents (Elt F) → (⟨S4096x1, .f32⟩ : BufTy).Contents (Elt F) → (⟨S4096x1, .f32⟩ : BufTy).Contents (Elt F)),
    unary main_v51 main_v52 (Host.negf : (⟨S4096x1, .f32⟩ : BufTy).Contents (Elt F) → (⟨S4096x1, .f32⟩ : BufTy).Contents (Elt F)),
    unary main_v52 main_v53 (Host.exp : (⟨S4096x1, .f32⟩ : BufTy).Contents (Elt F) → (⟨S4096x1, .f32⟩ : BufTy).Contents (Elt F)),
    nullary main_cst_10 (constant S_ .f32 0x3F800000#32),
    unary main_cst_10 main_v54 (broadcastInDim S4096x1 ![] bcast_S_S4096x1 : (⟨S_, .f32⟩ : BufTy).Contents (Elt F) → (⟨S4096x1, .f32⟩ : BufTy).Contents (Elt F)),
    binary main_v54 main_v53 main_v55 (addf : (⟨S4096x1, .f32⟩ : BufTy).Contents (Elt F) → (⟨S4096x1, .f32⟩ : BufTy).Contents (Elt F) → (⟨S4096x1, .f32⟩ : BufTy).Contents (Elt F)),
    nullary main_cst_11 (constant S_ .f32 0x3F800000#32),
    unary main_cst_11 main_v56 (broadcastInDim S4096x1 ![] bcast_S_S4096x1 : (⟨S_, .f32⟩ : BufTy).Contents (Elt F) → (⟨S4096x1, .f32⟩ : BufTy).Contents (Elt F)),
    binary main_v56 main_v55 main_v57 (Host.divf : (⟨S4096x1, .f32⟩ : BufTy).Contents (Elt F) → (⟨S4096x1, .f32⟩ : BufTy).Contents (Elt F) → (⟨S4096x1, .f32⟩ : BufTy).Contents (Elt F)),
    binary main_v30 main_arg16 main_v58 ((fun l r => Host.dotGeneral dot_S4096x1286_S1286x384_S4096x384_1_0_0_1_n_n none l r) : (⟨S4096x1286, .f32⟩ : BufTy).Contents (Elt F) → (⟨S1286x384, .f32⟩ : BufTy).Contents (Elt F) → (⟨S4096x384, .f32⟩ : BufTy).Contents (Elt F)),
    unary main_arg17 main_v59 (broadcastInDim S1x384 ![1] bcast_S384_S1x384_1 : (⟨S384, .f32⟩ : BufTy).Contents (Elt F) → (⟨S1x384, .f32⟩ : BufTy).Contents (Elt F)),
    unary main_v59 main_v60 (broadcastInDim S4096x384 ![0, 1] bcast_S1x384_S4096x384_0_1 : (⟨S1x384, .f32⟩ : BufTy).Contents (Elt F) → (⟨S4096x384, .f32⟩ : BufTy).Contents (Elt F)),
    binary main_v58 main_v60 main_v61 (addf : (⟨S4096x384, .f32⟩ : BufTy).Contents (Elt F) → (⟨S4096x384, .f32⟩ : BufTy).Contents (Elt F) → (⟨S4096x384, .f32⟩ : BufTy).Contents (Elt F)),
    binary main_v61 main_v61 main_v62 (mulf : (⟨S4096x384, .f32⟩ : BufTy).Contents (Elt F) → (⟨S4096x384, .f32⟩ : BufTy).Contents (Elt F) → (⟨S4096x384, .f32⟩ : BufTy).Contents (Elt F)),
    binary main_v62 main_v61 main_v63 (mulf : (⟨S4096x384, .f32⟩ : BufTy).Contents (Elt F) → (⟨S4096x384, .f32⟩ : BufTy).Contents (Elt F) → (⟨S4096x384, .f32⟩ : BufTy).Contents (Elt F)),
    nullary main_cst_12 (constant S_ .f32 0x3D372713#32),
    unary main_cst_12 main_v64 (broadcastInDim S4096x384 ![] bcast_S_S4096x384 : (⟨S_, .f32⟩ : BufTy).Contents (Elt F) → (⟨S4096x384, .f32⟩ : BufTy).Contents (Elt F)),
    binary main_v64 main_v63 main_v65 (mulf : (⟨S4096x384, .f32⟩ : BufTy).Contents (Elt F) → (⟨S4096x384, .f32⟩ : BufTy).Contents (Elt F) → (⟨S4096x384, .f32⟩ : BufTy).Contents (Elt F)),
    binary main_v61 main_v65 main_v66 (addf : (⟨S4096x384, .f32⟩ : BufTy).Contents (Elt F) → (⟨S4096x384, .f32⟩ : BufTy).Contents (Elt F) → (⟨S4096x384, .f32⟩ : BufTy).Contents (Elt F)),
    nullary main_cst_13 (constant S_ .f32 0x3F4C422A#32),
    unary main_cst_13 main_v67 (broadcastInDim S4096x384 ![] bcast_S_S4096x384 : (⟨S_, .f32⟩ : BufTy).Contents (Elt F) → (⟨S4096x384, .f32⟩ : BufTy).Contents (Elt F)),
    binary main_v67 main_v66 main_v68 (mulf : (⟨S4096x384, .f32⟩ : BufTy).Contents (Elt F) → (⟨S4096x384, .f32⟩ : BufTy).Contents (Elt F) → (⟨S4096x384, .f32⟩ : BufTy).Contents (Elt F)),
    unary main_v68 main_v69 (Host.tanh : (⟨S4096x384, .f32⟩ : BufTy).Contents (Elt F) → (⟨S4096x384, .f32⟩ : BufTy).Contents (Elt F)),
    nullary main_cst_14 (constant S_ .f32 0x3F800000#32),
    unary main_cst_14 main_v70 (broadcastInDim S4096x384 ![] bcast_S_S4096x384 : (⟨S_, .f32⟩ : BufTy).Contents (Elt F) → (⟨S4096x384, .f32⟩ : BufTy).Contents (Elt F)),
    binary main_v70 main_v69 main_v71 (addf : (⟨S4096x384, .f32⟩ : BufTy).Contents (Elt F) → (⟨S4096x384, .f32⟩ : BufTy).Contents (Elt F) → (⟨S4096x384, .f32⟩ : BufTy).Contents (Elt F)),
    nullary main_cst_15 (constant S_ .f32 0x3F000000#32),
    unary main_cst_15 main_v72 (broadcastInDim S4096x384 ![] bcast_S_S4096x384 : (⟨S_, .f32⟩ : BufTy).Contents (Elt F) → (⟨S4096x384, .f32⟩ : BufTy).Contents (Elt F)),
    binary main_v72 main_v71 main_v73 (mulf : (⟨S4096x384, .f32⟩ : BufTy).Contents (Elt F) → (⟨S4096x384, .f32⟩ : BufTy).Contents (Elt F) → (⟨S4096x384, .f32⟩ : BufTy).Contents (Elt F)),
    binary main_v61 main_v73 main_v74 (mulf : (⟨S4096x384, .f32⟩ : BufTy).Contents (Elt F) → (⟨S4096x384, .f32⟩ : BufTy).Contents (Elt F) → (⟨S4096x384, .f32⟩ : BufTy).Contents (Elt F)),
    binary main_v74 main_arg18 main_v75 ((fun l r => Host.dotGeneral dot_S4096x384_S384x1_S4096x1_1_0_0_1_n_n none l r) : (⟨S4096x384, .f32⟩ : BufTy).Contents (Elt F) → (⟨S384x1, .f32⟩ : BufTy).Contents (Elt F) → (⟨S4096x1, .f32⟩ : BufTy).Contents (Elt F)),
    unary main_arg19 main_v76 (broadcastInDim S1x1 ![1] bcast_S1_S1x1_1 : (⟨S1, .f32⟩ : BufTy).Contents (Elt F) → (⟨S1x1, .f32⟩ : BufTy).Contents (Elt F)),
    unary main_v76 main_v77 (broadcastInDim S4096x1 ![0, 1] bcast_S1x1_S4096x1_0_1 : (⟨S1x1, .f32⟩ : BufTy).Contents (Elt F) → (⟨S4096x1, .f32⟩ : BufTy).Contents (Elt F)),
    binary main_v75 main_v77 main_v78 (addf : (⟨S4096x1, .f32⟩ : BufTy).Contents (Elt F) → (⟨S4096x1, .f32⟩ : BufTy).Contents (Elt F) → (⟨S4096x1, .f32⟩ : BufTy).Contents (Elt F)),
    unary main_v78 main_v79 (Host.negf : (⟨S4096x1, .f32⟩ : BufTy).Contents (Elt F) → (⟨S4096x1, .f32⟩ : BufTy).Contents (Elt F)),
    unary main_v79 main_v80 (Host.exp : (⟨S4096x1, .f32⟩ : BufTy).Contents (Elt F) → (⟨S4096x1, .f32⟩ : BufTy).Contents (Elt F)),
    nullary main_cst_16 (constant S_ .f32 0x3F800000#32),
    unary main_cst_16 main_v81 (broadcastInDim S4096x1 ![] bcast_S_S4096x1 : (⟨S_, .f32⟩ : BufTy).Contents (Elt F) → (⟨S4096x1, .f32⟩ : BufTy).Contents (Elt F)),
    binary main_v81 main_v80 main_v82 (addf : (⟨S4096x1, .f32⟩ : BufTy).Contents (Elt F) → (⟨S4096x1, .f32⟩ : BufTy).Contents (Elt F) → (⟨S4096x1, .f32⟩ : BufTy).Contents (Elt F)),
    nullary main_cst_17 (constant S_ .f32 0x3F800000#32),
    unary main_cst_17 main_v83 (broadcastInDim S4096x1 ![] bcast_S_S4096x1 : (⟨S_, .f32⟩ : BufTy).Contents (Elt F) → (⟨S4096x1, .f32⟩ : BufTy).Contents (Elt F)),
    binary main_v83 main_v82 main_v84 (Host.divf : (⟨S4096x1, .f32⟩ : BufTy).Contents (Elt F) → (⟨S4096x1, .f32⟩ : BufTy).Contents (Elt F) → (⟨S4096x1, .f32⟩ : BufTy).Contents (Elt F)),
    nullary main_cst_18 (constant S_ .f32 0x3F0CCCCD#32),
    unary main_cst_18 main_v85 (broadcastInDim S4096x1 ![] bcast_S_S4096x1 : (⟨S_, .f32⟩ : BufTy).Contents (Elt F) → (⟨S4096x1, .f32⟩ : BufTy).Contents (Elt F)),
    binary main_v57 main_v85 main_v86 (subf : (⟨S4096x1, .f32⟩ : BufTy).Contents (Elt F) → (⟨S4096x1, .f32⟩ : BufTy).Contents (Elt F) → (⟨S4096x1, .f32⟩ : BufTy).Contents (Elt F)),
    nullary main_cst_19 (constant S_ .f32 0x3E800000#32),
    unary main_cst_19 main_v87 (broadcastInDim S4096x1 ![] bcast_S_S4096x1 : (⟨S_, .f32⟩ : BufTy).Contents (Elt F) → (⟨S4096x1, .f32⟩ : BufTy).Contents (Elt F)),
    binary main_v86 main_v87 main_v88 (Host.divf : (⟨S4096x1, .f32⟩ : BufTy).Contents (Elt F) → (⟨S4096x1, .f32⟩ : BufTy).Contents (Elt F) → (⟨S4096x1, .f32⟩ : BufTy).Contents (Elt F)),
    unary main_v88 main_v89 (Host.negf : (⟨S4096x1, .f32⟩ : BufTy).Contents (Elt F) → (⟨S4096x1, .f32⟩ : BufTy).Contents (Elt F)),
    unary main_v89 main_v90 (Host.exp : (⟨S4096x1, .f32⟩ : BufTy).Contents (Elt F) → (⟨S4096x1, .f32⟩ : BufTy).Contents (Elt F)),
    nullary main_cst_20 (constant S_ .f32 0x3F800000#32),
    unary main_cst_20 main_v91 (broadcastInDim S4096x1 ![] bcast_S_S4096x1 : (⟨S_, .f32⟩ : BufTy).Contents (Elt F) → (⟨S4096x1, .f32⟩ : BufTy).Contents (Elt F)),
    binary main_v91 main_v90 main_v92 (addf : (⟨S4096x1, .f32⟩ : BufTy).Contents (Elt F) → (⟨S4096x1, .f32⟩ : BufTy).Contents (Elt F) → (⟨S4096x1, .f32⟩ : BufTy).Contents (Elt F)),
    nullary main_cst_21 (constant S_ .f32 0x3F800000#32),
    unary main_cst_21 main_v93 (broadcastInDim S4096x1 ![] bcast_S_S4096x1 : (⟨S_, .f32⟩ : BufTy).Contents (Elt F) → (⟨S4096x1, .f32⟩ : BufTy).Contents (Elt F)),
    binary main_v93 main_v92 main_v94 (Host.divf : (⟨S4096x1, .f32⟩ : BufTy).Contents (Elt F) → (⟨S4096x1, .f32⟩ : BufTy).Contents (Elt F) → (⟨S4096x1, .f32⟩ : BufTy).Contents (Elt F)),
    nullary main_cst_22 (constant S_ .f32 0x3F19999A#32),
    unary main_cst_22 main_v95 (broadcastInDim S4096x1 ![] bcast_S_S4096x1 : (⟨S_, .f32⟩ : BufTy).Contents (Elt F) → (⟨S4096x1, .f32⟩ : BufTy).Contents (Elt F)) ]

/-- @main's operations 123 … 152 of 221 (window `main_part2`). -/
abbrev ops_part2_0 : List (HloOp τ sig (Elt F)) :=
  [ binary main_v84 main_v95 main_v96 (subf : (⟨S4096x1, .f32⟩ : BufTy).Contents (Elt F) → (⟨S4096x1, .f32⟩ : BufTy).Contents (Elt F) → (⟨S4096x1, .f32⟩ : BufTy).Contents (Elt F)),
    nullary main_cst_23 (constant S_ .f32 0x3E800000#32),
    unary main_cst_23 main_v97 (broadcastInDim S4096x1 ![] bcast_S_S4096x1 : (⟨S_, .f32⟩ : BufTy).Contents (Elt F) → (⟨S4096x1, .f32⟩ : BufTy).Contents (Elt F)),
    binary main_v96 main_v97 main_v98 (Host.divf : (⟨S4096x1, .f32⟩ : BufTy).Contents (Elt F) → (⟨S4096x1, .f32⟩ : BufTy).Contents (Elt F) → (⟨S4096x1, .f32⟩ : BufTy).Contents (Elt F)),
    unary main_v98 main_v99 (Host.negf : (⟨S4096x1, .f32⟩ : BufTy).Contents (Elt F) → (⟨S4096x1, .f32⟩ : BufTy).Contents (Elt F)),
    unary main_v99 main_v100 (Host.exp : (⟨S4096x1, .f32⟩ : BufTy).Contents (Elt F) → (⟨S4096x1, .f32⟩ : BufTy).Contents (Elt F)),
    nullary main_cst_24 (constant S_ .f32 0x3F800000#32),
    unary main_cst_24 main_v101 (broadcastInDim S4096x1 ![] bcast_S_S4096x1 : (⟨S_, .f32⟩ : BufTy).Contents (Elt F) → (⟨S4096x1, .f32⟩ : BufTy).Contents (Elt F)),
    binary main_v101 main_v100 main_v102 (addf : (⟨S4096x1, .f32⟩ : BufTy).Contents (Elt F) → (⟨S4096x1, .f32⟩ : BufTy).Contents (Elt F) → (⟨S4096x1, .f32⟩ : BufTy).Contents (Elt F)),
    nullary main_cst_25 (constant S_ .f32 0x3F800000#32),
    unary main_cst_25 main_v103 (broadcastInDim S4096x1 ![] bcast_S_S4096x1 : (⟨S_, .f32⟩ : BufTy).Contents (Elt F) → (⟨S4096x1, .f32⟩ : BufTy).Contents (Elt F)),
    binary main_v103 main_v102 main_v104 (Host.divf : (⟨S4096x1, .f32⟩ : BufTy).Contents (Elt F) → (⟨S4096x1, .f32⟩ : BufTy).Contents (Elt F) → (⟨S4096x1, .f32⟩ : BufTy).Contents (Elt F)),
    reshape main_arg6 main_v105 (rfl : (.f32 : EltTy) = .f32) shapeCasts_S4096x32x1_S4096x32,
    nullary main_cst_26 (constant S_ .f32 0x3F000000#32),
    unary main_cst_26 main_v106 (broadcastInDim S4096x32 ![] bcast_S_S4096x32 : (⟨S_, .f32⟩ : BufTy).Contents (Elt F) → (⟨S4096x32, .f32⟩ : BufTy).Contents (Elt F)),
    binary main_v105 main_v106 main_v107 (cmpf .olt : (⟨S4096x32, .f32⟩ : BufTy).Contents (Elt F) → (⟨S4096x32, .f32⟩ : BufTy).Contents (Elt F) → (⟨S4096x32, .i1⟩ : BufTy).Contents (Elt F)),
    unary main_v107 main_v108 (uitofp .f32 : (⟨S4096x32, .i1⟩ : BufTy).Contents (Elt F) → (⟨S4096x32, .f32⟩ : BufTy).Contents (Elt F)),
    nullary main_cst_27 (constant S_ .f32 0xFF800000#32),
    binary main_v108 main_cst_27 main_v109 ((fun x v => Host.reduce FloatOps.maximumf x v reducesTo_S4096x32_S4096_d1 h_S_) : (⟨S4096x32, .f32⟩ : BufTy).Contents (Elt F) → (⟨S_, .f32⟩ : BufTy).Contents (Elt F) → (⟨S4096, .f32⟩ : BufTy).Contents (Elt F)),
    unary main_v109 main_v110 (broadcastInDim S4096x1 ![0] bcast_S4096_S4096x1_0 : (⟨S4096, .f32⟩ : BufTy).Contents (Elt F) → (⟨S4096x1, .f32⟩ : BufTy).Contents (Elt F)),
    nullary main_cst_28 (constant S_ .f32 0x3F000000#32),
    unary main_cst_28 main_v111 (broadcastInDim S4096x1 ![] bcast_S_S4096x1 : (⟨S_, .f32⟩ : BufTy).Contents (Elt F) → (⟨S4096x1, .f32⟩ : BufTy).Contents (Elt F)),
    binary main_v110 main_v111 main_v112 (cmpf .ogt : (⟨S4096x1, .f32⟩ : BufTy).Contents (Elt F) → (⟨S4096x1, .f32⟩ : BufTy).Contents (Elt F) → (⟨S4096x1, .i1⟩ : BufTy).Contents (Elt F)),
    TRef.nullary (TRef.of (T := ⟨S4096x32, .i32⟩) main_call1_v0) (iotaInDim S4096x32 32 1),
    TRef.nullary (TRef.of (T := ⟨S_, .f32⟩) main_call1_cst) (constant S_ .f32 0xFF800000#32),
    TRef.nullary (TRef.of (T := ⟨S_, .i32⟩) main_call1_c) (constantI S_ 32 0#32),
    TRef.quaternary (TRef.of (T := ⟨S4096x32, .f32⟩) main_v108) (TRef.of (T := ⟨S4096x32, .i32⟩) main_call1_v0) (TRef.of (T := ⟨S_, .f32⟩) main_call1_cst) (TRef.of (T := ⟨S_, .i32⟩) main_call1_c) (TRef.of (T := ⟨S4096, .f32⟩) main_call1_v1_0) (fun x y u v => fun j => (Host.argReduce reducer_argmax_f32_i32 x y u v reducesTo_S4096x32_S4096_d1 h_S_ j).1),
    TRef.quaternary (TRef.of (T := ⟨S4096x32, .f32⟩) main_v108) (TRef.of (T := ⟨S4096x32, .i32⟩) main_call1_v0) (TRef.of (T := ⟨S_, .f32⟩) main_call1_cst) (TRef.of (T := ⟨S_, .i32⟩) main_call1_c) (TRef.of (T := ⟨S4096, .i32⟩) main_v113) (fun x y u v => fun j => (Host.argReduce reducer_argmax_f32_i32 x y u v reducesTo_S4096x32_S4096_d1 h_S_ j).2),
    unary main_v113 main_v114 (broadcastInDim S4096x1 ![0] bcast_S4096_S4096x1_0 : (⟨S4096, .i32⟩ : BufTy).Contents (Elt F) → (⟨S4096x1, .i32⟩ : BufTy).Contents (Elt F)),
    binary main_arg3 main_arg4 main_v115 (mulf : (⟨S4096x32x1, .f32⟩ : BufTy).Contents (Elt F) → (⟨S4096x32x1, .f32⟩ : BufTy).Contents (Elt F) → (⟨S4096x32x1, .f32⟩ : BufTy).Contents (Elt F)) ]

/-- @main's operations 153 … 182 of 221 (window `main_part2`). -/
abbrev ops_part2_1 : List (HloOp τ sig (Elt F)) :=
  [ nullary main_cst_29 (constant S_ .f32 0x3F800000#32),
    unary main_cst_29 main_v116 (broadcastInDim S4096x32x1 ![] bcast_S_S4096x32x1 : (⟨S_, .f32⟩ : BufTy).Contents (Elt F) → (⟨S4096x32x1, .f32⟩ : BufTy).Contents (Elt F)),
    binary main_v116 main_arg5 main_v117 (subf : (⟨S4096x32x1, .f32⟩ : BufTy).Contents (Elt F) → (⟨S4096x32x1, .f32⟩ : BufTy).Contents (Elt F) → (⟨S4096x32x1, .f32⟩ : BufTy).Contents (Elt F)),
    binary main_v115 main_v117 main_v118 (mulf : (⟨S4096x32x1, .f32⟩ : BufTy).Contents (Elt F) → (⟨S4096x32x1, .f32⟩ : BufTy).Contents (Elt F) → (⟨S4096x32x1, .f32⟩ : BufTy).Contents (Elt F)),
    reshape main_v118 main_v119 (rfl : (.f32 : EltTy) = .f32) shapeCasts_S4096x32x1_S4096x32,
    TRef.nullary (TRef.of (T := ⟨S4096x32, .i32⟩) main_call2_v0) (iotaInDim S4096x32 32 1),
    TRef.nullary (TRef.of (T := ⟨S_, .f32⟩) main_call2_cst) (constant S_ .f32 0x7F800000#32),
    TRef.nullary (TRef.of (T := ⟨S_, .i32⟩) main_call2_c) (constantI S_ 32 0#32),
    TRef.quaternary (TRef.of (T := ⟨S4096x32, .f32⟩) main_v119) (TRef.of (T := ⟨S4096x32, .i32⟩) main_call2_v0) (TRef.of (T := ⟨S_, .f32⟩) main_call2_cst) (TRef.of (T := ⟨S_, .i32⟩) main_call2_c) (TRef.of (T := ⟨S4096, .f32⟩) main_call2_v1_0) (fun x y u v => fun j => (Host.argReduce reducer_argmin_f32_i32 x y u v reducesTo_S4096x32_S4096_d1 h_S_ j).1),
    TRef.quaternary (TRef.of (T := ⟨S4096x32, .f32⟩) main_v119) (TRef.of (T := ⟨S4096x32, .i32⟩) main_call2_v0) (TRef.of (T := ⟨S_, .f32⟩) main_call2_cst) (TRef.of (T := ⟨S_, .i32⟩) main_call2_c) (TRef.of (T := ⟨S4096, .i32⟩) main_v120) (fun x y u v => fun j => (Host.argReduce reducer_argmin_f32_i32 x y u v reducesTo_S4096x32_S4096_d1 h_S_ j).2),
    unary main_v120 main_v121 (broadcastInDim S4096x1 ![0] bcast_S4096_S4096x1_0 : (⟨S4096, .i32⟩ : BufTy).Contents (Elt F) → (⟨S4096x1, .i32⟩ : BufTy).Contents (Elt F)),
    TRef.ternary (TRef.of (T := ⟨S4096x1, .i1⟩) main_v112) (TRef.of (T := ⟨S4096x1, .i32⟩) main_v114) (TRef.of (T := ⟨S4096x1, .i32⟩) main_v121) (TRef.of (T := ⟨S4096x1, .i32⟩) main_v122) select,
    reshape main_v122 main_v123 (rfl : (.i32 : EltTy) = .i32) shapeCasts_S4096x1_S4096,
    TRef.unary (TRef.of (T := ⟨S4096, .i32⟩) main_v123) (TRef.of (T := ⟨S4096x1, .i32⟩) main_call4_v0) (broadcastInDim S4096x1 ![0] bcast_S4096_S4096x1_0),
    TRef.nullary (TRef.of (T := ⟨S1x32, .i32⟩) main_call4_v1) (iotaInDim S1x32 32 1),
    TRef.unary (TRef.of (T := ⟨S4096x1, .i32⟩) main_call4_v0) (TRef.of (T := ⟨S4096x32, .i32⟩) main_call4_v2) (broadcastInDim S4096x32 ![0, 1] bcast_S4096x1_S4096x32_0_1),
    TRef.unary (TRef.of (T := ⟨S1x32, .i32⟩) main_call4_v1) (TRef.of (T := ⟨S4096x32, .i32⟩) main_call4_v3) (broadcastInDim S4096x32 ![0, 1] bcast_S1x32_S4096x32_0_1),
    TRef.binary (TRef.of (T := ⟨S4096x32, .i32⟩) main_call4_v2) (TRef.of (T := ⟨S4096x32, .i32⟩) main_call4_v3) (TRef.of (T := ⟨S4096x32, .i1⟩) main_call4_v4) (cmpi .eq),
    TRef.unary (TRef.of (T := ⟨S4096x32, .i1⟩) main_call4_v4) (TRef.of (T := ⟨S4096x32, .f32⟩) main_v124) (uitofp .f32),
    unary main_v124 main_v125 (broadcastInDim S4096x32x1 ![0, 1] bcast_S4096x32_S4096x32x1_0_1 : (⟨S4096x32, .f32⟩ : BufTy).Contents (Elt F) → (⟨S4096x32x1, .f32⟩ : BufTy).Contents (Elt F)),
    unary main_v94 main_v126 (broadcastInDim S4096x1x1 ![0, 2] bcast_S4096x1_S4096x1x1_0_2 : (⟨S4096x1, .f32⟩ : BufTy).Contents (Elt F) → (⟨S4096x1x1, .f32⟩ : BufTy).Contents (Elt F)),
    unary main_v126 main_v127 (broadcastInDim S4096x32x1 ![0, 1, 2] bcast_S4096x1x1_S4096x32x1_0_1_2 : (⟨S4096x1x1, .f32⟩ : BufTy).Contents (Elt F) → (⟨S4096x32x1, .f32⟩ : BufTy).Contents (Elt F)),
    binary main_v125 main_v127 main_v128 (mulf : (⟨S4096x32x1, .f32⟩ : BufTy).Contents (Elt F) → (⟨S4096x32x1, .f32⟩ : BufTy).Contents (Elt F) → (⟨S4096x32x1, .f32⟩ : BufTy).Contents (Elt F)),
    nullary main_cst_30 (constant S_ .f32 0x3F800000#32),
    unary main_cst_30 main_v129 (broadcastInDim S4096x32x1 ![] bcast_S_S4096x32x1 : (⟨S_, .f32⟩ : BufTy).Contents (Elt F) → (⟨S4096x32x1, .f32⟩ : BufTy).Contents (Elt F)),
    binary main_v129 main_v128 main_v130 (subf : (⟨S4096x32x1, .f32⟩ : BufTy).Contents (Elt F) → (⟨S4096x32x1, .f32⟩ : BufTy).Contents (Elt F) → (⟨S4096x32x1, .f32⟩ : BufTy).Contents (Elt F)),
    nullary main_cst_31 (constant S_ .f32 0x00000000#32),
    TRef.unary (TRef.of (T := ⟨S_, .f32⟩) main_cst_31) (TRef.of (T := ⟨S_, .f32⟩) main_call5_v0) id,
    TRef.unary (TRef.of (T := ⟨S_, .f32⟩) main_call5_v0) (TRef.of (T := ⟨S4096x32x1, .f32⟩) main_call5_v1) (broadcastInDim S4096x32x1 ![] bcast_S_S4096x32x1),
    TRef.binary (TRef.of (T := ⟨S4096x32x1, .f32⟩) main_call5_v1) (TRef.of (T := ⟨S4096x32x1, .f32⟩) main_v130) (TRef.of (T := ⟨S4096x32x1, .f32⟩) main_v131) maximumf ]

/-- @main's operations 183 … 197 of 221 (window `main_part2`). -/
abbrev ops_part2_2 : List (HloOp τ sig (Elt F)) :=
  [ unary main_v131 main_v132 (broadcastInDim S4096x32x256 ![0, 1, 2] bcast_S4096x32x1_S4096x32x256_0_1_2 : (⟨S4096x32x1, .f32⟩ : BufTy).Contents (Elt F) → (⟨S4096x32x256, .f32⟩ : BufTy).Contents (Elt F)),
    binary main_v132 main_arg2 main_v133 (mulf : (⟨S4096x32x256, .f32⟩ : BufTy).Contents (Elt F) → (⟨S4096x32x256, .f32⟩ : BufTy).Contents (Elt F) → (⟨S4096x32x256, .f32⟩ : BufTy).Contents (Elt F)),
    unary main_v21 main_v134 (broadcastInDim S4096x1x256 ![0, 2] bcast_S4096x256_S4096x1x256_0_2 : (⟨S4096x256, .f32⟩ : BufTy).Contents (Elt F) → (⟨S4096x1x256, .f32⟩ : BufTy).Contents (Elt F)),
    unary main_v128 main_v135 (broadcastInDim S4096x32x256 ![0, 1, 2] bcast_S4096x32x1_S4096x32x256_0_1_2 : (⟨S4096x32x1, .f32⟩ : BufTy).Contents (Elt F) → (⟨S4096x32x256, .f32⟩ : BufTy).Contents (Elt F)),
    unary main_v134 main_v136 (broadcastInDim S4096x32x256 ![0, 1, 2] bcast_S4096x1x256_S4096x32x256_0_1_2 : (⟨S4096x1x256, .f32⟩ : BufTy).Contents (Elt F) → (⟨S4096x32x256, .f32⟩ : BufTy).Contents (Elt F)),
    binary main_v135 main_v136 main_v137 (mulf : (⟨S4096x32x256, .f32⟩ : BufTy).Contents (Elt F) → (⟨S4096x32x256, .f32⟩ : BufTy).Contents (Elt F) → (⟨S4096x32x256, .f32⟩ : BufTy).Contents (Elt F)),
    binary main_v133 main_v137 main_v138 (addf : (⟨S4096x32x256, .f32⟩ : BufTy).Contents (Elt F) → (⟨S4096x32x256, .f32⟩ : BufTy).Contents (Elt F) → (⟨S4096x32x256, .f32⟩ : BufTy).Contents (Elt F)),
    nullary main_cst_32 (constant S_ .f32 0x3F7EB852#32),
    unary main_cst_32 main_v139 (broadcastInDim S4096x32x1 ![] bcast_S_S4096x32x1 : (⟨S_, .f32⟩ : BufTy).Contents (Elt F) → (⟨S4096x32x1, .f32⟩ : BufTy).Contents (Elt F)),
    binary main_arg3 main_v139 main_v140 (mulf : (⟨S4096x32x1, .f32⟩ : BufTy).Contents (Elt F) → (⟨S4096x32x1, .f32⟩ : BufTy).Contents (Elt F) → (⟨S4096x32x1, .f32⟩ : BufTy).Contents (Elt F)),
    binary main_v131 main_v140 main_v141 (mulf : (⟨S4096x32x1, .f32⟩ : BufTy).Contents (Elt F) → (⟨S4096x32x1, .f32⟩ : BufTy).Contents (Elt F) → (⟨S4096x32x1, .f32⟩ : BufTy).Contents (Elt F)),
    unary main_v94 main_v142 (broadcastInDim S4096x1x1 ![0, 2] bcast_S4096x1_S4096x1x1_0_2 : (⟨S4096x1, .f32⟩ : BufTy).Contents (Elt F) → (⟨S4096x1x1, .f32⟩ : BufTy).Contents (Elt F)),
    unary main_v142 main_v143 (broadcastInDim S4096x32x1 ![0, 1, 2] bcast_S4096x1x1_S4096x32x1_0_1_2 : (⟨S4096x1x1, .f32⟩ : BufTy).Contents (Elt F) → (⟨S4096x32x1, .f32⟩ : BufTy).Contents (Elt F)),
    binary main_v128 main_v143 main_v144 (mulf : (⟨S4096x32x1, .f32⟩ : BufTy).Contents (Elt F) → (⟨S4096x32x1, .f32⟩ : BufTy).Contents (Elt F) → (⟨S4096x32x1, .f32⟩ : BufTy).Contents (Elt F)),
    binary main_v141 main_v144 main_v145 (addf : (⟨S4096x32x1, .f32⟩ : BufTy).Contents (Elt F) → (⟨S4096x32x1, .f32⟩ : BufTy).Contents (Elt F) → (⟨S4096x32x1, .f32⟩ : BufTy).Contents (Elt F)) ]

/-- Window `main_part2`'s operations. Not an abbreviation: `main_eq` below splits `ops` into the windows and no further. -/
def ops_part2 : List (HloOp τ sig (Elt F)) :=
  ops_part2_0 ++ (ops_part2_1 ++ (ops_part2_2))

/-- @main's operations 198 … 221 of 221 (window `main_part3`). -/
abbrev ops_part3 : List (HloOp τ sig (Elt F)) :=
  [ nullary main_cst_33 (constant S_ .f32 0x3F7EB852#32),
    unary main_cst_33 main_v146 (broadcastInDim S4096x32x1 ![] bcast_S_S4096x32x1 : (⟨S_, .f32⟩ : BufTy).Contents (Elt F) → (⟨S4096x32x1, .f32⟩ : BufTy).Contents (Elt F)),
    binary main_arg4 main_v146 main_v147 (mulf : (⟨S4096x32x1, .f32⟩ : BufTy).Contents (Elt F) → (⟨S4096x32x1, .f32⟩ : BufTy).Contents (Elt F) → (⟨S4096x32x1, .f32⟩ : BufTy).Contents (Elt F)),
    binary main_v131 main_v147 main_v148 (mulf : (⟨S4096x32x1, .f32⟩ : BufTy).Contents (Elt F) → (⟨S4096x32x1, .f32⟩ : BufTy).Contents (Elt F) → (⟨S4096x32x1, .f32⟩ : BufTy).Contents (Elt F)),
    binary main_v148 main_v128 main_v149 (addf : (⟨S4096x32x1, .f32⟩ : BufTy).Contents (Elt F) → (⟨S4096x32x1, .f32⟩ : BufTy).Contents (Elt F) → (⟨S4096x32x1, .f32⟩ : BufTy).Contents (Elt F)),
    binary main_v131 main_arg5 main_v150 (mulf : (⟨S4096x32x1, .f32⟩ : BufTy).Contents (Elt F) → (⟨S4096x32x1, .f32⟩ : BufTy).Contents (Elt F) → (⟨S4096x32x1, .f32⟩ : BufTy).Contents (Elt F)),
    unary main_v104 main_v151 (broadcastInDim S4096x1x1 ![0, 2] bcast_S4096x1_S4096x1x1_0_2 : (⟨S4096x1, .f32⟩ : BufTy).Contents (Elt F) → (⟨S4096x1x1, .f32⟩ : BufTy).Contents (Elt F)),
    unary main_v151 main_v152 (broadcastInDim S4096x32x1 ![0, 1, 2] bcast_S4096x1x1_S4096x32x1_0_1_2 : (⟨S4096x1x1, .f32⟩ : BufTy).Contents (Elt F) → (⟨S4096x32x1, .f32⟩ : BufTy).Contents (Elt F)),
    binary main_v128 main_v152 main_v153 (mulf : (⟨S4096x32x1, .f32⟩ : BufTy).Contents (Elt F) → (⟨S4096x32x1, .f32⟩ : BufTy).Contents (Elt F) → (⟨S4096x32x1, .f32⟩ : BufTy).Contents (Elt F)),
    binary main_v150 main_v153 main_v154 (addf : (⟨S4096x32x1, .f32⟩ : BufTy).Contents (Elt F) → (⟨S4096x32x1, .f32⟩ : BufTy).Contents (Elt F) → (⟨S4096x32x1, .f32⟩ : BufTy).Contents (Elt F)),
    binary main_v131 main_arg6 main_v155 (mulf : (⟨S4096x32x1, .f32⟩ : BufTy).Contents (Elt F) → (⟨S4096x32x1, .f32⟩ : BufTy).Contents (Elt F) → (⟨S4096x32x1, .f32⟩ : BufTy).Contents (Elt F)),
    binary main_v155 main_v128 main_v156 (addf : (⟨S4096x32x1, .f32⟩ : BufTy).Contents (Elt F) → (⟨S4096x32x1, .f32⟩ : BufTy).Contents (Elt F) → (⟨S4096x32x1, .f32⟩ : BufTy).Contents (Elt F)),
    nullary main_cst_34 (constant S_ .f32 0x00000000#32),
    nullary main_cst_35 (constant S_ .f32 0x3F800000#32),
    TRef.unary (TRef.of (T := ⟨S_, .f32⟩) main_cst_34) (TRef.of (T := ⟨S_, .f32⟩) main_call6_v0) id,
    TRef.unary (TRef.of (T := ⟨S_, .f32⟩) main_call6_v0) (TRef.of (T := ⟨S4096x32x1, .f32⟩) main_call6_v1) (broadcastInDim S4096x32x1 ![] bcast_S_S4096x32x1),
    TRef.binary (TRef.of (T := ⟨S4096x32x1, .f32⟩) main_call6_v1) (TRef.of (T := ⟨S4096x32x1, .f32⟩) main_v156) (TRef.of (T := ⟨S4096x32x1, .f32⟩) main_call6_v2) maximumf,
    TRef.unary (TRef.of (T := ⟨S_, .f32⟩) main_cst_35) (TRef.of (T := ⟨S_, .f32⟩) main_call6_v3) id,
    TRef.unary (TRef.of (T := ⟨S_, .f32⟩) main_call6_v3) (TRef.of (T := ⟨S4096x32x1, .f32⟩) main_call6_v4) (broadcastInDim S4096x32x1 ![] bcast_S_S4096x32x1),
    TRef.binary (TRef.of (T := ⟨S4096x32x1, .f32⟩) main_call6_v4) (TRef.of (T := ⟨S4096x32x1, .f32⟩) main_call6_v2) (TRef.of (T := ⟨S4096x32x1, .f32⟩) main_v157) minimumf,
    unary main_v131 main_v158 (broadcastInDim S4096x32x6 ![0, 1, 2] bcast_S4096x32x1_S4096x32x6_0_1_2 : (⟨S4096x32x1, .f32⟩ : BufTy).Contents (Elt F) → (⟨S4096x32x6, .f32⟩ : BufTy).Contents (Elt F)),
    binary main_v158 main_arg7 main_v159 (mulf : (⟨S4096x32x6, .f32⟩ : BufTy).Contents (Elt F) → (⟨S4096x32x6, .f32⟩ : BufTy).Contents (Elt F) → (⟨S4096x32x6, .f32⟩ : BufTy).Contents (Elt F)),
    unary main_v159 main_v160 ((extractStridedSlice S4096x32x2 ![0, 0, 4] · slices_S4096x32x6_S4096x32x2_0_0_4) : (⟨S4096x32x6, .f32⟩ : BufTy).Contents (Elt F) → (⟨S4096x32x2, .f32⟩ : BufTy).Contents (Elt F)),
    nary ![main_v145, main_v149, main_v154, main_v157, main_v160] main_v161 (fun u => fn_main_v161 (F := F) (u 0) (u 1) (u 2) (u 3) (u 4)) ]

/-- @main's 221 operations, in order (a called function's operations stand in its call's place, spelt `TRef.…`). -/
abbrev ops : List (HloOp τ sig (Elt F)) :=
  ops_part0 ++ (ops_part1 ++ (ops_part2 ++ (ops_part3)))

set_option maxRecDepth 8192 in
set_option maxHeartbeats 4000000 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
set_option maxHeartbeats 4000000 in
theorem main_part2_eq (c : Dev nD) : main_part2 (F := F) c = seq ops_part2 := rfl
set_option maxRecDepth 8192 in
theorem main_part3_eq (c : Dev nD) : main_part3 (F := F) c = seq ops_part3 := rfl
set_option maxRecDepth 8192 in
theorem main_eq (c : Dev nD) : main (F := F) c = seq ops := by
  simp only [ops, seq_append, ← main_part0_eq c, ← main_part1_eq c, ← main_part2_eq c, ← main_part3_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_0_sub : (ops_part0_0 : List (HloOp τ sig (Elt F))).Forall fun op => op.bufs ⊆ tcRefs τ sig :=
  ⟨binary_bufs_sub .., binary_bufs_sub .., unary_bufs_sub .., unary_bufs_sub .., binary_bufs_sub .., binary_bufs_sub .., binary_bufs_sub .., nullary_bufs_sub .., unary_bufs_sub .., binary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., binary_bufs_sub .., nullary_bufs_sub .., binary_bufs_sub .., nullary_bufs_sub ..⟩
set_option maxRecDepth 8192 in
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_1_sub : (ops_part0_1 : List (HloOp τ sig (Elt F))).Forall fun op => op.bufs ⊆ tcRefs τ sig :=
  ⟨unary_bufs_sub .., unary_bufs_sub .., binary_bufs_sub .., unary_bufs_sub .., binary_bufs_sub .., nullary_bufs_sub .., binary_bufs_sub .., unary_bufs_sub .., binary_bufs_sub .., nary_bufs_sub .., binary_bufs_sub .., unary_bufs_sub .., unary_bufs_sub .., binary_bufs_sub .., binary_bufs_sub .., binary_bufs_sub .., nullary_bufs_sub .., unary_bufs_sub .., binary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub ..⟩
set_option maxRecDepth 8192 in
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_2_sub : (ops_part0_2 : List (HloOp τ sig (Elt F))).Forall fun op => op.bufs ⊆ tcRefs τ sig :=
  ⟨binary_bufs_sub .., binary_bufs_sub ..⟩
set_option maxRecDepth 8192 in
theorem ops_part0_2_fresh : (ops_part0_2 : List (HloOp τ sig (Elt F))).Forall fun op => op.fresh = ∅ :=
  ⟨rfl, rfl⟩
set_option maxRecDepth 8192 in
theorem ops_part1_sub : (ops_part1 : List (HloOp τ sig (Elt F))).Forall fun op => op.bufs ⊆ tcRefs τ sig :=
  ⟨unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., binary_bufs_sub .., binary_bufs_sub .., binary_bufs_sub .., nullary_bufs_sub .., unary_bufs_sub .., binary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub ..⟩
set_option maxRecDepth 8192 in
theorem ops_part1_fresh : (ops_part1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_0_sub : (ops_part2_0 : List (HloOp τ sig (Elt F))).Forall fun op => op.bufs ⊆ tcRefs τ sig :=
  ⟨binary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., reshape_bufs_sub .., nullary_bufs_sub .., unary_bufs_sub .., binary_bufs_sub .., unary_bufs_sub .., nullary_bufs_sub .., binary_bufs_sub .., unary_bufs_sub .., nullary_bufs_sub .., unary_bufs_sub .., binary_bufs_sub .., nullary_bufs_sub .., nullary_bufs_sub .., nullary_bufs_sub .., quaternary_bufs_sub .., quaternary_bufs_sub .., unary_bufs_sub .., binary_bufs_sub ..⟩
set_option maxRecDepth 8192 in
theorem ops_part2_0_fresh : (ops_part2_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_1_sub : (ops_part2_1 : List (HloOp τ sig (Elt F))).Forall fun op => op.bufs ⊆ tcRefs τ sig :=
  ⟨nullary_bufs_sub .., unary_bufs_sub .., binary_bufs_sub .., binary_bufs_sub .., reshape_bufs_sub .., nullary_bufs_sub .., nullary_bufs_sub .., nullary_bufs_sub .., quaternary_bufs_sub .., quaternary_bufs_sub .., unary_bufs_sub .., ternary_bufs_sub .., reshape_bufs_sub .., unary_bufs_sub .., nullary_bufs_sub .., unary_bufs_sub .., unary_bufs_sub .., binary_bufs_sub .., unary_bufs_sub .., unary_bufs_sub .., unary_bufs_sub .., unary_bufs_sub .., binary_bufs_sub .., nullary_bufs_sub .., unary_bufs_sub .., binary_bufs_sub .., nullary_bufs_sub .., unary_bufs_sub .., unary_bufs_sub .., binary_bufs_sub ..⟩
set_option maxRecDepth 8192 in
theorem ops_part2_1_fresh : (ops_part2_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_2_sub : (ops_part2_2 : List (HloOp τ sig (Elt F))).Forall fun op => op.bufs ⊆ tcRefs τ sig :=
  ⟨unary_bufs_sub .., binary_bufs_sub .., unary_bufs_sub .., unary_bufs_sub .., unary_bufs_sub .., binary_bufs_sub .., binary_bufs_sub .., nullary_bufs_sub .., unary_bufs_sub .., binary_bufs_sub .., binary_bufs_sub .., unary_bufs_sub .., unary_bufs_sub .., binary_bufs_sub .., binary_bufs_sub ..⟩
set_option maxRecDepth 8192 in
theorem ops_part2_2_fresh : (ops_part2_2 : List (HloOp τ sig (Elt F))).Forall fun op => op.fresh = ∅ :=
  ⟨rfl, rfl, rfl, rfl, rfl, rfl, rfl, rfl, rfl, rfl, rfl, rfl, rfl, rfl, rfl⟩
set_option maxRecDepth 8192 in
theorem ops_part3_sub : (ops_part3 : List (HloOp τ sig (Elt F))).Forall fun op => op.bufs ⊆ tcRefs τ sig :=
  ⟨nullary_bufs_sub .., unary_bufs_sub .., binary_bufs_sub .., binary_bufs_sub .., binary_bufs_sub .., binary_bufs_sub .., unary_bufs_sub .., unary_bufs_sub .., binary_bufs_sub .., binary_bufs_sub .., binary_bufs_sub .., binary_bufs_sub .., nullary_bufs_sub .., nullary_bufs_sub .., unary_bufs_sub .., unary_bufs_sub .., binary_bufs_sub .., unary_bufs_sub .., unary_bufs_sub .., binary_bufs_sub .., unary_bufs_sub .., binary_bufs_sub .., unary_bufs_sub .., nary_bufs_sub ..⟩
set_option maxRecDepth 8192 in
theorem ops_part3_fresh : (ops_part3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part0, ops_part2, List.mem_append, or_assoc] at h
    rcases h with h | h | h | h | h | h | h | h
    exacts [List.forall_iff_forall_mem.mp ops_part0_0_sub op h, List.forall_iff_forall_mem.mp ops_part0_1_sub op h, List.forall_iff_forall_mem.mp ops_part0_2_sub op h, List.forall_iff_forall_mem.mp ops_part1_sub op h, List.forall_iff_forall_mem.mp ops_part2_0_sub op h, List.forall_iff_forall_mem.mp ops_part2_1_sub op h, List.forall_iff_forall_mem.mp ops_part2_2_sub op h, List.forall_iff_forall_mem.mp ops_part3_sub op h]
theorem ops_fresh : ∀ op ∈ (ops : List (HloOp τ sig (Elt F))), op.fresh = ∅ := fun op h => by
    simp only [ops, ops_part0, ops_part2, List.mem_append, or_assoc] at h
    rcases h with h | h | h | h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part1_fresh op h, List.forall_iff_forall_mem.mp ops_part2_0_fresh op h, List.forall_iff_forall_mem.mp ops_part2_1_fresh op h, List.forall_iff_forall_mem.mp ops_part2_2_fresh op h, List.forall_iff_forall_mem.mp ops_part3_fresh op h]

end Cert.ReferenceIdeal.Hand

end
-- ==== Proof.Ref.Run.lean ====
/- The run of the reference program: what each result buffer holds at its end, as a term of the arguments. -/
module

public import proofs.«01_k».proof.Proof.Gen.ReferenceIdeal
public import proofs.«01_k».proof.Proof.Ref.Ops
public import Idealize.ShloMosaic.Lib.StableHlo.Run
public import Idealize.ShloMosaic.Lib.Pipeline.Frame

@[expose] public section

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- `main_v0`'s composed term of the arguments (named: it is used 2 times). -/
def res_main_v0 (V0 : Valuation τ sig (Elt F)) : (Proc.devRef .tc main_v0 : DevRef τ sig).ty.Contents (Elt F) :=
  concatenate S4096x1024 1 [⟨S4096x256, (V0 (Proc.devRef .tc main_arg0))⟩, ⟨S4096x768, (V0 (Proc.devRef .tc main_arg1))⟩] concatenates_S4096x256_S4096x768_S4096x1024_d1

set_option maxRecDepth 8192 in
/-- `main_v4`'s composed term of the arguments (named: it is used 5 times). -/
def res_main_v4 (V0 : Valuation τ sig (Elt F)) : (Proc.devRef .tc main_v4 : DevRef τ sig).ty.Contents (Elt F) :=
  addf (Host.dotGeneral dot_S4096x1024_S1024x512_S4096x512_1_0_0_1_n_n none (res_main_v0 V0) (V0 (Proc.devRef .tc main_arg8))) (broadcastInDim S4096x512 ![0, 1] bcast_S1x512_S4096x512_0_1 (broadcastInDim S1x512 ![1] bcast_S512_S1x512_1 (V0 (Proc.devRef .tc main_arg9))))

set_option maxRecDepth 8192 in
/-- `main_v21`'s composed term of the arguments (named: it is used 2 times). -/
def res_main_v21 (V0 : Valuation τ sig (Elt F)) : (Proc.devRef .tc main_v21 : DevRef τ sig).ty.Contents (Elt F) :=
  addf (Host.dotGeneral dot_S4096x512_S512x256_S4096x256_1_0_0_1_n_n none (mulf (res_main_v4 V0) (mulf (broadcastInDim S4096x512 ![] bcast_S_S4096x512 (constant S_ .f32 0x3F000000#32)) (addf (broadcastInDim S4096x512 ![] bcast_S_S4096x512 (constant S_ .f32 0x3F800000#32)) (Host.tanh (mulf (broadcastInDim S4096x512 ![] bcast_S_S4096x512 (constant S_ .f32 0x3F4C422A#32)) (addf (res_main_v4 V0) (mulf (broadcastInDim S4096x512 ![] bcast_S_S4096x512 (constant S_ .f32 0x3D372713#32)) (mulf (mulf (res_main_v4 V0) (res_main_v4 V0)) (res_main_v4 V0))))))))) (V0 (Proc.devRef .tc main_arg10))) (broadcastInDim S4096x256 ![0, 1] bcast_S1x256_S4096x256_0_1 (broadcastInDim S1x256 ![1] bcast_S256_S1x256_1 (V0 (Proc.devRef .tc main_arg11))))

set_option maxRecDepth 8192 in
/-- `main_v22`'s composed term of the arguments (named: it is used 2 times). -/
def res_main_v22 (V0 : Valuation τ sig (Elt F)) : (Proc.devRef .tc main_v22 : DevRef τ sig).ty.Contents (Elt F) :=
  mulf (V0 (Proc.devRef .tc main_arg6)) (V0 (Proc.devRef .tc main_arg3))

set_option maxRecDepth 8192 in
/-- `main_v30`'s composed term of the arguments (named: it is used 2 times). -/
def res_main_v30 (V0 : Valuation τ sig (Elt F)) : (Proc.devRef .tc main_v30 : DevRef τ sig).ty.Contents (Elt F) :=
  (concatenate S4096x1286 1 [⟨S4096x1024, ((res_main_v0 V0) : (⟨S4096x1024, .f32⟩ : BufTy).Contents (Elt F))⟩, ⟨S4096x256, ((res_main_v21 V0) : (⟨S4096x256, .f32⟩ : BufTy).Contents (Elt F))⟩, ⟨S4096x6, ((Host.divf (Host.reduceAdd (mulf (V0 (Proc.devRef .tc main_arg7)) (broadcastInDim S4096x32x6 ![0, 1, 2] bcast_S4096x32x1_S4096x32x6_0_1_2 (res_main_v22 V0))) (constant S_ .f32 0x00000000#32) reducesTo_S4096x32x6_S4096x6_d1 h_S_) (broadcastInDim S4096x6 ![0, 1] bcast_S4096x1_S4096x6_0_1 (maximumf (broadcastInDim S4096x1 ![] bcast_S_S4096x1 (id (constant S_ .f32 0x3F800000#32))) (Host.reduceAdd (res_main_v22 V0) (constant S_ .f32 0x00000000#32) reducesTo_S4096x32x1_S4096x1_d1 h_S_)))) : (⟨S4096x6, .f32⟩ : BufTy).Contents (Elt F))⟩] concatenates_S4096x1024_S4096x256_S4096x6_S4096x1286_d1 : (⟨S4096x1286, .f32⟩ : BufTy).Contents (Elt F))

set_option maxRecDepth 8192 in
/-- `main_v34`'s composed term of the arguments (named: it is used 5 times). -/
def res_main_v34 (V0 : Valuation τ sig (Elt F)) : (Proc.devRef .tc main_v34 : DevRef τ sig).ty.Contents (Elt F) :=
  addf (Host.dotGeneral dot_S4096x1286_S1286x384_S4096x384_1_0_0_1_n_n none (res_main_v30 V0) (V0 (Proc.devRef .tc main_arg12))) (broadcastInDim S4096x384 ![0, 1] bcast_S1x384_S4096x384_0_1 (broadcastInDim S1x384 ![1] bcast_S384_S1x384_1 (V0 (Proc.devRef .tc main_arg13))))

set_option maxRecDepth 8192 in
/-- `main_v61`'s composed term of the arguments (named: it is used 5 times). -/
def res_main_v61 (V0 : Valuation τ sig (Elt F)) : (Proc.devRef .tc main_v61 : DevRef τ sig).ty.Contents (Elt F) :=
  addf (Host.dotGeneral dot_S4096x1286_S1286x384_S4096x384_1_0_0_1_n_n none (res_main_v30 V0) (V0 (Proc.devRef .tc main_arg16))) (broadcastInDim S4096x384 ![0, 1] bcast_S1x384_S4096x384_0_1 (broadcastInDim S1x384 ![1] bcast_S384_S1x384_1 (V0 (Proc.devRef .tc main_arg17))))

set_option maxRecDepth 8192 in
/-- `main_v94`'s composed term of the arguments (named: it is used 2 times). -/
def res_main_v94 (V0 : Valuation τ sig (Elt F)) : (Proc.devRef .tc main_v94 : DevRef τ sig).ty.Contents (Elt F) :=
  Host.divf (broadcastInDim S4096x1 ![] bcast_S_S4096x1 (constant S_ .f32 0x3F800000#32)) (addf (broadcastInDim S4096x1 ![] bcast_S_S4096x1 (constant S_ .f32 0x3F800000#32)) (Host.exp (Host.negf (Host.divf (subf (Host.divf (broadcastInDim S4096x1 ![] bcast_S_S4096x1 (constant S_ .f32 0x3F800000#32)) (addf (broadcastInDim S4096x1 ![] bcast_S_S4096x1 (constant S_ .f32 0x3F800000#32)) (Host.exp (Host.negf (addf (Host.dotGeneral dot_S4096x384_S384x1_S4096x1_1_0_0_1_n_n none (mulf (res_main_v34 V0) (mulf (broadcastInDim S4096x384 ![] bcast_S_S4096x384 (constant S_ .f32 0x3F000000#32)) (addf (broadcastInDim S4096x384 ![] bcast_S_S4096x384 (constant S_ .f32 0x3F800000#32)) (Host.tanh (mulf (broadcastInDim S4096x384 ![] bcast_S_S4096x384 (constant S_ .f32 0x3F4C422A#32)) (addf (res_main_v34 V0) (mulf (broadcastInDim S4096x384 ![] bcast_S_S4096x384 (constant S_ .f32 0x3D372713#32)) (mulf (mulf (res_main_v34 V0) (res_main_v34 V0)) (res_main_v34 V0))))))))) (V0 (Proc.devRef .tc main_arg14))) (broadcastInDim S4096x1 ![0, 1] bcast_S1x1_S4096x1_0_1 (broadcastInDim S1x1 ![1] bcast_S1_S1x1_1 (V0 (Proc.devRef .tc main_arg15))))))))) (broadcastInDim S4096x1 ![] bcast_S_S4096x1 (constant S_ .f32 0x3F0CCCCD#32))) (broadcastInDim S4096x1 ![] bcast_S_S4096x1 (constant S_ .f32 0x3E800000#32))))))

set_option maxRecDepth 8192 in
/-- `main_v108`'s composed term of the arguments (named: it is used 3 times). -/
def res_main_v108 (V0 : Valuation τ sig (Elt F)) : (Proc.devRef .tc main_v108 : DevRef τ sig).ty.Contents (Elt F) :=
  uitofp .f32 (cmpf .olt (shapeCast _ (V0 (Proc.devRef .tc main_arg6)) shapeCasts_S4096x32x1_S4096x32) (broadcastInDim S4096x32 ![] bcast_S_S4096x32 (constant S_ .f32 0x3F000000#32)))

set_option maxRecDepth 8192 in
/-- `main_call1_v0`'s composed term of the arguments (named: it is used 2 times). -/
def res_main_call1_v0 (V0 : Valuation τ sig (Elt F)) : (Proc.devRef .tc main_call1_v0 : DevRef τ sig).ty.Contents (Elt F) :=
  iotaInDim S4096x32 32 1

set_option maxRecDepth 8192 in
/-- `main_call1_cst`'s composed term of the arguments (named: it is used 2 times). -/
def res_main_call1_cst (V0 : Valuation τ sig (Elt F)) : (Proc.devRef .tc main_call1_cst : DevRef τ sig).ty.Contents (Elt F) :=
  constant S_ .f32 0xFF800000#32

set_option maxRecDepth 8192 in
/-- `main_call1_c`'s composed term of the arguments (named: it is used 2 times). -/
def res_main_call1_c (V0 : Valuation τ sig (Elt F)) : (Proc.devRef .tc main_call1_c : DevRef τ sig).ty.Contents (Elt F) :=
  constantI S_ 32 0#32

set_option maxRecDepth 8192 in
/-- `main_v119`'s composed term of the arguments (named: it is used 2 times). -/
def res_main_v119 (V0 : Valuation τ sig (Elt F)) : (Proc.devRef .tc main_v119 : DevRef τ sig).ty.Contents (Elt F) :=
  shapeCast _ (mulf (mulf (V0 (Proc.devRef .tc main_arg3)) (V0 (Proc.devRef .tc main_arg4))) (subf (broadcastInDim S4096x32x1 ![] bcast_S_S4096x32x1 (constant S_ .f32 0x3F800000#32)) (V0 (Proc.devRef .tc main_arg5)))) shapeCasts_S4096x32x1_S4096x32

set_option maxRecDepth 8192 in
/-- `main_call2_v0`'s composed term of the arguments (named: it is used 2 times). -/
def res_main_call2_v0 (V0 : Valuation τ sig (Elt F)) : (Proc.devRef .tc main_call2_v0 : DevRef τ sig).ty.Contents (Elt F) :=
  iotaInDim S4096x32 32 1

set_option maxRecDepth 8192 in
/-- `main_call2_cst`'s composed term of the arguments (named: it is used 2 times). -/
def res_main_call2_cst (V0 : Valuation τ sig (Elt F)) : (Proc.devRef .tc main_call2_cst : DevRef τ sig).ty.Contents (Elt F) :=
  constant S_ .f32 0x7F800000#32

set_option maxRecDepth 8192 in
/-- `main_call2_c`'s composed term of the arguments (named: it is used 2 times). -/
def res_main_call2_c (V0 : Valuation τ sig (Elt F)) : (Proc.devRef .tc main_call2_c : DevRef τ sig).ty.Contents (Elt F) :=
  constantI S_ 32 0#32

set_option maxRecDepth 8192 in
/-- `main_v128`'s composed term of the arguments (named: it is used 6 times). -/
def res_main_v128 (V0 : Valuation τ sig (Elt F)) : (Proc.devRef .tc main_v128 : DevRef τ sig).ty.Contents (Elt F) :=
  mulf (broadcastInDim S4096x32x1 ![0, 1] bcast_S4096x32_S4096x32x1_0_1 (uitofp .f32 (cmpi .eq (broadcastInDim S4096x32 ![0, 1] bcast_S4096x1_S4096x32_0_1 (broadcastInDim S4096x1 ![0] bcast_S4096_S4096x1_0 (shapeCast _ (select (cmpf .ogt (broadcastInDim S4096x1 ![0] bcast_S4096_S4096x1_0 (Host.reduce FloatOps.maximumf (res_main_v108 V0) (constant S_ .f32 0xFF800000#32) reducesTo_S4096x32_S4096_d1 h_S_)) (broadcastInDim S4096x1 ![] bcast_S_S4096x1 (constant S_ .f32 0x3F000000#32))) (broadcastInDim S4096x1 ![0] bcast_S4096_S4096x1_0 (fun j => (Host.argReduce reducer_argmax_f32_i32 (res_main_v108 V0) (res_main_call1_v0 V0) (res_main_call1_cst V0) (res_main_call1_c V0) reducesTo_S4096x32_S4096_d1 h_S_ j).2)) (broadcastInDim S4096x1 ![0] bcast_S4096_S4096x1_0 (fun j => (Host.argReduce reducer_argmin_f32_i32 (res_main_v119 V0) (res_main_call2_v0 V0) (res_main_call2_cst V0) (res_main_call2_c V0) reducesTo_S4096x32_S4096_d1 h_S_ j).2))) shapeCasts_S4096x1_S4096))) (broadcastInDim S4096x32 ![0, 1] bcast_S1x32_S4096x32_0_1 (iotaInDim S1x32 32 1))))) (broadcastInDim S4096x32x1 ![0, 1, 2] bcast_S4096x1x1_S4096x32x1_0_1_2 (broadcastInDim S4096x1x1 ![0, 2] bcast_S4096x1_S4096x1x1_0_2 (res_main_v94 V0)))

set_option maxRecDepth 8192 in
/-- `main_v131`'s composed term of the arguments (named: it is used 6 times). -/
def res_main_v131 (V0 : Valuation τ sig (Elt F)) : (Proc.devRef .tc main_v131 : DevRef τ sig).ty.Contents (Elt F) :=
  maximumf (broadcastInDim S4096x32x1 ![] bcast_S_S4096x32x1 (id (constant S_ .f32 0x00000000#32))) (subf (broadcastInDim S4096x32x1 ![] bcast_S_S4096x32x1 (constant S_ .f32 0x3F800000#32)) (res_main_v128 V0))

/-- `res_main_v94` by its position among the values @main returns, 3 counting from 0: the name for hand proofs to cite, since
    a re-print renumbers `main_v94`. An abbreviation: it unfolds to the `res_main_v94` that `run` states. -/
abbrev res_out3 (V0 : Valuation τ sig (Elt F)) : (Proc.devRef .tc main_v94 : DevRef τ sig).ty.Contents (Elt F) := res_main_v94 V0

/-- `res_main_v21` by its position among the values @main returns, 0 counting from 0: the name for hand proofs to cite, since
    a re-print renumbers `main_v21`. An abbreviation: it unfolds to the `res_main_v21` that `run` states. -/
abbrev res_out0 (V0 : Valuation τ sig (Elt F)) : (Proc.devRef .tc main_v21 : DevRef τ sig).ty.Contents (Elt F) := res_main_v21 V0

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl
theorem val0_main_arg7 (V0 : Valuation τ sig (Elt F)) : val0 V0 (no_index (Proc.devRef .tc main_arg7)) = V0 (Proc.devRef .tc main_arg7) := rfl
theorem val0_main_arg8 (V0 : Valuation τ sig (Elt F)) : val0 V0 (no_index (Proc.devRef .tc main_arg8)) = V0 (Proc.devRef .tc main_arg8) := rfl
theorem val0_main_arg9 (V0 : Valuation τ sig (Elt F)) : val0 V0 (no_index (Proc.devRef .tc main_arg9)) = V0 (Proc.devRef .tc main_arg9) := rfl
theorem val0_main_arg10 (V0 : Valuation τ sig (Elt F)) : val0 V0 (no_index (Proc.devRef .tc main_arg10)) = V0 (Proc.devRef .tc main_arg10) := rfl
theorem val0_main_arg11 (V0 : Valuation τ sig (Elt F)) : val0 V0 (no_index (Proc.devRef .tc main_arg11)) = V0 (Proc.devRef .tc main_arg11) := rfl
theorem val0_main_arg12 (V0 : Valuation τ sig (Elt F)) : val0 V0 (no_index (Proc.devRef .tc main_arg12)) = V0 (Proc.devRef .tc main_arg12) := rfl
theorem val0_main_arg13 (V0 : Valuation τ sig (Elt F)) : val0 V0 (no_index (Proc.devRef .tc main_arg13)) = V0 (Proc.devRef .tc main_arg13) := rfl
theorem val0_main_arg14 (V0 : Valuation τ sig (Elt F)) : val0 V0 (no_index (Proc.devRef .tc main_arg14)) = V0 (Proc.devRef .tc main_arg14) := rfl
theorem val0_main_arg15 (V0 : Valuation τ sig (Elt F)) : val0 V0 (no_index (Proc.devRef .tc main_arg15)) = V0 (Proc.devRef .tc main_arg15) := rfl
theorem val0_main_arg16 (V0 : Valuation τ sig (Elt F)) : val0 V0 (no_index (Proc.devRef .tc main_arg16)) = V0 (Proc.devRef .tc main_arg16) := rfl
theorem val0_main_arg17 (V0 : Valuation τ sig (Elt F)) : val0 V0 (no_index (Proc.devRef .tc main_arg17)) = V0 (Proc.devRef .tc main_arg17) := rfl
theorem val0_main_arg18 (V0 : Valuation τ sig (Elt F)) : val0 V0 (no_index (Proc.devRef .tc main_arg18)) = V0 (Proc.devRef .tc main_arg18) := rfl
theorem val0_main_arg19 (V0 : Valuation τ sig (Elt F)) : val0 V0 (no_index (Proc.devRef .tc main_arg19)) = V0 (Proc.devRef .tc main_arg19) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_v0, main_v1, main_v2, main_v3, main_v4, main_v5, main_v6, main_cst, main_v7, main_v8, main_v9, main_cst_0, main_v10, main_v11, main_v12, main_cst_1, main_v13, main_v14, main_cst_2, main_v15, main_v16, main_v17, main_v18, main_v19, main_v20, main_v21, main_v22, main_cst_3, main_v23, main_cst_4]
set_option maxRecDepth 8192 in
theorem ops_part0_0_writes : (ops_part0_0 : List (HloOp τ sig (Elt F))).Forall fun op => op.writes ⊆ (ops_part0_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
theorem val0_1_main_arg2 (V0 : Valuation τ sig (Elt F)) : val0_1 V0 (no_index (Proc.devRef .tc main_arg2)) = V0 (Proc.devRef .tc main_arg2) :=
  (val0_1_keep V0 main_arg2 (by decide)).trans (val0_main_arg2 V0)
theorem val0_1_main_arg3 (V0 : Valuation τ sig (Elt F)) : val0_1 V0 (no_index (Proc.devRef .tc main_arg3)) = V0 (Proc.devRef .tc main_arg3) :=
  (val0_1_keep V0 main_arg3 (by decide)).trans (val0_main_arg3 V0)
theorem val0_1_main_arg4 (V0 : Valuation τ sig (Elt F)) : val0_1 V0 (no_index (Proc.devRef .tc main_arg4)) = V0 (Proc.devRef .tc main_arg4) :=
  (val0_1_keep V0 main_arg4 (by decide)).trans (val0_main_arg4 V0)
theorem val0_1_main_arg5 (V0 : Valuation τ sig (Elt F)) : val0_1 V0 (no_index (Proc.devRef .tc main_arg5)) = V0 (Proc.devRef .tc main_arg5) :=
  (val0_1_keep V0 main_arg5 (by decide)).trans (val0_main_arg5 V0)
theorem val0_1_main_arg6 (V0 : Valuation τ sig (Elt F)) : val0_1 V0 (no_index (Proc.devRef .tc main_arg6)) = V0 (Proc.devRef .tc main_arg6) :=
  (val0_1_keep V0 main_arg6 (by decide)).trans (val0_main_arg6 V0)
theorem val0_1_main_arg7 (V0 : Valuation τ sig (Elt F)) : val0_1 V0 (no_index (Proc.devRef .tc main_arg7)) = V0 (Proc.devRef .tc main_arg7) :=
  (val0_1_keep V0 main_arg7 (by decide)).trans (val0_main_arg7 V0)
theorem val0_1_main_arg8 (V0 : Valuation τ sig (Elt F)) : val0_1 V0 (no_index (Proc.devRef .tc main_arg8)) = V0 (Proc.devRef .tc main_arg8) :=
  (val0_1_keep V0 main_arg8 (by decide)).trans (val0_main_arg8 V0)
theorem val0_1_main_arg9 (V0 : Valuation τ sig (Elt F)) : val0_1 V0 (no_index (Proc.devRef .tc main_arg9)) = V0 (Proc.devRef .tc main_arg9) :=
  (val0_1_keep V0 main_arg9 (by decide)).trans (val0_main_arg9 V0)
theorem val0_1_main_arg10 (V0 : Valuation τ sig (Elt F)) : val0_1 V0 (no_index (Proc.devRef .tc main_arg10)) = V0 (Proc.devRef .tc main_arg10) :=
  (val0_1_keep V0 main_arg10 (by decide)).trans (val0_main_arg10 V0)
theorem val0_1_main_arg11 (V0 : Valuation τ sig (Elt F)) : val0_1 V0 (no_index (Proc.devRef .tc main_arg11)) = V0 (Proc.devRef .tc main_arg11) :=
  (val0_1_keep V0 main_arg11 (by decide)).trans (val0_main_arg11 V0)
theorem val0_1_main_arg12 (V0 : Valuation τ sig (Elt F)) : val0_1 V0 (no_index (Proc.devRef .tc main_arg12)) = V0 (Proc.devRef .tc main_arg12) :=
  (val0_1_keep V0 main_arg12 (by decide)).trans (val0_main_arg12 V0)
theorem val0_1_main_arg13 (V0 : Valuation τ sig (Elt F)) : val0_1 V0 (no_index (Proc.devRef .tc main_arg13)) = V0 (Proc.devRef .tc main_arg13) :=
  (val0_1_keep V0 main_arg13 (by decide)).trans (val0_main_arg13 V0)
theorem val0_1_main_arg14 (V0 : Valuation τ sig (Elt F)) : val0_1 V0 (no_index (Proc.devRef .tc main_arg14)) = V0 (Proc.devRef .tc main_arg14) :=
  (val0_1_keep V0 main_arg14 (by decide)).trans (val0_main_arg14 V0)
theorem val0_1_main_arg15 (V0 : Valuation τ sig (Elt F)) : val0_1 V0 (no_index (Proc.devRef .tc main_arg15)) = V0 (Proc.devRef .tc main_arg15) :=
  (val0_1_keep V0 main_arg15 (by decide)).trans (val0_main_arg15 V0)
theorem val0_1_main_arg16 (V0 : Valuation τ sig (Elt F)) : val0_1 V0 (no_index (Proc.devRef .tc main_arg16)) = V0 (Proc.devRef .tc main_arg16) :=
  (val0_1_keep V0 main_arg16 (by decide)).trans (val0_main_arg16 V0)
theorem val0_1_main_arg17 (V0 : Valuation τ sig (Elt F)) : val0_1 V0 (no_index (Proc.devRef .tc main_arg17)) = V0 (Proc.devRef .tc main_arg17) :=
  (val0_1_keep V0 main_arg17 (by decide)).trans (val0_main_arg17 V0)
theorem val0_1_main_arg18 (V0 : Valuation τ sig (Elt F)) : val0_1 V0 (no_index (Proc.devRef .tc main_arg18)) = V0 (Proc.devRef .tc main_arg18) :=
  (val0_1_keep V0 main_arg18 (by decide)).trans (val0_main_arg18 V0)
theorem val0_1_main_arg19 (V0 : Valuation τ sig (Elt F)) : val0_1 V0 (no_index (Proc.devRef .tc main_arg19)) = V0 (Proc.devRef .tc main_arg19) :=
  (val0_1_keep V0 main_arg19 (by decide)).trans (val0_main_arg19 V0)
set_option maxRecDepth 8192 in
set_option maxHeartbeats 2000000 in
theorem val0_1_main_v0 (V0 : Valuation τ sig (Elt F)) : val0_1 V0 (no_index (Proc.devRef .tc main_v0)) = res_main_v0 V0 := by
  unfold val0_1
  simp only [ops_part0_0]
  after_results_simp
  simp only [val0_main_arg1, val0_main_arg0] <;> rfl
set_option maxRecDepth 8192 in
set_option maxHeartbeats 2000000 in
theorem val0_1_main_v21 (V0 : Valuation τ sig (Elt F)) : val0_1 V0 (no_index (Proc.devRef .tc main_v21)) = res_main_v21 V0 := by
  unfold val0_1
  simp only [ops_part0_0]
  after_results_simp
  simp only [val0_main_arg11, val0_main_arg10, val0_main_arg9, val0_main_arg8, val0_main_arg1, val0_main_arg0] <;> rfl
set_option maxRecDepth 8192 in
set_option maxHeartbeats 2000000 in
theorem val0_1_main_v22 (V0 : Valuation τ sig (Elt F)) : val0_1 V0 (no_index (Proc.devRef .tc main_v22)) = res_main_v22 V0 := by
  unfold val0_1
  simp only [ops_part0_0]
  after_results_simp
  simp only [val0_main_arg3, val0_main_arg6] <;> rfl
set_option maxRecDepth 8192 in
set_option maxHeartbeats 2000000 in
theorem val0_1_main_v23 (V0 : Valuation τ sig (Elt F)) : val0_1 V0 (no_index (Proc.devRef .tc main_v23)) = Host.reduceAdd (res_main_v22 V0) (constant S_ .f32 0x00000000#32) reducesTo_S4096x32x1_S4096x1_d1 h_S_ := by
  unfold val0_1
  simp only [ops_part0_0]
  after_results_simp
  simp only [val0_main_arg3, val0_main_arg6] <;> rfl
set_option maxRecDepth 8192 in
set_option maxHeartbeats 2000000 in
theorem val0_1_main_cst_4 (V0 : Valuation τ sig (Elt F)) : val0_1 V0 (no_index (Proc.devRef .tc main_cst_4)) = constant S_ .f32 0x3F800000#32 := by
  unfold val0_1
  simp only [ops_part0_0]
  after_results_simp
  all_goals rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_call0_v0, main_call0_v1, main_v24, main_v25, main_v26, main_cst_5, main_v27, main_v28, main_v29, main_v30, main_v31, main_v32, main_v33, main_v34, main_v35, main_v36, main_cst_6, main_v37, main_v38, main_v39, main_cst_7, main_v40, main_v41, main_v42, main_cst_8, main_v43, main_v44, main_cst_9, main_v45, main_v46]
set_option maxRecDepth 8192 in
theorem ops_part0_1_writes : (ops_part0_1 : List (HloOp τ sig (Elt F))).Forall fun op => op.writes ⊆ (ops_part0_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
theorem val0_2_main_arg2 (V0 : Valuation τ sig (Elt F)) : val0_2 V0 (no_index (Proc.devRef .tc main_arg2)) = V0 (Proc.devRef .tc main_arg2) :=
  (val0_2_keep V0 main_arg2 (by decide)).trans (val0_1_main_arg2 V0)
theorem val0_2_main_arg3 (V0 : Valuation τ sig (Elt F)) : val0_2 V0 (no_index (Proc.devRef .tc main_arg3)) = V0 (Proc.devRef .tc main_arg3) :=
  (val0_2_keep V0 main_arg3 (by decide)).trans (val0_1_main_arg3 V0)
theorem val0_2_main_arg4 (V0 : Valuation τ sig (Elt F)) : val0_2 V0 (no_index (Proc.devRef .tc main_arg4)) = V0 (Proc.devRef .tc main_arg4) :=
  (val0_2_keep V0 main_arg4 (by decide)).trans (val0_1_main_arg4 V0)
theorem val0_2_main_arg5 (V0 : Valuation τ sig (Elt F)) : val0_2 V0 (no_index (Proc.devRef .tc main_arg5)) = V0 (Proc.devRef .tc main_arg5) :=
  (val0_2_keep V0 main_arg5 (by decide)).trans (val0_1_main_arg5 V0)
theorem val0_2_main_arg6 (V0 : Valuation τ sig (Elt F)) : val0_2 V0 (no_index (Proc.devRef .tc main_arg6)) = V0 (Proc.devRef .tc main_arg6) :=
  (val0_2_keep V0 main_arg6 (by decide)).trans (val0_1_main_arg6 V0)
theorem val0_2_main_arg7 (V0 : Valuation τ sig (Elt F)) : val0_2 V0 (no_index (Proc.devRef .tc main_arg7)) = V0 (Proc.devRef .tc main_arg7) :=
  (val0_2_keep V0 main_arg7 (by decide)).trans (val0_1_main_arg7 V0)
theorem val0_2_main_arg8 (V0 : Valuation τ sig (Elt F)) : val0_2 V0 (no_index (Proc.devRef .tc main_arg8)) = V0 (Proc.devRef .tc main_arg8) :=
  (val0_2_keep V0 main_arg8 (by decide)).trans (val0_1_main_arg8 V0)
theorem val0_2_main_arg9 (V0 : Valuation τ sig (Elt F)) : val0_2 V0 (no_index (Proc.devRef .tc main_arg9)) = V0 (Proc.devRef .tc main_arg9) :=
  (val0_2_keep V0 main_arg9 (by decide)).trans (val0_1_main_arg9 V0)
theorem val0_2_main_arg10 (V0 : Valuation τ sig (Elt F)) : val0_2 V0 (no_index (Proc.devRef .tc main_arg10)) = V0 (Proc.devRef .tc main_arg10) :=
  (val0_2_keep V0 main_arg10 (by decide)).trans (val0_1_main_arg10 V0)
theorem val0_2_main_arg11 (V0 : Valuation τ sig (Elt F)) : val0_2 V0 (no_index (Proc.devRef .tc main_arg11)) = V0 (Proc.devRef .tc main_arg11) :=
  (val0_2_keep V0 main_arg11 (by decide)).trans (val0_1_main_arg11 V0)
theorem val0_2_main_arg12 (V0 : Valuation τ sig (Elt F)) : val0_2 V0 (no_index (Proc.devRef .tc main_arg12)) = V0 (Proc.devRef .tc main_arg12) :=
  (val0_2_keep V0 main_arg12 (by decide)).trans (val0_1_main_arg12 V0)
theorem val0_2_main_arg13 (V0 : Valuation τ sig (Elt F)) : val0_2 V0 (no_index (Proc.devRef .tc main_arg13)) = V0 (Proc.devRef .tc main_arg13) :=
  (val0_2_keep V0 main_arg13 (by decide)).trans (val0_1_main_arg13 V0)
theorem val0_2_main_arg14 (V0 : Valuation τ sig (Elt F)) : val0_2 V0 (no_index (Proc.devRef .tc main_arg14)) = V0 (Proc.devRef .tc main_arg14) :=
  (val0_2_keep V0 main_arg14 (by decide)).trans (val0_1_main_arg14 V0)
theorem val0_2_main_arg15 (V0 : Valuation τ sig (Elt F)) : val0_2 V0 (no_index (Proc.devRef .tc main_arg15)) = V0 (Proc.devRef .tc main_arg15) :=
  (val0_2_keep V0 main_arg15 (by decide)).trans (val0_1_main_arg15 V0)
theorem val0_2_main_arg16 (V0 : Valuation τ sig (Elt F)) : val0_2 V0 (no_index (Proc.devRef .tc main_arg16)) = V0 (Proc.devRef .tc main_arg16) :=
  (val0_2_keep V0 main_arg16 (by decide)).trans (val0_1_main_arg16 V0)
theorem val0_2_main_arg17 (V0 : Valuation τ sig (Elt F)) : val0_2 V0 (no_index (Proc.devRef .tc main_arg17)) = V0 (Proc.devRef .tc main_arg17) :=
  (val0_2_keep V0 main_arg17 (by decide)).trans (val0_1_main_arg17 V0)
theorem val0_2_main_arg18 (V0 : Valuation τ sig (Elt F)) : val0_2 V0 (no_index (Proc.devRef .tc main_arg18)) = V0 (Proc.devRef .tc main_arg18) :=
  (val0_2_keep V0 main_arg18 (by decide)).trans (val0_1_main_arg18 V0)
theorem val0_2_main_arg19 (V0 : Valuation τ sig (Elt F)) : val0_2 V0 (no_index (Proc.devRef .tc main_arg19)) = V0 (Proc.devRef .tc main_arg19) :=
  (val0_2_keep V0 main_arg19 (by decide)).trans (val0_1_main_arg19 V0)
theorem val0_2_main_v21 (V0 : Valuation τ sig (Elt F)) : val0_2 V0 (no_index (Proc.devRef .tc main_v21)) = res_main_v21 V0 :=
  (val0_2_keep V0 main_v21 (by decide)).trans (val0_1_main_v21 V0)
set_option maxRecDepth 8192 in
set_option maxHeartbeats 2000000 in
theorem val0_2_main_v30 (V0 : Valuation τ sig (Elt F)) : val0_2 V0 (no_index (Proc.devRef .tc main_v30)) = res_main_v30 V0 := by
  unfold val0_2
  simp only [ops_part0_1, TRef.binary, TRef.unary, TRef.toBuf, TRef.ofBuf, cast_eq]
  after_results_simp
  try dsimp only [Matrix.cons_val]
  try after_results_simp
  simp only [val0_1_main_v23, val0_1_main_cst_4, val0_1_main_v22, val0_1_main_arg7, val0_1_main_v21, val0_1_main_v0] <;> rfl
set_option maxRecDepth 8192 in
set_option maxHeartbeats 2000000 in
theorem val0_2_main_v34 (V0 : Valuation τ sig (Elt F)) : val0_2 V0 (no_index (Proc.devRef .tc main_v34)) = res_main_v34 V0 := by
  unfold val0_2
  simp only [ops_part0_1, TRef.binary, TRef.unary, TRef.toBuf, TRef.ofBuf, cast_eq]
  after_results_simp
  try dsimp only [Matrix.cons_val]
  try after_results_simp
  simp only [val0_1_main_arg13, val0_1_main_arg12, val0_1_main_v23, val0_1_main_cst_4, val0_1_main_v22, val0_1_main_arg7, val0_1_main_v21, val0_1_main_v0] <;> rfl
set_option maxRecDepth 8192 in
set_option maxHeartbeats 2000000 in
theorem val0_2_main_v46 (V0 : Valuation τ sig (Elt F)) : val0_2 V0 (no_index (Proc.devRef .tc main_v46)) = mulf (broadcastInDim S4096x384 ![] bcast_S_S4096x384 (constant S_ .f32 0x3F000000#32)) (addf (broadcastInDim S4096x384 ![] bcast_S_S4096x384 (constant S_ .f32 0x3F800000#32)) (Host.tanh (mulf (broadcastInDim S4096x384 ![] bcast_S_S4096x384 (constant S_ .f32 0x3F4C422A#32)) (addf (res_main_v34 V0) (mulf (broadcastInDim S4096x384 ![] bcast_S_S4096x384 (constant S_ .f32 0x3D372713#32)) (mulf (mulf (res_main_v34 V0) (res_main_v34 V0)) (res_main_v34 V0))))))) := by
  unfold val0_2
  simp only [ops_part0_1, TRef.binary, TRef.unary, TRef.toBuf, TRef.ofBuf, cast_eq]
  after_results_simp
  try dsimp only [Matrix.cons_val]
  try after_results_simp
  simp only [val0_1_main_arg13, val0_1_main_arg12, val0_1_main_v23, val0_1_main_cst_4, val0_1_main_v22, val0_1_main_arg7, val0_1_main_v21, val0_1_main_v0] <;> rfl

/-- The device's buffer contents after @main's first 1 window. -/
def val1 (V0 : Valuation τ sig (Elt F)) : Valuation τ sig (Elt F) := after ops_part0_2 (val0_2 V0)
/-- The buffers that window `ops_part0_2`'s operations write. -/
abbrev ops_part0_2_W : List (Ref sig .tc) := [main_v47, main_v48]
set_option maxRecDepth 8192 in
theorem ops_part0_2_writes : (ops_part0_2 : List (HloOp τ sig (Elt F))).Forall fun op => op.writes ⊆ (ops_part0_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_2` does not write keeps its contents through it. -/
theorem val1_keep (V0 : Valuation τ sig (Elt F)) (r : Ref sig .tc) (h : r ∉ ops_part0_2_W) :
    val1 V0 (Proc.devRef .tc r) = val0_2 V0 (Proc.devRef .tc r) :=
  after_of_writes_sub ops_part0_2 _ ops_part0_2_writes h
theorem val1_main_arg0 (V0 : Valuation τ sig (Elt F)) : val1 V0 (no_index (Proc.devRef .tc main_arg0)) = V0 (Proc.devRef .tc main_arg0) :=
  (val1_keep V0 main_arg0 (by decide)).trans (val0_2_main_arg0 V0)
theorem val1_main_arg1 (V0 : Valuation τ sig (Elt F)) : val1 V0 (no_index (Proc.devRef .tc main_arg1)) = V0 (Proc.devRef .tc main_arg1) :=
  (val1_keep V0 main_arg1 (by decide)).trans (val0_2_main_arg1 V0)
theorem val1_main_arg2 (V0 : Valuation τ sig (Elt F)) : val1 V0 (no_index (Proc.devRef .tc main_arg2)) = V0 (Proc.devRef .tc main_arg2) :=
  (val1_keep V0 main_arg2 (by decide)).trans (val0_2_main_arg2 V0)
theorem val1_main_arg3 (V0 : Valuation τ sig (Elt F)) : val1 V0 (no_index (Proc.devRef .tc main_arg3)) = V0 (Proc.devRef .tc main_arg3) :=
  (val1_keep V0 main_arg3 (by decide)).trans (val0_2_main_arg3 V0)
theorem val1_main_arg4 (V0 : Valuation τ sig (Elt F)) : val1 V0 (no_index (Proc.devRef .tc main_arg4)) = V0 (Proc.devRef .tc main_arg4) :=
  (val1_keep V0 main_arg4 (by decide)).trans (val0_2_main_arg4 V0)
theorem val1_main_arg5 (V0 : Valuation τ sig (Elt F)) : val1 V0 (no_index (Proc.devRef .tc main_arg5)) = V0 (Proc.devRef .tc main_arg5) :=
  (val1_keep V0 main_arg5 (by decide)).trans (val0_2_main_arg5 V0)
theorem val1_main_arg6 (V0 : Valuation τ sig (Elt F)) : val1 V0 (no_index (Proc.devRef .tc main_arg6)) = V0 (Proc.devRef .tc main_arg6) :=
  (val1_keep V0 main_arg6 (by decide)).trans (val0_2_main_arg6 V0)
theorem val1_main_arg7 (V0 : Valuation τ sig (Elt F)) : val1 V0 (no_index (Proc.devRef .tc main_arg7)) = V0 (Proc.devRef .tc main_arg7) :=
  (val1_keep V0 main_arg7 (by decide)).trans (val0_2_main_arg7 V0)
theorem val1_main_arg8 (V0 : Valuation τ sig (Elt F)) : val1 V0 (no_index (Proc.devRef .tc main_arg8)) = V0 (Proc.devRef .tc main_arg8) :=
  (val1_keep V0 main_arg8 (by decide)).trans (val0_2_main_arg8 V0)
theorem val1_main_arg9 (V0 : Valuation τ sig (Elt F)) : val1 V0 (no_index (Proc.devRef .tc main_arg9)) = V0 (Proc.devRef .tc main_arg9) :=
  (val1_keep V0 main_arg9 (by decide)).trans (val0_2_main_arg9 V0)
theorem val1_main_arg10 (V0 : Valuation τ sig (Elt F)) : val1 V0 (no_index (Proc.devRef .tc main_arg10)) = V0 (Proc.devRef .tc main_arg10) :=
  (val1_keep V0 main_arg10 (by decide)).trans (val0_2_main_arg10 V0)
theorem val1_main_arg11 (V0 : Valuation τ sig (Elt F)) : val1 V0 (no_index (Proc.devRef .tc main_arg11)) = V0 (Proc.devRef .tc main_arg11) :=
  (val1_keep V0 main_arg11 (by decide)).trans (val0_2_main_arg11 V0)
theorem val1_main_arg12 (V0 : Valuation τ sig (Elt F)) : val1 V0 (no_index (Proc.devRef .tc main_arg12)) = V0 (Proc.devRef .tc main_arg12) :=
  (val1_keep V0 main_arg12 (by decide)).trans (val0_2_main_arg12 V0)
theorem val1_main_arg13 (V0 : Valuation τ sig (Elt F)) : val1 V0 (no_index (Proc.devRef .tc main_arg13)) = V0 (Proc.devRef .tc main_arg13) :=
  (val1_keep V0 main_arg13 (by decide)).trans (val0_2_main_arg13 V0)
theorem val1_main_arg14 (V0 : Valuation τ sig (Elt F)) : val1 V0 (no_index (Proc.devRef .tc main_arg14)) = V0 (Proc.devRef .tc main_arg14) :=
  (val1_keep V0 main_arg14 (by decide)).trans (val0_2_main_arg14 V0)
theorem val1_main_arg15 (V0 : Valuation τ sig (Elt F)) : val1 V0 (no_index (Proc.devRef .tc main_arg15)) = V0 (Proc.devRef .tc main_arg15) :=
  (val1_keep V0 main_arg15 (by decide)).trans (val0_2_main_arg15 V0)
theorem val1_main_arg16 (V0 : Valuation τ sig (Elt F)) : val1 V0 (no_index (Proc.devRef .tc main_arg16)) = V0 (Proc.devRef .tc main_arg16) :=
  (val1_keep V0 main_arg16 (by decide)).trans (val0_2_main_arg16 V0)
theorem val1_main_arg17 (V0 : Valuation τ sig (Elt F)) : val1 V0 (no_index (Proc.devRef .tc main_arg17)) = V0 (Proc.devRef .tc main_arg17) :=
  (val1_keep V0 main_arg17 (by decide)).trans (val0_2_main_arg17 V0)
theorem val1_main_arg18 (V0 : Valuation τ sig (Elt F)) : val1 V0 (no_index (Proc.devRef .tc main_arg18)) = V0 (Proc.devRef .tc main_arg18) :=
  (val1_keep V0 main_arg18 (by decide)).trans (val0_2_main_arg18 V0)
theorem val1_main_arg19 (V0 : Valuation τ sig (Elt F)) : val1 V0 (no_index (Proc.devRef .tc main_arg19)) = V0 (Proc.devRef .tc main_arg19) :=
  (val1_keep V0 main_arg19 (by decide)).trans (val0_2_main_arg19 V0)
theorem val1_main_v21 (V0 : Valuation τ sig (Elt F)) : val1 V0 (no_index (Proc.devRef .tc main_v21)) = res_main_v21 V0 :=
  (val1_keep V0 main_v21 (by decide)).trans (val0_2_main_v21 V0)
theorem val1_main_v30 (V0 : Valuation τ sig (Elt F)) : val1 V0 (no_index (Proc.devRef .tc main_v30)) = res_main_v30 V0 :=
  (val1_keep V0 main_v30 (by decide)).trans (val0_2_main_v30 V0)
set_option maxRecDepth 8192 in
theorem val1_main_v48 (V0 : Valuation τ sig (Elt F)) : val1 V0 (no_index (Proc.devRef .tc main_v48)) = Host.dotGeneral dot_S4096x384_S384x1_S4096x1_1_0_0_1_n_n none (mulf (res_main_v34 V0) (mulf (broadcastInDim S4096x384 ![] bcast_S_S4096x384 (constant S_ .f32 0x3F000000#32)) (addf (broadcastInDim S4096x384 ![] bcast_S_S4096x384 (constant S_ .f32 0x3F800000#32)) (Host.tanh (mulf (broadcastInDim S4096x384 ![] bcast_S_S4096x384 (constant S_ .f32 0x3F4C422A#32)) (addf (res_main_v34 V0) (mulf (broadcastInDim S4096x384 ![] bcast_S_S4096x384 (constant S_ .f32 0x3D372713#32)) (mulf (mulf (res_main_v34 V0) (res_main_v34 V0)) (res_main_v34 V0))))))))) (V0 (Proc.devRef .tc main_arg14)) := by
  unfold val1
  simp only [ops_part0_2]
  after_results_simp
  simp only [val0_2_main_arg14, val0_2_main_v46, val0_2_main_v34] <;> rfl

/-- The device's buffer contents after @main's first 2 windows. -/
def val2 (V0 : Valuation τ sig (Elt F)) : Valuation τ sig (Elt F) := after ops_part1 (val1 V0)
/-- The buffers that window `main_part1`'s operations write. -/
abbrev ops_part1_W : List (Ref sig .tc) := [main_v49, main_v50, main_v51, main_v52, main_v53, main_cst_10, main_v54, main_v55, main_cst_11, main_v56, main_v57, main_v58, main_v59, main_v60, main_v61, main_v62, main_v63, main_cst_12, main_v64, main_v65, main_v66, main_cst_13, main_v67, main_v68, main_v69, main_cst_14, main_v70, main_v71, main_cst_15, main_v72, main_v73, main_v74, main_v75, main_v76, main_v77, main_v78, main_v79, main_v80, main_cst_16, main_v81, main_v82, main_cst_17, main_v83, main_v84, main_cst_18, main_v85, main_v86, main_cst_19, main_v87, main_v88, main_v89, main_v90, main_cst_20, main_v91, main_v92, main_cst_21, main_v93, main_v94, main_cst_22, main_v95]
set_option maxRecDepth 8192 in
theorem ops_part1_writes : (ops_part1 : List (HloOp τ sig (Elt F))).Forall fun op => op.writes ⊆ (ops_part1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part1` does not write keeps its contents through it. -/
theorem val2_keep (V0 : Valuation τ sig (Elt F)) (r : Ref sig .tc) (h : r ∉ ops_part1_W) :
    val2 V0 (Proc.devRef .tc r) = val1 V0 (Proc.devRef .tc r) :=
  after_of_writes_sub ops_part1 _ ops_part1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
theorem val2_main_arg6 (V0 : Valuation τ sig (Elt F)) : val2 V0 (no_index (Proc.devRef .tc main_arg6)) = V0 (Proc.devRef .tc main_arg6) :=
  (val2_keep V0 main_arg6 (by decide)).trans (val1_main_arg6 V0)
theorem val2_main_arg7 (V0 : Valuation τ sig (Elt F)) : val2 V0 (no_index (Proc.devRef .tc main_arg7)) = V0 (Proc.devRef .tc main_arg7) :=
  (val2_keep V0 main_arg7 (by decide)).trans (val1_main_arg7 V0)
theorem val2_main_arg8 (V0 : Valuation τ sig (Elt F)) : val2 V0 (no_index (Proc.devRef .tc main_arg8)) = V0 (Proc.devRef .tc main_arg8) :=
  (val2_keep V0 main_arg8 (by decide)).trans (val1_main_arg8 V0)
theorem val2_main_arg9 (V0 : Valuation τ sig (Elt F)) : val2 V0 (no_index (Proc.devRef .tc main_arg9)) = V0 (Proc.devRef .tc main_arg9) :=
  (val2_keep V0 main_arg9 (by decide)).trans (val1_main_arg9 V0)
theorem val2_main_arg10 (V0 : Valuation τ sig (Elt F)) : val2 V0 (no_index (Proc.devRef .tc main_arg10)) = V0 (Proc.devRef .tc main_arg10) :=
  (val2_keep V0 main_arg10 (by decide)).trans (val1_main_arg10 V0)
theorem val2_main_arg11 (V0 : Valuation τ sig (Elt F)) : val2 V0 (no_index (Proc.devRef .tc main_arg11)) = V0 (Proc.devRef .tc main_arg11) :=
  (val2_keep V0 main_arg11 (by decide)).trans (val1_main_arg11 V0)
theorem val2_main_arg12 (V0 : Valuation τ sig (Elt F)) : val2 V0 (no_index (Proc.devRef .tc main_arg12)) = V0 (Proc.devRef .tc main_arg12) :=
  (val2_keep V0 main_arg12 (by decide)).trans (val1_main_arg12 V0)
theorem val2_main_arg13 (V0 : Valuation τ sig (Elt F)) : val2 V0 (no_index (Proc.devRef .tc main_arg13)) = V0 (Proc.devRef .tc main_arg13) :=
  (val2_keep V0 main_arg13 (by decide)).trans (val1_main_arg13 V0)
theorem val2_main_arg14 (V0 : Valuation τ sig (Elt F)) : val2 V0 (no_index (Proc.devRef .tc main_arg14)) = V0 (Proc.devRef .tc main_arg14) :=
  (val2_keep V0 main_arg14 (by decide)).trans (val1_main_arg14 V0)
theorem val2_main_arg15 (V0 : Valuation τ sig (Elt F)) : val2 V0 (no_index (Proc.devRef .tc main_arg15)) = V0 (Proc.devRef .tc main_arg15) :=
  (val2_keep V0 main_arg15 (by decide)).trans (val1_main_arg15 V0)
theorem val2_main_arg16 (V0 : Valuation τ sig (Elt F)) : val2 V0 (no_index (Proc.devRef .tc main_arg16)) = V0 (Proc.devRef .tc main_arg16) :=
  (val2_keep V0 main_arg16 (by decide)).trans (val1_main_arg16 V0)
theorem val2_main_arg17 (V0 : Valuation τ sig (Elt F)) : val2 V0 (no_index (Proc.devRef .tc main_arg17)) = V0 (Proc.devRef .tc main_arg17) :=
  (val2_keep V0 main_arg17 (by decide)).trans (val1_main_arg17 V0)
theorem val2_main_arg18 (V0 : Valuation τ sig (Elt F)) : val2 V0 (no_index (Proc.devRef .tc main_arg18)) = V0 (Proc.devRef .tc main_arg18) :=
  (val2_keep V0 main_arg18 (by decide)).trans (val1_main_arg18 V0)
theorem val2_main_arg19 (V0 : Valuation τ sig (Elt F)) : val2 V0 (no_index (Proc.devRef .tc main_arg19)) = V0 (Proc.devRef .tc main_arg19) :=
  (val2_keep V0 main_arg19 (by decide)).trans (val1_main_arg19 V0)
theorem val2_main_v21 (V0 : Valuation τ sig (Elt F)) : val2 V0 (no_index (Proc.devRef .tc main_v21)) = res_main_v21 V0 :=
  (val2_keep V0 main_v21 (by decide)).trans (val1_main_v21 V0)
set_option maxRecDepth 8192 in
set_option maxHeartbeats 2000000 in
theorem val2_main_v57 (V0 : Valuation τ sig (Elt F)) : val2 V0 (no_index (Proc.devRef .tc main_v57)) = Host.divf (broadcastInDim S4096x1 ![] bcast_S_S4096x1 (constant S_ .f32 0x3F800000#32)) (addf (broadcastInDim S4096x1 ![] bcast_S_S4096x1 (constant S_ .f32 0x3F800000#32)) (Host.exp (Host.negf (addf (Host.dotGeneral dot_S4096x384_S384x1_S4096x1_1_0_0_1_n_n none (mulf (res_main_v34 V0) (mulf (broadcastInDim S4096x384 ![] bcast_S_S4096x384 (constant S_ .f32 0x3F000000#32)) (addf (broadcastInDim S4096x384 ![] bcast_S_S4096x384 (constant S_ .f32 0x3F800000#32)) (Host.tanh (mulf (broadcastInDim S4096x384 ![] bcast_S_S4096x384 (constant S_ .f32 0x3F4C422A#32)) (addf (res_main_v34 V0) (mulf (broadcastInDim S4096x384 ![] bcast_S_S4096x384 (constant S_ .f32 0x3D372713#32)) (mulf (mulf (res_main_v34 V0) (res_main_v34 V0)) (res_main_v34 V0))))))))) (V0 (Proc.devRef .tc main_arg14))) (broadcastInDim S4096x1 ![0, 1] bcast_S1x1_S4096x1_0_1 (broadcastInDim S1x1 ![1] bcast_S1_S1x1_1 (V0 (Proc.devRef .tc main_arg15)))))))) := by
  unfold val2
  simp only [ops_part1]
  after_results_simp
  simp only [val1_main_arg15, val1_main_v48] <;> rfl
set_option maxRecDepth 8192 in
set_option maxHeartbeats 2000000 in
theorem val2_main_v84 (V0 : Valuation τ sig (Elt F)) : val2 V0 (no_index (Proc.devRef .tc main_v84)) = Host.divf (broadcastInDim S4096x1 ![] bcast_S_S4096x1 (constant S_ .f32 0x3F800000#32)) (addf (broadcastInDim S4096x1 ![] bcast_S_S4096x1 (constant S_ .f32 0x3F800000#32)) (Host.exp (Host.negf (addf (Host.dotGeneral dot_S4096x384_S384x1_S4096x1_1_0_0_1_n_n none (mulf (res_main_v61 V0) (mulf (broadcastInDim S4096x384 ![] bcast_S_S4096x384 (constant S_ .f32 0x3F000000#32)) (addf (broadcastInDim S4096x384 ![] bcast_S_S4096x384 (constant S_ .f32 0x3F800000#32)) (Host.tanh (mulf (broadcastInDim S4096x384 ![] bcast_S_S4096x384 (constant S_ .f32 0x3F4C422A#32)) (addf (res_main_v61 V0) (mulf (broadcastInDim S4096x384 ![] bcast_S_S4096x384 (constant S_ .f32 0x3D372713#32)) (mulf (mulf (res_main_v61 V0) (res_main_v61 V0)) (res_main_v61 V0))))))))) (V0 (Proc.devRef .tc main_arg18))) (broadcastInDim S4096x1 ![0, 1] bcast_S1x1_S4096x1_0_1 (broadcastInDim S1x1 ![1] bcast_S1_S1x1_1 (V0 (Proc.devRef .tc main_arg19)))))))) := by
  unfold val2
  simp only [ops_part1]
  after_results_simp
  simp only [val1_main_arg19, val1_main_arg18, val1_main_arg17, val1_main_arg16, val1_main_v30] <;> rfl
set_option maxRecDepth 8192 in
set_option maxHeartbeats 2000000 in
theorem val2_main_v94 (V0 : Valuation τ sig (Elt F)) : val2 V0 (no_index (Proc.devRef .tc main_v94)) = res_main_v94 V0 := by
  unfold val2
  simp only [ops_part1]
  after_results_simp
  simp only [val1_main_arg15, val1_main_v48] <;> rfl
set_option maxRecDepth 8192 in
set_option maxHeartbeats 2000000 in
theorem val2_main_v95 (V0 : Valuation τ sig (Elt F)) : val2 V0 (no_index (Proc.devRef .tc main_v95)) = broadcastInDim S4096x1 ![] bcast_S_S4096x1 (constant S_ .f32 0x3F19999A#32) := by
  unfold val2
  simp only [ops_part1]
  after_results_simp
  all_goals rfl

/-- The device's buffer contents after @main's first 152 operations. -/
def val2_1 (V0 : Valuation τ sig (Elt F)) : Valuation τ sig (Elt F) := after ops_part2_0 (val2 V0)
/-- The buffers that window `ops_part2_0`'s operations write. -/
abbrev ops_part2_0_W : List (Ref sig .tc) := [main_v96, main_cst_23, main_v97, main_v98, main_v99, main_v100, main_cst_24, main_v101, main_v102, main_cst_25, main_v103, main_v104, main_v105, main_cst_26, main_v106, main_v107, main_v108, main_cst_27, main_v109, main_v110, main_cst_28, main_v111, main_v112, main_call1_v0, main_call1_cst, main_call1_c, main_call1_v1_0, main_v113, main_v114, main_v115]
set_option maxRecDepth 8192 in
theorem ops_part2_0_writes : (ops_part2_0 : List (HloOp τ sig (Elt F))).Forall fun op => op.writes ⊆ (ops_part2_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part2_0` does not write keeps its contents through it. -/
theorem val2_1_keep (V0 : Valuation τ sig (Elt F)) (r : Ref sig .tc) (h : r ∉ ops_part2_0_W) :
    val2_1 V0 (Proc.devRef .tc r) = val2 V0 (Proc.devRef .tc r) :=
  after_of_writes_sub ops_part2_0 _ ops_part2_0_writes h
theorem val2_1_main_arg0 (V0 : Valuation τ sig (Elt F)) : val2_1 V0 (no_index (Proc.devRef .tc main_arg0)) = V0 (Proc.devRef .tc main_arg0) :=
  (val2_1_keep V0 main_arg0 (by decide)).trans (val2_main_arg0 V0)
theorem val2_1_main_arg1 (V0 : Valuation τ sig (Elt F)) : val2_1 V0 (no_index (Proc.devRef .tc main_arg1)) = V0 (Proc.devRef .tc main_arg1) :=
  (val2_1_keep V0 main_arg1 (by decide)).trans (val2_main_arg1 V0)
theorem val2_1_main_arg2 (V0 : Valuation τ sig (Elt F)) : val2_1 V0 (no_index (Proc.devRef .tc main_arg2)) = V0 (Proc.devRef .tc main_arg2) :=
  (val2_1_keep V0 main_arg2 (by decide)).trans (val2_main_arg2 V0)
theorem val2_1_main_arg3 (V0 : Valuation τ sig (Elt F)) : val2_1 V0 (no_index (Proc.devRef .tc main_arg3)) = V0 (Proc.devRef .tc main_arg3) :=
  (val2_1_keep V0 main_arg3 (by decide)).trans (val2_main_arg3 V0)
theorem val2_1_main_arg4 (V0 : Valuation τ sig (Elt F)) : val2_1 V0 (no_index (Proc.devRef .tc main_arg4)) = V0 (Proc.devRef .tc main_arg4) :=
  (val2_1_keep V0 main_arg4 (by decide)).trans (val2_main_arg4 V0)
theorem val2_1_main_arg5 (V0 : Valuation τ sig (Elt F)) : val2_1 V0 (no_index (Proc.devRef .tc main_arg5)) = V0 (Proc.devRef .tc main_arg5) :=
  (val2_1_keep V0 main_arg5 (by decide)).trans (val2_main_arg5 V0)
theorem val2_1_main_arg6 (V0 : Valuation τ sig (Elt F)) : val2_1 V0 (no_index (Proc.devRef .tc main_arg6)) = V0 (Proc.devRef .tc main_arg6) :=
  (val2_1_keep V0 main_arg6 (by decide)).trans (val2_main_arg6 V0)
theorem val2_1_main_arg7 (V0 : Valuation τ sig (Elt F)) : val2_1 V0 (no_index (Proc.devRef .tc main_arg7)) = V0 (Proc.devRef .tc main_arg7) :=
  (val2_1_keep V0 main_arg7 (by decide)).trans (val2_main_arg7 V0)
theorem val2_1_main_arg8 (V0 : Valuation τ sig (Elt F)) : val2_1 V0 (no_index (Proc.devRef .tc main_arg8)) = V0 (Proc.devRef .tc main_arg8) :=
  (val2_1_keep V0 main_arg8 (by decide)).trans (val2_main_arg8 V0)
theorem val2_1_main_arg9 (V0 : Valuation τ sig (Elt F)) : val2_1 V0 (no_index (Proc.devRef .tc main_arg9)) = V0 (Proc.devRef .tc main_arg9) :=
  (val2_1_keep V0 main_arg9 (by decide)).trans (val2_main_arg9 V0)
theorem val2_1_main_arg10 (V0 : Valuation τ sig (Elt F)) : val2_1 V0 (no_index (Proc.devRef .tc main_arg10)) = V0 (Proc.devRef .tc main_arg10) :=
  (val2_1_keep V0 main_arg10 (by decide)).trans (val2_main_arg10 V0)
theorem val2_1_main_arg11 (V0 : Valuation τ sig (Elt F)) : val2_1 V0 (no_index (Proc.devRef .tc main_arg11)) = V0 (Proc.devRef .tc main_arg11) :=
  (val2_1_keep V0 main_arg11 (by decide)).trans (val2_main_arg11 V0)
theorem val2_1_main_arg12 (V0 : Valuation τ sig (Elt F)) : val2_1 V0 (no_index (Proc.devRef .tc main_arg12)) = V0 (Proc.devRef .tc main_arg12) :=
  (val2_1_keep V0 main_arg12 (by decide)).trans (val2_main_arg12 V0)
theorem val2_1_main_arg13 (V0 : Valuation τ sig (Elt F)) : val2_1 V0 (no_index (Proc.devRef .tc main_arg13)) = V0 (Proc.devRef .tc main_arg13) :=
  (val2_1_keep V0 main_arg13 (by decide)).trans (val2_main_arg13 V0)
theorem val2_1_main_arg14 (V0 : Valuation τ sig (Elt F)) : val2_1 V0 (no_index (Proc.devRef .tc main_arg14)) = V0 (Proc.devRef .tc main_arg14) :=
  (val2_1_keep V0 main_arg14 (by decide)).trans (val2_main_arg14 V0)
theorem val2_1_main_arg15 (V0 : Valuation τ sig (Elt F)) : val2_1 V0 (no_index (Proc.devRef .tc main_arg15)) = V0 (Proc.devRef .tc main_arg15) :=
  (val2_1_keep V0 main_arg15 (by decide)).trans (val2_main_arg15 V0)
theorem val2_1_main_arg16 (V0 : Valuation τ sig (Elt F)) : val2_1 V0 (no_index (Proc.devRef .tc main_arg16)) = V0 (Proc.devRef .tc main_arg16) :=
  (val2_1_keep V0 main_arg16 (by decide)).trans (val2_main_arg16 V0)
theorem val2_1_main_arg17 (V0 : Valuation τ sig (Elt F)) : val2_1 V0 (no_index (Proc.devRef .tc main_arg17)) = V0 (Proc.devRef .tc main_arg17) :=
  (val2_1_keep V0 main_arg17 (by decide)).trans (val2_main_arg17 V0)
theorem val2_1_main_arg18 (V0 : Valuation τ sig (Elt F)) : val2_1 V0 (no_index (Proc.devRef .tc main_arg18)) = V0 (Proc.devRef .tc main_arg18) :=
  (val2_1_keep V0 main_arg18 (by decide)).trans (val2_main_arg18 V0)
theorem val2_1_main_arg19 (V0 : Valuation τ sig (Elt F)) : val2_1 V0 (no_index (Proc.devRef .tc main_arg19)) = V0 (Proc.devRef .tc main_arg19) :=
  (val2_1_keep V0 main_arg19 (by decide)).trans (val2_main_arg19 V0)
theorem val2_1_main_v21 (V0 : Valuation τ sig (Elt F)) : val2_1 V0 (no_index (Proc.devRef .tc main_v21)) = res_main_v21 V0 :=
  (val2_1_keep V0 main_v21 (by decide)).trans (val2_main_v21 V0)
theorem val2_1_main_v57 (V0 : Valuation τ sig (Elt F)) : val2_1 V0 (no_index (Proc.devRef .tc main_v57)) = Host.divf (broadcastInDim S4096x1 ![] bcast_S_S4096x1 (constant S_ .f32 0x3F800000#32)) (addf (broadcastInDim S4096x1 ![] bcast_S_S4096x1 (constant S_ .f32 0x3F800000#32)) (Host.exp (Host.negf (addf (Host.dotGeneral dot_S4096x384_S384x1_S4096x1_1_0_0_1_n_n none (mulf (res_main_v34 V0) (mulf (broadcastInDim S4096x384 ![] bcast_S_S4096x384 (constant S_ .f32 0x3F000000#32)) (addf (broadcastInDim S4096x384 ![] bcast_S_S4096x384 (constant S_ .f32 0x3F800000#32)) (Host.tanh (mulf (broadcastInDim S4096x384 ![] bcast_S_S4096x384 (constant S_ .f32 0x3F4C422A#32)) (addf (res_main_v34 V0) (mulf (broadcastInDim S4096x384 ![] bcast_S_S4096x384 (constant S_ .f32 0x3D372713#32)) (mulf (mulf (res_main_v34 V0) (res_main_v34 V0)) (res_main_v34 V0))))))))) (V0 (Proc.devRef .tc main_arg14))) (broadcastInDim S4096x1 ![0, 1] bcast_S1x1_S4096x1_0_1 (broadcastInDim S1x1 ![1] bcast_S1_S1x1_1 (V0 (Proc.devRef .tc main_arg15)))))))) :=
  (val2_1_keep V0 main_v57 (by decide)).trans (val2_main_v57 V0)
theorem val2_1_main_v84 (V0 : Valuation τ sig (Elt F)) : val2_1 V0 (no_index (Proc.devRef .tc main_v84)) = Host.divf (broadcastInDim S4096x1 ![] bcast_S_S4096x1 (constant S_ .f32 0x3F800000#32)) (addf (broadcastInDim S4096x1 ![] bcast_S_S4096x1 (constant S_ .f32 0x3F800000#32)) (Host.exp (Host.negf (addf (Host.dotGeneral dot_S4096x384_S384x1_S4096x1_1_0_0_1_n_n none (mulf (res_main_v61 V0) (mulf (broadcastInDim S4096x384 ![] bcast_S_S4096x384 (constant S_ .f32 0x3F000000#32)) (addf (broadcastInDim S4096x384 ![] bcast_S_S4096x384 (constant S_ .f32 0x3F800000#32)) (Host.tanh (mulf (broadcastInDim S4096x384 ![] bcast_S_S4096x384 (constant S_ .f32 0x3F4C422A#32)) (addf (res_main_v61 V0) (mulf (broadcastInDim S4096x384 ![] bcast_S_S4096x384 (constant S_ .f32 0x3D372713#32)) (mulf (mulf (res_main_v61 V0) (res_main_v61 V0)) (res_main_v61 V0))))))))) (V0 (Proc.devRef .tc main_arg18))) (broadcastInDim S4096x1 ![0, 1] bcast_S1x1_S4096x1_0_1 (broadcastInDim S1x1 ![1] bcast_S1_S1x1_1 (V0 (Proc.devRef .tc main_arg19)))))))) :=
  (val2_1_keep V0 main_v84 (by decide)).trans (val2_main_v84 V0)
theorem val2_1_main_v94 (V0 : Valuation τ sig (Elt F)) : val2_1 V0 (no_index (Proc.devRef .tc main_v94)) = res_main_v94 V0 :=
  (val2_1_keep V0 main_v94 (by decide)).trans (val2_main_v94 V0)
set_option maxRecDepth 8192 in
set_option maxHeartbeats 2000000 in
theorem val2_1_main_v104 (V0 : Valuation τ sig (Elt F)) : val2_1 V0 (no_index (Proc.devRef .tc main_v104)) = Host.divf (broadcastInDim S4096x1 ![] bcast_S_S4096x1 (constant S_ .f32 0x3F800000#32)) (addf (broadcastInDim S4096x1 ![] bcast_S_S4096x1 (constant S_ .f32 0x3F800000#32)) (Host.exp (Host.negf (Host.divf (subf (Host.divf (broadcastInDim S4096x1 ![] bcast_S_S4096x1 (constant S_ .f32 0x3F800000#32)) (addf (broadcastInDim S4096x1 ![] bcast_S_S4096x1 (constant S_ .f32 0x3F800000#32)) (Host.exp (Host.negf (addf (Host.dotGeneral dot_S4096x384_S384x1_S4096x1_1_0_0_1_n_n none (mulf (res_main_v61 V0) (mulf (broadcastInDim S4096x384 ![] bcast_S_S4096x384 (constant S_ .f32 0x3F000000#32)) (addf (broadcastInDim S4096x384 ![] bcast_S_S4096x384 (constant S_ .f32 0x3F800000#32)) (Host.tanh (mulf (broadcastInDim S4096x384 ![] bcast_S_S4096x384 (constant S_ .f32 0x3F4C422A#32)) (addf (res_main_v61 V0) (mulf (broadcastInDim S4096x384 ![] bcast_S_S4096x384 (constant S_ .f32 0x3D372713#32)) (mulf (mulf (res_main_v61 V0) (res_main_v61 V0)) (res_main_v61 V0))))))))) (V0 (Proc.devRef .tc main_arg18))) (broadcastInDim S4096x1 ![0, 1] bcast_S1x1_S4096x1_0_1 (broadcastInDim S1x1 ![1] bcast_S1_S1x1_1 (V0 (Proc.devRef .tc main_arg19))))))))) (broadcastInDim S4096x1 ![] bcast_S_S4096x1 (constant S_ .f32 0x3F19999A#32))) (broadcastInDim S4096x1 ![] bcast_S_S4096x1 (constant S_ .f32 0x3E800000#32)))))) := by
  unfold val2_1
  simp only [ops_part2_0, TRef.nullary, TRef.quaternary, TRef.toBuf, TRef.ofBuf, cast_eq]
  after_results_simp
  simp only [val2_main_v95, val2_main_v84] <;> rfl
set_option maxRecDepth 8192 in
set_option maxHeartbeats 2000000 in
theorem val2_1_main_v112 (V0 : Valuation τ sig (Elt F)) : val2_1 V0 (no_index (Proc.devRef .tc main_v112)) = cmpf .ogt (broadcastInDim S4096x1 ![0] bcast_S4096_S4096x1_0 (Host.reduce FloatOps.maximumf (res_main_v108 V0) (constant S_ .f32 0xFF800000#32) reducesTo_S4096x32_S4096_d1 h_S_)) (broadcastInDim S4096x1 ![] bcast_S_S4096x1 (constant S_ .f32 0x3F000000#32)) := by
  unfold val2_1
  simp only [ops_part2_0, TRef.nullary, TRef.quaternary, TRef.toBuf, TRef.ofBuf, cast_eq]
  after_results_simp
  simp only [val2_main_arg6] <;> rfl
set_option maxRecDepth 8192 in
set_option maxHeartbeats 2000000 in
theorem val2_1_main_v114 (V0 : Valuation τ sig (Elt F)) : val2_1 V0 (no_index (Proc.devRef .tc main_v114)) = broadcastInDim S4096x1 ![0] bcast_S4096_S4096x1_0 (fun j => (Host.argReduce reducer_argmax_f32_i32 (res_main_v108 V0) (res_main_call1_v0 V0) (res_main_call1_cst V0) (res_main_call1_c V0) reducesTo_S4096x32_S4096_d1 h_S_ j).2) := by
  unfold val2_1
  simp only [ops_part2_0, TRef.nullary, TRef.quaternary, TRef.toBuf, TRef.ofBuf, cast_eq]
  after_results_simp
  simp only [val2_main_arg6] <;> rfl
set_option maxRecDepth 8192 in
set_option maxHeartbeats 2000000 in
theorem val2_1_main_v115 (V0 : Valuation τ sig (Elt F)) : val2_1 V0 (no_index (Proc.devRef .tc main_v115)) = mulf (V0 (Proc.devRef .tc main_arg3)) (V0 (Proc.devRef .tc main_arg4)) := by
  unfold val2_1
  simp only [ops_part2_0, TRef.nullary, TRef.quaternary, TRef.toBuf, TRef.ofBuf, cast_eq]
  after_results_simp
  simp only [val2_main_arg4, val2_main_arg3] <;> rfl

/-- The device's buffer contents after @main's first 182 operations. -/
def val2_2 (V0 : Valuation τ sig (Elt F)) : Valuation τ sig (Elt F) := after ops_part2_1 (val2_1 V0)
/-- The buffers that window `ops_part2_1`'s operations write. -/
abbrev ops_part2_1_W : List (Ref sig .tc) := [main_cst_29, main_v116, main_v117, main_v118, main_v119, main_call2_v0, main_call2_cst, main_call2_c, main_call2_v1_0, main_v120, main_v121, main_v122, main_v123, main_call4_v0, main_call4_v1, main_call4_v2, main_call4_v3, main_call4_v4, main_v124, main_v125, main_v126, main_v127, main_v128, main_cst_30, main_v129, main_v130, main_cst_31, main_call5_v0, main_call5_v1, main_v131]
set_option maxRecDepth 8192 in
theorem ops_part2_1_writes : (ops_part2_1 : List (HloOp τ sig (Elt F))).Forall fun op => op.writes ⊆ (ops_part2_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part2_1` does not write keeps its contents through it. -/
theorem val2_2_keep (V0 : Valuation τ sig (Elt F)) (r : Ref sig .tc) (h : r ∉ ops_part2_1_W) :
    val2_2 V0 (Proc.devRef .tc r) = val2_1 V0 (Proc.devRef .tc r) :=
  after_of_writes_sub ops_part2_1 _ ops_part2_1_writes h
theorem val2_2_main_arg0 (V0 : Valuation τ sig (Elt F)) : val2_2 V0 (no_index (Proc.devRef .tc main_arg0)) = V0 (Proc.devRef .tc main_arg0) :=
  (val2_2_keep V0 main_arg0 (by decide)).trans (val2_1_main_arg0 V0)
theorem val2_2_main_arg1 (V0 : Valuation τ sig (Elt F)) : val2_2 V0 (no_index (Proc.devRef .tc main_arg1)) = V0 (Proc.devRef .tc main_arg1) :=
  (val2_2_keep V0 main_arg1 (by decide)).trans (val2_1_main_arg1 V0)
theorem val2_2_main_arg2 (V0 : Valuation τ sig (Elt F)) : val2_2 V0 (no_index (Proc.devRef .tc main_arg2)) = V0 (Proc.devRef .tc main_arg2) :=
  (val2_2_keep V0 main_arg2 (by decide)).trans (val2_1_main_arg2 V0)
theorem val2_2_main_arg3 (V0 : Valuation τ sig (Elt F)) : val2_2 V0 (no_index (Proc.devRef .tc main_arg3)) = V0 (Proc.devRef .tc main_arg3) :=
  (val2_2_keep V0 main_arg3 (by decide)).trans (val2_1_main_arg3 V0)
theorem val2_2_main_arg4 (V0 : Valuation τ sig (Elt F)) : val2_2 V0 (no_index (Proc.devRef .tc main_arg4)) = V0 (Proc.devRef .tc main_arg4) :=
  (val2_2_keep V0 main_arg4 (by decide)).trans (val2_1_main_arg4 V0)
theorem val2_2_main_arg5 (V0 : Valuation τ sig (Elt F)) : val2_2 V0 (no_index (Proc.devRef .tc main_arg5)) = V0 (Proc.devRef .tc main_arg5) :=
  (val2_2_keep V0 main_arg5 (by decide)).trans (val2_1_main_arg5 V0)
theorem val2_2_main_arg6 (V0 : Valuation τ sig (Elt F)) : val2_2 V0 (no_index (Proc.devRef .tc main_arg6)) = V0 (Proc.devRef .tc main_arg6) :=
  (val2_2_keep V0 main_arg6 (by decide)).trans (val2_1_main_arg6 V0)
theorem val2_2_main_arg7 (V0 : Valuation τ sig (Elt F)) : val2_2 V0 (no_index (Proc.devRef .tc main_arg7)) = V0 (Proc.devRef .tc main_arg7) :=
  (val2_2_keep V0 main_arg7 (by decide)).trans (val2_1_main_arg7 V0)
theorem val2_2_main_arg8 (V0 : Valuation τ sig (Elt F)) : val2_2 V0 (no_index (Proc.devRef .tc main_arg8)) = V0 (Proc.devRef .tc main_arg8) :=
  (val2_2_keep V0 main_arg8 (by decide)).trans (val2_1_main_arg8 V0)
theorem val2_2_main_arg9 (V0 : Valuation τ sig (Elt F)) : val2_2 V0 (no_index (Proc.devRef .tc main_arg9)) = V0 (Proc.devRef .tc main_arg9) :=
  (val2_2_keep V0 main_arg9 (by decide)).trans (val2_1_main_arg9 V0)
theorem val2_2_main_arg10 (V0 : Valuation τ sig (Elt F)) : val2_2 V0 (no_index (Proc.devRef .tc main_arg10)) = V0 (Proc.devRef .tc main_arg10) :=
  (val2_2_keep V0 main_arg10 (by decide)).trans (val2_1_main_arg10 V0)
theorem val2_2_main_arg11 (V0 : Valuation τ sig (Elt F)) : val2_2 V0 (no_index (Proc.devRef .tc main_arg11)) = V0 (Proc.devRef .tc main_arg11) :=
  (val2_2_keep V0 main_arg11 (by decide)).trans (val2_1_main_arg11 V0)
theorem val2_2_main_arg12 (V0 : Valuation τ sig (Elt F)) : val2_2 V0 (no_index (Proc.devRef .tc main_arg12)) = V0 (Proc.devRef .tc main_arg12) :=
  (val2_2_keep V0 main_arg12 (by decide)).trans (val2_1_main_arg12 V0)
theorem val2_2_main_arg13 (V0 : Valuation τ sig (Elt F)) : val2_2 V0 (no_index (Proc.devRef .tc main_arg13)) = V0 (Proc.devRef .tc main_arg13) :=
  (val2_2_keep V0 main_arg13 (by decide)).trans (val2_1_main_arg13 V0)
theorem val2_2_main_arg14 (V0 : Valuation τ sig (Elt F)) : val2_2 V0 (no_index (Proc.devRef .tc main_arg14)) = V0 (Proc.devRef .tc main_arg14) :=
  (val2_2_keep V0 main_arg14 (by decide)).trans (val2_1_main_arg14 V0)
theorem val2_2_main_arg15 (V0 : Valuation τ sig (Elt F)) : val2_2 V0 (no_index (Proc.devRef .tc main_arg15)) = V0 (Proc.devRef .tc main_arg15) :=
  (val2_2_keep V0 main_arg15 (by decide)).trans (val2_1_main_arg15 V0)
theorem val2_2_main_arg16 (V0 : Valuation τ sig (Elt F)) : val2_2 V0 (no_index (Proc.devRef .tc main_arg16)) = V0 (Proc.devRef .tc main_arg16) :=
  (val2_2_keep V0 main_arg16 (by decide)).trans (val2_1_main_arg16 V0)
theorem val2_2_main_arg17 (V0 : Valuation τ sig (Elt F)) : val2_2 V0 (no_index (Proc.devRef .tc main_arg17)) = V0 (Proc.devRef .tc main_arg17) :=
  (val2_2_keep V0 main_arg17 (by decide)).trans (val2_1_main_arg17 V0)
theorem val2_2_main_arg18 (V0 : Valuation τ sig (Elt F)) : val2_2 V0 (no_index (Proc.devRef .tc main_arg18)) = V0 (Proc.devRef .tc main_arg18) :=
  (val2_2_keep V0 main_arg18 (by decide)).trans (val2_1_main_arg18 V0)
theorem val2_2_main_arg19 (V0 : Valuation τ sig (Elt F)) : val2_2 V0 (no_index (Proc.devRef .tc main_arg19)) = V0 (Proc.devRef .tc main_arg19) :=
  (val2_2_keep V0 main_arg19 (by decide)).trans (val2_1_main_arg19 V0)
theorem val2_2_main_v21 (V0 : Valuation τ sig (Elt F)) : val2_2 V0 (no_index (Proc.devRef .tc main_v21)) = res_main_v21 V0 :=
  (val2_2_keep V0 main_v21 (by decide)).trans (val2_1_main_v21 V0)
theorem val2_2_main_v57 (V0 : Valuation τ sig (Elt F)) : val2_2 V0 (no_index (Proc.devRef .tc main_v57)) = Host.divf (broadcastInDim S4096x1 ![] bcast_S_S4096x1 (constant S_ .f32 0x3F800000#32)) (addf (broadcastInDim S4096x1 ![] bcast_S_S4096x1 (constant S_ .f32 0x3F800000#32)) (Host.exp (Host.negf (addf (Host.dotGeneral dot_S4096x384_S384x1_S4096x1_1_0_0_1_n_n none (mulf (res_main_v34 V0) (mulf (broadcastInDim S4096x384 ![] bcast_S_S4096x384 (constant S_ .f32 0x3F000000#32)) (addf (broadcastInDim S4096x384 ![] bcast_S_S4096x384 (constant S_ .f32 0x3F800000#32)) (Host.tanh (mulf (broadcastInDim S4096x384 ![] bcast_S_S4096x384 (constant S_ .f32 0x3F4C422A#32)) (addf (res_main_v34 V0) (mulf (broadcastInDim S4096x384 ![] bcast_S_S4096x384 (constant S_ .f32 0x3D372713#32)) (mulf (mulf (res_main_v34 V0) (res_main_v34 V0)) (res_main_v34 V0))))))))) (V0 (Proc.devRef .tc main_arg14))) (broadcastInDim S4096x1 ![0, 1] bcast_S1x1_S4096x1_0_1 (broadcastInDim S1x1 ![1] bcast_S1_S1x1_1 (V0 (Proc.devRef .tc main_arg15)))))))) :=
  (val2_2_keep V0 main_v57 (by decide)).trans (val2_1_main_v57 V0)
theorem val2_2_main_v84 (V0 : Valuation τ sig (Elt F)) : val2_2 V0 (no_index (Proc.devRef .tc main_v84)) = Host.divf (broadcastInDim S4096x1 ![] bcast_S_S4096x1 (constant S_ .f32 0x3F800000#32)) (addf (broadcastInDim S4096x1 ![] bcast_S_S4096x1 (constant S_ .f32 0x3F800000#32)) (Host.exp (Host.negf (addf (Host.dotGeneral dot_S4096x384_S384x1_S4096x1_1_0_0_1_n_n none (mulf (res_main_v61 V0) (mulf (broadcastInDim S4096x384 ![] bcast_S_S4096x384 (constant S_ .f32 0x3F000000#32)) (addf (broadcastInDim S4096x384 ![] bcast_S_S4096x384 (constant S_ .f32 0x3F800000#32)) (Host.tanh (mulf (broadcastInDim S4096x384 ![] bcast_S_S4096x384 (constant S_ .f32 0x3F4C422A#32)) (addf (res_main_v61 V0) (mulf (broadcastInDim S4096x384 ![] bcast_S_S4096x384 (constant S_ .f32 0x3D372713#32)) (mulf (mulf (res_main_v61 V0) (res_main_v61 V0)) (res_main_v61 V0))))))))) (V0 (Proc.devRef .tc main_arg18))) (broadcastInDim S4096x1 ![0, 1] bcast_S1x1_S4096x1_0_1 (broadcastInDim S1x1 ![1] bcast_S1_S1x1_1 (V0 (Proc.devRef .tc main_arg19)))))))) :=
  (val2_2_keep V0 main_v84 (by decide)).trans (val2_1_main_v84 V0)
theorem val2_2_main_v94 (V0 : Valuation τ sig (Elt F)) : val2_2 V0 (no_index (Proc.devRef .tc main_v94)) = res_main_v94 V0 :=
  (val2_2_keep V0 main_v94 (by decide)).trans (val2_1_main_v94 V0)
theorem val2_2_main_v104 (V0 : Valuation τ sig (Elt F)) : val2_2 V0 (no_index (Proc.devRef .tc main_v104)) = Host.divf (broadcastInDim S4096x1 ![] bcast_S_S4096x1 (constant S_ .f32 0x3F800000#32)) (addf (broadcastInDim S4096x1 ![] bcast_S_S4096x1 (constant S_ .f32 0x3F800000#32)) (Host.exp (Host.negf (Host.divf (subf (Host.divf (broadcastInDim S4096x1 ![] bcast_S_S4096x1 (constant S_ .f32 0x3F800000#32)) (addf (broadcastInDim S4096x1 ![] bcast_S_S4096x1 (constant S_ .f32 0x3F800000#32)) (Host.exp (Host.negf (addf (Host.dotGeneral dot_S4096x384_S384x1_S4096x1_1_0_0_1_n_n none (mulf (res_main_v61 V0) (mulf (broadcastInDim S4096x384 ![] bcast_S_S4096x384 (constant S_ .f32 0x3F000000#32)) (addf (broadcastInDim S4096x384 ![] bcast_S_S4096x384 (constant S_ .f32 0x3F800000#32)) (Host.tanh (mulf (broadcastInDim S4096x384 ![] bcast_S_S4096x384 (constant S_ .f32 0x3F4C422A#32)) (addf (res_main_v61 V0) (mulf (broadcastInDim S4096x384 ![] bcast_S_S4096x384 (constant S_ .f32 0x3D372713#32)) (mulf (mulf (res_main_v61 V0) (res_main_v61 V0)) (res_main_v61 V0))))))))) (V0 (Proc.devRef .tc main_arg18))) (broadcastInDim S4096x1 ![0, 1] bcast_S1x1_S4096x1_0_1 (broadcastInDim S1x1 ![1] bcast_S1_S1x1_1 (V0 (Proc.devRef .tc main_arg19))))))))) (broadcastInDim S4096x1 ![] bcast_S_S4096x1 (constant S_ .f32 0x3F19999A#32))) (broadcastInDim S4096x1 ![] bcast_S_S4096x1 (constant S_ .f32 0x3E800000#32)))))) :=
  (val2_2_keep V0 main_v104 (by decide)).trans (val2_1_main_v104 V0)
set_option maxRecDepth 8192 in
set_option maxHeartbeats 2000000 in
theorem val2_2_main_v128 (V0 : Valuation τ sig (Elt F)) : val2_2 V0 (no_index (Proc.devRef .tc main_v128)) = res_main_v128 V0 := by
  unfold val2_2
  simp only [ops_part2_1, TRef.binary, TRef.nullary, TRef.quaternary, TRef.ternary, TRef.unary, TRef.toBuf, TRef.ofBuf, cast_eq]
  after_results_simp
  simp only [val2_1_main_v94, val2_1_main_arg5, val2_1_main_v115, val2_1_main_v114, val2_1_main_v112] <;> rfl
set_option maxRecDepth 8192 in
set_option maxHeartbeats 2000000 in
theorem val2_2_main_v131 (V0 : Valuation τ sig (Elt F)) : val2_2 V0 (no_index (Proc.devRef .tc main_v131)) = res_main_v131 V0 := by
  unfold val2_2
  simp only [ops_part2_1, TRef.binary, TRef.nullary, TRef.quaternary, TRef.ternary, TRef.unary, TRef.toBuf, TRef.ofBuf, cast_eq]
  after_results_simp
  simp only [val2_1_main_v94, val2_1_main_arg5, val2_1_main_v115, val2_1_main_v114, val2_1_main_v112] <;> rfl

end Cert.ReferenceIdeal.Hand

end
-- ==== Proof.Ref.Last.lean ====
/- The end of the run of the reference program, and that the run keeps its arguments. -/
module

public import proofs.«01_k».proof.Proof.Gen.ReferenceIdeal
public import proofs.«01_k».proof.Proof.Ref.Run
public import Idealize.ShloMosaic.Lib.StableHlo.Run
public import Idealize.ShloMosaic.Lib.Quiescent

@[expose] public section

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The device's buffer contents after @main's first 3 windows. -/
def val3 (V0 : Valuation τ sig (Elt F)) : Valuation τ sig (Elt F) := after ops_part2_2 (val2_2 V0)
/-- The buffers that window `ops_part2_2`'s operations write. -/
abbrev ops_part2_2_W : List (Ref sig .tc) := [main_v132, main_v133, main_v134, main_v135, main_v136, main_v137, main_v138, main_cst_32, main_v139, main_v140, main_v141, main_v142, main_v143, main_v144, main_v145]
set_option maxRecDepth 8192 in
theorem ops_part2_2_writes : (ops_part2_2 : List (HloOp τ sig (Elt F))).Forall fun op => op.writes ⊆ (ops_part2_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part2_2` does not write keeps its contents through it. -/
theorem val3_keep (V0 : Valuation τ sig (Elt F)) (r : Ref sig .tc) (h : r ∉ ops_part2_2_W) :
    val3 V0 (Proc.devRef .tc r) = val2_2 V0 (Proc.devRef .tc r) :=
  after_of_writes_sub ops_part2_2 _ ops_part2_2_writes h
theorem val3_main_arg0 (V0 : Valuation τ sig (Elt F)) : val3 V0 (no_index (Proc.devRef .tc main_arg0)) = V0 (Proc.devRef .tc main_arg0) :=
  (val3_keep V0 main_arg0 (by decide)).trans (val2_2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_2_main_arg6 V0)
theorem val3_main_arg7 (V0 : Valuation τ sig (Elt F)) : val3 V0 (no_index (Proc.devRef .tc main_arg7)) = V0 (Proc.devRef .tc main_arg7) :=
  (val3_keep V0 main_arg7 (by decide)).trans (val2_2_main_arg7 V0)
theorem val3_main_arg8 (V0 : Valuation τ sig (Elt F)) : val3 V0 (no_index (Proc.devRef .tc main_arg8)) = V0 (Proc.devRef .tc main_arg8) :=
  (val3_keep V0 main_arg8 (by decide)).trans (val2_2_main_arg8 V0)
theorem val3_main_arg9 (V0 : Valuation τ sig (Elt F)) : val3 V0 (no_index (Proc.devRef .tc main_arg9)) = V0 (Proc.devRef .tc main_arg9) :=
  (val3_keep V0 main_arg9 (by decide)).trans (val2_2_main_arg9 V0)
theorem val3_main_arg10 (V0 : Valuation τ sig (Elt F)) : val3 V0 (no_index (Proc.devRef .tc main_arg10)) = V0 (Proc.devRef .tc main_arg10) :=
  (val3_keep V0 main_arg10 (by decide)).trans (val2_2_main_arg10 V0)
theorem val3_main_arg11 (V0 : Valuation τ sig (Elt F)) : val3 V0 (no_index (Proc.devRef .tc main_arg11)) = V0 (Proc.devRef .tc main_arg11) :=
  (val3_keep V0 main_arg11 (by decide)).trans (val2_2_main_arg11 V0)
theorem val3_main_arg12 (V0 : Valuation τ sig (Elt F)) : val3 V0 (no_index (Proc.devRef .tc main_arg12)) = V0 (Proc.devRef .tc main_arg12) :=
  (val3_keep V0 main_arg12 (by decide)).trans (val2_2_main_arg12 V0)
theorem val3_main_arg13 (V0 : Valuation τ sig (Elt F)) : val3 V0 (no_index (Proc.devRef .tc main_arg13)) = V0 (Proc.devRef .tc main_arg13) :=
  (val3_keep V0 main_arg13 (by decide)).trans (val2_2_main_arg13 V0)
theorem val3_main_arg14 (V0 : Valuation τ sig (Elt F)) : val3 V0 (no_index (Proc.devRef .tc main_arg14)) = V0 (Proc.devRef .tc main_arg14) :=
  (val3_keep V0 main_arg14 (by decide)).trans (val2_2_main_arg14 V0)
theorem val3_main_arg15 (V0 : Valuation τ sig (Elt F)) : val3 V0 (no_index (Proc.devRef .tc main_arg15)) = V0 (Proc.devRef .tc main_arg15) :=
  (val3_keep V0 main_arg15 (by decide)).trans (val2_2_main_arg15 V0)
theorem val3_main_arg16 (V0 : Valuation τ sig (Elt F)) : val3 V0 (no_index (Proc.devRef .tc main_arg16)) = V0 (Proc.devRef .tc main_arg16) :=
  (val3_keep V0 main_arg16 (by decide)).trans (val2_2_main_arg16 V0)
theorem val3_main_arg17 (V0 : Valuation τ sig (Elt F)) : val3 V0 (no_index (Proc.devRef .tc main_arg17)) = V0 (Proc.devRef .tc main_arg17) :=
  (val3_keep V0 main_arg17 (by decide)).trans (val2_2_main_arg17 V0)
theorem val3_main_arg18 (V0 : Valuation τ sig (Elt F)) : val3 V0 (no_index (Proc.devRef .tc main_arg18)) = V0 (Proc.devRef .tc main_arg18) :=
  (val3_keep V0 main_arg18 (by decide)).trans (val2_2_main_arg18 V0)
theorem val3_main_arg19 (V0 : Valuation τ sig (Elt F)) : val3 V0 (no_index (Proc.devRef .tc main_arg19)) = V0 (Proc.devRef .tc main_arg19) :=
  (val3_keep V0 main_arg19 (by decide)).trans (val2_2_main_arg19 V0)
theorem val3_main_v21 (V0 : Valuation τ sig (Elt F)) : val3 V0 (no_index (Proc.devRef .tc main_v21)) = res_main_v21 V0 :=
  (val3_keep V0 main_v21 (by decide)).trans (val2_2_main_v21 V0)
theorem val3_main_v57 (V0 : Valuation τ sig (Elt F)) : val3 V0 (no_index (Proc.devRef .tc main_v57)) = Host.divf (broadcastInDim S4096x1 ![] bcast_S_S4096x1 (constant S_ .f32 0x3F800000#32)) (addf (broadcastInDim S4096x1 ![] bcast_S_S4096x1 (constant S_ .f32 0x3F800000#32)) (Host.exp (Host.negf (addf (Host.dotGeneral dot_S4096x384_S384x1_S4096x1_1_0_0_1_n_n none (mulf (res_main_v34 V0) (mulf (broadcastInDim S4096x384 ![] bcast_S_S4096x384 (constant S_ .f32 0x3F000000#32)) (addf (broadcastInDim S4096x384 ![] bcast_S_S4096x384 (constant S_ .f32 0x3F800000#32)) (Host.tanh (mulf (broadcastInDim S4096x384 ![] bcast_S_S4096x384 (constant S_ .f32 0x3F4C422A#32)) (addf (res_main_v34 V0) (mulf (broadcastInDim S4096x384 ![] bcast_S_S4096x384 (constant S_ .f32 0x3D372713#32)) (mulf (mulf (res_main_v34 V0) (res_main_v34 V0)) (res_main_v34 V0))))))))) (V0 (Proc.devRef .tc main_arg14))) (broadcastInDim S4096x1 ![0, 1] bcast_S1x1_S4096x1_0_1 (broadcastInDim S1x1 ![1] bcast_S1_S1x1_1 (V0 (Proc.devRef .tc main_arg15)))))))) :=
  (val3_keep V0 main_v57 (by decide)).trans (val2_2_main_v57 V0)
theorem val3_main_v84 (V0 : Valuation τ sig (Elt F)) : val3 V0 (no_index (Proc.devRef .tc main_v84)) = Host.divf (broadcastInDim S4096x1 ![] bcast_S_S4096x1 (constant S_ .f32 0x3F800000#32)) (addf (broadcastInDim S4096x1 ![] bcast_S_S4096x1 (constant S_ .f32 0x3F800000#32)) (Host.exp (Host.negf (addf (Host.dotGeneral dot_S4096x384_S384x1_S4096x1_1_0_0_1_n_n none (mulf (res_main_v61 V0) (mulf (broadcastInDim S4096x384 ![] bcast_S_S4096x384 (constant S_ .f32 0x3F000000#32)) (addf (broadcastInDim S4096x384 ![] bcast_S_S4096x384 (constant S_ .f32 0x3F800000#32)) (Host.tanh (mulf (broadcastInDim S4096x384 ![] bcast_S_S4096x384 (constant S_ .f32 0x3F4C422A#32)) (addf (res_main_v61 V0) (mulf (broadcastInDim S4096x384 ![] bcast_S_S4096x384 (constant S_ .f32 0x3D372713#32)) (mulf (mulf (res_main_v61 V0) (res_main_v61 V0)) (res_main_v61 V0))))))))) (V0 (Proc.devRef .tc main_arg18))) (broadcastInDim S4096x1 ![0, 1] bcast_S1x1_S4096x1_0_1 (broadcastInDim S1x1 ![1] bcast_S1_S1x1_1 (V0 (Proc.devRef .tc main_arg19)))))))) :=
  (val3_keep V0 main_v84 (by decide)).trans (val2_2_main_v84 V0)
theorem val3_main_v94 (V0 : Valuation τ sig (Elt F)) : val3 V0 (no_index (Proc.devRef .tc main_v94)) = res_main_v94 V0 :=
  (val3_keep V0 main_v94 (by decide)).trans (val2_2_main_v94 V0)
theorem val3_main_v104 (V0 : Valuation τ sig (Elt F)) : val3 V0 (no_index (Proc.devRef .tc main_v104)) = Host.divf (broadcastInDim S4096x1 ![] bcast_S_S4096x1 (constant S_ .f32 0x3F800000#32)) (addf (broadcastInDim S4096x1 ![] bcast_S_S4096x1 (constant S_ .f32 0x3F800000#32)) (Host.exp (Host.negf (Host.divf (subf (Host.divf (broadcastInDim S4096x1 ![] bcast_S_S4096x1 (constant S_ .f32 0x3F800000#32)) (addf (broadcastInDim S4096x1 ![] bcast_S_S4096x1 (constant S_ .f32 0x3F800000#32)) (Host.exp (Host.negf (addf (Host.dotGeneral dot_S4096x384_S384x1_S4096x1_1_0_0_1_n_n none (mulf (res_main_v61 V0) (mulf (broadcastInDim S4096x384 ![] bcast_S_S4096x384 (constant S_ .f32 0x3F000000#32)) (addf (broadcastInDim S4096x384 ![] bcast_S_S4096x384 (constant S_ .f32 0x3F800000#32)) (Host.tanh (mulf (broadcastInDim S4096x384 ![] bcast_S_S4096x384 (constant S_ .f32 0x3F4C422A#32)) (addf (res_main_v61 V0) (mulf (broadcastInDim S4096x384 ![] bcast_S_S4096x384 (constant S_ .f32 0x3D372713#32)) (mulf (mulf (res_main_v61 V0) (res_main_v61 V0)) (res_main_v61 V0))))))))) (V0 (Proc.devRef .tc main_arg18))) (broadcastInDim S4096x1 ![0, 1] bcast_S1x1_S4096x1_0_1 (broadcastInDim S1x1 ![1] bcast_S1_S1x1_1 (V0 (Proc.devRef .tc main_arg19))))))))) (broadcastInDim S4096x1 ![] bcast_S_S4096x1 (constant S_ .f32 0x3F19999A#32))) (broadcastInDim S4096x1 ![] bcast_S_S4096x1 (constant S_ .f32 0x3E800000#32)))))) :=
  (val3_keep V0 main_v104 (by decide)).trans (val2_2_main_v104 V0)
theorem val3_main_v128 (V0 : Valuation τ sig (Elt F)) : val3 V0 (no_index (Proc.devRef .tc main_v128)) = res_main_v128 V0 :=
  (val3_keep V0 main_v128 (by decide)).trans (val2_2_main_v128 V0)
theorem val3_main_v131 (V0 : Valuation τ sig (Elt F)) : val3 V0 (no_index (Proc.devRef .tc main_v131)) = res_main_v131 V0 :=
  (val3_keep V0 main_v131 (by decide)).trans (val2_2_main_v131 V0)
set_option maxRecDepth 8192 in
set_option maxHeartbeats 1500000 in
theorem val3_main_v138 (V0 : Valuation τ sig (Elt F)) : val3 V0 (no_index (Proc.devRef .tc main_v138)) = addf (mulf (broadcastInDim S4096x32x256 ![0, 1, 2] bcast_S4096x32x1_S4096x32x256_0_1_2 (res_main_v131 V0)) (V0 (Proc.devRef .tc main_arg2))) (mulf (broadcastInDim S4096x32x256 ![0, 1, 2] bcast_S4096x32x1_S4096x32x256_0_1_2 (res_main_v128 V0)) (broadcastInDim S4096x32x256 ![0, 1, 2] bcast_S4096x1x256_S4096x32x256_0_1_2 (broadcastInDim S4096x1x256 ![0, 2] bcast_S4096x256_S4096x1x256_0_2 (res_main_v21 V0)))) := by
  unfold val3
  simp only [ops_part2_2]
  after_results_simp
  simp only [val2_2_main_v21, val2_2_main_v128, val2_2_main_arg2, val2_2_main_v131] <;> rfl
set_option maxRecDepth 8192 in
set_option maxHeartbeats 1500000 in
theorem val3_main_v145 (V0 : Valuation τ sig (Elt F)) : val3 V0 (no_index (Proc.devRef .tc main_v145)) = addf (mulf (res_main_v131 V0) (mulf (V0 (Proc.devRef .tc main_arg3)) (broadcastInDim S4096x32x1 ![] bcast_S_S4096x32x1 (constant S_ .f32 0x3F7EB852#32)))) (mulf (res_main_v128 V0) (broadcastInDim S4096x32x1 ![0, 1, 2] bcast_S4096x1x1_S4096x32x1_0_1_2 (broadcastInDim S4096x1x1 ![0, 2] bcast_S4096x1_S4096x1x1_0_2 (res_main_v94 V0)))) := by
  unfold val3
  simp only [ops_part2_2]
  after_results_simp
  simp only [val2_2_main_v94, val2_2_main_v128, val2_2_main_arg3, val2_2_main_v131] <;> rfl

/-- The device's buffer contents after @main's first 4 windows. -/
def val4 (V0 : Valuation τ sig (Elt F)) : Valuation τ sig (Elt F) := after ops_part3 (val3 V0)
/-- The buffers that window `main_part3`'s operations write. -/
abbrev ops_part3_W : List (Ref sig .tc) := [main_cst_33, main_v146, main_v147, main_v148, main_v149, main_v150, main_v151, main_v152, main_v153, main_v154, main_v155, main_v156, main_cst_34, main_cst_35, main_call6_v0, main_call6_v1, main_call6_v2, main_call6_v3, main_call6_v4, main_v157, main_v158, main_v159, main_v160, main_v161]
set_option maxRecDepth 8192 in
theorem ops_part3_writes : (ops_part3 : List (HloOp τ sig (Elt F))).Forall fun op => op.writes ⊆ (ops_part3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part3` does not write keeps its contents through it. -/
theorem val4_keep (V0 : Valuation τ sig (Elt F)) (r : Ref sig .tc) (h : r ∉ ops_part3_W) :
    val4 V0 (Proc.devRef .tc r) = val3 V0 (Proc.devRef .tc r) :=
  after_of_writes_sub ops_part3 _ ops_part3_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_arg4 (V0 : Valuation τ sig (Elt F)) : val4 V0 (no_index (Proc.devRef .tc main_arg4)) = V0 (Proc.devRef .tc main_arg4) :=
  (val4_keep V0 main_arg4 (by decide)).trans (val3_main_arg4 V0)
theorem val4_main_arg5 (V0 : Valuation τ sig (Elt F)) : val4 V0 (no_index (Proc.devRef .tc main_arg5)) = V0 (Proc.devRef .tc main_arg5) :=
  (val4_keep V0 main_arg5 (by decide)).trans (val3_main_arg5 V0)
theorem val4_main_arg6 (V0 : Valuation τ sig (Elt F)) : val4 V0 (no_index (Proc.devRef .tc main_arg6)) = V0 (Proc.devRef .tc main_arg6) :=
  (val4_keep V0 main_arg6 (by decide)).trans (val3_main_arg6 V0)
theorem val4_main_arg7 (V0 : Valuation τ sig (Elt F)) : val4 V0 (no_index (Proc.devRef .tc main_arg7)) = V0 (Proc.devRef .tc main_arg7) :=
  (val4_keep V0 main_arg7 (by decide)).trans (val3_main_arg7 V0)
theorem val4_main_arg8 (V0 : Valuation τ sig (Elt F)) : val4 V0 (no_index (Proc.devRef .tc main_arg8)) = V0 (Proc.devRef .tc main_arg8) :=
  (val4_keep V0 main_arg8 (by decide)).trans (val3_main_arg8 V0)
theorem val4_main_arg9 (V0 : Valuation τ sig (Elt F)) : val4 V0 (no_index (Proc.devRef .tc main_arg9)) = V0 (Proc.devRef .tc main_arg9) :=
  (val4_keep V0 main_arg9 (by decide)).trans (val3_main_arg9 V0)
theorem val4_main_arg10 (V0 : Valuation τ sig (Elt F)) : val4 V0 (no_index (Proc.devRef .tc main_arg10)) = V0 (Proc.devRef .tc main_arg10) :=
  (val4_keep V0 main_arg10 (by decide)).trans (val3_main_arg10 V0)
theorem val4_main_arg11 (V0 : Valuation τ sig (Elt F)) : val4 V0 (no_index (Proc.devRef .tc main_arg11)) = V0 (Proc.devRef .tc main_arg11) :=
  (val4_keep V0 main_arg11 (by decide)).trans (val3_main_arg11 V0)
theorem val4_main_arg12 (V0 : Valuation τ sig (Elt F)) : val4 V0 (no_index (Proc.devRef .tc main_arg12)) = V0 (Proc.devRef .tc main_arg12) :=
  (val4_keep V0 main_arg12 (by decide)).trans (val3_main_arg12 V0)
theorem val4_main_arg13 (V0 : Valuation τ sig (Elt F)) : val4 V0 (no_index (Proc.devRef .tc main_arg13)) = V0 (Proc.devRef .tc main_arg13) :=
  (val4_keep V0 main_arg13 (by decide)).trans (val3_main_arg13 V0)
theorem val4_main_arg14 (V0 : Valuation τ sig (Elt F)) : val4 V0 (no_index (Proc.devRef .tc main_arg14)) = V0 (Proc.devRef .tc main_arg14) :=
  (val4_keep V0 main_arg14 (by decide)).trans (val3_main_arg14 V0)
theorem val4_main_arg15 (V0 : Valuation τ sig (Elt F)) : val4 V0 (no_index (Proc.devRef .tc main_arg15)) = V0 (Proc.devRef .tc main_arg15) :=
  (val4_keep V0 main_arg15 (by decide)).trans (val3_main_arg15 V0)
theorem val4_main_arg16 (V0 : Valuation τ sig (Elt F)) : val4 V0 (no_index (Proc.devRef .tc main_arg16)) = V0 (Proc.devRef .tc main_arg16) :=
  (val4_keep V0 main_arg16 (by decide)).trans (val3_main_arg16 V0)
theorem val4_main_arg17 (V0 : Valuation τ sig (Elt F)) : val4 V0 (no_index (Proc.devRef .tc main_arg17)) = V0 (Proc.devRef .tc main_arg17) :=
  (val4_keep V0 main_arg17 (by decide)).trans (val3_main_arg17 V0)
theorem val4_main_arg18 (V0 : Valuation τ sig (Elt F)) : val4 V0 (no_index (Proc.devRef .tc main_arg18)) = V0 (Proc.devRef .tc main_arg18) :=
  (val4_keep V0 main_arg18 (by decide)).trans (val3_main_arg18 V0)
theorem val4_main_arg19 (V0 : Valuation τ sig (Elt F)) : val4 V0 (no_index (Proc.devRef .tc main_arg19)) = V0 (Proc.devRef .tc main_arg19) :=
  (val4_keep V0 main_arg19 (by decide)).trans (val3_main_arg19 V0)
theorem val4_main_v21 (V0 : Valuation τ sig (Elt F)) : val4 V0 (no_index (Proc.devRef .tc main_v21)) = res_main_v21 V0 :=
  (val4_keep V0 main_v21 (by decide)).trans (val3_main_v21 V0)
theorem val4_main_v57 (V0 : Valuation τ sig (Elt F)) : val4 V0 (no_index (Proc.devRef .tc main_v57)) = Host.divf (broadcastInDim S4096x1 ![] bcast_S_S4096x1 (constant S_ .f32 0x3F800000#32)) (addf (broadcastInDim S4096x1 ![] bcast_S_S4096x1 (constant S_ .f32 0x3F800000#32)) (Host.exp (Host.negf (addf (Host.dotGeneral dot_S4096x384_S384x1_S4096x1_1_0_0_1_n_n none (mulf (res_main_v34 V0) (mulf (broadcastInDim S4096x384 ![] bcast_S_S4096x384 (constant S_ .f32 0x3F000000#32)) (addf (broadcastInDim S4096x384 ![] bcast_S_S4096x384 (constant S_ .f32 0x3F800000#32)) (Host.tanh (mulf (broadcastInDim S4096x384 ![] bcast_S_S4096x384 (constant S_ .f32 0x3F4C422A#32)) (addf (res_main_v34 V0) (mulf (broadcastInDim S4096x384 ![] bcast_S_S4096x384 (constant S_ .f32 0x3D372713#32)) (mulf (mulf (res_main_v34 V0) (res_main_v34 V0)) (res_main_v34 V0))))))))) (V0 (Proc.devRef .tc main_arg14))) (broadcastInDim S4096x1 ![0, 1] bcast_S1x1_S4096x1_0_1 (broadcastInDim S1x1 ![1] bcast_S1_S1x1_1 (V0 (Proc.devRef .tc main_arg15)))))))) :=
  (val4_keep V0 main_v57 (by decide)).trans (val3_main_v57 V0)
theorem val4_main_v84 (V0 : Valuation τ sig (Elt F)) : val4 V0 (no_index (Proc.devRef .tc main_v84)) = Host.divf (broadcastInDim S4096x1 ![] bcast_S_S4096x1 (constant S_ .f32 0x3F800000#32)) (addf (broadcastInDim S4096x1 ![] bcast_S_S4096x1 (constant S_ .f32 0x3F800000#32)) (Host.exp (Host.negf (addf (Host.dotGeneral dot_S4096x384_S384x1_S4096x1_1_0_0_1_n_n none (mulf (res_main_v61 V0) (mulf (broadcastInDim S4096x384 ![] bcast_S_S4096x384 (constant S_ .f32 0x3F000000#32)) (addf (broadcastInDim S4096x384 ![] bcast_S_S4096x384 (constant S_ .f32 0x3F800000#32)) (Host.tanh (mulf (broadcastInDim S4096x384 ![] bcast_S_S4096x384 (constant S_ .f32 0x3F4C422A#32)) (addf (res_main_v61 V0) (mulf (broadcastInDim S4096x384 ![] bcast_S_S4096x384 (constant S_ .f32 0x3D372713#32)) (mulf (mulf (res_main_v61 V0) (res_main_v61 V0)) (res_main_v61 V0))))))))) (V0 (Proc.devRef .tc main_arg18))) (broadcastInDim S4096x1 ![0, 1] bcast_S1x1_S4096x1_0_1 (broadcastInDim S1x1 ![1] bcast_S1_S1x1_1 (V0 (Proc.devRef .tc main_arg19)))))))) :=
  (val4_keep V0 main_v84 (by decide)).trans (val3_main_v84 V0)
theorem val4_main_v94 (V0 : Valuation τ sig (Elt F)) : val4 V0 (no_index (Proc.devRef .tc main_v94)) = res_main_v94 V0 :=
  (val4_keep V0 main_v94 (by decide)).trans (val3_main_v94 V0)
theorem val4_main_v104 (V0 : Valuation τ sig (Elt F)) : val4 V0 (no_index (Proc.devRef .tc main_v104)) = Host.divf (broadcastInDim S4096x1 ![] bcast_S_S4096x1 (constant S_ .f32 0x3F800000#32)) (addf (broadcastInDim S4096x1 ![] bcast_S_S4096x1 (constant S_ .f32 0x3F800000#32)) (Host.exp (Host.negf (Host.divf (subf (Host.divf (broadcastInDim S4096x1 ![] bcast_S_S4096x1 (constant S_ .f32 0x3F800000#32)) (addf (broadcastInDim S4096x1 ![] bcast_S_S4096x1 (constant S_ .f32 0x3F800000#32)) (Host.exp (Host.negf (addf (Host.dotGeneral dot_S4096x384_S384x1_S4096x1_1_0_0_1_n_n none (mulf (res_main_v61 V0) (mulf (broadcastInDim S4096x384 ![] bcast_S_S4096x384 (constant S_ .f32 0x3F000000#32)) (addf (broadcastInDim S4096x384 ![] bcast_S_S4096x384 (constant S_ .f32 0x3F800000#32)) (Host.tanh (mulf (broadcastInDim S4096x384 ![] bcast_S_S4096x384 (constant S_ .f32 0x3F4C422A#32)) (addf (res_main_v61 V0) (mulf (broadcastInDim S4096x384 ![] bcast_S_S4096x384 (constant S_ .f32 0x3D372713#32)) (mulf (mulf (res_main_v61 V0) (res_main_v61 V0)) (res_main_v61 V0))))))))) (V0 (Proc.devRef .tc main_arg18))) (broadcastInDim S4096x1 ![0, 1] bcast_S1x1_S4096x1_0_1 (broadcastInDim S1x1 ![1] bcast_S1_S1x1_1 (V0 (Proc.devRef .tc main_arg19))))))))) (broadcastInDim S4096x1 ![] bcast_S_S4096x1 (constant S_ .f32 0x3F19999A#32))) (broadcastInDim S4096x1 ![] bcast_S_S4096x1 (constant S_ .f32 0x3E800000#32)))))) :=
  (val4_keep V0 main_v104 (by decide)).trans (val3_main_v104 V0)
theorem val4_main_v138 (V0 : Valuation τ sig (Elt F)) : val4 V0 (no_index (Proc.devRef .tc main_v138)) = addf (mulf (broadcastInDim S4096x32x256 ![0, 1, 2] bcast_S4096x32x1_S4096x32x256_0_1_2 (res_main_v131 V0)) (V0 (Proc.devRef .tc main_arg2))) (mulf (broadcastInDim S4096x32x256 ![0, 1, 2] bcast_S4096x32x1_S4096x32x256_0_1_2 (res_main_v128 V0)) (broadcastInDim S4096x32x256 ![0, 1, 2] bcast_S4096x1x256_S4096x32x256_0_1_2 (broadcastInDim S4096x1x256 ![0, 2] bcast_S4096x256_S4096x1x256_0_2 (res_main_v21 V0)))) :=
  (val4_keep V0 main_v138 (by decide)).trans (val3_main_v138 V0)
theorem val4_main_v145 (V0 : Valuation τ sig (Elt F)) : val4 V0 (no_index (Proc.devRef .tc main_v145)) = addf (mulf (res_main_v131 V0) (mulf (V0 (Proc.devRef .tc main_arg3)) (broadcastInDim S4096x32x1 ![] bcast_S_S4096x32x1 (constant S_ .f32 0x3F7EB852#32)))) (mulf (res_main_v128 V0) (broadcastInDim S4096x32x1 ![0, 1, 2] bcast_S4096x1x1_S4096x32x1_0_1_2 (broadcastInDim S4096x1x1 ![0, 2] bcast_S4096x1_S4096x1x1_0_2 (res_main_v94 V0)))) :=
  (val4_keep V0 main_v145 (by decide)).trans (val3_main_v145 V0)
set_option maxRecDepth 8192 in
set_option maxHeartbeats 2000000 in
theorem val4_main_v149 (V0 : Valuation τ sig (Elt F)) : val4 V0 (no_index (Proc.devRef .tc main_v149)) = addf (mulf (res_main_v131 V0) (mulf (V0 (Proc.devRef .tc main_arg4)) (broadcastInDim S4096x32x1 ![] bcast_S_S4096x32x1 (constant S_ .f32 0x3F7EB852#32)))) (res_main_v128 V0) := by
  unfold val4
  simp only [ops_part3, TRef.binary, TRef.unary, TRef.toBuf, TRef.ofBuf, cast_eq]
  after_results_simp
  try dsimp only [Matrix.cons_val]
  try after_results_simp
  simp only [val3_main_v128, val3_main_arg4, val3_main_v131] <;> rfl
set_option maxRecDepth 8192 in
set_option maxHeartbeats 2000000 in
theorem val4_main_v154 (V0 : Valuation τ sig (Elt F)) : val4 V0 (no_index (Proc.devRef .tc main_v154)) = addf (mulf (res_main_v131 V0) (V0 (Proc.devRef .tc main_arg5))) (mulf (res_main_v128 V0) (broadcastInDim S4096x32x1 ![0, 1, 2] bcast_S4096x1x1_S4096x32x1_0_1_2 (broadcastInDim S4096x1x1 ![0, 2] bcast_S4096x1_S4096x1x1_0_2 (Host.divf (broadcastInDim S4096x1 ![] bcast_S_S4096x1 (constant S_ .f32 0x3F800000#32)) (addf (broadcastInDim S4096x1 ![] bcast_S_S4096x1 (constant S_ .f32 0x3F800000#32)) (Host.exp (Host.negf (Host.divf (subf (Host.divf (broadcastInDim S4096x1 ![] bcast_S_S4096x1 (constant S_ .f32 0x3F800000#32)) (addf (broadcastInDim S4096x1 ![] bcast_S_S4096x1 (constant S_ .f32 0x3F800000#32)) (Host.exp (Host.negf (addf (Host.dotGeneral dot_S4096x384_S384x1_S4096x1_1_0_0_1_n_n none (mulf (res_main_v61 V0) (mulf (broadcastInDim S4096x384 ![] bcast_S_S4096x384 (constant S_ .f32 0x3F000000#32)) (addf (broadcastInDim S4096x384 ![] bcast_S_S4096x384 (constant S_ .f32 0x3F800000#32)) (Host.tanh (mulf (broadcastInDim S4096x384 ![] bcast_S_S4096x384 (constant S_ .f32 0x3F4C422A#32)) (addf (res_main_v61 V0) (mulf (broadcastInDim S4096x384 ![] bcast_S_S4096x384 (constant S_ .f32 0x3D372713#32)) (mulf (mulf (res_main_v61 V0) (res_main_v61 V0)) (res_main_v61 V0))))))))) (V0 (Proc.devRef .tc main_arg18))) (broadcastInDim S4096x1 ![0, 1] bcast_S1x1_S4096x1_0_1 (broadcastInDim S1x1 ![1] bcast_S1_S1x1_1 (V0 (Proc.devRef .tc main_arg19))))))))) (broadcastInDim S4096x1 ![] bcast_S_S4096x1 (constant S_ .f32 0x3F19999A#32))) (broadcastInDim S4096x1 ![] bcast_S_S4096x1 (constant S_ .f32 0x3E800000#32)))))))))) := by
  unfold val4
  simp only [ops_part3, TRef.binary, TRef.unary, TRef.toBuf, TRef.ofBuf, cast_eq]
  after_results_simp
  try dsimp only [Matrix.cons_val]
  try after_results_simp
  simp only [val3_main_v104, val3_main_v128, val3_main_arg5, val3_main_v131] <;> rfl
set_option maxRecDepth 8192 in
set_option maxHeartbeats 2000000 in
theorem val4_main_v157 (V0 : Valuation τ sig (Elt F)) : val4 V0 (no_index (Proc.devRef .tc main_v157)) = minimumf (broadcastInDim S4096x32x1 ![] bcast_S_S4096x32x1 (id (constant S_ .f32 0x3F800000#32))) (maximumf (broadcastInDim S4096x32x1 ![] bcast_S_S4096x32x1 (id (constant S_ .f32 0x00000000#32))) (addf (mulf (res_main_v131 V0) (V0 (Proc.devRef .tc main_arg6))) (res_main_v128 V0))) := by
  unfold val4
  simp only [ops_part3, TRef.binary, TRef.unary, TRef.toBuf, TRef.ofBuf, cast_eq]
  after_results_simp
  try dsimp only [Matrix.cons_val]
  try after_results_simp
  simp only [val3_main_v128, val3_main_arg6, val3_main_v131] <;> rfl
set_option maxRecDepth 8192 in
set_option maxHeartbeats 2000000 in
theorem val4_main_v161 (V0 : Valuation τ sig (Elt F)) : val4 V0 (no_index (Proc.devRef .tc main_v161)) = (concatenate S4096x32x6 2 [⟨S4096x32x1, ((addf (mulf (res_main_v131 V0) (mulf (V0 (Proc.devRef .tc main_arg3)) (broadcastInDim S4096x32x1 ![] bcast_S_S4096x32x1 (constant S_ .f32 0x3F7EB852#32)))) (mulf (res_main_v128 V0) (broadcastInDim S4096x32x1 ![0, 1, 2] bcast_S4096x1x1_S4096x32x1_0_1_2 (broadcastInDim S4096x1x1 ![0, 2] bcast_S4096x1_S4096x1x1_0_2 (res_main_v94 V0))))) : (⟨S4096x32x1, .f32⟩ : BufTy).Contents (Elt F))⟩, ⟨S4096x32x1, ((addf (mulf (res_main_v131 V0) (mulf (V0 (Proc.devRef .tc main_arg4)) (broadcastInDim S4096x32x1 ![] bcast_S_S4096x32x1 (constant S_ .f32 0x3F7EB852#32)))) (res_main_v128 V0)) : (⟨S4096x32x1, .f32⟩ : BufTy).Contents (Elt F))⟩, ⟨S4096x32x1, ((addf (mulf (res_main_v131 V0) (V0 (Proc.devRef .tc main_arg5))) (mulf (res_main_v128 V0) (broadcastInDim S4096x32x1 ![0, 1, 2] bcast_S4096x1x1_S4096x32x1_0_1_2 (broadcastInDim S4096x1x1 ![0, 2] bcast_S4096x1_S4096x1x1_0_2 (Host.divf (broadcastInDim S4096x1 ![] bcast_S_S4096x1 (constant S_ .f32 0x3F800000#32)) (addf (broadcastInDim S4096x1 ![] bcast_S_S4096x1 (constant S_ .f32 0x3F800000#32)) (Host.exp (Host.negf (Host.divf (subf (Host.divf (broadcastInDim S4096x1 ![] bcast_S_S4096x1 (constant S_ .f32 0x3F800000#32)) (addf (broadcastInDim S4096x1 ![] bcast_S_S4096x1 (constant S_ .f32 0x3F800000#32)) (Host.exp (Host.negf (addf (Host.dotGeneral dot_S4096x384_S384x1_S4096x1_1_0_0_1_n_n none (mulf (res_main_v61 V0) (mulf (broadcastInDim S4096x384 ![] bcast_S_S4096x384 (constant S_ .f32 0x3F000000#32)) (addf (broadcastInDim S4096x384 ![] bcast_S_S4096x384 (constant S_ .f32 0x3F800000#32)) (Host.tanh (mulf (broadcastInDim S4096x384 ![] bcast_S_S4096x384 (constant S_ .f32 0x3F4C422A#32)) (addf (res_main_v61 V0) (mulf (broadcastInDim S4096x384 ![] bcast_S_S4096x384 (constant S_ .f32 0x3D372713#32)) (mulf (mulf (res_main_v61 V0) (res_main_v61 V0)) (res_main_v61 V0))))))))) (V0 (Proc.devRef .tc main_arg18))) (broadcastInDim S4096x1 ![0, 1] bcast_S1x1_S4096x1_0_1 (broadcastInDim S1x1 ![1] bcast_S1_S1x1_1 (V0 (Proc.devRef .tc main_arg19))))))))) (broadcastInDim S4096x1 ![] bcast_S_S4096x1 (constant S_ .f32 0x3F19999A#32))) (broadcastInDim S4096x1 ![] bcast_S_S4096x1 (constant S_ .f32 0x3E800000#32))))))))))) : (⟨S4096x32x1, .f32⟩ : BufTy).Contents (Elt F))⟩, ⟨S4096x32x1, ((minimumf (broadcastInDim S4096x32x1 ![] bcast_S_S4096x32x1 (id (constant S_ .f32 0x3F800000#32))) (maximumf (broadcastInDim S4096x32x1 ![] bcast_S_S4096x32x1 (id (constant S_ .f32 0x00000000#32))) (addf (mulf (res_main_v131 V0) (V0 (Proc.devRef .tc main_arg6))) (res_main_v128 V0)))) : (⟨S4096x32x1, .f32⟩ : BufTy).Contents (Elt F))⟩, ⟨S4096x32x2, ((extractStridedSlice S4096x32x2 ![0, 0, 4] (mulf (broadcastInDim S4096x32x6 ![0, 1, 2] bcast_S4096x32x1_S4096x32x6_0_1_2 (res_main_v131 V0)) (V0 (Proc.devRef .tc main_arg7))) slices_S4096x32x6_S4096x32x2_0_0_4) : (⟨S4096x32x2, .f32⟩ : BufTy).Contents (Elt F))⟩] concatenates_S4096x32x1_S4096x32x1_S4096x32x1_S4096x32x1_S4096x32x2_S4096x32x6_d2 : (⟨S4096x32x6, .f32⟩ : BufTy).Contents (Elt F)) := by
  unfold val4
  simp only [ops_part3, TRef.binary, TRef.unary, TRef.toBuf, TRef.ofBuf, cast_eq]
  after_results_simp
  try dsimp only [Matrix.cons_val]
  try after_results_simp
  simp only [val3_main_arg7, val3_main_v131, val3_main_v128, val3_main_arg6, val3_main_v104, val3_main_arg5, val3_main_arg4, val3_main_v145] <;> rfl

theorem after_ops (V0 : Valuation τ sig (Elt F)) : after ops V0 = val4 V0 := by
  simp only [ops, ops_part0, ops_part2, after_append]
  rfl

/-- Every run ends, with every buffer at what the operations left there, and every cell at zero. -/
theorem run (m : (ℓ : Loc nD τ sig) → Buf (Elt F) ℓ) (ρ : Dev nD → PrngReg) :
    θ_run defs (onTc (τ := τ) (main (F := F))) ⟨m, fun _ => 0, ρ⟩ fun r =>
      (∀ (c : Dev nD) (b : Ref sig .tc), r.2.mem ((c.tc : Thread nD τ).loc b) = val4 (launchContents m c) (Proc.devRef .tc b))
      ∧ r.2.sem = fun _ => 0 :=
  (θ_run defs _ _).mono (fun r h => ⟨fun c b => (h c b).trans (congrFun (after_ops (launchContents m c)) (Proc.devRef .tc b)),
      sem_eq_zero_of_no_sems rfl r.2⟩)
    (run_seq scopedRefs_eq scopedSems_eq defs main (fun _ => ops) main_eq (fun _ => ops_sub) m ρ fun _ => ops_fresh)

/-- The run leaves every argument as it was, and every cell at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19))
      ∧ r.2.sem = fun _ => 0) :=
  (θ_run defs _ _).mono (fun r h => ⟨fun c => ⟨(h.1 c main_arg0).trans (val4_main_arg0 (launchContents m c)),
      (h.1 c main_arg1).trans (val4_main_arg1 (launchContents m c)),
      (h.1 c main_arg2).trans (val4_main_arg2 (launchContents m c)),
      (h.1 c main_arg3).trans (val4_main_arg3 (launchContents m c)),
      (h.1 c main_arg4).trans (val4_main_arg4 (launchContents m c)),
      (h.1 c main_arg5).trans (val4_main_arg5 (launchContents m c)),
      (h.1 c main_arg6).trans (val4_main_arg6 (launchContents m c)),
      (h.1 c main_arg7).trans (val4_main_arg7 (launchContents m c)),
      (h.1 c main_arg8).trans (val4_main_arg8 (launchContents m c)),
      (h.1 c main_arg9).trans (val4_main_arg9 (launchContents m c)),
      (h.1 c main_arg10).trans (val4_main_arg10 (launchContents m c)),
      (h.1 c main_arg11).trans (val4_main_arg11 (launchContents m c)),
      (h.1 c main_arg12).trans (val4_main_arg12 (launchContents m c)),
      (h.1 c main_arg13).trans (val4_main_arg13 (launchContents m c)),
      (h.1 c main_arg14).trans (val4_main_arg14 (launchContents m c)),
      (h.1 c main_arg15).trans (val4_main_arg15 (launchContents m c)),
      (h.1 c main_arg16).trans (val4_main_arg16 (launchContents m c)),
      (h.1 c main_arg17).trans (val4_main_arg17 (launchContents m c)),
      (h.1 c main_arg18).trans (val4_main_arg18 (launchContents m c)),
      (h.1 c main_arg19).trans (val4_main_arg19 (launchContents m c))⟩, h.2⟩) (run m ρ)

end Cert.ReferenceIdeal.Hand

end
-- ==== Proof.Val.Spec.lean ====
/-
  What a row of the ledger's write step comes to: the candidate, the two probabilities and the two masks, each as plain
  sums over the arguments, and the facts about sums that the two programs' readings of them need.
-/
module

public import Idealize.ShloMosaic.Lib.Pointwise

@[expose] public section

noncomputable section

namespace Cert.Spec

open Idealize.ShloMosaic

/-- The arguments that the five results read, each as a function of its coordinates. -/
structure Args where
  ws : Fin 4096 → Fin 256 → EReal
  slow : Fin 4096 → Fin 768 → EReal
  vals : Fin 4096 → Fin 32 → Fin 256 → EReal
  conf : Fin 4096 → Fin 32 → EReal
  expi : Fin 4096 → Fin 32 → EReal
  contr : Fin 4096 → Fin 32 → EReal
  alive : Fin 4096 → Fin 32 → EReal
  md : Fin 4096 → Fin 32 → Fin 6 → EReal
  W1 : Fin 1024 → Fin 512 → EReal
  b1 : Fin 512 → EReal
  W2 : Fin 512 → Fin 256 → EReal
  b2 : Fin 256 → EReal
  Wg1 : Fin 1286 → Fin 384 → EReal
  bg1 : Fin 384 → EReal
  Wg2 : Fin 384 → EReal
  bg2 : EReal
  Wc1 : Fin 1286 → Fin 384 → EReal
  bc1 : Fin 384 → EReal
  Wc2 : Fin 384 → EReal
  bc2 : EReal

/-- The tanh form of the gelu. -/
def gelu (x : EReal) : EReal :=
  x * (Ideal.ofBits .f32 1056964608#32 * (1 + Ideal.tanh (Ideal.ofBits .f32 1061962282#32 *
    (x + Ideal.ofBits .f32 1027024659#32 * (x * x * x)))))

/-- The logistic function. -/
def sigm (x : EReal) : EReal := Ideal.div 1 (1 + Ideal.exp (-x))

variable (A : Args)

/-- The row's context against one column of a weight that starts with the context's rows. -/
def ctxDot {n : ℕ} (hn : 1024 ≤ n) (W : Fin n → EReal) (i : Fin 4096) : EReal :=
  (∑ x : Fin 256, A.ws i x * W ⟨x.val, by omega⟩) + ∑ x : Fin 768, A.slow i x * W ⟨256 + x.val, by omega⟩

/-- The candidate's hidden layer before the gelu, -/
def hpre (i : Fin 4096) (j : Fin 512) : EReal := ctxDot A le_rfl (fun k => A.W1 k j) i + A.b1 j
/-- and the candidate. -/
def cand (i : Fin 4096) (j : Fin 256) : EReal := (∑ x, gelu (hpre A i x) * A.W2 x j) + A.b2 j

/-- A slot's weight in the summary, -/
def wt (i : Fin 4096) (k : Fin 32) : EReal := A.alive i k * A.conf i k
/-- and a column's weighted mean, the weights' sum kept from below by one. -/
def msum (i : Fin 4096) (d : Fin 6) : EReal := Ideal.div (∑ k, A.md i k d * wt A i k) (max 1 (∑ k, wt A i k))

/-- A gate's hidden layer before the gelu, -/
def gpre (W : Fin 1286 → Fin 384 → EReal) (b : Fin 384 → EReal) (i : Fin 4096) (j : Fin 384) : EReal :=
  ctxDot A (by omega) (fun k => W k j) i
    + ((∑ x : Fin 256, cand A i x * W ⟨1024 + x.val, by omega⟩ j) + ∑ d : Fin 6, msum A i d * W ⟨1280 + d.val, by omega⟩ j) + b j
/-- and its probability. -/
def prob (W : Fin 1286 → Fin 384 → EReal) (b : Fin 384 → EReal) (w : Fin 384 → EReal) (v : EReal) (i : Fin 4096) : EReal :=
  sigm ((∑ x, gelu (gpre A W b i x) * w x) + v)

/-- The write's probability, the contradiction's, and the two masks. -/
def wp (i : Fin 4096) : EReal := prob A A.Wg1 A.bg1 A.Wg2 A.bg2 i
def cp (i : Fin 4096) : EReal := prob A A.Wc1 A.bc1 A.Wc2 A.bc2 i
def wm (i : Fin 4096) : EReal := sigm (Ideal.div (wp A i - Ideal.ofBits .f32 1057803469#32) (Ideal.ofBits .f32 1048576000#32))
def cm (i : Fin 4096) : EReal := sigm (Ideal.div (cp A i - Ideal.ofBits .f32 1058642330#32) (Ideal.ofBits .f32 1048576000#32))

theorem logistic_eq (x : EReal) : Ideal.logistic x = sigm x := rfl

/-- The gelu with its cube taken the other way round. -/
theorem gelu_cube (x : EReal) : x * (Ideal.ofBits .f32 1056964608#32 * (1 + Ideal.tanh (Ideal.ofBits .f32 1061962282#32 *
    (x + Ideal.ofBits .f32 1027024659#32 * (x * (x * x)))))) = gelu x := by rw [gelu, mul_assoc x x x]

/-- A sum over the slow summary's 768 columns by thirds. -/
theorem sum_thirds (f : Fin 768 → EReal) : (∑ x : Fin 256, f ⟨x.val, by omega⟩) + (∑ x : Fin 256, f ⟨256 + x.val, by omega⟩)
    + (∑ x : Fin 256, f ⟨512 + x.val, by omega⟩) = ∑ x, f x := by
  rw [Fin.sum_univ_add (a := 512) (b := 256) f, Fin.sum_univ_add (a := 256) (b := 256) (fun x => f (Fin.castAdd 256 x))]
  rfl

/-- A sum over the gate's 1286 columns: the context's, the candidate's, the summary's. -/
theorem sum_gate (f : Fin 1286 → EReal) : ∑ x, f x = ((∑ x : Fin 256, f ⟨x.val, by omega⟩) + ∑ x : Fin 768, f ⟨256 + x.val, by omega⟩)
    + ((∑ x : Fin 256, f ⟨1024 + x.val, by omega⟩) + ∑ x : Fin 6, f ⟨1280 + x.val, by omega⟩) := by
  rw [Fin.sum_univ_add (a := 1280) (b := 6) f, Fin.sum_univ_add (a := 1024) (b := 256) (fun x => f (Fin.castAdd 6 x)),
    Fin.sum_univ_add (a := 256) (b := 768) (fun x => f (Fin.castAdd 6 (Fin.castAdd 256 x))), add_assoc (_ + _)]
  rfl

/-- A sum of eight whose last two terms are zero. -/
theorem sum_pad (f : Fin 8 → EReal) (h6 : f 6 = 0) (h7 : f 7 = 0) : ∑ x, f x = ∑ x : Fin 6, f ⟨x.val, by omega⟩ := by
  rw [Fin.sum_univ_add (a := 6) (b := 2) f]
  have e : ∑ i : Fin 2, f (Fin.natAdd 6 i) = 0 := by
    rw [Fin.sum_univ_two]; exact (congrArg₂ (· + ·) h6 h7).trans (add_zero 0)
  rw [e, add_zero]
  rfl

end Cert.Spec
-- ==== Proof.Val.K.lean ====
/-
  The body's candidate and the four numbers of its rows, at any grid point, as the row's plain sums over the arguments.
-/
module

public import proofs.«01_k».proof.Proof.KernI.Out
public import proofs.«01_k».proof.Proof.Val.Spec

@[expose] public section

set_option maxRecDepth 16384

noncomputable section

namespace Cert.KernelIdeal.Hand

open Cert.KernelIdeal Cert.KernelIdeal.Gen Cert.Spec
open Idealize.ShloMosaic Idealize.ShloMosaic.TcCoe

/-- The point's `r`-th row in the whole array. -/
def row (t : Fin cfg0.N) (r : Fin 128) : Fin 4096 := ⟨t.val * 128 + r.val, by have := t.isLt; have h : cfg0.N = 32 := N_0; omega⟩

/-- The input blocks hold the arguments: the rows' arrays whole, the weights by bands of 256 rows. -/
structure Reads (A : Args) (X : In Ideal) : Prop where
  x1 : ∀ i k, X.x1 (ix2 i k) = A.ws i k
  x2 : ∀ i k, X.x2 (ix2 i k) = A.slow i k
  x4 : ∀ i k, X.x4 (ix2 i k) = A.conf i k
  x5 : ∀ i k, X.x5 (ix2 i k) = A.expi i k
  x6 : ∀ i k, X.x6 (ix2 i k) = A.contr i k
  x7 : ∀ i k, X.x7 (ix2 i k) = A.alive i k
  x8 : ∀ i k, X.x8 (ix2 i k) = A.md i k 0
  x9 : ∀ i k, X.x9 (ix2 i k) = A.md i k 1
  x10 : ∀ i k, X.x10 (ix2 i k) = A.md i k 2
  x11 : ∀ i k, X.x11 (ix2 i k) = A.md i k 3
  x12 : ∀ i k, X.x12 (ix2 i k) = A.md i k 4
  x13 : ∀ i k, X.x13 (ix2 i k) = A.md i k 5
  x14 : ∀ (k : Fin 256) j, X.x14 (ix2 k j) = A.W1 ⟨k.val, by omega⟩ j
  x15 : ∀ (k : Fin 256) j, X.x15 (ix2 k j) = A.W1 ⟨256 + k.val, by omega⟩ j
  x16 : ∀ (k : Fin 256) j, X.x16 (ix2 k j) = A.W1 ⟨256 + (256 + k.val), by omega⟩ j
  x17 : ∀ (k : Fin 256) j, X.x17 (ix2 k j) = A.W1 ⟨256 + (512 + k.val), by omega⟩ j
  x18 : ∀ j, X.x18 (ix2 0 j) = A.b1 j
  x19 : ∀ k j, X.x19 (ix2 k j) = A.W2 k j
  x20 : ∀ j, X.x20 (ix2 0 j) = A.b2 j
  x21 : ∀ (k : Fin 256) j, X.x21 (ix2 k j) = A.Wg1 ⟨k.val, by omega⟩ j
  x22 : ∀ (k : Fin 256) j, X.x22 (ix2 k j) = A.Wg1 ⟨256 + k.val, by omega⟩ j
  x23 : ∀ (k : Fin 256) j, X.x23 (ix2 k j) = A.Wg1 ⟨256 + (256 + k.val), by omega⟩ j
  x24 : ∀ (k : Fin 256) j, X.x24 (ix2 k j) = A.Wg1 ⟨256 + (512 + k.val), by omega⟩ j
  x25 : ∀ (k : Fin 256) j, X.x25 (ix2 k j) = A.Wg1 ⟨1024 + k.val, by omega⟩ j
  x26 : ∀ (k : Fin 6) j, X.x26 (ix2 ⟨k.val, by omega⟩ j) = A.Wg1 ⟨1280 + k.val, by omega⟩ j
  x26z : ∀ (k : Fin 8) j, 6 ≤ k.val → X.x26 (ix2 k j) = (0 : EReal)
  x27 : ∀ j, X.x27 (ix2 0 j) = A.bg1 j
  x28 : ∀ j, X.x28 (ix2 0 j) = A.Wg2 j
  x29 : X.x29 (ix2 0 0) = A.bg2
  x30 : ∀ (k : Fin 256) j, X.x30 (ix2 k j) = A.Wc1 ⟨k.val, by omega⟩ j
  x31 : ∀ (k : Fin 256) j, X.x31 (ix2 k j) = A.Wc1 ⟨256 + k.val, by omega⟩ j
  x32 : ∀ (k : Fin 256) j, X.x32 (ix2 k j) = A.Wc1 ⟨256 + (256 + k.val), by omega⟩ j
  x33 : ∀ (k : Fin 256) j, X.x33 (ix2 k j) = A.Wc1 ⟨256 + (512 + k.val), by omega⟩ j
  x34 : ∀ (k : Fin 256) j, X.x34 (ix2 k j) = A.Wc1 ⟨1024 + k.val, by omega⟩ j
  x35 : ∀ (k : Fin 6) j, X.x35 (ix2 ⟨k.val, by omega⟩ j) = A.Wc1 ⟨1280 + k.val, by omega⟩ j
  x35z : ∀ (k : Fin 8) j, 6 ≤ k.val → X.x35 (ix2 k j) = (0 : EReal)
  x36 : ∀ j, X.x36 (ix2 0 j) = A.bc1 j
  x37 : ∀ j, X.x37 (ix2 0 j) = A.Wc2 j
  x38 : X.x38 (ix2 0 0) = A.bc2

/-- The first row of a point's block, as the body computes it. -/
theorem first_row (t : Fin cfg0.N) :
    BitVec.toNat (Scalar.indexCast (Scalar.muli (BitVec.ofNat 32 ↑(grid0.coords t 0)) 128#32)) = t.val * 128 := by
  revert t; decide +kernel

section Loads
variable (X : In Ideal) (t : Fin cfg0.N) (r : Fin 128)
theorem v5_at (j : Fin 256) : v5 X t (ix2 r j) = X.x1 (ix2 (row t r) j) := by
  unfold v5 row; pointwise [k0_off1]; simp only [first_row]
theorem v7_at (j : Fin 768) : v7 X t (ix2 r j) = X.x2 (ix2 (row t r) j) := by
  unfold v7 row; pointwise [k0_off2]; simp only [first_row]
theorem v55_at (j : Fin 32) : v55 X t (ix2 r j) = X.x4 (ix2 (row t r) j) := by
  unfold v55 row; pointwise [k0_off3]; simp only [first_row]
theorem v58_at (j : Fin 32) : v58 X t (ix2 r j) = X.x7 (ix2 (row t r) j) := by
  unfold v58 row; pointwise [k0_off3]; simp only [first_row]
theorem v73_at (j : Fin 32) : v73 X t (ix2 r j) = X.x8 (ix2 (row t r) j) := by
  unfold v73 v72 row; pointwise [k0_off3, k0_pay17]; simp only [first_row]
theorem v76_at (j : Fin 32) : v76 X t (ix2 r j) = X.x9 (ix2 (row t r) j) := by
  unfold v76 v75 row; pointwise [k0_off3, k0_pay18]; simp only [first_row]
theorem v79_at (j : Fin 32) : v79 X t (ix2 r j) = X.x10 (ix2 (row t r) j) := by
  unfold v79 v78 row; pointwise [k0_off3, k0_pay19]; simp only [first_row]
theorem v81_at (j : Fin 32) : v81 X t (ix2 r j) = X.x11 (ix2 (row t r) j) := by
  unfold v81 row; pointwise [k0_off3]; simp only [first_row]
theorem v67_at (j : Fin 32) : v67 X t (ix2 r j) = X.x12 (ix2 (row t r) j) := by
  unfold v67 v66 row; pointwise [k0_off3, k0_pay15]; simp only [first_row]
theorem v70_at (j : Fin 32) : v70 X t (ix2 r j) = X.x13 (ix2 (row t r) j) := by
  unfold v70 v69 row; pointwise [k0_off3, k0_pay16]; simp only [first_row]
end Loads

variable {A : Args} {X : In Ideal} (H : Reads A X) (t : Fin cfg0.N) (r : Fin 128)
include H

theorem v31_at (j : Fin 512) : v31 X t (ix2 r j) = hpre A (row t r) j := by
  unfold v31 k0_pay7 v13 v16 v20 v24 v28
  pointwise [k0_pay2, k0_pay4, k0_pay5, k0_pay6, k0_pay3]
  simp only [v5_at, v7_at, H.x1, H.x2, H.x14, H.x15, H.x16, H.x17, H.x18]
  unfold hpre ctxDot
  rw [← sum_thirds]
  simp only [add_assoc]

theorem v52_at (j : Fin 256) : v52 X t (ix2 r j) = cand A (row t r) j := by
  unfold v52 v36 k0_pay9 k0_pay8 v46 v49
  pointwise
  simp only [show k0_pay7 (v5 X t) (v7 X t) (v13 X t) (v16 X t) (v20 X t) (v24 X t) (v28 X t) = v31 X t from rfl, v31_at H, H.x19, H.x20]
  simp only [gelu_cube]
  rfl

theorem v53_at (j : Fin 256) : v53 X t (ix2 r j) = cand A (row t r) j := v52_at H t r j

theorem v105_at (d : Fin 6) : v105 X t (ix2 r ⟨d.val, by omega⟩) = msum A (row t r) d := by
  unfold v105 v64 v60 k0_pay20 k0_pay14
  pointwise [k0_pay11, k0_pay12, k0_pay13]
  simp only [v55_at, v58_at, v73_at, v76_at, v79_at, v81_at, v67_at, v70_at, H.x4, H.x7, H.x8, H.x9, H.x10, H.x11, H.x12, H.x13]
  unfold msum wt
  rw [max_comm]
  fin_cases d <;> rfl

/-- The gate's hidden layer as the body adds it up. -/
theorem gate_sum {W : Fin 1286 → Fin 384 → EReal} {b : Fin 384 → EReal} {y : Fin 384} (i : Fin 4096) (s : Fin 8 → EReal)
    (z : Fin 8 → EReal) (hs : ∀ d : Fin 6, s ⟨d.val, by omega⟩ = msum A i d)
    (hz : ∀ d : Fin 6, z ⟨d.val, by omega⟩ = W ⟨1280 + d.val, by omega⟩ y) (h6 : z 6 = 0) (h7 : z 7 = 0) :
    (∑ x : Fin 256, A.ws i x * W ⟨x.val, by omega⟩ y) + (∑ x : Fin 256, A.slow i ⟨x.val, by omega⟩ * W ⟨256 + x.val, by omega⟩ y)
      + (∑ x : Fin 256, A.slow i ⟨256 + x.val, by omega⟩ * W ⟨256 + (256 + x.val), by omega⟩ y)
      + (∑ x : Fin 256, A.slow i ⟨512 + x.val, by omega⟩ * W ⟨256 + (512 + x.val), by omega⟩ y)
      + (∑ x : Fin 256, cand A i x * W ⟨1024 + x.val, by omega⟩ y) + (∑ x, s x * z x) + b y = gpre A W b i y := by
  rw [sum_pad (fun x => s x * z x) (by simp only [h6, mul_zero]) (by simp only [h7, mul_zero])]
  unfold gpre ctxDot
  rw [← sum_thirds]
  simp only [hs, hz, add_assoc]

theorem v156_at : v156 X t (ix2 r 0) = wp A (row t r) := by
  unfold v156 v120 v8 v10 v11 v12 k0_pay22 k0_pay21 v106 v109 v113 v117 v121 v129 v146 v152
  pointwise [k0_pay2, k0_pay3, k0_pay4, k0_pay5, k0_pay6]
  simp only [v5_at, v7_at, v53_at H, H.x1, H.x2, H.x21, H.x22, H.x23, H.x24, H.x25, H.x27, H.x28, H.x29, gelu_cube, logistic_eq]
  unfold wp prob
  refine congrArg sigm (congrArg (· + _) (Finset.sum_congr rfl fun y _ => congrArg (gelu · * _) ?_))
  refine gate_sum H (row t r) (fun d => v105 X t (ix2 r d)) (fun d => v125 X t (ix2 d y)) (v105_at H t r) (fun d => ?_) ?_ ?_
  · exact (by unfold v125; pointwise : v125 X t (ix2 _ y) = X.x26 (ix2 _ y)).trans (H.x26 d y)
  · exact (by unfold v125; pointwise : v125 X t (ix2 _ y) = X.x26 (ix2 _ y)).trans (H.x26z 6 y (by decide))
  · exact (by unfold v125; pointwise : v125 X t (ix2 _ y) = X.x26 (ix2 _ y)).trans (H.x26z 7 y (by decide))

theorem v207_at : v207 X t (ix2 r 0) = cp A (row t r) := by
  unfold v207 v196 v159 v8 v10 v11 v12 k0_pay25 k0_pay24 k0_pay23 v157 v160 v164 v168 v172 v180 v197 v203
  pointwise [k0_pay2, k0_pay3, k0_pay4, k0_pay5, k0_pay6]
  simp only [v5_at, v7_at, v53_at H, H.x1, H.x2, H.x30, H.x31, H.x32, H.x33, H.x34, H.x36, H.x37, H.x38, gelu_cube, logistic_eq]
  unfold cp prob
  refine congrArg sigm (congrArg (· + _) (Finset.sum_congr rfl fun y _ => congrArg (gelu · * _) ?_))
  refine gate_sum H (row t r) (fun d => v105 X t (ix2 r d)) (fun d => v176 X t (ix2 d y)) (v105_at H t r) (fun d => ?_) ?_ ?_
  · exact (by unfold v176; pointwise : v176 X t (ix2 _ y) = X.x35 (ix2 _ y)).trans (H.x35 d y)
  · exact (by unfold v176; pointwise : v176 X t (ix2 _ y) = X.x35 (ix2 _ y)).trans (H.x35z 6 y (by decide))
  · exact (by unfold v176; pointwise : v176 X t (ix2 _ y) = X.x35 (ix2 _ y)).trans (H.x35z 7 y (by decide))

theorem v212_at : v212 X t (ix2 r 0) = wm A (row t r) := by
  unfold v212 k0_pay26; pointwise; rw [v156_at H]; rfl
theorem v217_at : v217 X t (ix2 r 0) = cm A (row t r) := by
  unfold v217 k0_pay27; pointwise
  rw [show k0_pay25 (v196 X t) (v197 X t) (v203 X t) = v207 X t from rfl, v207_at H]; rfl

/-- The four numbers of a row. -/
theorem outPr_at (j : Fin 4) : outPr X t (ix2 r j) = ![wp A (row t r), cp A (row t r), wm A (row t r), cm A (row t r)] j := by
  unfold outPr k0_pay43
  pointwise
  fin_cases j
  · exact v156_at H t r
  · exact v207_at H t r
  · exact v212_at H t r
  · exact v217_at H t r

end Cert.KernelIdeal.Hand
-- ==== Proof.Val.In.lean ====
/-
  What the launch's host prefix leaves in the arrays the windows read, and what each window's block is of them: together,
  the body's inputs at any point are the arguments.
-/
module

public import proofs.«01_k».proof.Proof.KernI.Data
public import Idealize.ShloMosaic.Lib.Pipeline.ValueKit
public import Idealize.ShloMosaic.Lib.StableHlo.ReadAt
public import proofs.«01_k».proof.Proof.Val.K

@[expose] public section

set_option maxRecDepth 16384

noncomputable section

namespace Cert.KernelIdeal.Hand

open Cert.KernelIdeal Cert.KernelIdeal.Gen Cert.Spec
open Idealize.ShloMosaic Idealize.ShloMosaic.TcCoe

variable (m : (ℓ : Loc nD τ sig) → Buf (Elt Ideal) ℓ) (c : Dev nD) (t : Fin cfg0.N)

/-- The arguments as the launch holds them. -/
def argsOf : Args where
  ws i k := m ((c : Thread nD τ).loc main_arg0) (ix2 i k)
  slow i k := m ((c : Thread nD τ).loc main_arg1) (ix2 i k)
  vals i k j := m ((c : Thread nD τ).loc main_arg2) (ix3 i k j)
  conf i k := m ((c : Thread nD τ).loc main_arg3) (ix3 i k 0)
  expi i k := m ((c : Thread nD τ).loc main_arg4) (ix3 i k 0)
  contr i k := m ((c : Thread nD τ).loc main_arg5) (ix3 i k 0)
  alive i k := m ((c : Thread nD τ).loc main_arg6) (ix3 i k 0)
  md i k d := m ((c : Thread nD τ).loc main_arg7) (ix3 i k d)
  W1 k j := m ((c : Thread nD τ).loc main_arg8) (ix2 k j)
  b1 j := m ((c : Thread nD τ).loc main_arg9) (ix1 j)
  W2 k j := m ((c : Thread nD τ).loc main_arg10) (ix2 k j)
  b2 j := m ((c : Thread nD τ).loc main_arg11) (ix1 j)
  Wg1 k j := m ((c : Thread nD τ).loc main_arg12) (ix2 k j)
  bg1 j := m ((c : Thread nD τ).loc main_arg13) (ix1 j)
  Wg2 j := m ((c : Thread nD τ).loc main_arg14) (ix2 j 0)
  bg2 := m ((c : Thread nD τ).loc main_arg15) (ix1 0)
  Wc1 k j := m ((c : Thread nD τ).loc main_arg16) (ix2 k j)
  bc1 j := m ((c : Thread nD τ).loc main_arg17) (ix1 j)
  Wc2 j := m ((c : Thread nD τ).loc main_arg18) (ix2 j 0)
  bc2 := m ((c : Thread nD τ).loc main_arg19) (ix1 0)

/-! The arrays the host writes before the launch, at an index. -/

theorem V_v0 (i : Fin 4096) (k : Fin 32) : V m c main_v0 (ix2 i k) = (argsOf m c).conf i k := by
  unfold V V0 argsOf
  after_reads_at
theorem V_v1 (i : Fin 4096) (k : Fin 32) : V m c main_v1 (ix2 i k) = (argsOf m c).expi i k := by
  unfold V V0 argsOf
  after_reads_at
theorem V_v2 (i : Fin 4096) (k : Fin 32) : V m c main_v2 (ix2 i k) = (argsOf m c).contr i k := by
  unfold V V0 argsOf
  after_reads_at
theorem V_v3 (i : Fin 4096) (k : Fin 32) : V m c main_v3 (ix2 i k) = (argsOf m c).alive i k := by
  unfold V V0 argsOf
  after_reads_at
theorem V_v5 (i : Fin 4096) (k : Fin 32) : V m c main_v5 (ix2 i k) = (argsOf m c).md i k 0 := by
  unfold V V0 argsOf
  after_reads_at
theorem V_v7 (i : Fin 4096) (k : Fin 32) : V m c main_v7 (ix2 i k) = (argsOf m c).md i k 1 := by
  unfold V V0 argsOf
  after_reads_at
theorem V_v9 (i : Fin 4096) (k : Fin 32) : V m c main_v9 (ix2 i k) = (argsOf m c).md i k 2 := by
  unfold V V0 argsOf
  after_reads_at
theorem V_v11 (i : Fin 4096) (k : Fin 32) : V m c main_v11 (ix2 i k) = (argsOf m c).md i k 3 := by
  unfold V V0 argsOf
  after_reads_at
theorem V_v13 (i : Fin 4096) (k : Fin 32) : V m c main_v13 (ix2 i k) = (argsOf m c).md i k 4 := by
  unfold V V0 argsOf
  after_reads_at
theorem V_v15 (i : Fin 4096) (k : Fin 32) : V m c main_v15 (ix2 i k) = (argsOf m c).md i k 5 := by
  unfold V V0 argsOf
  after_reads_at
theorem V_v23 (k : Fin 1024) (j : Fin 512) : V m c main_v23 (ix2 k j) = (argsOf m c).W1 k j := by
  unfold V V0 argsOf
  after_reads_at
theorem V_v24 (k : Fin 512) (j : Fin 256) : V m c main_v24 (ix2 k j) = (argsOf m c).W2 k j := by
  unfold V V0 argsOf
  after_reads_at
theorem V_v25 (k : Fin 1286) (j : Fin 384) : V m c main_v25 (ix2 k j) = (argsOf m c).Wg1 k j := by
  unfold V V0 argsOf
  after_reads_at
theorem V_v26 (k : Fin 1286) (j : Fin 384) : V m c main_v26 (ix2 k j) = (argsOf m c).Wc1 k j := by
  unfold V V0 argsOf
  after_reads_at
theorem V_v27 (j : Fin 512) : V m c main_v27 (ix2 0 j) = (argsOf m c).b1 j := by
  unfold V V0 argsOf
  after_reads_at
theorem V_v28 (j : Fin 256) : V m c main_v28 (ix2 0 j) = (argsOf m c).b2 j := by
  unfold V V0 argsOf
  after_reads_at
theorem V_v29 (j : Fin 384) : V m c main_v29 (ix2 0 j) = (argsOf m c).bg1 j := by
  unfold V V0 argsOf
  after_reads_at
theorem V_v30 (j : Fin 384) : V m c main_v30 (ix2 0 j) = (argsOf m c).Wg2 j := by
  unfold V V0 argsOf
  after_reads_at
theorem V_v31  : V m c main_v31 (ix2 0 0) = (argsOf m c).bg2 := by
  unfold V V0 argsOf
  after_reads_at
theorem V_v32 (j : Fin 384) : V m c main_v32 (ix2 0 j) = (argsOf m c).bc1 j := by
  unfold V V0 argsOf
  after_reads_at
theorem V_v33 (j : Fin 384) : V m c main_v33 (ix2 0 j) = (argsOf m c).Wc2 j := by
  unfold V V0 argsOf
  after_reads_at
theorem V_v34  : V m c main_v34 (ix2 0 0) = (argsOf m c).bc2 := by
  unfold V V0 argsOf
  after_reads_at
theorem V_v19 (k : Fin 6) (j : Fin 384) : V m c main_v19 (ix2 ⟨k.val, by omega⟩ j) = (argsOf m c).Wg1 ⟨1280 + k.val, by omega⟩ j := by
  unfold V V0 argsOf
  after_reads_at
  after_reads_at
theorem V_v19z (k : Fin 8) (j : Fin 384) (h : 6 ≤ k.val) : V m c main_v19 (ix2 k j) = (0 : EReal) := by
  unfold V V0
  after_reads_at
  rw [dif_neg (by omega)]
  after_reads_at
theorem V_v22 (k : Fin 6) (j : Fin 384) : V m c main_v22 (ix2 ⟨k.val, by omega⟩ j) = (argsOf m c).Wc1 ⟨1280 + k.val, by omega⟩ j := by
  unfold V V0 argsOf
  after_reads_at
  after_reads_at
theorem V_v22z (k : Fin 8) (j : Fin 384) (h : 6 ≤ k.val) : V m c main_v22 (ix2 k j) = (0 : EReal) := by
  unfold V V0
  after_reads_at
  rw [dif_neg (by omega)]
  after_reads_at

/-! The windows' blocks of them. -/

theorem idx_0 : ∀ t : Fin cfg0.N, win0_0.index t 0 = 0 ∧ win0_0.index t 1 = 0 := by decide +kernel
theorem blk_0 (i : Fin 4096) (k : Fin 256) : iblk m c 0 t (ix2 i k) = V m c main_arg0 (ix2 i k) := by
  blk_ext [iblk, idx_0 t]
theorem idx_1 : ∀ t : Fin cfg0.N, win0_1.index t 0 = 0 ∧ win0_1.index t 1 = 0 := by decide +kernel
theorem blk_1 (i : Fin 4096) (k : Fin 768) : iblk m c 1 t (ix2 i k) = V m c main_arg1 (ix2 i k) := by
  blk_ext [iblk, idx_1 t]
theorem idx_2 : ∀ t : Fin cfg0.N, win0_2.index t 0 = 0 ∧ win0_2.index t 1 = 0 := by decide +kernel
theorem blk_2 (i : Fin 4096) (k : Fin 32) : iblk m c 2 t (ix2 i k) = V m c main_v0 (ix2 i k) := by
  blk_ext [iblk, idx_2 t]
theorem idx_3 : ∀ t : Fin cfg0.N, win0_3.index t 0 = 0 ∧ win0_3.index t 1 = 0 := by decide +kernel
theorem blk_3 (i : Fin 4096) (k : Fin 32) : iblk m c 3 t (ix2 i k) = V m c main_v1 (ix2 i k) := by
  blk_ext [iblk, idx_3 t]
theorem idx_4 : ∀ t : Fin cfg0.N, win0_4.index t 0 = 0 ∧ win0_4.index t 1 = 0 := by decide +kernel
theorem blk_4 (i : Fin 4096) (k : Fin 32) : iblk m c 4 t (ix2 i k) = V m c main_v2 (ix2 i k) := by
  blk_ext [iblk, idx_4 t]
theorem idx_5 : ∀ t : Fin cfg0.N, win0_5.index t 0 = 0 ∧ win0_5.index t 1 = 0 := by decide +kernel
theorem blk_5 (i : Fin 4096) (k : Fin 32) : iblk m c 5 t (ix2 i k) = V m c main_v3 (ix2 i k) := by
  blk_ext [iblk, idx_5 t]
theorem idx_6 : ∀ t : Fin cfg0.N, win0_6.index t 0 = 0 ∧ win0_6.index t 1 = 0 := by decide +kernel
theorem blk_6 (i : Fin 4096) (k : Fin 32) : iblk m c 6 t (ix2 i k) = V m c main_v5 (ix2 i k) := by
  blk_ext [iblk, idx_6 t]
theorem idx_7 : ∀ t : Fin cfg0.N, win0_7.index t 0 = 0 ∧ win0_7.index t 1 = 0 := by decide +kernel
theorem blk_7 (i : Fin 4096) (k : Fin 32) : iblk m c 7 t (ix2 i k) = V m c main_v7 (ix2 i k) := by
  blk_ext [iblk, idx_7 t]
theorem idx_8 : ∀ t : Fin cfg0.N, win0_8.index t 0 = 0 ∧ win0_8.index t 1 = 0 := by decide +kernel
theorem blk_8 (i : Fin 4096) (k : Fin 32) : iblk m c 8 t (ix2 i k) = V m c main_v9 (ix2 i k) := by
  blk_ext [iblk, idx_8 t]
theorem idx_9 : ∀ t : Fin cfg0.N, win0_9.index t 0 = 0 ∧ win0_9.index t 1 = 0 := by decide +kernel
theorem blk_9 (i : Fin 4096) (k : Fin 32) : iblk m c 9 t (ix2 i k) = V m c main_v11 (ix2 i k) := by
  blk_ext [iblk, idx_9 t]
theorem idx_10 : ∀ t : Fin cfg0.N, win0_10.index t 0 = 0 ∧ win0_10.index t 1 = 0 := by decide +kernel
theorem blk_10 (i : Fin 4096) (k : Fin 32) : iblk m c 10 t (ix2 i k) = V m c main_v13 (ix2 i k) := by
  blk_ext [iblk, idx_10 t]
theorem idx_11 : ∀ t : Fin cfg0.N, win0_11.index t 0 = 0 ∧ win0_11.index t 1 = 0 := by decide +kernel
theorem blk_11 (i : Fin 4096) (k : Fin 32) : iblk m c 11 t (ix2 i k) = V m c main_v15 (ix2 i k) := by
  blk_ext [iblk, idx_11 t]
theorem idx_12 : ∀ t : Fin cfg0.N, win0_12.index t 0 = 0 ∧ win0_12.index t 1 = 0 := by decide +kernel
theorem blk_12 (i : Fin 256) (k : Fin 512) : iblk m c 12 t (ix2 i k) = V m c main_v23 (ix2 (⟨i.val, by omega⟩ : Fin 1024) k) := by
  blk_ext [iblk, idx_12 t]
theorem idx_13 : ∀ t : Fin cfg0.N, win0_13.index t 0 = 1 ∧ win0_13.index t 1 = 0 := by decide +kernel
theorem blk_13 (i : Fin 256) (k : Fin 512) : iblk m c 13 t (ix2 i k) = V m c main_v23 (ix2 (⟨256 + i.val, by omega⟩ : Fin 1024) k) := by
  blk_ext [iblk, idx_13 t]
theorem idx_14 : ∀ t : Fin cfg0.N, win0_14.index t 0 = 2 ∧ win0_14.index t 1 = 0 := by decide +kernel
theorem blk_14 (i : Fin 256) (k : Fin 512) : iblk m c 14 t (ix2 i k) = V m c main_v23 (ix2 (⟨256 + (256 + i.val), by omega⟩ : Fin 1024) k) := by
  blk_ext [iblk, idx_14 t]
theorem idx_15 : ∀ t : Fin cfg0.N, win0_15.index t 0 = 3 ∧ win0_15.index t 1 = 0 := by decide +kernel
theorem blk_15 (i : Fin 256) (k : Fin 512) : iblk m c 15 t (ix2 i k) = V m c main_v23 (ix2 (⟨256 + (512 + i.val), by omega⟩ : Fin 1024) k) := by
  blk_ext [iblk, idx_15 t]
theorem idx_16 : ∀ t : Fin cfg0.N, win0_16.index t 0 = 0 ∧ win0_16.index t 1 = 0 := by decide +kernel
theorem blk_16 (i : Fin 1) (k : Fin 512) : iblk m c 16 t (ix2 i k) = V m c main_v27 (ix2 i k) := by
  blk_ext [iblk, idx_16 t]
theorem idx_17 : ∀ t : Fin cfg0.N, win0_17.index t 0 = 0 ∧ win0_17.index t 1 = 0 := by decide +kernel
theorem blk_17 (i : Fin 512) (k : Fin 256) : iblk m c 17 t (ix2 i k) = V m c main_v24 (ix2 i k) := by
  blk_ext [iblk, idx_17 t]
theorem idx_18 : ∀ t : Fin cfg0.N, win0_18.index t 0 = 0 ∧ win0_18.index t 1 = 0 := by decide +kernel
theorem blk_18 (i : Fin 1) (k : Fin 256) : iblk m c 18 t (ix2 i k) = V m c main_v28 (ix2 i k) := by
  blk_ext [iblk, idx_18 t]
theorem idx_19 : ∀ t : Fin cfg0.N, win0_19.index t 0 = 0 ∧ win0_19.index t 1 = 0 := by decide +kernel
theorem blk_19 (i : Fin 256) (k : Fin 384) : X0_19 m c t (ix2 i k) = V m c main_v25 (ix2 (⟨i.val, by omega⟩ : Fin 1286) k) := by
  unfold X0_19 Pipeline.Window.fill
  rw [dif_pos (moved0_19 t _)]
  blk_ext [iblk, idx_19 t]
theorem idx_20 : ∀ t : Fin cfg0.N, win0_20.index t 0 = 1 ∧ win0_20.index t 1 = 0 := by decide +kernel
theorem blk_20 (i : Fin 256) (k : Fin 384) : X0_20 m c t (ix2 i k) = V m c main_v25 (ix2 (⟨256 + i.val, by omega⟩ : Fin 1286) k) := by
  unfold X0_20 Pipeline.Window.fill
  rw [dif_pos (moved0_20 t _)]
  blk_ext [iblk, idx_20 t]
theorem idx_21 : ∀ t : Fin cfg0.N, win0_21.index t 0 = 2 ∧ win0_21.index t 1 = 0 := by decide +kernel
theorem blk_21 (i : Fin 256) (k : Fin 384) : X0_21 m c t (ix2 i k) = V m c main_v25 (ix2 (⟨256 + (256 + i.val), by omega⟩ : Fin 1286) k) := by
  unfold X0_21 Pipeline.Window.fill
  rw [dif_pos (moved0_21 t _)]
  blk_ext [iblk, idx_21 t]
theorem idx_22 : ∀ t : Fin cfg0.N, win0_22.index t 0 = 3 ∧ win0_22.index t 1 = 0 := by decide +kernel
theorem blk_22 (i : Fin 256) (k : Fin 384) : X0_22 m c t (ix2 i k) = V m c main_v25 (ix2 (⟨256 + (512 + i.val), by omega⟩ : Fin 1286) k) := by
  unfold X0_22 Pipeline.Window.fill
  rw [dif_pos (moved0_22 t _)]
  blk_ext [iblk, idx_22 t]
theorem idx_23 : ∀ t : Fin cfg0.N, win0_23.index t 0 = 4 ∧ win0_23.index t 1 = 0 := by decide +kernel
theorem blk_23 (i : Fin 256) (k : Fin 384) : X0_23 m c t (ix2 i k) = V m c main_v25 (ix2 (⟨1024 + i.val, by omega⟩ : Fin 1286) k) := by
  unfold X0_23 Pipeline.Window.fill
  rw [dif_pos (moved0_23 t _)]
  blk_ext [iblk, idx_23 t]
theorem idx_24 : ∀ t : Fin cfg0.N, win0_24.index t 0 = 0 ∧ win0_24.index t 1 = 0 := by decide +kernel
theorem blk_24 (i : Fin 8) (k : Fin 384) : iblk m c 24 t (ix2 i k) = V m c main_v19 (ix2 i k) := by
  blk_ext [iblk, idx_24 t]
theorem idx_25 : ∀ t : Fin cfg0.N, win0_25.index t 0 = 0 ∧ win0_25.index t 1 = 0 := by decide +kernel
theorem blk_25 (i : Fin 1) (k : Fin 384) : iblk m c 25 t (ix2 i k) = V m c main_v29 (ix2 i k) := by
  blk_ext [iblk, idx_25 t]
theorem idx_26 : ∀ t : Fin cfg0.N, win0_26.index t 0 = 0 ∧ win0_26.index t 1 = 0 := by decide +kernel
theorem blk_26 (i : Fin 1) (k : Fin 384) : iblk m c 26 t (ix2 i k) = V m c main_v30 (ix2 i k) := by
  blk_ext [iblk, idx_26 t]
theorem idx_27 : ∀ t : Fin cfg0.N, win0_27.index t 0 = 0 ∧ win0_27.index t 1 = 0 := by decide +kernel
theorem blk_27 (i : Fin 1) (k : Fin 1) : iblk m c 27 t (ix2 i k) = V m c main_v31 (ix2 i k) := by
  blk_ext [iblk, idx_27 t]
theorem idx_28 : ∀ t : Fin cfg0.N, win0_28.index t 0 = 0 ∧ win0_28.index t 1 = 0 := by decide +kernel
theorem blk_28 (i : Fin 256) (k : Fin 384) : X0_28 m c t (ix2 i k) = V m c main_v26 (ix2 (⟨i.val, by omega⟩ : Fin 1286) k) := by
  unfold X0_28 Pipeline.Window.fill
  rw [dif_pos (moved0_28 t _)]
  blk_ext [iblk, idx_28 t]
theorem idx_29 : ∀ t : Fin cfg0.N, win0_29.index t 0 = 1 ∧ win0_29.index t 1 = 0 := by decide +kernel
theorem blk_29 (i : Fin 256) (k : Fin 384) : X0_29 m c t (ix2 i k) = V m c main_v26 (ix2 (⟨256 + i.val, by omega⟩ : Fin 1286) k) := by
  unfold X0_29 Pipeline.Window.fill
  rw [dif_pos (moved0_29 t _)]
  blk_ext [iblk, idx_29 t]
theorem idx_30 : ∀ t : Fin cfg0.N, win0_30.index t 0 = 2 ∧ win0_30.index t 1 = 0 := by decide +kernel
theorem blk_30 (i : Fin 256) (k : Fin 384) : X0_30 m c t (ix2 i k) = V m c main_v26 (ix2 (⟨256 + (256 + i.val), by omega⟩ : Fin 1286) k) := by
  unfold X0_30 Pipeline.Window.fill
  rw [dif_pos (moved0_30 t _)]
  blk_ext [iblk, idx_30 t]
theorem idx_31 : ∀ t : Fin cfg0.N, win0_31.index t 0 = 3 ∧ win0_31.index t 1 = 0 := by decide +kernel
theorem blk_31 (i : Fin 256) (k : Fin 384) : X0_31 m c t (ix2 i k) = V m c main_v26 (ix2 (⟨256 + (512 + i.val), by omega⟩ : Fin 1286) k) := by
  unfold X0_31 Pipeline.Window.fill
  rw [dif_pos (moved0_31 t _)]
  blk_ext [iblk, idx_31 t]
theorem idx_32 : ∀ t : Fin cfg0.N, win0_32.index t 0 = 4 ∧ win0_32.index t 1 = 0 := by decide +kernel
theorem blk_32 (i : Fin 256) (k : Fin 384) : X0_32 m c t (ix2 i k) = V m c main_v26 (ix2 (⟨1024 + i.val, by omega⟩ : Fin 1286) k) := by
  unfold X0_32 Pipeline.Window.fill
  rw [dif_pos (moved0_32 t _)]
  blk_ext [iblk, idx_32 t]
theorem idx_33 : ∀ t : Fin cfg0.N, win0_33.index t 0 = 0 ∧ win0_33.index t 1 = 0 := by decide +kernel
theorem blk_33 (i : Fin 8) (k : Fin 384) : iblk m c 33 t (ix2 i k) = V m c main_v22 (ix2 i k) := by
  blk_ext [iblk, idx_33 t]
theorem idx_34 : ∀ t : Fin cfg0.N, win0_34.index t 0 = 0 ∧ win0_34.index t 1 = 0 := by decide +kernel
theorem blk_34 (i : Fin 1) (k : Fin 384) : iblk m c 34 t (ix2 i k) = V m c main_v32 (ix2 i k) := by
  blk_ext [iblk, idx_34 t]
theorem idx_35 : ∀ t : Fin cfg0.N, win0_35.index t 0 = 0 ∧ win0_35.index t 1 = 0 := by decide +kernel
theorem blk_35 (i : Fin 1) (k : Fin 384) : iblk m c 35 t (ix2 i k) = V m c main_v33 (ix2 i k) := by
  blk_ext [iblk, idx_35 t]
theorem idx_36 : ∀ t : Fin cfg0.N, win0_36.index t 0 = 0 ∧ win0_36.index t 1 = 0 := by decide +kernel
theorem blk_36 (i : Fin 1) (k : Fin 1) : iblk m c 36 t (ix2 i k) = V m c main_v34 (ix2 i k) := by
  blk_ext [iblk, idx_36 t]
theorem rd_1 : ∀ i k, (Xat m c t).x1 (ix2 i k) = (argsOf m c).ws i k := fun i k => (blk_0 m c t i k).trans (congrFun (V_main_arg0 m c) _)
theorem rd_2 : ∀ i k, (Xat m c t).x2 (ix2 i k) = (argsOf m c).slow i k := fun i k => (blk_1 m c t i k).trans (congrFun (V_main_arg1 m c) _)
theorem rd_4 : ∀ i k, (Xat m c t).x4 (ix2 i k) = (argsOf m c).conf i k := fun i k => (blk_2 m c t i k).trans (V_v0 m c i k)
theorem rd_5 : ∀ i k, (Xat m c t).x5 (ix2 i k) = (argsOf m c).expi i k := fun i k => (blk_3 m c t i k).trans (V_v1 m c i k)
theorem rd_6 : ∀ i k, (Xat m c t).x6 (ix2 i k) = (argsOf m c).contr i k := fun i k => (blk_4 m c t i k).trans (V_v2 m c i k)
theorem rd_7 : ∀ i k, (Xat m c t).x7 (ix2 i k) = (argsOf m c).alive i k := fun i k => (blk_5 m c t i k).trans (V_v3 m c i k)
theorem rd_8 : ∀ i k, (Xat m c t).x8 (ix2 i k) = (argsOf m c).md i k 0 := fun i k => (blk_6 m c t i k).trans (V_v5 m c i k)
theorem rd_9 : ∀ i k, (Xat m c t).x9 (ix2 i k) = (argsOf m c).md i k 1 := fun i k => (blk_7 m c t i k).trans (V_v7 m c i k)
theorem rd_10 : ∀ i k, (Xat m c t).x10 (ix2 i k) = (argsOf m c).md i k 2 := fun i k => (blk_8 m c t i k).trans (V_v9 m c i k)
theorem rd_11 : ∀ i k, (Xat m c t).x11 (ix2 i k) = (argsOf m c).md i k 3 := fun i k => (blk_9 m c t i k).trans (V_v11 m c i k)
theorem rd_12 : ∀ i k, (Xat m c t).x12 (ix2 i k) = (argsOf m c).md i k 4 := fun i k => (blk_10 m c t i k).trans (V_v13 m c i k)
theorem rd_13 : ∀ i k, (Xat m c t).x13 (ix2 i k) = (argsOf m c).md i k 5 := fun i k => (blk_11 m c t i k).trans (V_v15 m c i k)
theorem rd_14 : ∀ (k : Fin 256) j, (Xat m c t).x14 (ix2 k j) = (argsOf m c).W1 ⟨k.val, by omega⟩ j := fun i k => (blk_12 m c t i k).trans (V_v23 m c _ k)
theorem rd_15 : ∀ (k : Fin 256) j, (Xat m c t).x15 (ix2 k j) = (argsOf m c).W1 ⟨256 + k.val, by omega⟩ j := fun i k => (blk_13 m c t i k).trans (V_v23 m c _ k)
theorem rd_16 : ∀ (k : Fin 256) j, (Xat m c t).x16 (ix2 k j) = (argsOf m c).W1 ⟨256 + (256 + k.val), by omega⟩ j := fun i k => (blk_14 m c t i k).trans (V_v23 m c _ k)
theorem rd_17 : ∀ (k : Fin 256) j, (Xat m c t).x17 (ix2 k j) = (argsOf m c).W1 ⟨256 + (512 + k.val), by omega⟩ j := fun i k => (blk_15 m c t i k).trans (V_v23 m c _ k)
theorem rd_18 : ∀ j, (Xat m c t).x18 (ix2 0 j) = (argsOf m c).b1 j := fun j => (blk_16 m c t 0 j).trans (V_v27 m c j)
theorem rd_19 : ∀ k j, (Xat m c t).x19 (ix2 k j) = (argsOf m c).W2 k j := fun k j => (blk_17 m c t k j).trans (V_v24 m c k j)
theorem rd_20 : ∀ j, (Xat m c t).x20 (ix2 0 j) = (argsOf m c).b2 j := fun j => (blk_18 m c t 0 j).trans (V_v28 m c j)
theorem rd_21 : ∀ (k : Fin 256) j, (Xat m c t).x21 (ix2 k j) = (argsOf m c).Wg1 ⟨k.val, by omega⟩ j := fun i k => (blk_19 m c t i k).trans (V_v25 m c _ k)
theorem rd_22 : ∀ (k : Fin 256) j, (Xat m c t).x22 (ix2 k j) = (argsOf m c).Wg1 ⟨256 + k.val, by omega⟩ j := fun i k => (blk_20 m c t i k).trans (V_v25 m c _ k)
theorem rd_23 : ∀ (k : Fin 256) j, (Xat m c t).x23 (ix2 k j) = (argsOf m c).Wg1 ⟨256 + (256 + k.val), by omega⟩ j := fun i k => (blk_21 m c t i k).trans (V_v25 m c _ k)
theorem rd_24 : ∀ (k : Fin 256) j, (Xat m c t).x24 (ix2 k j) = (argsOf m c).Wg1 ⟨256 + (512 + k.val), by omega⟩ j := fun i k => (blk_22 m c t i k).trans (V_v25 m c _ k)
theorem rd_25 : ∀ (k : Fin 256) j, (Xat m c t).x25 (ix2 k j) = (argsOf m c).Wg1 ⟨1024 + k.val, by omega⟩ j := fun i k => (blk_23 m c t i k).trans (V_v25 m c _ k)
theorem rd_26 : ∀ (k : Fin 6) j, (Xat m c t).x26 (ix2 ⟨k.val, by omega⟩ j) = (argsOf m c).Wg1 ⟨1280 + k.val, by omega⟩ j := fun k j => (blk_24 m c t _ j).trans (V_v19 m c k j)
theorem rd_26z : ∀ (k : Fin 8) j, 6 ≤ k.val → (Xat m c t).x26 (ix2 k j) = (0 : EReal) := fun k j h => (blk_24 m c t k j).trans (V_v19z m c k j h)
theorem rd_27 : ∀ j, (Xat m c t).x27 (ix2 0 j) = (argsOf m c).bg1 j := fun j => (blk_25 m c t 0 j).trans (V_v29 m c j)
theorem rd_28 : ∀ j, (Xat m c t).x28 (ix2 0 j) = (argsOf m c).Wg2 j := fun j => (blk_26 m c t 0 j).trans (V_v30 m c j)
theorem rd_29 : (Xat m c t).x29 (ix2 0 0) = (argsOf m c).bg2 := (blk_27 m c t 0 0).trans (V_v31 m c)
theorem rd_30 : ∀ (k : Fin 256) j, (Xat m c t).x30 (ix2 k j) = (argsOf m c).Wc1 ⟨k.val, by omega⟩ j := fun i k => (blk_28 m c t i k).trans (V_v26 m c _ k)
theorem rd_31 : ∀ (k : Fin 256) j, (Xat m c t).x31 (ix2 k j) = (argsOf m c).Wc1 ⟨256 + k.val, by omega⟩ j := fun i k => (blk_29 m c t i k).trans (V_v26 m c _ k)
theorem rd_32 : ∀ (k : Fin 256) j, (Xat m c t).x32 (ix2 k j) = (argsOf m c).Wc1 ⟨256 + (256 + k.val), by omega⟩ j := fun i k => (blk_30 m c t i k).trans (V_v26 m c _ k)
theorem rd_33 : ∀ (k : Fin 256) j, (Xat m c t).x33 (ix2 k j) = (argsOf m c).Wc1 ⟨256 + (512 + k.val), by omega⟩ j := fun i k => (blk_31 m c t i k).trans (V_v26 m c _ k)
theorem rd_34 : ∀ (k : Fin 256) j, (Xat m c t).x34 (ix2 k j) = (argsOf m c).Wc1 ⟨1024 + k.val, by omega⟩ j := fun i k => (blk_32 m c t i k).trans (V_v26 m c _ k)
theorem rd_35 : ∀ (k : Fin 6) j, (Xat m c t).x35 (ix2 ⟨k.val, by omega⟩ j) = (argsOf m c).Wc1 ⟨1280 + k.val, by omega⟩ j := fun k j => (blk_33 m c t _ j).trans (V_v22 m c k j)
theorem rd_35z : ∀ (k : Fin 8) j, 6 ≤ k.val → (Xat m c t).x35 (ix2 k j) = (0 : EReal) := fun k j h => (blk_33 m c t k j).trans (V_v22z m c k j h)
theorem rd_36 : ∀ j, (Xat m c t).x36 (ix2 0 j) = (argsOf m c).bc1 j := fun j => (blk_34 m c t 0 j).trans (V_v32 m c j)
theorem rd_37 : ∀ j, (Xat m c t).x37 (ix2 0 j) = (argsOf m c).Wc2 j := fun j => (blk_35 m c t 0 j).trans (V_v33 m c j)
theorem rd_38 : (Xat m c t).x38 (ix2 0 0) = (argsOf m c).bc2 := (blk_36 m c t 0 0).trans (V_v34 m c)

/-- The body's inputs at any point are the arguments. -/
theorem reads_Xat : Reads (argsOf m c) (Xat m c t) where
  x1 := rd_1 m c t
  x2 := rd_2 m c t
  x4 := rd_4 m c t
  x5 := rd_5 m c t
  x6 := rd_6 m c t
  x7 := rd_7 m c t
  x8 := rd_8 m c t
  x9 := rd_9 m c t
  x10 := rd_10 m c t
  x11 := rd_11 m c t
  x12 := rd_12 m c t
  x13 := rd_13 m c t
  x14 := rd_14 m c t
  x15 := rd_15 m c t
  x16 := rd_16 m c t
  x17 := rd_17 m c t
  x18 := rd_18 m c t
  x19 := rd_19 m c t
  x20 := rd_20 m c t
  x21 := rd_21 m c t
  x22 := rd_22 m c t
  x23 := rd_23 m c t
  x24 := rd_24 m c t
  x25 := rd_25 m c t
  x26 := rd_26 m c t
  x26z := rd_26z m c t
  x27 := rd_27 m c t
  x28 := rd_28 m c t
  x29 := rd_29 m c t
  x30 := rd_30 m c t
  x31 := rd_31 m c t
  x32 := rd_32 m c t
  x33 := rd_33 m c t
  x34 := rd_34 m c t
  x35 := rd_35 m c t
  x35z := rd_35z m c t
  x36 := rd_36 m c t
  x37 := rd_37 m c t
  x38 := rd_38 m c t

end Cert.KernelIdeal.Hand
-- ==== Proof.Val.Slot.lean ====
/-
  The slot that a row writes to. Both programs look for a first slot with a property; one takes the least of the numbers
  of the slots that have it, the other carries the best value and its number through the row.
-/
module

public import Idealize.ShloMosaic.Lib.Pointwise

@[expose] public section

noncomputable section

namespace Cert.Spec

open Idealize.ShloMosaic

/-- The first slot that has the property. -/
def IsFirst (P : Fin 32 → Prop) (k : Fin 32) : Prop := P k ∧ ∀ j, j < k → ¬P j

theorem exists_first (P : Fin 32 → Prop) (h : ∃ k, P k) : ∃ k, IsFirst P k := by
  classical
  obtain ⟨k, hk, hm⟩ := WellFounded.has_min (wellFounded_lt (α := Fin 32)) {k | P k} h
  exact ⟨k, hk, fun j hj hp => hm j hp hj⟩

theorem IsFirst.unique {P : Fin 32 → Prop} {a b : Fin 32} (ha : IsFirst P a) (hb : IsFirst P b) : a = b := by
  rcases lt_trichotomy a b with h | h | h
  · exact absurd ha.1 (hb.2 a h)
  · exact h
  · exact absurd hb.1 (ha.2 b h)

theorem toInt_num : ∀ k : Fin 32, (BitVec.ofNat 32 k.val).toInt = k.val := by decide

theorem num_inj {a b : Fin 32} (h : BitVec.ofNat 32 a.val = BitVec.ofNat 32 b.val) : a = b := by
  have := congrArg BitVec.toInt h
  rw [toInt_num, toInt_num] at this
  exact Fin.ext (by exact_mod_cast this)

theorem toInt_minsi (a b : BitVec 32) : (IntOp.minsi a b).toInt = min a.toInt b.toInt := by
  unfold IntOp.minsi
  simp only [BitVec.slt_iff_toInt_lt, BitVec.sle_iff_toInt_le, min_def]
  split_ifs <;> omega

/-- The least of the numbers of the slots that have the property, 32 standing for the others. -/
theorem least_num (P : Fin 32 → Prop) [DecidablePred P] {k : Fin 32} (h : IsFirst P k) :
    Finset.fold IntOp.minsi (2147483647#32) (fun x : Fin 32 => if P x then BitVec.ofNat 32 x.val else 32#32) Finset.univ
      = BitVec.ofNat 32 k.val := by
  apply BitVec.eq_of_toInt_eq
  rw [← Finset.fold_hom (op := IntOp.minsi) (op' := min) (m := BitVec.toInt) toInt_minsi, toInt_num]
  apply le_antisymm
  · rw [Finset.fold_min_le]
    exact Or.inr ⟨k, Finset.mem_univ k, by rw [if_pos h.1, toInt_num]⟩
  · rw [Finset.le_fold_min]
    have hk := k.isLt
    refine ⟨by have : (2147483647#32).toInt = 2147483647 := by decide
               omega, fun x _ => ?_⟩
    split_ifs with hx
    · rw [toInt_num]
      rcases lt_or_ge x k with hl | hl
      · exact absurd hx (h.2 x hl)
      · exact_mod_cast hl
    · have : (32#32).toInt = 32 := by decide
      omega

/-- A pair is at least as good as another: the smaller value, or the same and the smaller number. -/
def Best {α : Type} [LinearOrder α] (p q : α × BitVec 32) : Prop :=
  p.1 < q.1 ∨ (p.1 = q.1 ∧ p.2.toInt ≤ q.2.toInt)

theorem Best.trans {α : Type} [LinearOrder α] {p q r : α × BitVec 32} (h : Best p q) (h' : Best q r) : Best p r := by
  rcases h with h | ⟨h, g⟩ <;> rcases h' with h' | ⟨h', g'⟩
  · exact Or.inl (h.trans h')
  · exact Or.inl (h' ▸ h)
  · exact Or.inl (h ▸ h')
  · exact Or.inr ⟨h.trans h', g.trans g'⟩

theorem Best.refl {α : Type} [LinearOrder α] (p : α × BitVec 32) : Best p p := Or.inr ⟨rfl, le_rfl⟩

/-- Carrying the better of two pairs through a list ends with one of them that is at least as good as all. -/
theorem foldl_best {α : Type} [LinearOrder α] (f : α × BitVec 32 → α × BitVec 32 → α × BitVec 32)
    (hf : ∀ a b, f a b = if a.1 < b.1 ∨ (a.1 = b.1 ∧ a.2.toInt < b.2.toInt) then a else b)
    (L : List (α × BitVec 32)) (p : α × BitVec 32) :
    L.foldl f p ∈ p :: L ∧ ∀ q ∈ p :: L, Best (L.foldl f p) q := by
  have hb : ∀ a b, (f a b = a ∨ f a b = b) ∧ Best (f a b) a ∧ Best (f a b) b := by
    intro a b
    rw [hf]
    split_ifs with h
    · exact ⟨Or.inl rfl, Best.refl a, h.imp id fun h => ⟨h.1, h.2.le⟩⟩
    · refine ⟨Or.inr rfl, ?_, Best.refl b⟩
      rw [not_or, not_and] at h
      rcases lt_or_eq_of_le (not_lt.mp h.1) with g | g
      · exact Or.inl g
      · exact Or.inr ⟨g, not_lt.mp (h.2 g.symm)⟩
  induction L generalizing p with
  | nil => exact ⟨List.mem_cons_self, fun q hq => by rw [List.mem_singleton.mp hq]; exact Best.refl p⟩
  | cons a L ih =>
    obtain ⟨hm, hl⟩ := ih (f p a)
    have hr : Best (L.foldl f (f p a)) (f p a) := hl _ List.mem_cons_self
    refine ⟨?_, fun q hq => ?_⟩
    · rcases List.mem_cons.mp hm with h | h
      · rw [List.foldl_cons, h]
        rcases (hb p a).1 with g | g <;> rw [g] <;> simp
      · rw [List.foldl_cons]
        exact List.mem_cons_of_mem _ (List.mem_cons_of_mem _ h)
    · rw [List.foldl_cons]
      rcases List.mem_cons.mp hq with rfl | hq
      · exact hr.trans (hb q a).2.1
      · rcases List.mem_cons.mp hq with rfl | hq
        · exact hr.trans (hb p q).2.2
        · exact hl q (List.mem_cons_of_mem _ hq)

/-- Carried through the pairs of a row, the best pair's number is that of the first slot with the least value. -/
theorem best_num {α : Type} [LinearOrder α] (f : α × BitVec 32 → α × BitVec 32 → α × BitVec 32)
    (hf : ∀ a b, f a b = if a.1 < b.1 ∨ (a.1 = b.1 ∧ a.2.toInt < b.2.toInt) then a else b)
    (u : Fin 32 → α) (top : α) (htop : ∀ x, x ≤ top) (L : List (α × BitVec 32))
    (hL : ∀ p, p ∈ L ↔ ∃ k, p = (u k, BitVec.ofNat 32 (Fin.val k))) {k : Fin 32} (hk : IsFirst (fun k => ∀ l, u k ≤ u l) k) :
    (L.foldl f (top, 0#32)).2 = BitVec.ofNat 32 k.val := by
  obtain ⟨hm, hl⟩ := foldl_best f hf L (top, 0#32)
  have hlk := hl _ (List.mem_cons_of_mem _ ((hL _).2 ⟨k, rfl⟩))
  have main : ∀ j, L.foldl f (top, 0#32) = (u j, BitVec.ofNat 32 (Fin.val j)) → (L.foldl f (top, 0#32)).2 = BitVec.ofNat 32 k.val := by
    intro j hj
    rw [hj] at hlk ⊢
    rcases hlk with h | ⟨h, g⟩
    · exact absurd (hk.1 j) (not_le.mpr h)
    · have h : u j = u k := h
      have g : (BitVec.ofNat 32 j.val).toInt ≤ (BitVec.ofNat 32 k.val).toInt := g
      rw [toInt_num, toInt_num] at g
      rcases lt_or_eq_of_le (show j ≤ k by exact_mod_cast g) with hjk | hjk
      · exact absurd (fun l => h ▸ hk.1 l) (hk.2 j hjk)
      · rw [hjk]
  rcases List.mem_cons.mp hm with h | h
  · have ht : top = u k := by
      rw [h] at hlk
      rcases hlk with g | g
      · exact absurd (htop (u k)) (not_le.mpr g)
      · exact g.1
    have h0 : u 0 = top := le_antisymm (htop _) (ht ▸ hk.1 0)
    exact main 0 (h.trans (by rw [h0]; rfl))
  · obtain ⟨j, hj⟩ := (hL _).1 h
    exact main j hj

end Cert.Spec
-- ==== Proof.Val.Ledger.lean ====
/-
  What the write leaves in a row's ledger: the slot that is written, how much of it, and the new values and numbers of
  every slot.
-/
module

public import proofs.«01_k».proof.Proof.Val.Spec
public import proofs.«01_k».proof.Proof.Val.Slot

@[expose] public section

noncomputable section

namespace Cert.Spec

open Idealize.ShloMosaic

variable (A : Args)

/-- One half, which a slot's alive number has to reach. -/
def half : EReal := Ideal.ofBits .f32 1056964608#32
theorem half_pos : 0 < half := by
  unfold half; simp [Ideal.ofBits, Ideal.ieee, -EReal.coe_mul]
theorem half_lt_one : half < 1 := by
  unfold half; simp [Ideal.ofBits, Ideal.ieee, -EReal.coe_mul]
  rw [← EReal.coe_one, EReal.coe_lt_coe_iff]; norm_num
theorem bits_top : Ideal.ofBits .f32 2139095040#32 = ⊤ := by simp [Ideal.ofBits, Ideal.ieee]
theorem bits_bot : Ideal.ofBits .f32 4286578688#32 = ⊥ := by simp [Ideal.ofBits, Ideal.ieee]

/-- The largest of a row's zeros and ones is above a half when there is a one. -/
theorem any_max (P : Fin 32 → Prop) [DecidablePred P] :
    half < Finset.fold max (Ideal.ofBits .f32 4286578688#32) (fun x => if P x then (1 : EReal) else 0) Finset.univ ↔ ∃ x, P x := by
  rw [bits_bot, Finset.lt_fold_max]
  constructor
  · rintro (h | ⟨x, -, h⟩)
    · exact absurd h not_lt_bot
    · refine ⟨x, ?_⟩
      by_contra hx
      rw [if_neg hx] at h
      exact absurd (h.trans half_pos) (lt_irrefl _)
  · rintro ⟨x, hx⟩
    exact Or.inr ⟨x, Finset.mem_univ x, by rw [if_pos hx]; exact half_lt_one⟩

/-- A value that is the least of its row. -/
theorem eq_least (u : Fin 32 → EReal) (k : Fin 32) :
    u k = Finset.fold min (Ideal.ofBits .f32 2139095040#32) u Finset.univ ↔ ∀ l, u k ≤ u l := by
  rw [bits_top]
  constructor
  · intro h l
    rw [h]
    exact (Finset.fold_min_le _).2 (Or.inr ⟨l, Finset.mem_univ l, le_rfl⟩)
  · intro h
    exact le_antisymm ((Finset.le_fold_min _).2 ⟨le_top, fun l _ => h l⟩) ((Finset.fold_min_le _).2 (Or.inr ⟨k, Finset.mem_univ k, le_rfl⟩))

/-- A truth value as a number. -/
theorem signed_ofBool (b : Bool) : FloatOps.sitofp (F := Ideal) .f32 (BitVec.setWidth 32 (BitVec.ofBool b)) = if b then (1 : EReal) else 0 := by
  cases b
  · show (((BitVec.setWidth 32 (BitVec.ofBool false)).toInt : ℝ) : EReal) = _
    simp
  · show (((BitVec.setWidth 32 (BitVec.ofBool true)).toInt : ℝ) : EReal) = _
    simp
theorem unsigned_ofBool (b : Bool) : FloatOps.uitofp (F := Ideal) .f32 (BitVec.ofBool b) = if b then (1 : EReal) else 0 := by
  cases b
  · show (((BitVec.ofBool false).toNat : ℝ) : EReal) = _
    simp
  · show (((BitVec.ofBool true).toNat : ℝ) : EReal) = _
    simp

/-- Two slots' numbers compared. -/
theorem cmp_num (a b : Fin 32) : IntOp.cmpi .eq (BitVec.ofNat 32 a.val) (BitVec.ofNat 32 b.val) = BitVec.ofBool (decide (a = b)) := by
  unfold IntOp.cmpi
  by_cases h : a = b
  · simp [h]
  · have := fun g => h (num_inj g)
    rw [beq_false_of_ne this]; simp [h]

/-- What a step leaves of a confidence or an exposure. -/
def decay : EReal := Ideal.ofBits .f32 1065269330#32

/-- A free slot, -/
def Dead (i : Fin 4096) (k : Fin 32) : Prop := A.alive i k < half
/-- a slot's use, -/
def util (i : Fin 4096) (k : Fin 32) : EReal := A.conf i k * A.expi i k * (1 - A.contr i k)
/-- a slot of least use, -/
def Low (i : Fin 4096) (k : Fin 32) : Prop := ∀ l, util A i k ≤ util A i l
/-- and the slot that is written: the first free one, or with none free the first of least use. -/
def IsSlot (i : Fin 4096) (k : Fin 32) : Prop :=
  IsFirst (Dead A i) k ∨ ((∀ j, ¬Dead A i j) ∧ IsFirst (Low A i) k)

theorem exists_low (i : Fin 4096) : ∃ k, Low A i k := by
  obtain ⟨k, -, hk⟩ := Finset.exists_min_image Finset.univ (util A i) ⟨0, Finset.mem_univ 0⟩
  exact ⟨k, fun l => hk l (Finset.mem_univ l)⟩

theorem exists_slot (i : Fin 4096) : ∃ k, IsSlot A i k := by
  by_cases h : ∃ k, Dead A i k
  · obtain ⟨k, hk⟩ := exists_first _ h
    exact ⟨k, Or.inl hk⟩
  · obtain ⟨k, hk⟩ := exists_first _ (exists_low A i)
    exact ⟨k, Or.inr ⟨fun j hj => h ⟨j, hj⟩, hk⟩⟩

def slot (i : Fin 4096) : Fin 32 := (exists_slot A i).choose
theorem slot_spec (i : Fin 4096) : IsSlot A i (slot A i) := (exists_slot A i).choose_spec

theorem slot_dead {i : Fin 4096} (h : ∃ k, Dead A i k) : IsFirst (Dead A i) (slot A i) := by
  rcases slot_spec A i with g | g
  · exact g
  · obtain ⟨k, hk⟩ := h
    exact absurd hk (g.1 k)

theorem slot_low {i : Fin 4096} (h : ¬∃ k, Dead A i k) : IsFirst (Low A i) (slot A i) := by
  rcases slot_spec A i with g | g
  · exact absurd ⟨_, g.1⟩ h
  · exact g.2

/-- How much of a slot is written, and how much kept. -/
def hit (i : Fin 4096) (k : Fin 32) : EReal := if k = slot A i then wm A i else 0
def keep (i : Fin 4096) (k : Fin 32) : EReal := 1 - hit A i k

/-- The new numbers and values. -/
def conf' (i : Fin 4096) (k : Fin 32) : EReal := keep A i k * (A.conf i k * decay) + hit A i k * wm A i
def exp' (i : Fin 4096) (k : Fin 32) : EReal := keep A i k * (A.expi i k * decay) + hit A i k
def contr' (i : Fin 4096) (k : Fin 32) : EReal := keep A i k * A.contr i k + hit A i k * cm A i
def alive' (i : Fin 4096) (k : Fin 32) : EReal := min 1 (max 0 (keep A i k * A.alive i k + hit A i k))
def md' (i : Fin 4096) (k : Fin 32) (d : Fin 6) : EReal :=
  ![conf' A i k, exp' A i k, contr' A i k, alive' A i k, keep A i k * A.md i k 4, keep A i k * A.md i k 5] d
def vals' (i : Fin 4096) (k : Fin 32) (j : Fin 256) : EReal :=
  keep A i k * A.vals i k j + hit A i k * cand A i j

/-- The logistic's values lie between zero and one. -/
theorem sigm_mem (x : EReal) : 0 ≤ sigm x ∧ sigm x ≤ 1 := by
  rw [← logistic_eq]
  induction x using EReal.rec with
  | bot => simp
  | top => simp
  | coe r =>
    rw [Ideal.logistic_coe]
    have h : 0 < Real.exp (-r) := Real.exp_pos _
    exact ⟨EReal.coe_nonneg.2 (by positivity), by
      rw [← EReal.coe_one, EReal.coe_le_coe_iff]
      exact inv_le_one_of_one_le₀ (by linarith)⟩

theorem wm_mem (i : Fin 4096) : 0 ≤ wm A i ∧ wm A i ≤ 1 := sigm_mem _

theorem hit_mem (i : Fin 4096) (k : Fin 32) : 0 ≤ hit A i k ∧ hit A i k ≤ 1 := by
  unfold hit
  split_ifs
  · exact wm_mem A i
  · exact ⟨le_rfl, zero_le_one⟩

theorem keep_nonneg (i : Fin 4096) (k : Fin 32) : 0 ≤ keep A i k := by
  obtain ⟨h, g⟩ := hit_mem A i k
  unfold keep
  exact EReal.sub_nonneg (Or.inl (by decide)) (Or.inl (by decide)) |>.2 g

end Cert.Spec
-- ==== Proof.Val.KL.lean ====
/-
  The body's ledger outputs, at any grid point, as the row's new numbers and values.
-/
module

public import proofs.«01_k».proof.Proof.Val.K
public import proofs.«01_k».proof.Proof.Val.Ledger

@[expose] public section

set_option maxRecDepth 16384

noncomputable section

namespace Cert.KernelIdeal.Hand

open Cert.KernelIdeal Cert.KernelIdeal.Gen Cert.Spec
open Idealize.ShloMosaic Idealize.ShloMosaic.TcCoe

theorem select_zero {α : Type} (x y : α) : Scalar.select 0#1 x y = y := by simp [Scalar.select]

section Loads
variable (X : In Ideal) (t : Fin cfg0.N) (r : Fin 128)
theorem v219_at (j : Fin 32) : v219 X t (ix2 r j) = X.x5 (ix2 (row t r) j) := by
  unfold v219 row; pointwise [k0_off3]; simp only [first_row]
theorem v222_at (j : Fin 32) : v222 X t (ix2 r j) = X.x6 (ix2 (row t r) j) := by
  unfold v222 row; pointwise [k0_off3]; simp only [first_row]
end Loads

variable {A : Args} {X : In Ideal} (H : Reads A X) (t : Fin cfg0.N) (r : Fin 128)
include H

theorem v56_at (j : Fin 32) : v56 X t (ix2 r j) = A.conf (row t r) j := by
  unfold v56 k0_pay11; pointwise; rw [v55_at, H.x4]
theorem v59_at (j : Fin 32) : v59 X t (ix2 r j) = A.alive (row t r) j := by
  unfold v59 k0_pay12; pointwise; rw [v58_at, H.x7]
theorem v220_at (j : Fin 32) : v220 X t (ix2 r j) = A.expi (row t r) j := by
  unfold v220 k0_pay28; pointwise; rw [v219_at, H.x5]
theorem v223_at (j : Fin 32) : v223 X t (ix2 r j) = A.contr (row t r) j := by
  unfold v223 k0_pay29; pointwise; rw [v222_at, H.x6]

open Classical in
theorem v231_at : v231 X t (ix2 r 0) = BitVec.ofBool (decide (∃ k, Dead A (row t r) k)) := by
  unfold v231 v59 k0_pay31 k0_pay30 k0_pay12
  pointwise
  simp only [v58_at, H.x7, signed_ofBool, decide_eq_true_eq]
  exact congrArg BitVec.ofBool (decide_eq_decide.2 (@any_max (Dead A (row t r)) fun x => LinearOrder.toDecidableLT _ _))

open Classical in
theorem v236_at (h : ∃ k, Dead A (row t r) k) : v236 X t (ix2 r 0) = BitVec.ofNat 32 (slot A (row t r)).val := by
  unfold v236 v59 k0_pay32 k0_pay30 k0_pay12
  pointwise
  simp only [v58_at, H.x7]
  exact least_num _ (slot_dead A h)

open Classical in
theorem v249_at : v249 X t (ix2 r 0) = BitVec.ofNat 32 (slot A (row t r)).val := by
  unfold v249
  unfold v240 v241 v232 k0_pay35 k0_pay33 k0_pay34
  pointwise
  rw [v231_at H]
  by_cases h : ∃ k, Dead A (row t r) k
  · rw [v236_at H t r h]
    simp [h, Scalar.select]
  · rw [decide_eq_false h]
    have hu : ∀ x, v56 X t (ix2 r x) * k0_pay28 (v219 X t) (ix2 r x) * (1 - k0_pay29 (v222 X t) (ix2 r x)) = util A (row t r) x :=
      fun x => by
        rw [show k0_pay28 (v219 X t) = v220 X t from rfl, show k0_pay29 (v222 X t) = v223 X t from rfl, v56_at H, v220_at H, v223_at H]
        rfl
    have hp : ∀ x, k0_pay33 (v56 X t) (v219 X t) (v222 X t) (ix2 r x) = util A (row t r) x := fun x => by
      unfold k0_pay33; pointwise; exact hu x
    rw [show BitVec.ofBool false = 0#1 from rfl, select_zero]
    simp only [hu, hp]
    refine Eq.trans ?_ (least_num (Low A (row t r)) (slot_low A h))
    refine congrArg (fun f => Finset.fold IntOp.minsi (2147483647#32) f Finset.univ) (funext fun x => ?_)
    exact if_congr (eq_least (util A (row t r)) x) rfl rfl

theorem pay36_at (j : Fin 32) : k0_pay36 (v212 X t) (v231 X t) (v232 X t) (v236 X t) (v240 X t) (v241 X t) (ix2 r j) = hit A (row t r) j := by
  unfold k0_pay36
  rw [show k0_pay35 (v231 X t) (v232 X t) (v236 X t) (v240 X t) (v241 X t) = v249 X t from rfl, v232]
  pointwise
  rw [v249_at H, v212_at H, cmp_num]
  unfold hit
  by_cases h : j = slot A (row t r) <;> simp [h, Scalar.select]

theorem v257_at (j : Fin 32) : v257 X t (ix2 r j) = keep A (row t r) j := by
  unfold v257 k0_pay37
  pointwise
  rw [pay36_at H]
  rfl

theorem v263_at (j : Fin 32) : v263 X t (ix2 r j) = conf' A (row t r) j := by
  unfold v263 k0_pay38
  pointwise
  rw [pay36_at H, show k0_pay37 (v212 X t) (v231 X t) (v232 X t) (v236 X t) (v240 X t) (v241 X t) = v257 X t from rfl, v257_at H, v56_at H, v212_at H]
  rfl

theorem v267_at (j : Fin 32) : v267 X t (ix2 r j) = exp' A (row t r) j := by
  unfold v267 k0_pay39
  pointwise
  rw [pay36_at H, show k0_pay37 (v212 X t) (v231 X t) (v232 X t) (v236 X t) (v240 X t) (v241 X t) = v257 X t from rfl, v257_at H, v220_at H]
  rfl

theorem v271_at (j : Fin 32) : v271 X t (ix2 r j) = contr' A (row t r) j := by
  unfold v271 k0_pay40
  pointwise
  rw [pay36_at H, show k0_pay37 (v212 X t) (v231 X t) (v232 X t) (v236 X t) (v240 X t) (v241 X t) = v257 X t from rfl, v257_at H, v223_at H, v217_at H]
  rfl

theorem v277_at (j : Fin 32) : v277 X t (ix2 r j) = alive' A (row t r) j := by
  unfold v277 k0_pay41
  pointwise
  rw [pay36_at H, show k0_pay37 (v212 X t) (v231 X t) (v232 X t) (v236 X t) (v240 X t) (v241 X t) = v257 X t from rfl, v257_at H, v59_at H]
  rfl

theorem outMd_at (d : Fin 6) (k : Fin 32) : outMd X t (ix2 r ⟨d.val * 32 + k.val, by omega⟩) = md' A (row t r) k d := by
  have hk := k.isLt
  unfold outMd k0_pay42
  pointwise
  simp only [v263_at H, v267_at H, v271_at H, v277_at H, v257_at H, v67_at, v70_at, H.x12, H.x13]
  unfold md'
  fin_cases d
  · simp only [dif_pos (show 0 * 32 + k.val < 32 by omega)]
    congr 1 <;> try (apply Fin.ext; simp only; omega)
  · simp only [dif_neg (show ¬(1 * 32 + k.val < 32) by omega), dif_pos (show 1 * 32 + k.val - 32 < 32 by omega)]
    congr 1 <;> try (apply Fin.ext; simp only; omega)
  · simp only [dif_neg (show ¬(2 * 32 + k.val < 32) by omega), dif_neg (show ¬(2 * 32 + k.val - 32 < 32) by omega), dif_pos (show 2 * 32 + k.val - 32 - 32 < 32 by omega)]
    congr 1 <;> try (apply Fin.ext; simp only; omega)
  · simp only [dif_neg (show ¬(3 * 32 + k.val < 32) by omega), dif_neg (show ¬(3 * 32 + k.val - 32 < 32) by omega), dif_neg (show ¬(3 * 32 + k.val - 32 - 32 < 32) by omega), dif_pos (show 3 * 32 + k.val - 32 - 32 - 32 < 32 by omega)]
    congr 1 <;> try (apply Fin.ext; simp only; omega)
  · simp only [dif_neg (show ¬(4 * 32 + k.val < 32) by omega), dif_neg (show ¬(4 * 32 + k.val - 32 < 32) by omega), dif_neg (show ¬(4 * 32 + k.val - 32 - 32 < 32) by omega), dif_neg (show ¬(4 * 32 + k.val - 32 - 32 - 32 < 32) by omega), dif_pos (show 4 * 32 + k.val - 32 - 32 - 32 - 32 < 32 by omega)]
    rw [show (⟨4 * 32 + k.val - 32 - 32 - 32 - 32, by omega⟩ : Fin 32) = k from Fin.ext (by simp only; omega)]
    rfl
  · simp only [dif_neg (show ¬(5 * 32 + k.val < 32) by omega), dif_neg (show ¬(5 * 32 + k.val - 32 < 32) by omega), dif_neg (show ¬(5 * 32 + k.val - 32 - 32 < 32) by omega), dif_neg (show ¬(5 * 32 + k.val - 32 - 32 - 32 < 32) by omega), dif_neg (show ¬(5 * 32 + k.val - 32 - 32 - 32 - 32 < 32) by omega), ]
    rw [show (⟨5 * 32 + k.val - 32 - 32 - 32 - 32 - 32, by omega⟩ : Fin 32) = k from Fin.ext (by simp only; omega)]
    rfl

theorem outVals_at (B : Vec Ideal S1x128x32x256 .f32) (k : Fin 32) (j : Fin 256) :
    outVals X t B (ix4 0 r k j) = B (ix4 0 r k j)
      + (if k = slot A (row t r) then wm A (row t r) * (cand A (row t r) j - B (ix4 0 r k j)) else 0) := by
  unfold outVals v313 k0_pay1 k0_pay44 k0_pay45
  pointwise
  rw [v249_at H, v212_at H, v52_at H, cmp_num]
  by_cases h : k = slot A (row t r) <;> simp [h, Scalar.select]

end Cert.KernelIdeal.Hand
-- ==== Proof.Val.Arr.lean ====
/-
  The arrays that the kernel's windows leave behind, as functions of the arguments.
-/
module

public import proofs.«01_k».proof.Proof.KernI.Whole
public import proofs.«01_k».proof.Proof.Val.In
public import proofs.«01_k».proof.Proof.Val.KL

@[expose] public section

set_option maxRecDepth 16384

noncomputable section

namespace Cert.KernelIdeal.Hand

open Cert.KernelIdeal Cert.KernelIdeal.Gen Cert.Spec
open Idealize.ShloMosaic Idealize.ShloMosaic.TcCoe

variable (m : (ℓ : Loc nD τ sig) → Buf (Elt Ideal) ℓ) (c : Dev nD)

theorem idx_37 : ∀ t : Fin cfg0.N, win0_37.index t 0 = t.val ∧ win0_37.index t 1 = 0 := by decide +kernel
theorem row_37 (t : Fin cfg0.N) (r : Fin 128) (j : Fin 256) : (win0_37.blk t).view.emb (ix2 r j) 0 = row t r :=
  Fin.ext (by blk_simp; simp [row, idx_37 t])
theorem col_37 (t : Fin cfg0.N) (r : Fin 128) (j : Fin 256) : (win0_37.blk t).view.emb (ix2 r j) 1 = j :=
  Fin.ext (by blk_simp; simp [idx_37 t])
theorem arr_37 : (dats m 0 c).arrAt 37 cfg0.N = (fun i => cand (argsOf m c) (i 0) (i 1) : S4096x256.Idx → EReal) := by
  refine (dats m 0 c).arrAt_eq_of_covers 37 _ (by decide +kernel) fun t hf y => ?_
  blk_simp
  rw [after0_37]
  obtain ⟨r, j, rfl⟩ : ∃ (r : Fin 128) (j : Fin 256), y = ix2 r j := ⟨_, _, (ix2_eta _).symm⟩
  rw [v52_at (reads_Xat m c t), row_37, col_37]

theorem idx_38 : ∀ t : Fin cfg0.N, win0_38.index t 0 = t.val ∧ win0_38.index t 1 = 0 := by decide +kernel
theorem row_38 (t : Fin cfg0.N) (r : Fin 128) (j : Fin 4) : (win0_38.blk t).view.emb (ix2 r j) 0 = row t r :=
  Fin.ext (by blk_simp; simp [row, idx_38 t])
theorem col_38 (t : Fin cfg0.N) (r : Fin 128) (j : Fin 4) : (win0_38.blk t).view.emb (ix2 r j) 1 = j :=
  Fin.ext (by blk_simp; simp [idx_38 t])
theorem arr_38 : (dats m 0 c).arrAt 38 cfg0.N = (fun i => ![wp (argsOf m c) (i 0), cp (argsOf m c) (i 0), wm (argsOf m c) (i 0), cm (argsOf m c) (i 0)] (i 1) : S4096x4.Idx → EReal) := by
  refine (dats m 0 c).arrAt_eq_of_covers 38 _ (by decide +kernel) fun t hf y => ?_
  blk_simp
  rw [after0_38]
  obtain ⟨r, j, rfl⟩ : ∃ (r : Fin 128) (j : Fin 4), y = ix2 r j := ⟨_, _, (ix2_eta _).symm⟩
  rw [outPr_at (reads_Xat m c t), row_38, col_38]

theorem idx_39 : ∀ t : Fin cfg0.N, win0_39.index t 0 = t.val ∧ win0_39.index t 1 = 0 := by decide +kernel
theorem row_39 (t : Fin cfg0.N) (r : Fin 128) (j : Fin 32) : (win0_39.blk t).view.emb (ix2 r j) 0 = row t r :=
  Fin.ext (by blk_simp; simp [row, idx_39 t])
theorem col_39 (t : Fin cfg0.N) (r : Fin 128) (j : Fin 32) : (win0_39.blk t).view.emb (ix2 r j) 1 = j :=
  Fin.ext (by blk_simp; simp [idx_39 t])
theorem arr_39 : (dats m 0 c).arrAt 39 cfg0.N = (fun i => conf' (argsOf m c) (i 0) (i 1) : S4096x32.Idx → EReal) := by
  refine (dats m 0 c).arrAt_eq_of_covers 39 _ (by decide +kernel) fun t hf y => ?_
  blk_simp
  rw [after0_39]
  obtain ⟨r, j, rfl⟩ : ∃ (r : Fin 128) (j : Fin 32), y = ix2 r j := ⟨_, _, (ix2_eta _).symm⟩
  rw [v263_at (reads_Xat m c t), row_39, col_39]

theorem idx_40 : ∀ t : Fin cfg0.N, win0_40.index t 0 = t.val ∧ win0_40.index t 1 = 0 := by decide +kernel
theorem row_40 (t : Fin cfg0.N) (r : Fin 128) (j : Fin 32) : (win0_40.blk t).view.emb (ix2 r j) 0 = row t r :=
  Fin.ext (by blk_simp; simp [row, idx_40 t])
theorem col_40 (t : Fin cfg0.N) (r : Fin 128) (j : Fin 32) : (win0_40.blk t).view.emb (ix2 r j) 1 = j :=
  Fin.ext (by blk_simp; simp [idx_40 t])
theorem arr_40 : (dats m 0 c).arrAt 40 cfg0.N = (fun i => exp' (argsOf m c) (i 0) (i 1) : S4096x32.Idx → EReal) := by
  refine (dats m 0 c).arrAt_eq_of_covers 40 _ (by decide +kernel) fun t hf y => ?_
  blk_simp
  rw [after0_40]
  obtain ⟨r, j, rfl⟩ : ∃ (r : Fin 128) (j : Fin 32), y = ix2 r j := ⟨_, _, (ix2_eta _).symm⟩
  rw [v267_at (reads_Xat m c t), row_40, col_40]

theorem idx_41 : ∀ t : Fin cfg0.N, win0_41.index t 0 = t.val ∧ win0_41.index t 1 = 0 := by decide +kernel
theorem row_41 (t : Fin cfg0.N) (r : Fin 128) (j : Fin 32) : (win0_41.blk t).view.emb (ix2 r j) 0 = row t r :=
  Fin.ext (by blk_simp; simp [row, idx_41 t])
theorem col_41 (t : Fin cfg0.N) (r : Fin 128) (j : Fin 32) : (win0_41.blk t).view.emb (ix2 r j) 1 = j :=
  Fin.ext (by blk_simp; simp [idx_41 t])
theorem arr_41 : (dats m 0 c).arrAt 41 cfg0.N = (fun i => contr' (argsOf m c) (i 0) (i 1) : S4096x32.Idx → EReal) := by
  refine (dats m 0 c).arrAt_eq_of_covers 41 _ (by decide +kernel) fun t hf y => ?_
  blk_simp
  rw [after0_41]
  obtain ⟨r, j, rfl⟩ : ∃ (r : Fin 128) (j : Fin 32), y = ix2 r j := ⟨_, _, (ix2_eta _).symm⟩
  rw [v271_at (reads_Xat m c t), row_41, col_41]

theorem idx_42 : ∀ t : Fin cfg0.N, win0_42.index t 0 = t.val ∧ win0_42.index t 1 = 0 := by decide +kernel
theorem row_42 (t : Fin cfg0.N) (r : Fin 128) (j : Fin 32) : (win0_42.blk t).view.emb (ix2 r j) 0 = row t r :=
  Fin.ext (by blk_simp; simp [row, idx_42 t])
theorem col_42 (t : Fin cfg0.N) (r : Fin 128) (j : Fin 32) : (win0_42.blk t).view.emb (ix2 r j) 1 = j :=
  Fin.ext (by blk_simp; simp [idx_42 t])
theorem arr_42 : (dats m 0 c).arrAt 42 cfg0.N = (fun i => alive' (argsOf m c) (i 0) (i 1) : S4096x32.Idx → EReal) := by
  refine (dats m 0 c).arrAt_eq_of_covers 42 _ (by decide +kernel) fun t hf y => ?_
  blk_simp
  rw [after0_42]
  obtain ⟨r, j, rfl⟩ : ∃ (r : Fin 128) (j : Fin 32), y = ix2 r j := ⟨_, _, (ix2_eta _).symm⟩
  rw [v277_at (reads_Xat m c t), row_42, col_42]

theorem idx_43 : ∀ t : Fin cfg0.N, win0_43.index t 0 = t.val ∧ win0_43.index t 1 = 0 := by decide +kernel
theorem row_43 (t : Fin cfg0.N) (r : Fin 128) (j : Fin 192) : (win0_43.blk t).view.emb (ix2 r j) 0 = row t r :=
  Fin.ext (by blk_simp; simp [row, idx_43 t])
theorem col_43 (t : Fin cfg0.N) (r : Fin 128) (j : Fin 192) : (win0_43.blk t).view.emb (ix2 r j) 1 = j :=
  Fin.ext (by blk_simp; simp [idx_43 t])
/-- A column of the packed summary: which of the six, and which slot. -/
def mdCol (j : Fin 192) : Fin 6 := ⟨j.val / 32, by omega⟩
def mdSlot (j : Fin 192) : Fin 32 := ⟨j.val % 32, by omega⟩
theorem arr_43 : (dats m 0 c).arrAt 43 cfg0.N = (fun i => md' (argsOf m c) (i 0) (mdSlot (i 1)) (mdCol (i 1)) : S4096x192.Idx → EReal) := by
  refine (dats m 0 c).arrAt_eq_of_covers 43 _ (by decide +kernel) fun t hf y => ?_
  blk_simp
  rw [after0_43]
  obtain ⟨r, j, rfl⟩ : ∃ (r : Fin 128) (j : Fin 192), y = ix2 r j := ⟨_, _, (ix2_eta _).symm⟩
  rw [row_43, col_43, ← outMd_at (reads_Xat m c t)]
  refine congrArg (fun j => outMd (Xat m c t) t (ix2 r j)) (Fin.ext ?_)
  show j.val = j.val / 32 * 32 + j.val % 32
  omega

/-- The suffix's memory: the windows' arrays, the values' result, and what the prefix left elsewhere. -/
def VN : Valuation τ sig (Elt Ideal) :=
  Pipeline.withArrays spec0 c (Pipeline.withR (V0 m c) RR c (GAt m c)) fun w => (dats m 0 c).arrAt w cfg0.N

theorem VN_own (w : Fin 44) (hw : ∀ w', Pipeline.arrRef spec0 w' = Pipeline.arrRef spec0 w → w' = w) :
    VN m c (Proc.devRef .tc (Pipeline.arrRef spec0 w)) = (dats m 0 c).arrAt w cfg0.N := by
  unfold VN Pipeline.withArrays
  have h : ∃ w', Proc.devRef .tc (Pipeline.arrRef spec0 w') = Proc.devRef (τ := τ) .tc (Pipeline.arrRef spec0 w) := ⟨w, rfl⟩
  rw [dif_pos h]
  suffices ∀ (w' : Fin 44) (e : Proc.devRef .tc (Pipeline.arrRef spec0 w') = Proc.devRef (τ := τ) .tc (Pipeline.arrRef spec0 w)),
      cast (congrArg (fun b' : DevRef τ sig => b'.ty.Contents (Elt Ideal)) e) ((dats m 0 c).arrAt w' cfg0.N) = (dats m 0 c).arrAt w cfg0.N from this _ h.choose_spec
  intro w' e
  obtain rfl := hw w' (Proc.devRef_injective _ e)
  rfl

theorem VN_38 : VN m c (Proc.devRef .tc main_v35_1) = (dats m 0 c).arrAt 38 cfg0.N := VN_own m c 38 (by decide)
theorem VN_39 : VN m c (Proc.devRef .tc main_v35_3) = (dats m 0 c).arrAt 39 cfg0.N := VN_own m c 39 (by decide)
theorem VN_40 : VN m c (Proc.devRef .tc main_v35_4) = (dats m 0 c).arrAt 40 cfg0.N := VN_own m c 40 (by decide)
theorem VN_41 : VN m c (Proc.devRef .tc main_v35_5) = (dats m 0 c).arrAt 41 cfg0.N := VN_own m c 41 (by decide)
theorem VN_42 : VN m c (Proc.devRef .tc main_v35_6) = (dats m 0 c).arrAt 42 cfg0.N := VN_own m c 42 (by decide)
theorem VN_43 : VN m c (Proc.devRef .tc main_v35_7) = (dats m 0 c).arrAt 43 cfg0.N := VN_own m c 43 (by decide)

variable (W : Valuation τ sig (Elt Ideal))

theorem suf_38 (i : Fin 4096) (l : Fin 1) : StableHlo.after [hostOps1].flatten W (Proc.devRef .tc main_v38) (ix2 i l)
    = W (Proc.devRef .tc main_v35_1) (ix2 i 0) := by
  after_reads_at
theorem suf_39 (i : Fin 4096) (l : Fin 1) : StableHlo.after [hostOps1].flatten W (Proc.devRef .tc main_v39) (ix2 i l)
    = W (Proc.devRef .tc main_v35_1) (ix2 i 1) := by
  after_reads_at
theorem suf_40 (i : Fin 4096) (l : Fin 1) : StableHlo.after [hostOps1].flatten W (Proc.devRef .tc main_v40) (ix2 i l)
    = W (Proc.devRef .tc main_v35_1) (ix2 i 2) := by
  after_reads_at
theorem suf_41 (i : Fin 4096) (l : Fin 1) : StableHlo.after [hostOps1].flatten W (Proc.devRef .tc main_v41) (ix2 i l)
    = W (Proc.devRef .tc main_v35_1) (ix2 i 3) := by
  after_reads_at
theorem suf_42 (i : Fin 4096) (k : Fin 32) (l : Fin 1) : StableHlo.after [hostOps1].flatten W (Proc.devRef .tc main_v42) (ix3 i k l)
    = W (Proc.devRef .tc main_v35_3) (ix2 i k) := by
  after_reads_at
theorem suf_43 (i : Fin 4096) (k : Fin 32) (l : Fin 1) : StableHlo.after [hostOps1].flatten W (Proc.devRef .tc main_v43) (ix3 i k l)
    = W (Proc.devRef .tc main_v35_4) (ix2 i k) := by
  after_reads_at
theorem suf_44 (i : Fin 4096) (k : Fin 32) (l : Fin 1) : StableHlo.after [hostOps1].flatten W (Proc.devRef .tc main_v44) (ix3 i k l)
    = W (Proc.devRef .tc main_v35_5) (ix2 i k) := by
  after_reads_at
theorem suf_45 (i : Fin 4096) (k : Fin 32) (l : Fin 1) : StableHlo.after [hostOps1].flatten W (Proc.devRef .tc main_v45) (ix3 i k l)
    = W (Proc.devRef .tc main_v35_6) (ix2 i k) := by
  after_reads_at
theorem suf_37 (i : Fin 4096) (k : Fin 32) (d : Fin 6) : StableHlo.after [hostOps1].flatten W (Proc.devRef .tc main_v37) (ix3 i k d)
    = W (Proc.devRef .tc main_v35_7) (ix2 i ⟨d.val * 32 + k.val, by omega⟩) := by
  after_reads_at

theorem suf_2 : StableHlo.after [hostOps1].flatten W (Proc.devRef .tc main_v35_2) = W (Proc.devRef .tc main_v35_2) :=
  StableHlo.after_of_forall_not_mem (b := Proc.devRef .tc main_v35_2) _ _ (List.forall_iff_forall_mem.mp (by
    simp only [hostOps1, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))

theorem VN_2 : VN m c (Proc.devRef .tc main_v35_2) = GV m c :=
  (Pipeline.withArrays_of_ne _ c _ _ main_v35_2 (by exact (by decide : ∀ w, Pipeline.arrRef spec0 w ≠ main_v35_2))).trans
    ((Pipeline.withR_of_mem _ _ _ _ (b := main_v35_2) (by decide)).trans (GAt_self m c))

theorem blkO_emb (t : Fin 32) (r : Fin 128) (k : Fin 32) (j : Fin 256) : (blkO t).view.emb (ix3 r k j) = ix3 (row (pt t) r) k j := by
  funext a; refine Fin.ext ?_
  fin_cases a
  · show 128 * t.val + 1 * r.val = t.val * 128 + r.val
    omega
  · show 0 + 1 * k.val = k.val
    omega
  · show 0 + 1 * j.val = j.val
    omega
theorem blkI_emb (t : Fin 32) (r : Fin 128) (k : Fin 32) (j : Fin 256) : (blkI t).view.emb (ix3 r k j) = ix3 (row (pt t) r) k j :=
  blkO_emb t r k j

/-- A store into the whole of a view, read at an index of the view. -/
theorem writes_whole_emb {κ : Kind} {sp : Space} {s : Shape} {e : EltTy} (v : View sig κ sp s e) (f : v.ty.Contents (Elt Ideal))
    (w : s.Idx → Elt Ideal e) (x : s.Idx) (z : v.ty.shape.Idx) (hz : v.emb x = z) :
    HEq (v.writes (Elt Ideal) f [⟨Rect.whole s, w⟩] z) (w x) := by
  have h := View.read_writes_cons_hit_of_coords v f (Rect.whole s) w [] x x (fun a => by simp [Rect.whole])
  subst hz
  rw [View.read_apply] at h
  exact ((cast_heq _ _).symm).trans (heq_of_eq h)

theorem blkOf_row (t : Fin 32) (r : Fin 128) (k : Fin 32) (j : Fin 256) : blkOf (ix3 (row (pt t) r) k j) = t :=
  Fin.ext (by
    show (t.val * 128 + r.val) / 128 = t.val
    omega)

theorem GV_of (b t : Fin 32) (hb : b = t) (x : S128x32x256.Idx) (z : S4096x32x256.Idx) (hz : (blkO t).view.emb x = z) :
    (blkO b).view.writes (Elt Ideal) (XOof m c) [⟨Rect.whole S128x32x256, Yof m c b⟩] z = Yof m c t x := by
  subst hb
  exact eq_of_heq (writes_whole_emb (blkO b).view (XOof m c) (Yof m c b) x z hz)

theorem GV_at (t : Fin 32) (r : Fin 128) (k : Fin 32) (j : Fin 256) : GV m c (ix3 (row (pt t) r) k j) = Yof m c t (ix3 r k j) :=
  GV_of m c _ t (blkOf_row t r k j) (ix3 r k j) (ix3 (row (pt t) r) k j) (blkO_emb t r k j)

end Cert.KernelIdeal.Hand
-- ==== Proof.Val.Out.lean ====
/-
  The results as arrays, and the two ways of blending a value.
-/
module

public import proofs.«01_k».proof.Proof.Val.Ledger

@[expose] public section

noncomputable section

namespace Cert.Spec

open Idealize.ShloMosaic

variable (A : Args)

/-- Moving a finite value toward another by a weight, and weighing the two: the same. -/
theorem blend (v w c : EReal) (hv : v ≠ ⊤) (hv' : v ≠ ⊥) (h0 : 0 ≤ w) (h1 : w ≤ 1) : v + w * (c - v) = (1 - w) * v + w * c := by
  have hw : w ≠ ⊤ := fun h => by
    rw [h] at h1
    exact absurd h1 (by decide)
  have hw' : w ≠ ⊥ := fun h => by
    rw [h] at h0
    exact absurd h0 (by decide)
  lift v to ℝ using ⟨hv, hv'⟩
  lift w to ℝ using ⟨hw, hw'⟩
  have h0' : 0 ≤ w := by exact_mod_cast h0
  have e : ((1 : EReal) - (w : EReal)) * (v : EReal) = (((1 - w) * v : ℝ) : EReal) := by
    push_cast
    rfl
  rcases h0'.eq_or_lt with h | h
  · subst h
    simp
  · induction c using EReal.rec with
    | bot =>
      rw [e, EReal.bot_sub, EReal.coe_mul_bot_of_pos h, EReal.add_bot, EReal.add_bot]
    | top =>
      rw [e, EReal.top_sub_coe, EReal.coe_mul_top_of_pos h, EReal.coe_add_top, EReal.coe_add_top]
    | coe c =>
      rw [e]
      norm_cast
      ring

/-- The blended values at a finite old value. -/
theorem vals_blend (i : Fin 4096) (k : Fin 32) (j : Fin 256) (hv : A.vals i k j ≠ ⊤) (hv' : A.vals i k j ≠ ⊥) :
    A.vals i k j + (if k = slot A i then wm A i * (cand A i j - A.vals i k j) else 0) = vals' A i k j := by
  unfold vals' keep
  rw [← blend _ _ _ hv hv' (hit_mem A i k).1 (hit_mem A i k).2]
  unfold hit
  split_ifs <;> simp

/-! The results as arrays. -/

def out0 : (⟨2, ![4096, 256]⟩ : Shape).Idx → EReal := fun i => cand A (i 0) (i 1)
def out1 : (⟨2, ![4096, 1]⟩ : Shape).Idx → EReal := fun i => wp A (i 0)
def out2 : (⟨2, ![4096, 1]⟩ : Shape).Idx → EReal := fun i => cp A (i 0)
def out3 : (⟨2, ![4096, 1]⟩ : Shape).Idx → EReal := fun i => wm A (i 0)
def out4 : (⟨2, ![4096, 1]⟩ : Shape).Idx → EReal := fun i => cm A (i 0)
def out5 : (⟨3, ![4096, 32, 256]⟩ : Shape).Idx → EReal := fun i => vals' A (i 0) (i 1) (i 2)
def out6 : (⟨3, ![4096, 32, 1]⟩ : Shape).Idx → EReal := fun i => conf' A (i 0) (i 1)
def out7 : (⟨3, ![4096, 32, 1]⟩ : Shape).Idx → EReal := fun i => exp' A (i 0) (i 1)
def out8 : (⟨3, ![4096, 32, 1]⟩ : Shape).Idx → EReal := fun i => contr' A (i 0) (i 1)
def out9 : (⟨3, ![4096, 32, 1]⟩ : Shape).Idx → EReal := fun i => alive' A (i 0) (i 1)
def out10 : (⟨3, ![4096, 32, 6]⟩ : Shape).Idx → EReal := fun i => md' A (i 0) (i 1) (i 2)

end Cert.Spec
-- ==== Proof.Val.KOut.lean ====
/-
  The kernel's results as arrays.
-/
module

public import proofs.«01_k».proof.Proof.Val.Arr
public import proofs.«01_k».proof.Proof.Val.Out

@[expose] public section

set_option maxRecDepth 16384

noncomputable section

namespace Cert.KernelIdeal.Hand

open Cert.KernelIdeal Cert.KernelIdeal.Gen Cert.Spec
open Idealize.ShloMosaic Idealize.ShloMosaic.TcCoe

variable (m : (ℓ : Loc nD τ sig) → Buf (Elt Ideal) ℓ) (c : Dev nD)

theorem outY_at (X : In Ideal) (t : Fin cfg0.N) (y : S128x32x256.Idx → Elt Ideal .f32) (r : Fin 128) (k : Fin 32) (j : Fin 256) :
    outY X t y (ix3 r k j) = outVals X t (up y) (ix4 0 r k j) := by
  unfold outY
  pointwise

theorem up_at (y : S128x32x256.Idx → Elt Ideal .f32) (r : Fin 128) (k : Fin 32) (j : Fin 256) :
    up y (ix4 0 r k j) = y (ix3 r k j) := by
  pointwise

theorem valsAt_at (t : Fin 32) (r : Fin 128) (k : Fin 32) (j : Fin 256) :
    valsAt c (XAof m c) t (ix3 r k j) = (argsOf m c).vals (row (pt t) r) k j := by
  have h : XAof m c (ix3 (row (pt t) r) k j) = (argsOf m c).vals (row (pt t) r) k j :=
    congrFun (V_main_arg2 m c) (ix3 (row (pt t) r) k j)
  exact (congrArg (XAof m c) (blkI_emb t r k j)).trans h

theorem Yof_at (t : Fin 32) (r : Fin 128) (k : Fin 32) (j : Fin 256) :
    Yof m c t (ix3 r k j) = (argsOf m c).vals (row (pt t) r) k j
      + (if k = slot (argsOf m c) (row (pt t) r)
          then wm (argsOf m c) (row (pt t) r) * (cand (argsOf m c) (row (pt t) r) j - (argsOf m c).vals (row (pt t) r) k j) else 0) := by
  unfold Yof
  rw [outY_at, outVals_at (reads_Xat m c (pt t)), up_at, valsAt_at]

theorem row_of (i : Fin 4096) : row (pt ⟨i.val / 128, by omega⟩) ⟨i.val % 128, by omega⟩ = i :=
  Fin.ext (by
    show i.val / 128 * 128 + i.val % 128 = i.val
    omega)

theorem GV_vals (i : Fin 4096) (k : Fin 32) (j : Fin 256) :
    GV m c (ix3 i k j) = (argsOf m c).vals i k j
      + (if k = slot (argsOf m c) i then wm (argsOf m c) i * (cand (argsOf m c) i j - (argsOf m c).vals i k j) else 0) := by
  have h := (GV_at m c ⟨i.val / 128, by omega⟩ ⟨i.val % 128, by omega⟩ k j).trans (Yof_at m c _ _ k j)
  rw [row_of] at h
  exact h

theorem one_of (l : Fin 1) : l = 0 := Subsingleton.elim _ _

theorem md_split (i : Fin 4096) (k : Fin 32) (d : Fin 6) :
    md' (argsOf m c) i (mdSlot ⟨d.val * 32 + k.val, by omega⟩) (mdCol ⟨d.val * 32 + k.val, by omega⟩) = md' (argsOf m c) i k d := by
  congr 1
  · exact Fin.ext (by show (d.val * 32 + k.val) % 32 = k.val; omega)
  · exact Fin.ext (by show (d.val * 32 + k.val) / 32 = d.val; omega)

variable {m} {r : PUnit × MemSt nD τ sig (Elt Ideal)} (h : Post m r)
include h

theorem left (b : Ref sig .tc) (hb : b ∈ Pipeline.restRefs sig spec0) :
    r.2.mem ((c.tc : Thread nD τ).loc b) = StableHlo.after [hostOps1].flatten (VN m c) (Proc.devRef .tc b) :=
  (h.1 c).2 b (memRest hb)

theorem kout_0 : r.2.mem ((c.tc : Thread nD τ).loc main_v35_0) = out0 (argsOf m c) :=
  ((h.1 c).1 37).trans (arr_37 m c)
theorem kout_1 : r.2.mem ((c.tc : Thread nD τ).loc main_v38) = out1 (argsOf m c) := by
  rw [left c h main_v38 (Pipeline.mem_restRefs_of main_v38 (by decide) (by decide))]
  funext i
  rw [eq_ix2 i]
  exact (suf_38 (VN m c) (i 0) (i 1)).trans (congrFun ((VN_38 m c).trans (arr_38 m c)) (ix2 (i 0) 0))
theorem kout_2 : r.2.mem ((c.tc : Thread nD τ).loc main_v39) = out2 (argsOf m c) := by
  rw [left c h main_v39 (Pipeline.mem_restRefs_of main_v39 (by decide) (by decide))]
  funext i
  rw [eq_ix2 i]
  exact (suf_39 (VN m c) (i 0) (i 1)).trans (congrFun ((VN_38 m c).trans (arr_38 m c)) (ix2 (i 0) 1))
theorem kout_3 : r.2.mem ((c.tc : Thread nD τ).loc main_v40) = out3 (argsOf m c) := by
  rw [left c h main_v40 (Pipeline.mem_restRefs_of main_v40 (by decide) (by decide))]
  funext i
  rw [eq_ix2 i]
  exact (suf_40 (VN m c) (i 0) (i 1)).trans (congrFun ((VN_38 m c).trans (arr_38 m c)) (ix2 (i 0) 2))
theorem kout_4 : r.2.mem ((c.tc : Thread nD τ).loc main_v41) = out4 (argsOf m c) := by
  rw [left c h main_v41 (Pipeline.mem_restRefs_of main_v41 (by decide) (by decide))]
  funext i
  rw [eq_ix2 i]
  exact (suf_41 (VN m c) (i 0) (i 1)).trans (congrFun ((VN_38 m c).trans (arr_38 m c)) (ix2 (i 0) 3))
theorem kout_5 (i : (⟨3, ![4096, 32, 256]⟩ : Shape).Idx) (hv : m ((c.tc : Thread nD τ).loc main_arg2) i ≠ (⊤ : EReal))
    (hv' : m ((c.tc : Thread nD τ).loc main_arg2) i ≠ (⊥ : EReal)) :
    r.2.mem ((c.tc : Thread nD τ).loc main_v35_2) i = out5 (argsOf m c) i := by
  rw [left c h main_v35_2 (Pipeline.mem_restRefs_of main_v35_2 (by decide) (by decide))]
  rw [eq_ix3 i] at hv hv' ⊢
  refine (congrFun ((suf_2 (VN m c)).trans (VN_2 m c)) _).trans ?_
  exact (GV_vals m c _ _ _).trans (vals_blend (argsOf m c) _ _ _ hv hv')
theorem kout_6 : r.2.mem ((c.tc : Thread nD τ).loc main_v42) = out6 (argsOf m c) := by
  rw [left c h main_v42 (Pipeline.mem_restRefs_of main_v42 (by decide) (by decide))]
  funext i
  rw [eq_ix3 i]
  exact (suf_42 (VN m c) (i 0) (i 1) (i 2)).trans (congrFun ((VN_39 m c).trans (arr_39 m c)) (ix2 (i 0) (i 1)))
theorem kout_7 : r.2.mem ((c.tc : Thread nD τ).loc main_v43) = out7 (argsOf m c) := by
  rw [left c h main_v43 (Pipeline.mem_restRefs_of main_v43 (by decide) (by decide))]
  funext i
  rw [eq_ix3 i]
  exact (suf_43 (VN m c) (i 0) (i 1) (i 2)).trans (congrFun ((VN_40 m c).trans (arr_40 m c)) (ix2 (i 0) (i 1)))
theorem kout_8 : r.2.mem ((c.tc : Thread nD τ).loc main_v44) = out8 (argsOf m c) := by
  rw [left c h main_v44 (Pipeline.mem_restRefs_of main_v44 (by decide) (by decide))]
  funext i
  rw [eq_ix3 i]
  exact (suf_44 (VN m c) (i 0) (i 1) (i 2)).trans (congrFun ((VN_41 m c).trans (arr_41 m c)) (ix2 (i 0) (i 1)))
theorem kout_9 : r.2.mem ((c.tc : Thread nD τ).loc main_v45) = out9 (argsOf m c) := by
  rw [left c h main_v45 (Pipeline.mem_restRefs_of main_v45 (by decide) (by decide))]
  funext i
  rw [eq_ix3 i]
  exact (suf_45 (VN m c) (i 0) (i 1) (i 2)).trans (congrFun ((VN_42 m c).trans (arr_42 m c)) (ix2 (i 0) (i 1)))
theorem kout_10 : r.2.mem ((c.tc : Thread nD τ).loc main_v37) = out10 (argsOf m c) := by
  rw [left c h main_v37 (Pipeline.mem_restRefs_of main_v37 (by decide) (by decide))]
  funext i
  rw [eq_ix3 i]
  exact (suf_37 (VN m c) (i 0) (i 1) (i 2)).trans ((congrFun ((VN_43 m c).trans (arr_43 m c)) _).trans (md_split m c (i 0) (i 1) (i 2)))

end Cert.KernelIdeal.Hand
-- ==== Proof.Val.R.lean ====
/-
  The reference's candidate, probabilities and masks, as the row's plain sums over the arguments.
-/
module

public import proofs.«01_k».proof.Proof.Ref.Last
public import proofs.«01_k».proof.Proof.Val.Spec

@[expose] public section

set_option maxRecDepth 16384

noncomputable section

namespace Cert.ReferenceIdeal.Hand

open Cert.ReferenceIdeal Cert.ReferenceIdeal.Gen Cert.Spec
open Idealize.ShloMosaic Idealize.ShloMosaic.TcCoe

variable (V0 : Valuation τ sig (Elt Ideal))

/-- The arguments as the launch holds them. -/
def args : Args where
  ws i k := V0 (Proc.tc.devRef main_arg0) (ix2 i k)
  slow i k := V0 (Proc.tc.devRef main_arg1) (ix2 i k)
  vals i k j := V0 (Proc.tc.devRef main_arg2) (ix3 i k j)
  conf i k := V0 (Proc.tc.devRef main_arg3) (ix3 i k 0)
  expi i k := V0 (Proc.tc.devRef main_arg4) (ix3 i k 0)
  contr i k := V0 (Proc.tc.devRef main_arg5) (ix3 i k 0)
  alive i k := V0 (Proc.tc.devRef main_arg6) (ix3 i k 0)
  md i k d := V0 (Proc.tc.devRef main_arg7) (ix3 i k d)
  W1 k j := V0 (Proc.tc.devRef main_arg8) (ix2 k j)
  b1 j := V0 (Proc.tc.devRef main_arg9) (ix1 j)
  W2 k j := V0 (Proc.tc.devRef main_arg10) (ix2 k j)
  b2 j := V0 (Proc.tc.devRef main_arg11) (ix1 j)
  Wg1 k j := V0 (Proc.tc.devRef main_arg12) (ix2 k j)
  bg1 j := V0 (Proc.tc.devRef main_arg13) (ix1 j)
  Wg2 j := V0 (Proc.tc.devRef main_arg14) (ix2 j 0)
  bg2 := V0 (Proc.tc.devRef main_arg15) (ix1 0)
  Wc1 k j := V0 (Proc.tc.devRef main_arg16) (ix2 k j)
  bc1 j := V0 (Proc.tc.devRef main_arg17) (ix1 j)
  Wc2 j := V0 (Proc.tc.devRef main_arg18) (ix2 j 0)
  bc2 := V0 (Proc.tc.devRef main_arg19) (ix1 0)

theorem v4_at (i : Fin 4096) (j : Fin 512) : res_main_v4 (F := Ideal) V0 (ix2 i j) = hpre (args V0) i j := by
  unfold res_main_v4 res_main_v0
  pointwise
  rfl

theorem v21_at (i : Fin 4096) (j : Fin 256) : res_main_v21 (F := Ideal) V0 (ix2 i j) = cand (args V0) i j := by
  unfold res_main_v21
  pointwise
  simp only [v4_at]
  rfl

theorem one_bits : Ideal.ofBits .f32 1065353216#32 = 1 := by pointwise

/-- The gate's features: the context, the candidate, the summary. -/
theorem v30_ws (i : Fin 4096) (j : Fin 256) : res_main_v30 (F := Ideal) V0 (ix2 i ⟨j.val, by omega⟩) = (args V0).ws i j := by
  unfold res_main_v30 res_main_v0 res_main_v22
  pointwise
  exact dif_pos (by omega)
theorem v30_slow (i : Fin 4096) (j : Fin 768) : res_main_v30 (F := Ideal) V0 (ix2 i ⟨256 + j.val, by omega⟩) = (args V0).slow i j := by
  unfold res_main_v30 res_main_v0 res_main_v22
  pointwise
  exact dif_pos (by omega)
theorem v30_cand (i : Fin 4096) (j : Fin 256) : res_main_v30 (F := Ideal) V0 (ix2 i ⟨1024 + j.val, by omega⟩) = cand (args V0) i j := by
  unfold res_main_v30 res_main_v0 res_main_v22
  pointwise
  exact v21_at V0 i j
theorem v30_msum (i : Fin 4096) (d : Fin 6) : res_main_v30 (F := Ideal) V0 (ix2 i ⟨1280 + d.val, by omega⟩) = msum (args V0) i d := by
  unfold res_main_v30 res_main_v0 res_main_v22
  pointwise
  rw [dif_neg (by omega), dif_neg (by omega)]
  have e : (⟨1280 + d.val - 1024 - 256, by omega⟩ : Fin 6) = d := Fin.ext (by show 1280 + d.val - 1024 - 256 = d.val; omega)
  simp only [e]
  unfold msum wt
  refine congrArg (Ideal.div _) (congrArg (max · _) ?_)
  exact one_bits

theorem v34_at (i : Fin 4096) (j : Fin 384) : res_main_v34 (F := Ideal) V0 (ix2 i j) = gpre (args V0) (args V0).Wg1 (args V0).bg1 i j := by
  unfold res_main_v34
  pointwise
  refine (congrArg (· + _) (sum_gate _)).trans ?_
  simp only [v30_ws, v30_slow, v30_cand, v30_msum]
  rfl
theorem v61_at (i : Fin 4096) (j : Fin 384) : res_main_v61 (F := Ideal) V0 (ix2 i j) = gpre (args V0) (args V0).Wc1 (args V0).bc1 i j := by
  unfold res_main_v61
  pointwise
  refine (congrArg (· + _) (sum_gate _)).trans ?_
  simp only [v30_ws, v30_slow, v30_cand, v30_msum]
  rfl
theorem v57_at (i : Fin 4096) (j : Fin 1) : val4 (F := Ideal) V0 (Proc.devRef .tc main_v57) (ix2 i j) = wp (args V0) i := by
  rw [val4_main_v57]
  pointwise
  simp only [v34_at, Subsingleton.elim j 0]
  rfl
theorem v84_at (i : Fin 4096) (j : Fin 1) : val4 (F := Ideal) V0 (Proc.devRef .tc main_v84) (ix2 i j) = cp (args V0) i := by
  rw [val4_main_v84]
  pointwise
  simp only [v61_at, Subsingleton.elim j 0]
  rfl
theorem v94_at (i : Fin 4096) (j : Fin 1) : res_main_v94 (F := Ideal) V0 (ix2 i j) = wm (args V0) i := by
  unfold res_main_v94
  pointwise
  simp only [v34_at, Subsingleton.elim j 0]
  rfl
theorem v104_at (i : Fin 4096) (j : Fin 1) : val4 (F := Ideal) V0 (Proc.devRef .tc main_v104) (ix2 i j) = cm (args V0) i := by
  rw [val4_main_v104]
  pointwise
  simp only [v61_at, Subsingleton.elim j 0]
  rfl

end Cert.ReferenceIdeal.Hand
-- ==== Proof.Val.RL.lean ====
/-
  The reference's ledger, as the row's new numbers and values.
-/
module

public import proofs.«01_k».proof.Proof.Val.R
public import proofs.«01_k».proof.Proof.Val.Ledger

@[expose] public section

set_option maxRecDepth 16384

noncomputable section

namespace Cert.ReferenceIdeal.Hand

open Cert.ReferenceIdeal Cert.ReferenceIdeal.Gen Cert.Spec
open Idealize.ShloMosaic Idealize.ShloMosaic.TcCoe

/-- A row's pairs of a value and its number. -/
theorem mem_fiber {α : Type} (x : S4096x32.Idx → α) (y : S4096x32.Idx → BitVec 32)
    (hy : ∀ i k, y (ix2 i k) = BitVec.ofNat 32 k.val) (i : Fin 4096) (p : α × BitVec 32) :
    p ∈ Host.argReduceFiber x y reducesTo_S4096x32_S4096_d1 (ix1 i) ↔ ∃ k : Fin 32, p = (x (ix2 i k), BitVec.ofNat 32 (Fin.val k)) := by
  unfold Host.argReduceFiber
  rw [List.mem_map]
  constructor
  · rintro ⟨n, hn, rfl⟩
    have hd := of_decide_eq_true (List.mem_filter.1 hn).2
    obtain ⟨a, b, hab⟩ : ∃ a b, S4096x32.rowMajor.symm n = ix2 a b := ⟨_, _, (ix2_eta _).symm⟩
    rw [hab] at hd ⊢
    have ha : a = i := by
      have h := congrArg (fun j : S4096.Idx => (j 0).val) hd
      exact Fin.ext (((reducesTo_S4096x32_S4096_d1).drop_apply_val_of_eq (ix2 a b) 0 0).symm.trans h)
    subst ha
    exact ⟨b, by rw [hy]⟩
  · rintro ⟨k, rfl⟩
    refine ⟨S4096x32.rowMajor (ix2 i k), List.mem_filter.2 ⟨List.mem_finRange _, decide_eq_true ?_⟩, ?_⟩
    · rw [Equiv.symm_apply_apply]
      funext b
      obtain rfl : b = 0 := Subsingleton.elim _ _
      exact Fin.ext ((reducesTo_S4096x32_S4096_d1).drop_apply_val_of_eq (ix2 i k) 0 0)
    · rw [Equiv.symm_apply_apply, hy]

/-- The carried choice of a row's least value, and of its largest. -/
theorem argmin_step (a b : EReal × BitVec 32) : reducer_argmin_f32_i32 (F := Ideal) a b
    = if a.1 < b.1 ∨ (a.1 = b.1 ∧ a.2.toInt < b.2.toInt) then a else b := by
  obtain ⟨a, m⟩ := a
  obtain ⟨b, n⟩ := b
  unfold reducer_argmin_f32_i32
  simp only [Ideal.cmpf_def, Ideal.cmp, IntOp.cmpi, IntOp.ori, IntOp.andi, Scalar.select, BitVec.slt]
  rcases lt_trichotomy a b with h | h | h
  · simp [h, h.ne]
  · subst h
    by_cases g : m.toInt < n.toInt <;> simp [g]
  · simp [h.ne', not_lt.2 h.le]

theorem argmax_step (a b : EReal × BitVec 32) : reducer_argmax_f32_i32 (F := Ideal) a b
    = if b.1 < a.1 ∨ (a.1 = b.1 ∧ a.2.toInt < b.2.toInt) then a else b := by
  obtain ⟨a, m⟩ := a
  obtain ⟨b, n⟩ := b
  unfold reducer_argmax_f32_i32
  simp only [Ideal.cmpf_def, Ideal.cmp, IntOp.cmpi, IntOp.ori, IntOp.andi, Scalar.select, BitVec.slt]
  rcases lt_trichotomy b a with h | h | h
  · simp [h, h.ne']
  · subst h
    by_cases g : m.toInt < n.toInt <;> simp [g]
  · simp [h.ne, not_lt.2 h.le]

variable (V0 : Valuation τ sig (Elt Ideal))

open Classical in
theorem v108_at (i : Fin 4096) (k : Fin 32) : res_main_v108 (F := Ideal) V0 (ix2 i k) = if Dead (args V0) i k then (1 : EReal) else 0 := by
  unfold res_main_v108
  pointwise
  rw [unsigned_ofBool]
  simp only [decide_eq_true_eq]
  exact if_congr Iff.rfl rfl rfl
theorem v119_at (i : Fin 4096) (k : Fin 32) : res_main_v119 (F := Ideal) V0 (ix2 i k) = util (args V0) i k := by
  unfold res_main_v119
  pointwise
  rfl
theorem num_max_at (i : Fin 4096) (k : Fin 32) : res_main_call1_v0 (F := Ideal) V0 (ix2 i k) = BitVec.ofNat 32 k.val := by
  unfold res_main_call1_v0
  pointwise
theorem num_min_at (i : Fin 4096) (k : Fin 32) : res_main_call2_v0 (F := Ideal) V0 (ix2 i k) = BitVec.ofNat 32 k.val := by
  unfold res_main_call2_v0
  pointwise

/-- Whether the row has a free slot. -/
theorem any_at (i : Fin 4096) :
    Ideal.ofBits .f32 1056964608#32 < Finset.fold max (Ideal.ofBits .f32 4286578688#32) (res_main_v108 (F := Ideal) V0)
      {j | reducesTo_S4096x32_S4096_d1.drop j = ix1 i} ↔ ∃ k, Dead (args V0) i k := by
  classical
  rw [bits_bot, Finset.lt_fold_max]
  constructor
  · rintro (h | ⟨x, hx, h⟩)
    · exact absurd h not_lt_bot
    · have hd := (Finset.mem_filter.1 hx).2
      obtain ⟨a, b, rfl⟩ : ∃ a b, x = ix2 a b := ⟨_, _, (ix2_eta _).symm⟩
      have ha : a = i := by
        have h := congrArg (fun j : S4096.Idx => (j 0).val) hd
        exact Fin.ext (((reducesTo_S4096x32_S4096_d1).drop_apply_val_of_eq (ix2 a b) 0 0).symm.trans h)
      subst ha
      refine ⟨b, ?_⟩
      rw [v108_at] at h
      by_contra hb
      rw [if_neg hb] at h
      exact absurd (h.trans half_pos) (lt_irrefl _)
  · rintro ⟨k, hk⟩
    refine Or.inr ⟨ix2 i k, Finset.mem_filter.2 ⟨Finset.mem_univ _, ?_⟩, ?_⟩
    · funext b
      obtain rfl : b = 0 := Subsingleton.elim _ _
      exact Fin.ext ((reducesTo_S4096x32_S4096_d1).drop_apply_val_of_eq (ix2 i k) 0 0)
    · rw [v108_at, if_pos hk]
      exact half_lt_one

theorem argmin_at (i : Fin 4096) (h : ¬∃ k, Dead (args V0) i k) :
    (Host.argReduce (F := Ideal) (s := S4096x32) (t := S4096) (u := S_) (φ := .f32) (β := BitVec 32) reducer_argmin_f32_i32 (res_main_v119 (F := Ideal) V0) (res_main_call2_v0 (F := Ideal) V0) (res_main_call2_cst (F := Ideal) V0)
      (res_main_call2_c (F := Ideal) V0) reducesTo_S4096x32_S4096_d1 h_S_ (ix1 i)).2 = BitVec.ofNat 32 (slot (args V0) i).val := by
  rw [Ideal.argReduce_eq_reduce2, Host.reduce2_eq_foldl_fiber]
  have hc : res_main_call2_cst (F := Ideal) V0 (Shape.Idx.first h_S_) = (⊤ : EReal) := by
    unfold res_main_call2_cst; exact bits_top
  have h0 : res_main_call2_c (F := Ideal) V0 (Shape.Idx.first h_S_) = 0#32 := by
    unfold res_main_call2_c; rfl
  rw [hc, h0]
  refine best_num (α := EReal) _ argmin_step (util (args V0) i) ⊤ (fun _ => le_top) _ (fun p => ?_) (slot_low _ h)
  rw [mem_fiber _ _ (num_min_at V0)]
  simp only [v119_at]

theorem argmax_at (i : Fin 4096) (h : ∃ k, Dead (args V0) i k) :
    (Host.argReduce (F := Ideal) (s := S4096x32) (t := S4096) (u := S_) (φ := .f32) (β := BitVec 32) reducer_argmax_f32_i32 (res_main_v108 (F := Ideal) V0) (res_main_call1_v0 (F := Ideal) V0) (res_main_call1_cst (F := Ideal) V0)
      (res_main_call1_c (F := Ideal) V0) reducesTo_S4096x32_S4096_d1 h_S_ (ix1 i)).2 = BitVec.ofNat 32 (slot (args V0) i).val := by
  classical
  rw [Ideal.argReduce_eq_reduce2, Host.reduce2_eq_foldl_fiber]
  have hc : res_main_call1_cst (F := Ideal) V0 (Shape.Idx.first h_S_) = (⊥ : EReal) := by
    unfold res_main_call1_cst; exact bits_bot
  have h0 : res_main_call1_c (F := Ideal) V0 (Shape.Idx.first h_S_) = 0#32 := by
    unfold res_main_call1_c; rfl
  rw [hc, h0]
  have hk : IsFirst (fun k => ∀ l, OrderDual.toDual (if Dead (args V0) i k then (1 : EReal) else 0)
      ≤ OrderDual.toDual (if Dead (args V0) i l then (1 : EReal) else 0)) (slot (args V0) i) := by
    obtain ⟨k, hk⟩ := h
    have hs := slot_dead (args V0) ⟨k, hk⟩
    refine ⟨fun l => OrderDual.toDual_le_toDual.2 ?_, fun j hj hp => ?_⟩
    · rw [if_pos hs.1]
      split_ifs
      · exact le_rfl
      · exact zero_le_one
    · have := OrderDual.toDual_le_toDual.1 (hp k)
      rw [if_pos hk, if_neg (hs.2 j hj)] at this
      exact absurd this (not_le.2 zero_lt_one)
  refine best_num (α := ERealᵒᵈ) _ argmax_step _ (OrderDual.toDual ⊥) (fun _ => le_top) _ (fun p => ?_) hk
  refine (mem_fiber _ _ (num_max_at V0) i p).trans ?_
  simp only [v108_at]
  exact Iff.rfl

theorem v128_at (i : Fin 4096) (k : Fin 32) (l : Fin 1) : res_main_v128 (F := Ideal) V0 (ix3 i k l) = hit (args V0) i k := by
  classical
  obtain rfl : l = 0 := Subsingleton.elim _ _
  unfold res_main_v128
  pointwise
  have hs : (if Ideal.ofBits .f32 1056964608#32 < Finset.fold max (Ideal.ofBits .f32 4286578688#32) (res_main_v108 (F := Ideal) V0)
      {j | reducesTo_S4096x32_S4096_d1.drop j = ix1 i} then
      (Host.argReduce (F := Ideal) (s := S4096x32) (t := S4096) (u := S_) (φ := .f32) (β := BitVec 32) reducer_argmax_f32_i32 (res_main_v108 (F := Ideal) V0) (res_main_call1_v0 (F := Ideal) V0) (res_main_call1_cst (F := Ideal) V0)
        (res_main_call1_c (F := Ideal) V0) reducesTo_S4096x32_S4096_d1 h_S_ (ix1 i)).2
    else
      (Host.argReduce (F := Ideal) (s := S4096x32) (t := S4096) (u := S_) (φ := .f32) (β := BitVec 32) reducer_argmin_f32_i32 (res_main_v119 (F := Ideal) V0) (res_main_call2_v0 (F := Ideal) V0) (res_main_call2_cst (F := Ideal) V0)
        (res_main_call2_c (F := Ideal) V0) reducesTo_S4096x32_S4096_d1 h_S_ (ix1 i)).2) = BitVec.ofNat 32 (slot (args V0) i).val := by
    split_ifs with h
    · exact argmax_at V0 i ((any_at V0 i).1 h)
    · exact argmin_at V0 i (fun g => h ((any_at V0 i).2 g))
  rw [hs, cmp_num, unsigned_ofBool, v94_at]
  unfold hit
  by_cases h : k = slot (args V0) i
  · simp [h]
  · simp [h, Ne.symm h]

theorem v131_at (i : Fin 4096) (k : Fin 32) (l : Fin 1) : res_main_v131 (F := Ideal) V0 (ix3 i k l) = keep (args V0) i k := by
  unfold res_main_v131
  simp only [id]
  pointwise
  rw [v128_at]
  exact max_eq_right (keep_nonneg (args V0) i k)

theorem v138_at (i : Fin 4096) (k : Fin 32) (j : Fin 256) : val4 (F := Ideal) V0 (Proc.devRef .tc main_v138) (ix3 i k j) = vals' (args V0) i k j := by
  rw [val4_main_v138]
  pointwise
  simp only [v128_at, v131_at, v21_at]
  rfl
theorem v145_at (i : Fin 4096) (k : Fin 32) : val4 (F := Ideal) V0 (Proc.devRef .tc main_v145) (ix3 i k 0) = conf' (args V0) i k := by
  rw [val4_main_v145]
  pointwise
  simp only [v128_at, v131_at, v94_at]
  rfl
theorem v149_at (i : Fin 4096) (k : Fin 32) : val4 (F := Ideal) V0 (Proc.devRef .tc main_v149) (ix3 i k 0) = exp' (args V0) i k := by
  rw [val4_main_v149]
  pointwise
  simp only [v128_at, v131_at]
  rfl
theorem v154_at (i : Fin 4096) (k : Fin 32) : val4 (F := Ideal) V0 (Proc.devRef .tc main_v154) (ix3 i k 0) = contr' (args V0) i k := by
  have h := v104_at V0 i 0
  rw [val4_main_v104] at h
  rw [val4_main_v154]
  pointwise at h ⊢
  rw [h]
  simp only [v128_at, v131_at]
  rfl
theorem v157_at (i : Fin 4096) (k : Fin 32) : val4 (F := Ideal) V0 (Proc.devRef .tc main_v157) (ix3 i k 0) = alive' (args V0) i k := by
  rw [val4_main_v157]
  simp only [id]
  pointwise
  simp only [v128_at, v131_at]
  rfl
theorem v161_at (i : Fin 4096) (k : Fin 32) (d : Fin 6) : val4 (F := Ideal) V0 (Proc.devRef .tc main_v161) (ix3 i k d) = md' (args V0) i k d := by
  have h := v104_at V0 i 0
  rw [val4_main_v104] at h
  rw [val4_main_v161]
  simp only [id]
  pointwise at h ⊢
  simp only [v128_at, v131_at, v94_at, h]
  fin_cases d <;> rfl

end Cert.ReferenceIdeal.Hand
-- ==== Proof.Val.ROut.lean ====
/-
  The reference's results as arrays.
-/
module

public import proofs.«01_k».proof.Proof.Val.RL
public import proofs.«01_k».proof.Proof.Val.Out

@[expose] public section

set_option maxRecDepth 16384

noncomputable section

namespace Cert.ReferenceIdeal.Hand

open Cert.ReferenceIdeal Cert.ReferenceIdeal.Gen Cert.Spec
open Idealize.ShloMosaic Idealize.ShloMosaic.TcCoe

variable (V0 : Valuation τ sig (Elt Ideal))

theorem one_of (l : Fin 1) : l = 0 := Subsingleton.elim _ _

theorem rout_0 : val4 V0 (Proc.devRef .tc main_v21) = out0 (args V0) := by
  rw [val4_main_v21]
  funext i
  rw [eq_ix2 i]
  exact v21_at V0 _ _
theorem rout_1 : val4 V0 (Proc.devRef .tc main_v57) = out1 (args V0) := by
  funext i
  rw [eq_ix2 i]
  exact v57_at V0 _ _
theorem rout_2 : val4 V0 (Proc.devRef .tc main_v84) = out2 (args V0) := by
  funext i
  rw [eq_ix2 i]
  exact v84_at V0 _ _
theorem rout_3 : val4 V0 (Proc.devRef .tc main_v94) = out3 (args V0) := by
  rw [val4_main_v94]
  funext i
  rw [eq_ix2 i]
  exact v94_at V0 _ _
theorem rout_4 : val4 V0 (Proc.devRef .tc main_v104) = out4 (args V0) := by
  funext i
  rw [eq_ix2 i]
  exact v104_at V0 _ _
theorem rout_5 : val4 V0 (Proc.devRef .tc main_v138) = out5 (args V0) := by
  funext i
  rw [eq_ix3 i]
  exact v138_at V0 _ _ _
theorem rout_6 : val4 V0 (Proc.devRef .tc main_v145) = out6 (args V0) := by
  funext i
  rw [eq_ix3 i, one_of (i 2)]
  exact v145_at V0 _ _
theorem rout_7 : val4 V0 (Proc.devRef .tc main_v149) = out7 (args V0) := by
  funext i
  rw [eq_ix3 i, one_of (i 2)]
  exact v149_at V0 _ _
theorem rout_8 : val4 V0 (Proc.devRef .tc main_v154) = out8 (args V0) := by
  funext i
  rw [eq_ix3 i, one_of (i 2)]
  exact v154_at V0 _ _
theorem rout_9 : val4 V0 (Proc.devRef .tc main_v157) = out9 (args V0) := by
  funext i
  rw [eq_ix3 i, one_of (i 2)]
  exact v157_at V0 _ _
theorem rout_10 : val4 V0 (Proc.devRef .tc main_v161) = out10 (args V0) := by
  funext i
  rw [eq_ix3 i]
  exact v161_at V0 _ _ _

end Cert.ReferenceIdeal.Hand
-- ==== Proof.Val.Join.lean ====
/-
  The kernel and the reference on the same arguments: the same results.
-/
module

public import proofs.«01_k».proof.Defs
public import proofs.«01_k».proof.Proof.Val.KOut
public import proofs.«01_k».proof.Proof.Val.ROut

@[expose] public section

set_option maxRecDepth 16384

noncomputable section

namespace Cert.Spec

theorem args_ext {A B : Args} (e0 : A.ws = B.ws) (e1 : A.slow = B.slow) (e2 : A.vals = B.vals) (e3 : A.conf = B.conf) (e4 : A.expi = B.expi) (e5 : A.contr = B.contr) (e6 : A.alive = B.alive) (e7 : A.md = B.md) (e8 : A.W1 = B.W1) (e9 : A.b1 = B.b1) (e10 : A.W2 = B.W2) (e11 : A.b2 = B.b2) (e12 : A.Wg1 = B.Wg1) (e13 : A.bg1 = B.bg1) (e14 : A.Wg2 = B.Wg2) (e15 : A.bg2 = B.bg2) (e16 : A.Wc1 = B.Wc1) (e17 : A.bc1 = B.bc1) (e18 : A.Wc2 = B.Wc2) (e19 : A.bc2 = B.bc2) : A = B := by
  cases A
  cases B
  simp only at e0 e1 e2 e3 e4 e5 e6 e7 e8 e9 e10 e11 e12 e13 e14 e15 e16 e17 e18 e19
  subst e0 e1 e2 e3 e4 e5 e6 e7 e8 e9 e10 e11 e12 e13 e14 e15 e16 e17 e18 e19
  rfl

end Cert.Spec

namespace Cert.Join

open Idealize.ShloMosaic Idealize.ShloMosaic.TcCoe Idealize.ShloMosaic.StableHlo Idealize.SL.Sem Cert.Spec

/-! The mask's side conditions. -/

theorem held_facts : Cert.On_held.Facts := ⟨by decide, by decide, by decide, by decide, by decide⟩

/-- Where the mask of the values is set, the old value is finite. -/
theorem finite_at (hb : (⟨0, ![]⟩ : Shape).BroadcastsInDim ⟨3, ![4096, 32, 256]⟩ (![] : Fin 0 → Fin 3))
    (x : FVec Ideal ⟨3, ![4096, 32, 256]⟩ .f32) (i : (⟨3, ![4096, 32, 256]⟩ : Shape).Idx)
    (h : cmpf .olt (Host.absf x) (broadcastInDim ⟨3, ![4096, 32, 256]⟩ ![] hb (constant (F := Ideal) ⟨0, ![]⟩ .f32 0x7F800000#32)) i = 1#1) :
    x i ≠ (⊤ : EReal) ∧ x i ≠ (⊥ : EReal) := by
  have e : cmpf .olt (Host.absf x) (broadcastInDim ⟨3, ![4096, 32, 256]⟩ ![] hb (constant (F := Ideal) ⟨0, ![]⟩ .f32 0x7F800000#32)) i
      = Ideal.cmp .olt (max (x i) (-(x i))) (Ideal.ofBits .f32 2139095040#32) := rfl
  rw [e, bits_top] at h
  constructor
  · intro g
    rw [g] at h
    simp [Ideal.cmp] at h
  · intro g
    rw [g] at h
    simp [Ideal.cmp] at h

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

theorem same_args (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (h19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) :
    Cert.ReferenceIdeal.Hand.args (launchContents m' c) = Cert.KernelIdeal.Hand.argsOf m c :=
  args_ext
    (funext fun i => funext fun k => congrFun h0 (ix2 i k))
    (funext fun i => funext fun k => congrFun h1 (ix2 i k))
    (funext fun i => funext fun k => funext fun j => congrFun h2 (ix3 i k j))
    (funext fun i => funext fun k => congrFun h3 (ix3 i k 0))
    (funext fun i => funext fun k => congrFun h4 (ix3 i k 0))
    (funext fun i => funext fun k => congrFun h5 (ix3 i k 0))
    (funext fun i => funext fun k => congrFun h6 (ix3 i k 0))
    (funext fun i => funext fun k => funext fun j => congrFun h7 (ix3 i k j))
    (funext fun i => funext fun k => congrFun h8 (ix2 i k))
    (funext fun j => congrFun h9 (ix1 j))
    (funext fun i => funext fun k => congrFun h10 (ix2 i k))
    (funext fun j => congrFun h11 (ix1 j))
    (funext fun i => funext fun k => congrFun h12 (ix2 i k))
    (funext fun j => congrFun h13 (ix1 j))
    (funext fun j => congrFun h14 (ix2 j 0))
    (congrFun h15 (ix1 0))
    (funext fun i => funext fun k => congrFun h16 (ix2 i k))
    (funext fun j => congrFun h17 (ix1 j))
    (funext fun j => congrFun h18 (ix2 j 0))
    (congrFun h19 (ix1 0))
end

set_option maxHeartbeats 1000000 in
theorem algebraic : letI := Cert.KernelIdeal.Gen.facts; letI := Cert.ReferenceIdeal.Gen.facts; letI := held_facts
    Cert.algebraic_KernelIdeal_ReferenceIdeal_on_held := by
  intro m g m' g' _ hag
  have hs : ∀ c : Dev Cert.KernelIdeal.nD, Cert.ReferenceIdeal.Hand.args (launchContents m' c) = Cert.KernelIdeal.Hand.argsOf m c := fun c => by
    obtain ⟨h0, h1, h2, h3, h4, h5, h6, h7, h8, h9, h10, h11, h12, h13, h14, h15, h16, h17, h18, h19⟩ := hag c
    exact same_args m m' c h0 h1 h2 h3 h4 h5 h6 h7 h8 h9 h10 h11 h12 h13 h14 h15 h16 h17 h18 h19
  refine ⟨fun c => out0 (Cert.KernelIdeal.Hand.argsOf m c), fun c => out1 (Cert.KernelIdeal.Hand.argsOf m c), fun c => out2 (Cert.KernelIdeal.Hand.argsOf m c), fun c => out3 (Cert.KernelIdeal.Hand.argsOf m c), fun c => out4 (Cert.KernelIdeal.Hand.argsOf m c), fun c => out5 (Cert.KernelIdeal.Hand.argsOf m c), fun c => out6 (Cert.KernelIdeal.Hand.argsOf m c), fun c => out7 (Cert.KernelIdeal.Hand.argsOf m c), fun c => out8 (Cert.KernelIdeal.Hand.argsOf m c), fun c => out9 (Cert.KernelIdeal.Hand.argsOf m c), fun c => out10 (Cert.KernelIdeal.Hand.argsOf m c), ?_, ?_⟩
  · refine (θ_run _ _ _).mono (fun r h c => ?_) (Cert.KernelIdeal.Hand.run_main m g)
    exact ⟨fun i _ => congrFun (Cert.KernelIdeal.Hand.kout_0 c h) i,
      fun i _ => congrFun (Cert.KernelIdeal.Hand.kout_1 c h) i,
      fun i _ => congrFun (Cert.KernelIdeal.Hand.kout_2 c h) i,
      fun i _ => congrFun (Cert.KernelIdeal.Hand.kout_3 c h) i,
      fun i _ => congrFun (Cert.KernelIdeal.Hand.kout_4 c h) i,
      fun i hi => Cert.KernelIdeal.Hand.kout_5 c h i (finite_at _ _ i hi).1 (finite_at _ _ i hi).2,
      fun i _ => congrFun (Cert.KernelIdeal.Hand.kout_6 c h) i,
      fun i _ => congrFun (Cert.KernelIdeal.Hand.kout_7 c h) i,
      fun i _ => congrFun (Cert.KernelIdeal.Hand.kout_8 c h) i,
      fun i _ => congrFun (Cert.KernelIdeal.Hand.kout_9 c h) i,
      fun i _ => congrFun (Cert.KernelIdeal.Hand.kout_10 c h) i,
      Cert.KernelIdeal.Hand.kept_0 m h c,
      Cert.KernelIdeal.Hand.kept_1 m h c,
      Cert.KernelIdeal.Hand.kept_2 m h c,
      Cert.KernelIdeal.Hand.kept_3 m h c,
      Cert.KernelIdeal.Hand.kept_4 m h c,
      Cert.KernelIdeal.Hand.kept_5 m h c,
      Cert.KernelIdeal.Hand.kept_6 m h c,
      Cert.KernelIdeal.Hand.kept_7 m h c,
      Cert.KernelIdeal.Hand.kept_8 m h c,
      Cert.KernelIdeal.Hand.kept_9 m h c,
      Cert.KernelIdeal.Hand.kept_10 m h c,
      Cert.KernelIdeal.Hand.kept_11 m h c,
      Cert.KernelIdeal.Hand.kept_12 m h c,
      Cert.KernelIdeal.Hand.kept_13 m h c,
      Cert.KernelIdeal.Hand.kept_14 m h c,
      Cert.KernelIdeal.Hand.kept_15 m h c,
      Cert.KernelIdeal.Hand.kept_16 m h c,
      Cert.KernelIdeal.Hand.kept_17 m h c,
      Cert.KernelIdeal.Hand.kept_18 m h c,
      Cert.KernelIdeal.Hand.kept_19 m h c⟩
  · refine (θ_run _ _ _).mono (fun r h c => ?_) (Cert.ReferenceIdeal.Hand.run m' g')
    exact ⟨fun i _ => congrFun (((h.1 c Cert.ReferenceIdeal.main_v21).trans (Cert.ReferenceIdeal.Hand.rout_0 _)).trans (congrArg out0 (hs c))) i,
      fun i _ => congrFun (((h.1 c Cert.ReferenceIdeal.main_v57).trans (Cert.ReferenceIdeal.Hand.rout_1 _)).trans (congrArg out1 (hs c))) i,
      fun i _ => congrFun (((h.1 c Cert.ReferenceIdeal.main_v84).trans (Cert.ReferenceIdeal.Hand.rout_2 _)).trans (congrArg out2 (hs c))) i,
      fun i _ => congrFun (((h.1 c Cert.ReferenceIdeal.main_v94).trans (Cert.ReferenceIdeal.Hand.rout_3 _)).trans (congrArg out3 (hs c))) i,
      fun i _ => congrFun (((h.1 c Cert.ReferenceIdeal.main_v104).trans (Cert.ReferenceIdeal.Hand.rout_4 _)).trans (congrArg out4 (hs c))) i,
      fun i _ => congrFun (((h.1 c Cert.ReferenceIdeal.main_v138).trans (Cert.ReferenceIdeal.Hand.rout_5 _)).trans (congrArg out5 (hs c))) i,
      fun i _ => congrFun (((h.1 c Cert.ReferenceIdeal.main_v145).trans (Cert.ReferenceIdeal.Hand.rout_6 _)).trans (congrArg out6 (hs c))) i,
      fun i _ => congrFun (((h.1 c Cert.ReferenceIdeal.main_v149).trans (Cert.ReferenceIdeal.Hand.rout_7 _)).trans (congrArg out7 (hs c))) i,
      fun i _ => congrFun (((h.1 c Cert.ReferenceIdeal.main_v154).trans (Cert.ReferenceIdeal.Hand.rout_8 _)).trans (congrArg out8 (hs c))) i,
      fun i _ => congrFun (((h.1 c Cert.ReferenceIdeal.main_v157).trans (Cert.ReferenceIdeal.Hand.rout_9 _)).trans (congrArg out9 (hs c))) i,
      fun i _ => congrFun (((h.1 c Cert.ReferenceIdeal.main_v161).trans (Cert.ReferenceIdeal.Hand.rout_10 _)).trans (congrArg out10 (hs c))) i,
      (h.1 c Cert.ReferenceIdeal.main_arg0).trans (Cert.ReferenceIdeal.Hand.val4_main_arg0 (launchContents m' c)),
      (h.1 c Cert.ReferenceIdeal.main_arg1).trans (Cert.ReferenceIdeal.Hand.val4_main_arg1 (launchContents m' c)),
      (h.1 c Cert.ReferenceIdeal.main_arg2).trans (Cert.ReferenceIdeal.Hand.val4_main_arg2 (launchContents m' c)),
      (h.1 c Cert.ReferenceIdeal.main_arg3).trans (Cert.ReferenceIdeal.Hand.val4_main_arg3 (launchContents m' c)),
      (h.1 c Cert.ReferenceIdeal.main_arg4).trans (Cert.ReferenceIdeal.Hand.val4_main_arg4 (launchContents m' c)),
      (h.1 c Cert.ReferenceIdeal.main_arg5).trans (Cert.ReferenceIdeal.Hand.val4_main_arg5 (launchContents m' c)),
      (h.1 c Cert.ReferenceIdeal.main_arg6).trans (Cert.ReferenceIdeal.Hand.val4_main_arg6 (launchContents m' c)),
      (h.1 c Cert.ReferenceIdeal.main_arg7).trans (Cert.ReferenceIdeal.Hand.val4_main_arg7 (launchContents m' c)),
      (h.1 c Cert.ReferenceIdeal.main_arg8).trans (Cert.ReferenceIdeal.Hand.val4_main_arg8 (launchContents m' c)),
      (h.1 c Cert.ReferenceIdeal.main_arg9).trans (Cert.ReferenceIdeal.Hand.val4_main_arg9 (launchContents m' c)),
      (h.1 c Cert.ReferenceIdeal.main_arg10).trans (Cert.ReferenceIdeal.Hand.val4_main_arg10 (launchContents m' c)),
      (h.1 c Cert.ReferenceIdeal.main_arg11).trans (Cert.ReferenceIdeal.Hand.val4_main_arg11 (launchContents m' c)),
      (h.1 c Cert.ReferenceIdeal.main_arg12).trans (Cert.ReferenceIdeal.Hand.val4_main_arg12 (launchContents m' c)),
      (h.1 c Cert.ReferenceIdeal.main_arg13).trans (Cert.ReferenceIdeal.Hand.val4_main_arg13 (launchContents m' c)),
      (h.1 c Cert.ReferenceIdeal.main_arg14).trans (Cert.ReferenceIdeal.Hand.val4_main_arg14 (launchContents m' c)),
      (h.1 c Cert.ReferenceIdeal.main_arg15).trans (Cert.ReferenceIdeal.Hand.val4_main_arg15 (launchContents m' c)),
      (h.1 c Cert.ReferenceIdeal.main_arg16).trans (Cert.ReferenceIdeal.Hand.val4_main_arg16 (launchContents m' c)),
      (h.1 c Cert.ReferenceIdeal.main_arg17).trans (Cert.ReferenceIdeal.Hand.val4_main_arg17 (launchContents m' c)),
      (h.1 c Cert.ReferenceIdeal.main_arg18).trans (Cert.ReferenceIdeal.Hand.val4_main_arg18 (launchContents m' c)),
      (h.1 c Cert.ReferenceIdeal.main_arg19).trans (Cert.ReferenceIdeal.Hand.val4_main_arg19 (launchContents m' c))⟩

end Cert.Join
-- ==== Proof.lean ====
/- The proof of the claims. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Kern.Whole
public import proofs.«01_k».proof.Proof.KernI.Whole
public import proofs.«01_k».proof.Proof.Ref.Last
public import proofs.«01_k».proof.Proof.Val.Join
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Join.held_facts,
  fun m g _ => Cert.Kernel.Hand.frame m g,
  fun m g _ => Cert.KernelIdeal.Hand.frame m g,
  fun m g _ => Cert.ReferenceIdeal.Hand.frame m g, trivial, Cert.Join.algebraic⟩

end Cert.Proof

end
